-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "thousandth" .f32 0x3A83126F#32 ((1 / 1000 : ℝ) : EReal)
  ∧ IdealRules.named_const.Statement Cert.KernelIdeal.κ "lr_tenth" .f32 0x37FBA882#32 ((3 / 100000 : ℝ) : EReal)
  ∧ IdealRules.named_const.Statement Cert.KernelIdeal.κ "eps" .f32 0x322BCC77#32 ((1 / 100000000 : ℝ) : EReal)
  ∧ IdealRules.named_const.Statement Cert.KernelIdeal.κ "tenth" .f32 0x3DCCCCCD#32 ((1 / 10 : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)) (v5 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_v1_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_v95_1) = v2 c
          ∧ r.2.mem ((c.tc : Thread Cert.ReferenceIdeal.nD Cert.ReferenceIdeal.τ).loc Cert.ReferenceIdeal.main_v132) = v3 c
          ∧ r.2.mem ((c.tc : Thread Cert.ReferenceIdeal.nD Cert.ReferenceIdeal.τ).loc Cert.ReferenceIdeal.main_v112_1) = v4 c
          ∧ r.2.mem ((c.tc : Thread Cert.ReferenceIdeal.nD Cert.ReferenceIdeal.τ).loc Cert.ReferenceIdeal.main_v112_2) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S2x768x11008 : Shape := ⟨3, ![2, 768, 11008]⟩
abbrev S_ : Shape := ⟨0, ![]⟩
abbrev S2x768x5504 : Shape := ⟨3, ![2, 768, 5504]⟩
abbrev S2x768x86 : Shape := ⟨3, ![2, 768, 86]⟩
abbrev S2x768 : Shape := ⟨2, ![2, 768]⟩
abbrev S2x11008 : Shape := ⟨2, ![2, 11008]⟩

class Facts : Prop where
  bcast_S_S2x768 : S_.BroadcastsInDim S2x768 (![] : Fin 0 → Fin S2x768.rank)
  reducesTo_S2x768_S_d0_1 : S2x768.ReducesTo [0, 1] S_
  h_S_ : 0 < S_.numel
  bcast_S_S2x11008 : S_.BroadcastsInDim S2x11008 (![] : Fin 0 → Fin S2x11008.rank)
  reducesTo_S2x11008_S_d0_1 : S2x11008.ReducesTo [0, 1] S_

variable [Facts]

def fn {F : FTy → Type} [FloatOps F] (main_arg0 : FVec F S2x768x11008 .bf16) (main_arg1 : FVec F S2x768x11008 .bf16) (main_arg2 : IVec S_ 32) (main_arg3 : IVec S2x768x5504 8) (main_arg4 : FVec F S2x768x86 .f32) (main_arg5 : IVec S2x768x5504 8) (main_arg6 : FVec F S2x768 .f32) (main_arg7 : FVec F S2x11008 .f32) : IVec S_ 1 :=
  let main_c : IVec S_ 32 := constantI S_ 32 1#32
  let main_v0 : IVec S_ 1 := cmpi .sge main_arg2 main_c
  let main_cst : FVec F S_ .f32 := constant S_ .f32 0x00000000#32
  let main_v1 : FVec F S2x768 .f32 := broadcastInDim S2x768 ![] bcast_S_S2x768 main_cst
  let main_v2 : IVec S2x768 1 := cmpf .oge main_arg6 main_v1
  let main_c_0 : IVec S_ 1 := constantI S_ 1 1#1
  let main_v3 : IVec S_ 1 := (fun x v => Host.reduce IntOp.andi x v reducesTo_S2x768_S_d0_1 h_S_) main_v2 main_c_0
  let main_v4 : IVec S_ 1 := andi main_v0 main_v3
  let main_cst_1 : FVec F S_ .f32 := constant S_ .f32 0x00000000#32
  let main_v5 : FVec F S2x11008 .f32 := broadcastInDim S2x11008 ![] bcast_S_S2x11008 main_cst_1
  let main_v6 : IVec S2x11008 1 := cmpf .oge main_arg7 main_v5
  let main_c_2 : IVec S_ 1 := constantI S_ 1 1#1
  let main_v7 : IVec S_ 1 := (fun x v => Host.reduce IntOp.andi x v reducesTo_S2x11008_S_d0_1 h_S_) main_v6 main_c_2
  let main_v8 : IVec S_ 1 := andi main_v4 main_v7
  main_v8
-- ==== Kernel.lean ====
abbrev S2x768x11008 : Shape := ⟨3, ![2, 768, 11008]⟩
abbrev S_ : Shape := ⟨0, ![]⟩
abbrev S2x768x5504 : Shape := ⟨3, ![2, 768, 5504]⟩
abbrev S2x768x86 : Shape := ⟨3, ![2, 768, 86]⟩
abbrev S2x768 : Shape := ⟨2, ![2, 768]⟩
abbrev S2x11008 : Shape := ⟨2, ![2, 11008]⟩
abbrev S1 : Shape := ⟨1, ![1]⟩
abbrev S1x64x11008 : Shape := ⟨3, ![1, 64, 11008]⟩
abbrev S1x64x5504 : Shape := ⟨3, ![1, 64, 5504]⟩
abbrev S1x64x86 : Shape := ⟨3, ![1, 64, 86]⟩
abbrev S768x11008 : Shape := ⟨2, ![768, 11008]⟩
abbrev S768x128 : Shape := ⟨2, ![768, 128]⟩
abbrev S64x128 : Shape := ⟨2, ![64, 128]⟩
abbrev S1x11008 : Shape := ⟨2, ![1, 11008]⟩
abbrev S8x11008 : Shape := ⟨2, ![8, 11008]⟩
abbrev S2x8x128 : Shape := ⟨3, ![2, 8, 128]⟩
abbrev S8x128 : Shape := ⟨2, ![8, 128]⟩
abbrev S1x8x128 : Shape := ⟨3, ![1, 8, 128]⟩
abbrev S1x128 : Shape := ⟨2, ![1, 128]⟩
abbrev S1x64x128 : Shape := ⟨3, ![1, 64, 128]⟩
abbrev S2x128 : Shape := ⟨2, ![2, 128]⟩
abbrev S64 : Shape := ⟨1, ![64]⟩
abbrev S64x1 : Shape := ⟨2, ![64, 1]⟩
abbrev S64x86 : Shape := ⟨2, ![64, 86]⟩
abbrev S1x1 : Shape := ⟨2, ![1, 1]⟩
abbrev S8x8x128 : Shape := ⟨3, ![8, 8, 128]⟩
abbrev S128 : Shape := ⟨1, ![128]⟩
abbrev S11008 : Shape := ⟨1, ![11008]⟩

abbrev nBuf : Space → Nat
  | .hbm => 15
  | .vmem => 29
  | .smem => 1
  | _ => 0

abbrev bufTy : (tb : Table) → Fin (tcTables nBuf tb) → BufTy
  | .hbm, ⟨0, _⟩ => ⟨S2x768x11008, .bf16⟩
  | .hbm, ⟨1, _⟩ => ⟨S2x768x11008, .bf16⟩
  | .hbm, ⟨2, _⟩ => ⟨S_, .i32⟩
  | .hbm, ⟨3, _⟩ => ⟨S2x768x5504, .i8⟩
  | .hbm, ⟨4, _⟩ => ⟨S2x768x86, .f32⟩
  | .hbm, ⟨5, _⟩ => ⟨S2x768x5504, .i8⟩
  | .hbm, ⟨6, _⟩ => ⟨S2x768, .f32⟩
  | .hbm, ⟨7, _⟩ => ⟨S2x11008, .f32⟩
  | .hbm, ⟨8, _⟩ => ⟨S1, .i32⟩
  | .hbm, ⟨9, _⟩ => ⟨S2x768x11008, .f32⟩
  | .hbm, ⟨10, _⟩ => ⟨S2x768x5504, .i8⟩
  | .hbm, ⟨11, _⟩ => ⟨S2x768x86, .f32⟩
  | .hbm, ⟨12, _⟩ => ⟨S2x768x5504, .i8⟩
  | .hbm, ⟨13, _⟩ => ⟨S2x768, .f32⟩
  | .hbm, ⟨14, _⟩ => ⟨S2x11008, .f32⟩
  | .local _ .vmem, ⟨0, _⟩ => ⟨S1x64x11008, .bf16⟩
  | .local _ .vmem, ⟨1, _⟩ => ⟨S1x64x11008, .bf16⟩
  | .local _ .vmem, ⟨2, _⟩ => ⟨S1x64x11008, .bf16⟩
  | .local _ .vmem, ⟨3, _⟩ => ⟨S1x64x11008, .bf16⟩
  | .local _ .vmem, ⟨4, _⟩ => ⟨S1x64x5504, .i8⟩
  | .local _ .vmem, ⟨5, _⟩ => ⟨S1x64x5504, .i8⟩
  | .local _ .vmem, ⟨6, _⟩ => ⟨S1x64x86, .f32⟩
  | .local _ .vmem, ⟨7, _⟩ => ⟨S1x64x86, .f32⟩
  | .local _ .vmem, ⟨8, _⟩ => ⟨S1x64x5504, .i8⟩
  | .local _ .vmem, ⟨9, _⟩ => ⟨S1x64x5504, .i8⟩
  | .local _ .vmem, ⟨10, _⟩ => ⟨S2x768, .f32⟩
  | .local _ .vmem, ⟨11, _⟩ => ⟨S2x11008, .f32⟩
  | .local _ .vmem, ⟨12, _⟩ => ⟨S1x64x11008, .f32⟩
  | .local _ .vmem, ⟨13, _⟩ => ⟨S1x64x11008, .f32⟩
  | .local _ .vmem, ⟨14, _⟩ => ⟨S1x64x5504, .i8⟩
  | .local _ .vmem, ⟨15, _⟩ => ⟨S1x64x5504, .i8⟩
  | .local _ .vmem, ⟨16, _⟩ => ⟨S1x64x86, .f32⟩
  | .local _ .vmem, ⟨17, _⟩ => ⟨S1x64x86, .f32⟩
  | .local _ .vmem, ⟨18, _⟩ => ⟨S1x64x5504, .i8⟩
  | .local _ .vmem, ⟨19, _⟩ => ⟨S1x64x5504, .i8⟩
  | .local _ .vmem, ⟨20, _⟩ => ⟨S2x768, .f32⟩
  | .local _ .vmem, ⟨21, _⟩ => ⟨S2x11008, .f32⟩
  | .local _ .vmem, ⟨22, _⟩ => ⟨S768x11008, .f32⟩
  | .local _ .vmem, ⟨23, _⟩ => ⟨S768x128, .f32⟩
  | .local _ .vmem, ⟨24, _⟩ => ⟨S64x128, .f32⟩
  | .local _ .vmem, ⟨25, _⟩ => ⟨S1x11008, .f32⟩
  | .local _ .vmem, ⟨26, _⟩ => ⟨S8x11008, .f32⟩
  | .local _ .vmem, ⟨27, _⟩ => ⟨S1x11008, .f32⟩
  | .local _ .vmem, ⟨28, _⟩ => ⟨S2x8x128, .f32⟩
  | .local _ .smem, ⟨0, _⟩ => ⟨S1, .i32⟩
  | _, _ => ⟨S2x768x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![36], ![false]⟩

def k0_cond2 (i : grid0.Coords) : BitVec 1 :=
  let arg0 : BitVec 32 := BitVec.ofNat 32 (i 0).val
  let c12_i32 : BitVec 32 := 12#32
  let v4 : BitVec 1 := Scalar.cmpi .sge arg0 c12_i32
  let v5 : BitVec 32 := Scalar.extui v4
  let c0_i32_1 : BitVec 32 := 0#32
  let v6 : BitVec 1 := Scalar.cmpi .ne v5 c0_i32_1
  v6

def k0_mult1 (i : grid0.Coords) : BitVec 32 :=
  let arg0 : BitVec 32 := BitVec.ofNat 32 (i 0).val
  let c12_i32_3 : BitVec 32 := 12#32
  let c0_i32_4 : BitVec 32 := 0#32
  let v10 : BitVec 1 := Scalar.cmpi .eq c12_i32_3 c0_i32_4
  let c1_i32 : BitVec 32 := 1#32
  let v11 : BitVec 32 := Scalar.select v10 c1_i32 c12_i32_3
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c64_i32 : BitVec 32 := 64#32
  let v20 : BitVec 32 := Scalar.muli v19 c64_i32
  v20
def k0_off1 (i : grid0.Coords) : Fin 2 → Nat :=
  let arg0 : BitVec 32 := BitVec.ofNat 32 (i 0).val
  let c12_i32_3 : BitVec 32 := 12#32
  let c0_i32_4 : BitVec 32 := 0#32
  let v10 : BitVec 1 := Scalar.cmpi .eq c12_i32_3 c0_i32_4
  let c1_i32 : BitVec 32 := 1#32
  let v11 : BitVec 32 := Scalar.select v10 c1_i32 c12_i32_3
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c64_i32 : BitVec 32 := 64#32
  let v20 : BitVec 32 := Scalar.muli v19 c64_i32
  let v21 : BitVec 32 := v20
  let v22 : Index := Scalar.indexCast v21
  let c0 : Index := 0#32
  ![v22.toNat, 0]
@[reducible] def k0_t1_loop : Scf.Loop 32 :=
  let c0_i32_8 : BitVec 32 := 0#32
  let c43_i32 : BitVec 32 := 43#32
  let v26 : BitVec 32 := Scalar.addi c0_i32_8 c43_i32
  let c1_i32_9 : BitVec 32 := 1#32
  ⟨c0_i32_8, v26, c1_i32_9⟩
def k0_mult2 (k0_t1 : Fin k0_t1_loop.trips) : BitVec 32 :=
  let c0_i32_8 : BitVec 32 := 0#32
  let c1_i32_9 : BitVec 32 := 1#32
  let arg22 : BitVec 32 := Scf.iv c0_i32_8 c1_i32_9 k0_t1
  let c128_i32 : BitVec 32 := 128#32
  let v27 : BitVec 32 := Scalar.muli arg22 c128_i32
  v27
def k0_off2 (i : grid0.Coords) (k0_t1 : Fin k0_t1_loop.trips) : Fin 2 → Nat :=
  let arg0 : BitVec 32 := BitVec.ofNat 32 (i 0).val
  let c12_i32_3 : BitVec 32 := 12#32
  let c0_i32_4 : BitVec 32 := 0#32
  let v10 : BitVec 1 := Scalar.cmpi .eq c12_i32_3 c0_i32_4
  let c1_i32 : BitVec 32 := 1#32
  let v11 : BitVec 32 := Scalar.select v10 c1_i32 c12_i32_3
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c64_i32 : BitVec 32 := 64#32
  let v20 : BitVec 32 := Scalar.muli v19 c64_i32
  let v21 : BitVec 32 := v20
  let v29 : Index := Scalar.indexCast v21
  let c0_i32_8 : BitVec 32 := 0#32
  let c1_i32_9 : BitVec 32 := 1#32
  let arg22 : BitVec 32 := Scf.iv c0_i32_8 c1_i32_9 k0_t1
  let c128_i32 : BitVec 32 := 128#32
  let v27 : BitVec 32 := Scalar.muli arg22 c128_i32
  let v28 : BitVec 32 := v27
  let v30 : Index := Scalar.indexCast v28
  ![v29.toNat, v30.toNat]
def k0_off3 (k0_t1 : Fin k0_t1_loop.trips) : Fin 2 → Nat :=
  let c0_11 : Index := 0#32
  let c0_i32_8 : BitVec 32 := 0#32
  let c1_i32_9 : BitVec 32 := 1#32
  let arg22 : BitVec 32 := Scf.iv c0_i32_8 c1_i32_9 k0_t1
  let c128_i32 : BitVec 32 := 128#32
  let v27 : BitVec 32 := Scalar.muli arg22 c128_i32
  let v28 : BitVec 32 := v27
  let v32 : Index := Scalar.indexCast v28
  ![0, v32.toNat]
def k0_mult3 (k0_t1 : Fin k0_t1_loop.trips) : BitVec 32 :=
  let c5504_i32 : BitVec 32 := 5504#32
  let c0_i32_8 : BitVec 32 := 0#32
  let c1_i32_9 : BitVec 32 := 1#32
  let arg22 : BitVec 32 := Scf.iv c0_i32_8 c1_i32_9 k0_t1
  let c128_i32_15 : BitVec 32 := 128#32
  let v47 : BitVec 32 := Scalar.muli arg22 c128_i32_15
  let v48 : BitVec 32 := Scalar.addi c5504_i32 v47
  v48
def k0_off4 (i : grid0.Coords) (k0_t1 : Fin k0_t1_loop.trips) : Fin 2 → Nat :=
  let arg0 : BitVec 32 := BitVec.ofNat 32 (i 0).val
  let c12_i32_3 : BitVec 32 := 12#32
  let c0_i32_4 : BitVec 32 := 0#32
  let v10 : BitVec 1 := Scalar.cmpi .eq c12_i32_3 c0_i32_4
  let c1_i32 : BitVec 32 := 1#32
  let v11 : BitVec 32 := Scalar.select v10 c1_i32 c12_i32_3
  let v12 : BitVec 32 := Scalar.remsi arg0 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c64_i32 : BitVec 32 := 64#32
  let v20 : BitVec 32 := Scalar.muli v19 c64_i32
  let v21 : BitVec 32 := v20
  let v50 : Index := Scalar.indexCast v21
  let c5504_i32 : BitVec 32 := 5504#32
  let c0_i32_8 : BitVec 32 := 0#32
  let c1_i32_9 : BitVec 32 := 1#32
  let arg22 : BitVec 32 := Scf.iv c0_i32_8 c1_i32_9 k0_t1
  let c128_i32_15 : BitVec 32 := 128#32
  let v47 : BitVec 32 := Scalar.muli arg22 c128_i32_15
  let v48 : BitVec 32 := Scalar.addi c5504_i32 v47
  let v49 : BitVec 32 := v48
  let v51 : Index := Scalar.indexCast v49
  ![v50.toNat, v51.toNat]
def k0_off5 (k0_t1 : Fin k0_t1_loop.trips) : Fin 2 → Nat :=
  let c0_16 : Index := 0#32
  let c5504_i32 : BitVec 32 := 5504#32
  let c0_i32_8 : BitVec 32 := 0#32
  let c1_i32_9 : BitVec 32 := 1#32
  let arg22 : BitVec 32 := Scf.iv c0_i32_8 c1_i32_9 k0_t1
  let c128_i32_15 : BitVec 32 := 128#32
  let v47 : BitVec 32 := Scalar.muli arg22 c128_i32_15
  let v48 : BitVec 32 := Scalar.addi c5504_i32 v47
  let v49 : BitVec 32 := v48
  let v53 : Index := Scalar.indexCast v49
  ![0, v53.toNat]
def k0_off6 (k0_t1 : Fin k0_t1_loop.trips) : Fin 3 → Nat :=
  let c0_21 : Index := 0#32
  let c0_22 : Index := 0#32
  let c0_i32_8 : BitVec 32 := 0#32
  let c1_i32_9 : BitVec 32 := 1#32
  let arg22 : BitVec 32 := Scf.iv c0_i32_8 c1_i32_9 k0_t1
  let c128_i32 : BitVec 32 := 128#32
  let v27 : BitVec 32 := Scalar.muli arg22 c128_i32
  let v28 : BitVec 32 := v27
  let v72 : Index := Scalar.indexCast v28
  ![0, 0, v72.toNat]
def k0_cond3 (i : grid0.Coords) : BitVec 1 :=
  let arg0 : BitVec 32 := BitVec.ofNat 32 (i 0).val
  let c24_i32 : BitVec 32 := 24#32
  let v7 : BitVec 1 := Scalar.cmpi .slt arg0 c24_i32
  let v8 : BitVec 32 := Scalar.extui v7
  let c0_i32_2 : BitVec 32 := 0#32
  let v9 : BitVec 1 := Scalar.cmpi .ne v8 c0_i32_2
  v9

def k0_mult4 (i : grid0.Coords) : BitVec 32 :=
  let arg0 : BitVec 32 := BitVec.ofNat 32 (i 0).val
  let c12_i32_9 : BitVec 32 := 12#32
  let c0_i32_10 : BitVec 32 := 0#32
  let v27 : BitVec 1 := Scalar.cmpi .eq c12_i32_9 c0_i32_10
  let c1_i32_11 : BitVec 32 := 1#32
  let v28 : BitVec 32 := Scalar.select v27 c1_i32_11 c12_i32_9
  let v29 : BitVec 32 := Scalar.remsi arg0 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c64_i32 : BitVec 32 := 64#32
  let v37 : BitVec 32 := Scalar.muli v36 c64_i32
  v37
def k0_cond4 (i : grid0.Coords) : BitVec 1 :=
  let arg0 : BitVec 32 := BitVec.ofNat 32 (i 0).val
  let c12_i32_9 : BitVec 32 := 12#32
  let c0_i32_10 : BitVec 32 := 0#32
  let v27 : BitVec 1 := Scalar.cmpi .eq c12_i32_9 c0_i32_10
  let c1_i32_11 : BitVec 32 := 1#32
  let v28 : BitVec 32 := Scalar.select v27 c1_i32_11 c12_i32_9
  let v29 : BitVec 32 := Scalar.remsi arg0 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c0_i32_15 : BitVec 32 := 0#32
  let v39 : BitVec 1 := Scalar.cmpi .eq v36 c0_i32_15
  let v40 : BitVec 32 := Scalar.extui v39
  let c0_i32_16 : BitVec 32 := 0#32
  let v41 : BitVec 1 := Scalar.cmpi .ne v40 c0_i32_16
  v41

def k0_off7 (i : grid0.Coords) : Fin 2 → Nat :=
  let arg0 : BitVec 32 := BitVec.ofNat 32 (i 0).val
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c12_i32_3 : BitVec 32 := 12#32
  let c0_i32_6 : BitVec 32 := 0#32
  let v16 : BitVec 1 := Scalar.cmpi .sgt c12_i32_3 c0_i32_6
  let v17 : BitVec 32 := Scalar.extui v16
  let c0_i32_7 : BitVec 32 := 0#32
  let v18 : BitVec 1 := Scalar.cmpi .slt c12_i32_3 c0_i32_7
  let v19 : BitVec 32 := Scalar.extui v18
  let v20 : BitVec 32 := Scalar.subi v17 v19
  let v21 : BitVec 1 := Scalar.cmpi .ne v15 v20
  let v22 : BitVec 32 := Scalar.remsi arg0 c12_i32_3
  let c0_i32_8 : BitVec 32 := 0#32
  let v23 : BitVec 1 := Scalar.cmpi .ne v22 c0_i32_8
  let v24 : BitVec 1 := Scalar.andi v21 v23
  let v10 : BitVec 32 := Scalar.divsi arg0 c12_i32_3
  let c1_i32 : BitVec 32 := 1#32
  let v25 : BitVec 32 := Scalar.subi v10 c1_i32
  let v26 : BitVec 32 := Scalar.select v24 v25 v10
  let v166 : Index := Scalar.indexCast v26
  let c0_70 : Index := 0#32
  ![v166.toNat, 0]
def k0_mult5 (i : grid0.Coords) : BitVec 32 :=
  let arg0 : BitVec 32 := BitVec.ofNat 32 (i 0).val
  let c12_i32_9 : BitVec 32 := 12#32
  let c0_i32_10 : BitVec 32 := 0#32
  let v27 : BitVec 1 := Scalar.cmpi .eq c12_i32_9 c0_i32_10
  let c1_i32_11 : BitVec 32 := 1#32
  let v28 : BitVec 32 := Scalar.select v27 c1_i32_11 c12_i32_9
  let v29 : BitVec 32 := Scalar.remsi arg0 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c0_i32_17 : BitVec 32 := 0#32
  let v43 : BitVec 1 := Scalar.cmpi .sgt v36 c0_i32_17
  let v44 : BitVec 32 := Scalar.extui v43
  let c0_i32_18 : BitVec 32 := 0#32
  let v45 : BitVec 1 := Scalar.cmpi .slt v36 c0_i32_18
  let v46 : BitVec 32 := Scalar.extui v45
  let v47 : BitVec 32 := Scalar.subi v44 v46
  let c2_i32 : BitVec 32 := 2#32
  let c0_i32_19 : BitVec 32 := 0#32
  let v48 : BitVec 1 := Scalar.cmpi .sgt c2_i32 c0_i32_19
  let v49 : BitVec 32 := Scalar.extui v48
  let c0_i32_20 : BitVec 32 := 0#32
  let v50 : BitVec 1 := Scalar.cmpi .slt c2_i32 c0_i32_20
  let v51 : BitVec 32 := Scalar.extui v50
  let v52 : BitVec 32 := Scalar.subi v49 v51
  let v53 : BitVec 1 := Scalar.cmpi .ne v47 v52
  let v54 : BitVec 32 := Scalar.remsi v36 c2_i32
  let c0_i32_21 : BitVec 32 := 0#32
  let v55 : BitVec 1 := Scalar.cmpi .ne v54 c0_i32_21
  let v56 : BitVec 1 := Scalar.andi v53 v55
  let v42 : BitVec 32 := Scalar.divsi v36 c2_i32
  let c1_i32_22 : BitVec 32 := 1#32
  let v57 : BitVec 32 := Scalar.subi v42 c1_i32_22
  let v58 : BitVec 32 := Scalar.select v56 v57 v42
  let c128_i32 : BitVec 32 := 128#32
  let v59 : BitVec 32 := Scalar.muli v58 c128_i32
  v59
def k0_off8 (i : grid0.Coords) : Fin 2 → Nat :=
  let c0 : Index := 0#32
  let arg0 : BitVec 32 := BitVec.ofNat 32 (i 0).val
  let c12_i32_9 : BitVec 32 := 12#32
  let c0_i32_10 : BitVec 32 := 0#32
  let v27 : BitVec 1 := Scalar.cmpi .eq c12_i32_9 c0_i32_10
  let c1_i32_11 : BitVec 32 := 1#32
  let v28 : BitVec 32 := Scalar.select v27 c1_i32_11 c12_i32_9
  let v29 : BitVec 32 := Scalar.remsi arg0 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c0_i32_17 : BitVec 32 := 0#32
  let v43 : BitVec 1 := Scalar.cmpi .sgt v36 c0_i32_17
  let v44 : BitVec 32 := Scalar.extui v43
  let c0_i32_18 : BitVec 32 := 0#32
  let v45 : BitVec 1 := Scalar.cmpi .slt v36 c0_i32_18
  let v46 : BitVec 32 := Scalar.extui v45
  let v47 : BitVec 32 := Scalar.subi v44 v46
  let c2_i32 : BitVec 32 := 2#32
  let c0_i32_19 : BitVec 32 := 0#32
  let v48 : BitVec 1 := Scalar.cmpi .sgt c2_i32 c0_i32_19
  let v49 : BitVec 32 := Scalar.extui v48
  let c0_i32_20 : BitVec 32 := 0#32
  let v50 : BitVec 1 := Scalar.cmpi .slt c2_i32 c0_i32_20
  let v51 : BitVec 32 := Scalar.extui v50
  let v52 : BitVec 32 := Scalar.subi v49 v51
  let v53 : BitVec 1 := Scalar.cmpi .ne v47 v52
  let v54 : BitVec 32 := Scalar.remsi v36 c2_i32
  let c0_i32_21 : BitVec 32 := 0#32
  let v55 : BitVec 1 := Scalar.cmpi .ne v54 c0_i32_21
  let v56 : BitVec 1 := Scalar.andi v53 v55
  let v42 : BitVec 32 := Scalar.divsi v36 c2_i32
  let c1_i32_22 : BitVec 32 := 1#32
  let v57 : BitVec 32 := Scalar.subi v42 c1_i32_22
  let v58 : BitVec 32 := Scalar.select v56 v57 v42
  let c128_i32 : BitVec 32 := 128#32
  let v59 : BitVec 32 := Scalar.muli v58 c128_i32
  let v60 : BitVec 32 := v59
  let v61 : Index := Scalar.indexCast v60
  ![0, v61.toNat]
def k0_off9 (i : grid0.Coords) : Fin 2 → Nat :=
  let arg0 : BitVec 32 := BitVec.ofNat 32 (i 0).val
  let c12_i32_9 : BitVec 32 := 12#32
  let c0_i32_10 : BitVec 32 := 0#32
  let v27 : BitVec 1 := Scalar.cmpi .eq c12_i32_9 c0_i32_10
  let c1_i32_11 : BitVec 32 := 1#32
  let v28 : BitVec 32 := Scalar.select v27 c1_i32_11 c12_i32_9
  let v29 : BitVec 32 := Scalar.remsi arg0 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c64_i32 : BitVec 32 := 64#32
  let v37 : BitVec 32 := Scalar.muli v36 c64_i32
  let v38 : BitVec 32 := v37
  let v96 : Index := Scalar.indexCast v38
  let c0_36 : Index := 0#32
  ![v96.toNat, 0]
@[reducible] def k0_t2_loop : Scf.Loop 32 :=
  let c0_i32_47 : BitVec 32 := 0#32
  let c43_i32 : BitVec 32 := 43#32
  let v111 : BitVec 32 := Scalar.addi c0_i32_47 c43_i32
  let c1_i32_48 : BitVec 32 := 1#32
  ⟨c0_i32_47, v111, c1_i32_48⟩
def k0_mult6 (k0_t2 : Fin k0_t2_loop.trips) : BitVec 32 :=
  let c0_i32_47 : BitVec 32 := 0#32
  let c1_i32_48 : BitVec 32 := 1#32
  let arg22 : BitVec 32 := Scf.iv c0_i32_47 c1_i32_48 k0_t2
  let c128_i32_70 : BitVec 32 := 128#32
  let v166 : BitVec 32 := Scalar.muli arg22 c128_i32_70
  v166
def k0_off10 (k0_t2 : Fin k0_t2_loop.trips) : Fin 3 → Nat :=
  let c0_71 : Index := 0#32
  let c0_72 : Index := 0#32
  let c0_i32_47 : BitVec 32 := 0#32
  let c1_i32_48 : BitVec 32 := 1#32
  let arg22 : BitVec 32 := Scf.iv c0_i32_47 c1_i32_48 k0_t2
  let c128_i32_70 : BitVec 32 := 128#32
  let v166 : BitVec 32 := Scalar.muli arg22 c128_i32_70
  let v167 : BitVec 32 := v166
  let v168 : Index := Scalar.indexCast v167
  ![0, 0, v168.toNat]
def k0_mult7 (k0_t2 : Fin k0_t2_loop.trips) : BitVec 32 :=
  let c0_i32_47 : BitVec 32 := 0#32
  let c1_i32_48 : BitVec 32 := 1#32
  let arg22 : BitVec 32 := Scf.iv c0_i32_47 c1_i32_48 k0_t2
  let c128_i32_70 : BitVec 32 := 128#32
  let v166 : BitVec 32 := Scalar.muli arg22 c128_i32_70
  let v167 : BitVec 32 := v166
  let c0_i32_81 : BitVec 32 := 0#32
  let v197 : BitVec 32 := Scalar.addi v167 c0_i32_81
  v197
def k0_off11 (k0_t2 : Fin k0_t2_loop.trips) (c0_i32_81 : BitVec 32) : Fin 3 → Nat :=
  let c0_82 : Index := 0#32
  let c0_83 : Index := 0#32
  let c0_i32_47 : BitVec 32 := 0#32
  let c1_i32_48 : BitVec 32 := 1#32
  let arg22 : BitVec 32 := Scf.iv c0_i32_47 c1_i32_48 k0_t2
  let c128_i32_70 : BitVec 32 := 128#32
  let v166 : BitVec 32 := Scalar.muli arg22 c128_i32_70
  let v167 : BitVec 32 := v166
  let v197 : BitVec 32 := Scalar.addi v167 c0_i32_81
  let v198 : BitVec 32 := v197
  let v199 : Index := Scalar.indexCast v198
  ![0, 0, v199.toNat]
def k0_off12 (k0_t2 : Fin k0_t2_loop.trips) (c0_i32_81 : BitVec 32) : Fin 2 → Nat :=
  let c0_90 : Index := 0#32
  let c0_i32_47 : BitVec 32 := 0#32
  let c1_i32_48 : BitVec 32 := 1#32
  let arg22 : BitVec 32 := Scf.iv c0_i32_47 c1_i32_48 k0_t2
  let c128_i32_70 : BitVec 32 := 128#32
  let v166 : BitVec 32 := Scalar.muli arg22 c128_i32_70
  let v167 : BitVec 32 := v166
  let v197 : BitVec 32 := Scalar.addi v167 c0_i32_81
  let v198 : BitVec 32 := v197
  let v218 : Index := Scalar.indexCast v198
  ![0, v218.toNat]
def k0_off13 (i : grid0.Coords) (k0_t2 : Fin k0_t2_loop.trips) (c0_i32_81 : BitVec 32) : Fin 2 → Nat :=
  let arg0 : BitVec 32 := BitVec.ofNat 32 (i 0).val
  let c12_i32_9 : BitVec 32 := 12#32
  let c0_i32_10 : BitVec 32 := 0#32
  let v27 : BitVec 1 := Scalar.cmpi .eq c12_i32_9 c0_i32_10
  let c1_i32_11 : BitVec 32 := 1#32
  let v28 : BitVec 32 := Scalar.select v27 c1_i32_11 c12_i32_9
  let v29 : BitVec 32 := Scalar.remsi arg0 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c64_i32 : BitVec 32 := 64#32
  let v37 : BitVec 32 := Scalar.muli v36 c64_i32
  let v38 : BitVec 32 := v37
  let v227 : Index := Scalar.indexCast v38
  let c0_i32_47 : BitVec 32 := 0#32
  let c1_i32_48 : BitVec 32 := 1#32
  let arg22 : BitVec 32 := Scf.iv c0_i32_47 c1_i32_48 k0_t2
  let c128_i32_70 : BitVec 32 := 128#32
  let v166 : BitVec 32 := Scalar.muli arg22 c128_i32_70
  let v167 : BitVec 32 := v166
  let v197 : BitVec 32 := Scalar.addi v167 c0_i32_81
  let v198 : BitVec 32 := v197
  let v228 : Index := Scalar.indexCast v198
  ![v227.toNat, v228.toNat]
def k0_off14 (i : grid0.Coords) : Fin 2 → Nat :=
  let arg0 : BitVec 32 := BitVec.ofNat 32 (i 0).val
  let c12_i32_9 : BitVec 32 := 12#32
  let c0_i32_10 : BitVec 32 := 0#32
  let v27 : BitVec 1 := Scalar.cmpi .eq c12_i32_9 c0_i32_10
  let c1_i32_11 : BitVec 32 := 1#32
  let v28 : BitVec 32 := Scalar.select v27 c1_i32_11 c12_i32_9
  let v29 : BitVec 32 := Scalar.remsi arg0 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c64_i32 : BitVec 32 := 64#32
  let v37 : BitVec 32 := Scalar.muli v36 c64_i32
  let v38 : BitVec 32 := v37
  let v232 : Index := Scalar.indexCast v38
  let c0_92 : Index := 0#32
  ![v232.toNat, 0]
def k0_off15 (k0_t2 : Fin k0_t2_loop.trips) (c0_i32_81 : BitVec 32) : Fin 2 → Nat :=
  let c0_94 : Index := 0#32
  let c0_i32_47 : BitVec 32 := 0#32
  let c1_i32_48 : BitVec 32 := 1#32
  let arg22 : BitVec 32 := Scf.iv c0_i32_47 c1_i32_48 k0_t2
  let c128_i32_70 : BitVec 32 := 128#32
  let v166 : BitVec 32 := Scalar.muli arg22 c128_i32_70
  let v167 : BitVec 32 := v166
  let v197 : BitVec 32 := Scalar.addi v167 c0_i32_81
  let v198 : BitVec 32 := v197
  let v240 : Index := Scalar.indexCast v198
  ![0, v240.toNat]
def k0_mult8 (k0_t2 : Fin k0_t2_loop.trips) : BitVec 32 :=
  let c0_i32_47 : BitVec 32 := 0#32
  let c1_i32_48 : BitVec 32 := 1#32
  let arg22 : BitVec 32 := Scf.iv c0_i32_47 c1_i32_48 k0_t2
  let c128_i32_70 : BitVec 32 := 128#32
  let v166 : BitVec 32 := Scalar.muli arg22 c128_i32_70
  let v167 : BitVec 32 := v166
  let c5504_i32 : BitVec 32 := 5504#32
  let v287 : BitVec 32 := Scalar.addi v167 c5504_i32
  v287
def k0_cond5 (i : grid0.Coords) : BitVec 1 :=
  let arg0 : BitVec 32 := BitVec.ofNat 32 (i 0).val
  let c12_i32_9 : BitVec 32 := 12#32
  let c0_i32_10 : BitVec 32 := 0#32
  let v27 : BitVec 1 := Scalar.cmpi .eq c12_i32_9 c0_i32_10
  let c1_i32_11 : BitVec 32 := 1#32
  let v28 : BitVec 32 := Scalar.select v27 c1_i32_11 c12_i32_9
  let v29 : BitVec 32 := Scalar.remsi arg0 v28
  let c0_i32_13 : BitVec 32 := 0#32
  let v31 : BitVec 1 := Scalar.cmpi .slt v29 c0_i32_13
  let c0_i32_14 : BitVec 32 := 0#32
  let v32 : BitVec 1 := Scalar.cmpi .slt v28 c0_i32_14
  let v33 : BitVec 1 := Scalar.xori v31 v32
  let c0_i32_12 : BitVec 32 := 0#32
  let v30 : BitVec 1 := Scalar.cmpi .ne v29 c0_i32_12
  let v34 : BitVec 1 := Scalar.andi v33 v30
  let v35 : BitVec 32 := Scalar.addi v29 v28
  let v36 : BitVec 32 := Scalar.select v34 v35 v29
  let c11_i32 : BitVec 32 := 11#32
  let v163 : BitVec 1 := Scalar.cmpi .eq v36 c11_i32
  let v164 : BitVec 32 := Scalar.extui v163
  let c0_i32_69 : BitVec 32 := 0#32
  let v165 : BitVec 1 := Scalar.cmpi .ne v164 c0_i32_69
  v165

def k0_off16 (i : grid0.Coords) : Fin 2 → Nat :=
  let arg0 : BitVec 32 := BitVec.ofNat 32 (i 0).val
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c12_i32_3 : BitVec 32 := 12#32
  let c0_i32_6 : BitVec 32 := 0#32
  let v16 : BitVec 1 := Scalar.cmpi .sgt c12_i32_3 c0_i32_6
  let v17 : BitVec 32 := Scalar.extui v16
  let c0_i32_7 : BitVec 32 := 0#32
  let v18 : BitVec 1 := Scalar.cmpi .slt c12_i32_3 c0_i32_7
  let v19 : BitVec 32 := Scalar.extui v18
  let v20 : BitVec 32 := Scalar.subi v17 v19
  let v21 : BitVec 1 := Scalar.cmpi .ne v15 v20
  let v22 : BitVec 32 := Scalar.remsi arg0 c12_i32_3
  let c0_i32_8 : BitVec 32 := 0#32
  let v23 : BitVec 1 := Scalar.cmpi .ne v22 c0_i32_8
  let v24 : BitVec 1 := Scalar.andi v21 v23
  let v10 : BitVec 32 := Scalar.divsi arg0 c12_i32_3
  let c1_i32 : BitVec 32 := 1#32
  let v25 : BitVec 32 := Scalar.subi v10 c1_i32
  let v26 : BitVec 32 := Scalar.select v24 v25 v10
  let v171 : Index := Scalar.indexCast v26
  let c0_74 : Index := 0#32
  ![v171.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c23_i32 : BitVec 32 := 23#32
  let v0 : BitVec 32 := Scalar.minsi arg0 c23_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_2 (i : grid0.Coords) : Fin 3 → Nat :=
  let arg0 : BitVec 32 := BitVec.ofNat 32 (i 0).val
  let c23_i32 : BitVec 32 := 23#32
  let v0 : BitVec 32 := Scalar.minsi arg0 c23_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_3 (i : grid0.Coords) : Fin 3 → Nat :=
  let arg0 : BitVec 32 := BitVec.ofNat 32 (i 0).val
  let c23_i32 : BitVec 32 := 23#32
  let v0 : BitVec 32 := Scalar.minsi arg0 c23_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_4 (i : grid0.Coords) : Fin 3 → Nat :=
  let arg0 : BitVec 32 := BitVec.ofNat 32 (i 0).val
  let c23_i32 : BitVec 32 := 23#32
  let v0 : BitVec 32 := Scalar.minsi arg0 c23_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_5 (i : grid0.Coords) : Fin 3 → Nat :=
  let arg0 : BitVec 32 := BitVec.ofNat 32 (i 0).val
  let c23_i32 : BitVec 32 := 23#32
  let v0 : BitVec 32 := Scalar.minsi arg0 c23_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c23_i32 : BitVec 32 := 23#32
  let v0 : BitVec 32 := Scalar.minsi arg0 c23_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_9 (i : grid0.Coords) : Fin 3 → Nat :=
  let arg0 : BitVec 32 := BitVec.ofNat 32 (i 0).val
  let c23_i32 : BitVec 32 := 23#32
  let v0 : BitVec 32 := Scalar.minsi arg0 c23_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_10 (i : grid0.Coords) : Fin 3 → Nat :=
  let arg0 : BitVec 32 := BitVec.ofNat 32 (i 0).val
  let c23_i32 : BitVec 32 := 23#32
  let v0 : BitVec 32 := Scalar.minsi arg0 c23_i32
  let c12_i32 : BitVec 32 := 12#32
  let v1 : BitVec 32 := Scalar.divsi v0 c12_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c12_i32 c0_i32_1
  let v8 : BitVec 32 := Scalar.extui v7
  let c0_i32_2 : BitVec 32 := 0#32
  let v9 : BitVec 1 := Scalar.cmpi .slt c12_i32 c0_i32_2
  let v10 : BitVec 32 := Scalar.extui v9
  let v11 : BitVec 32 := Scalar.subi v8 v10
  let v12 : BitVec 1 := Scalar.cmpi .ne v6 v11
  let v13 : BitVec 32 := Scalar.remsi v0 c12_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c12_i32_4 : BitVec 32 := 12#32
  let c0_i32_5 : BitVec 32 := 0#32
  let v18 : BitVec 1 := Scalar.cmpi .eq c12_i32_4 c0_i32_5
  let c1_i32_6 : BitVec 32 := 1#32
  let v19 : BitVec 32 := Scalar.select v18 c1_i32_6 c12_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_11 (i : grid0.Coords) : Fin 3 → Nat :=
  let arg0 : BitVec 32 := BitVec.ofNat 32 (i 0).val
  let c12_i32 : BitVec 32 := 12#32
  let v0 : BitVec 32 := Scalar.subi arg0 c12_i32
  let c0_i32 : BitVec 32 := 0#32
  let v1 : BitVec 32 := Scalar.maxsi v0 c0_i32
  let c12_i32_0 : BitVec 32 := 12#32
  let v2 : BitVec 32 := Scalar.divsi v1 c12_i32_0
  let c0_i32_1 : BitVec 32 := 0#32
  let v3 : BitVec 1 := Scalar.cmpi .sgt v1 c0_i32_1
  let v4 : BitVec 32 := Scalar.extui v3
  let c0_i32_2 : BitVec 32 := 0#32
  let v5 : BitVec 1 := Scalar.cmpi .slt v1 c0_i32_2
  let v6 : BitVec 32 := Scalar.extui v5
  let v7 : BitVec 32 := Scalar.subi v4 v6
  let c0_i32_3 : BitVec 32 := 0#32
  let v8 : BitVec 1 := Scalar.cmpi .sgt c12_i32_0 c0_i32_3
  let v9 : BitVec 32 := Scalar.extui v8
  let c0_i32_4 : BitVec 32 := 0#32
  let v10 : BitVec 1 := Scalar.cmpi .slt c12_i32_0 c0_i32_4
  let v11 : BitVec 32 := Scalar.extui v10
  let v12 : BitVec 32 := Scalar.subi v9 v11
  let v13 : BitVec 1 := Scalar.cmpi .ne v7 v12
  let v14 : BitVec 32 := Scalar.remsi v1 c12_i32_0
  let c0_i32_5 : BitVec 32 := 0#32
  let v15 : BitVec 1 := Scalar.cmpi .ne v14 c0_i32_5
  let v16 : BitVec 1 := Scalar.andi v13 v15
  let c1_i32 : BitVec 32 := 1#32
  let v17 : BitVec 32 := Scalar.subi v2 c1_i32
  let v18 : BitVec 32 := Scalar.select v16 v17 v2
  let c12_i32_6 : BitVec 32 := 12#32
  let c0_i32_7 : BitVec 32 := 0#32
  let v19 : BitVec 1 := Scalar.cmpi .eq c12_i32_6 c0_i32_7
  let c1_i32_8 : BitVec 32 := 1#32
  let v20 : BitVec 32 := Scalar.select v19 c1_i32_8 c12_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x64x11008 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x11008 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x5504 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x86 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x5504 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x11008 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x64x11008 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x5504 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x86 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x64x5504 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x11008 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== KernelIdeal.lean ====
variable {F : FTy → Type} [FloatOps F] [Named F]
def κ : String → Option EReal := fun
  | "eps" => some ((1 / 100000000 : ℝ) : EReal)
  | "lr_tenth" => some ((3 / 100000 : ℝ) : EReal)
  | "tenth" => some ((1 / 10 : ℝ) : EReal)
  | "thousandth" => some ((1 / 1000 : ℝ) : EReal)
  | _ => none
-- ==== ReferenceIdeal.lean ====
abbrev S2x768x11008 : Shape := ⟨3, ![2, 768, 11008]⟩
abbrev S_ : Shape := ⟨0, ![]⟩
abbrev S2x768x5504 : Shape := ⟨3, ![2, 768, 5504]⟩
abbrev S2x768x86 : Shape := ⟨3, ![2, 768, 86]⟩
abbrev S2x768 : Shape := ⟨2, ![2, 768]⟩
abbrev S2x11008 : Shape := ⟨2, ![2, 11008]⟩
abbrev S2x768x2x5504 : Shape := ⟨4, ![2, 768, 2, 5504]⟩
abbrev S2x768x1x5504 : Shape := ⟨4, ![2, 768, 1, 5504]⟩
abbrev S2x768x2x43x128 : Shape := ⟨5, ![2, 768, 2, 43, 128]⟩
abbrev S2x768x2x43x1 : Shape := ⟨5, ![2, 768, 2, 43, 1]⟩
abbrev S2x768x1x1 : Shape := ⟨4, ![2, 768, 1, 1]⟩
abbrev S2x1x2x5504 : Shape := ⟨4, ![2, 1, 2, 5504]⟩
abbrev S2x768x2x43 : Shape := ⟨4, ![2, 768, 2, 43]⟩
abbrev S2x2x5504 : Shape := ⟨3, ![2, 2, 5504]⟩

abbrev nBuf : Space → Nat
  | .hbm => 198
  | .vmem => 0
  | .smem => 0
  | _ => 0

abbrev hbmTy0_0 (i : Nat) : BufTy := match i % 128 with
  | 0 => ⟨S2x768x11008, .bf16⟩
  | 1 => ⟨S2x768x11008, .bf16⟩
  | 2 => ⟨S_, .i32⟩
  | 3 => ⟨S2x768x5504, .i8⟩
  | 4 => ⟨S2x768x86, .f32⟩
  | 5 => ⟨S2x768x5504, .i8⟩
  | 6 => ⟨S2x768, .f32⟩
  | 7 => ⟨S2x11008, .f32⟩
  | 8 => ⟨S2x768x11008, .f32⟩
  | 9 => ⟨S2x768x2x5504, .f32⟩
  | 10 => ⟨S2x768x11008, .f32⟩
  | 11 => ⟨S2x768x2x5504, .f32⟩
  | 12 => ⟨S2x768x5504, .i32⟩
  | 13 => ⟨S_, .i32⟩
  | 14 => ⟨S2x768x5504, .i32⟩
  | 15 => ⟨S2x768x5504, .i32⟩
  | 16 => ⟨S_, .i32⟩
  | 17 => ⟨S2x768x5504, .i32⟩
  | 18 => ⟨S2x768x5504, .i32⟩
  | 19 => ⟨S2x768x1x5504, .i32⟩
  | 20 => ⟨S2x768x1x5504, .i32⟩
  | 21 => ⟨S2x768x2x5504, .i32⟩
  | 22 => ⟨S_, .i32⟩
  | 23 => ⟨S2x768x2x5504, .i32⟩
  | 24 => ⟨S2x768x2x5504, .i1⟩
  | 25 => ⟨S_, .i32⟩
  | 26 => ⟨S2x768x2x5504, .i32⟩
  | 27 => ⟨S2x768x2x5504, .i32⟩
  | 28 => ⟨S2x768x2x5504, .i32⟩
  | 29 => ⟨S2x768x2x5504, .f32⟩
  | 30 => ⟨S2x768x2x43x128, .f32⟩
  | 31 => ⟨S2x768x2x43x1, .f32⟩
  | 32 => ⟨S2x768x2x43x128, .f32⟩
  | 33 => ⟨S2x768x2x43x128, .f32⟩
  | 34 => ⟨S2x768x2x5504, .f32⟩
  | 35 => ⟨S2x768x5504, .i32⟩
  | 36 => ⟨S_, .i32⟩
  | 37 => ⟨S2x768x5504, .i32⟩
  | 38 => ⟨S2x768x5504, .i32⟩
  | 39 => ⟨S_, .i32⟩
  | 40 => ⟨S2x768x5504, .i32⟩
  | 41 => ⟨S2x768x5504, .i32⟩
  | 42 => ⟨S2x768x1x5504, .i32⟩
  | 43 => ⟨S2x768x1x5504, .i32⟩
  | 44 => ⟨S2x768x2x5504, .i32⟩
  | 45 => ⟨S2x768x1x1, .f32⟩
  | 46 => ⟨S2x1x2x5504, .f32⟩
  | 47 => ⟨S2x768x2x5504, .f32⟩
  | 48 => ⟨S2x768x2x5504, .f32⟩
  | 49 => ⟨S2x768x2x5504, .f32⟩
  | 50 => ⟨S2x768x2x5504, .f32⟩
  | 51 => ⟨S_, .f32⟩
  | 52 => ⟨S2x768x2x5504, .f32⟩
  | 53 => ⟨S2x768x2x5504, .f32⟩
  | 54 => ⟨S_, .f32⟩
  | 55 => ⟨S2x768x2x5504, .f32⟩
  | 56 => ⟨S2x768x2x5504, .f32⟩
  | 57 => ⟨S2x768x2x5504, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S2x768x2x5504, .f32⟩
  | 71 => ⟨S2x768x2x5504, .f32⟩
  | 72 => ⟨S2x768x2x5504, .f32⟩
  | 73 => ⟨S2x768x2x5504, .f32⟩
  | 74 => ⟨S2x768x2x5504, .f32⟩
  | 75 => ⟨S2x768x2x5504, .f32⟩
  | 76 => ⟨S2x768x2x5504, .f32⟩
  | 77 => ⟨S2x768x2x5504, .f32⟩
  | 78 => ⟨S2x768x2x5504, .f32⟩
  | 79 => ⟨S2x768x2x5504, .f32⟩
  | 80 => ⟨S2x768x2x5504, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S2x768x2x5504, .f32⟩
  | 100 => ⟨S2x768x2x5504, .f32⟩
  | 101 => ⟨S2x768x2x5504, .f32⟩
  | 102 => ⟨S2x768x2x5504, .f32⟩
  | 103 => ⟨S2x768x2x5504, .f32⟩
  | 104 => ⟨S2x768x2x5504, .f32⟩
  | 105 => ⟨S2x768x2x5504, .f32⟩
  | 106 => ⟨S2x768x2x5504, .f32⟩
  | 107 => ⟨S2x768x2x5504, .f32⟩
  | 108 => ⟨S2x768x2x5504, .f32⟩
  | 109 => ⟨S2x768x2x5504, .f32⟩
  | 110 => ⟨S2x768x2x5504, .f32⟩
  | 111 => ⟨S2x768x2x5504, .f32⟩
  | 112 => ⟨S2x768x11008, .f32⟩
  | 113 => ⟨S2x768x2x43x128, .f32⟩
  | 114 => ⟨S2x768x2x43x128, .f32⟩
  | 115 => ⟨S_, .f32⟩
  | 116 => ⟨S2x768x2x43, .f32⟩
  | 117 => ⟨S2x768x2x43x1, .f32⟩
  | 118 => ⟨S_, .f32⟩
  | 119 => ⟨S2x768x2x43x1, .f32⟩
  | 120 => ⟨S2x768x2x43x1, .i1⟩
  | 121 => ⟨S_, .f32⟩
  | 122 => ⟨S2x768x2x43x1, .f32⟩
  | 123 => ⟨S2x768x2x43x1, .f32⟩
  | 124 => ⟨S_, .f32⟩
  | 125 => ⟨S_, .f32⟩
  | 126 => ⟨S2x768x2x43x1, .f32⟩
  | 127 => ⟨S2x768x2x43x1, .f32⟩
  | _ => ⟨S2x768x11008, .bf16⟩

abbrev hbmTy0_1 (i : Nat) : BufTy := match i % 128 with
  | 0 => ⟨S2x768x2x43x128, .f32⟩
  | 1 => ⟨S2x768x2x43x128, .f32⟩
  | 2 => ⟨S2x768x2x43x128, .f32⟩
  | 3 => ⟨S_, .i32⟩
  | 4 => ⟨S_, .i32⟩
  | 5 => ⟨S_, .f32⟩
  | 6 => ⟨S2x768x2x43x128, .f32⟩
  | 7 => ⟨S2x768x2x43x128, .f32⟩
  | 8 => ⟨S_, .f32⟩
  | 9 => ⟨S2x768x2x43x128, .f32⟩
  | 10 => ⟨S2x768x2x43x128, .f32⟩
  | 11 => ⟨S2x768x2x43x128, .i32⟩
  | 12 => ⟨S2x768x2x5504, .i32⟩
  | 13 => ⟨S2x768x86, .f32⟩
  | 14 => ⟨S2x768x2x5504, .i32⟩
  | 15 => ⟨S2x768x86, .f32⟩
  | 16 => ⟨S_, .f32⟩
  | 17 => ⟨S2x768, .f32⟩
  | 18 => ⟨S_, .f32⟩
  | 19 => ⟨S2x2x5504, .f32⟩
  | 20 => ⟨S2x768x1x1, .f32⟩
  | 21 => ⟨S2x1x2x5504, .f32⟩
  | 22 => ⟨S2x768x2x5504, .f32⟩
  | 23 => ⟨S2x768x2x5504, .f32⟩
  | 24 => ⟨S2x768x2x5504, .f32⟩
  | 25 => ⟨S_, .f32⟩
  | 26 => ⟨S2x768x2x5504, .f32⟩
  | 27 => ⟨S2x768x2x5504, .f32⟩
  | 28 => ⟨S2x768x2x5504, .f32⟩
  | 29 => ⟨S_, .f32⟩
  | 30 => ⟨S2x768x2x5504, .f32⟩
  | 31 => ⟨S2x768x2x5504, .f32⟩
  | 32 => ⟨S2x768x2x5504, .f32⟩
  | 33 => ⟨S_, .i32⟩
  | 34 => ⟨S_, .i32⟩
  | 35 => ⟨S_, .f32⟩
  | 36 => ⟨S2x768x2x5504, .f32⟩
  | 37 => ⟨S2x768x2x5504, .f32⟩
  | 38 => ⟨S_, .f32⟩
  | 39 => ⟨S2x768x2x5504, .f32⟩
  | 40 => ⟨S2x768x2x5504, .f32⟩
  | 41 => ⟨S2x768x2x5504, .i32⟩
  | 42 => ⟨S2x11008, .f32⟩
  | 43 => ⟨S2x768x2x5504, .i32⟩
  | 44 => ⟨S2x768, .f32⟩
  | 45 => ⟨S2x11008, .f32⟩
  | 46 => ⟨S_, .i32⟩
  | 47 => ⟨S2x768x2x5504, .i32⟩
  | 48 => ⟨S2x768x2x5504, .i32⟩
  | 49 => ⟨S2x768x1x5504, .i32⟩
  | 50 => ⟨S2x768x5504, .i32⟩
  | 51 => ⟨S2x768x1x5504, .i32⟩
  | 52 => ⟨S2x768x5504, .i32⟩
  | 53 => ⟨S_, .i32⟩
  | 54 => ⟨S2x768x5504, .i32⟩
  | 55 => ⟨S2x768x5504, .i32⟩
  | 56 => ⟨S2x768x5504, .i32⟩
  | 57 => ⟨S2x768x5504, .i8⟩
  | 58 => ⟨S_, .i32⟩
  | 59 => ⟨S2x768x2x5504, .i32⟩
  | 60 => ⟨S2x768x2x5504, .i32⟩
  | 61 => ⟨S2x768x1x5504, .i32⟩
  | 62 => ⟨S2x768x5504, .i32⟩
  | 63 => ⟨S2x768x1x5504, .i32⟩
  | 64 => ⟨S2x768x5504, .i32⟩
  | 65 => ⟨S_, .i32⟩
  | 66 => ⟨S2x768x5504, .i32⟩
  | 67 => ⟨S2x768x5504, .i32⟩
  | 68 => ⟨S2x768x5504, .i32⟩
  | 69 => ⟨S2x768x5504, .i8⟩
  | _ => ⟨S2x768x11008, .bf16⟩

abbrev hbmTy (i : Nat) : BufTy := match i / 128 with
  | 0 => hbmTy0_0 i
  | 1 => hbmTy0_1 i
  | _ => ⟨S2x768x11008, .bf16⟩

abbrev bufTy : (tb : Table) → Fin (tcTables nBuf tb) → BufTy
  | .hbm, ⟨i, _⟩ => hbmTy i
  | _, _ => ⟨S2x768x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_c_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_cst_7 : Ref sig .tc := ⟨.hbm, 59, rfl⟩
abbrev main_v42 : Ref sig .tc := ⟨.hbm, 60, rfl⟩
abbrev main_cst_8 : Ref sig .tc := ⟨.hbm, 61, rfl⟩
abbrev main_cst_9 : Ref sig .tc := ⟨.hbm, 62, rfl⟩
abbrev main_v43 : Ref sig .tc := ⟨.hbm, 63, rfl⟩
abbrev main_cst_10 : Ref sig .tc := ⟨.hbm, 64, rfl⟩
abbrev main_cst_11 : Ref sig .tc := ⟨.hbm, 65, rfl⟩
abbrev main_v44 : Ref sig .tc := ⟨.hbm, 66, rfl⟩
abbrev main_cst_12 : Ref sig .tc := ⟨.hbm, 67, rfl⟩
abbrev main_cst_13 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_14 : Ref sig .tc := ⟨.hbm, 82, rfl⟩
abbrev main_v58 : Ref sig .tc := ⟨.hbm, 83, rfl⟩
abbrev main_cst_15 : Ref sig .tc := ⟨.hbm, 84, rfl⟩
abbrev main_v59 : Ref sig .tc := ⟨.hbm, 85, rfl⟩
abbrev main_cst_16 : Ref sig .tc := ⟨.hbm, 86, rfl⟩
abbrev main_v60 : Ref sig .tc := ⟨.hbm, 87, rfl⟩
abbrev main_cst_17 : Ref sig .tc := ⟨.hbm, 88, rfl⟩
abbrev main_v61 : Ref sig .tc := ⟨.hbm, 89, rfl⟩
abbrev main_cst_18 : Ref sig .tc := ⟨.hbm, 90, rfl⟩
abbrev main_cst_19 : Ref sig .tc := ⟨.hbm, 91, rfl⟩
abbrev main_v62 : Ref sig .tc := ⟨.hbm, 92, rfl⟩
abbrev main_cst_20 : Ref sig .tc := ⟨.hbm, 93, rfl⟩
abbrev main_cst_21 : Ref sig .tc := ⟨.hbm, 94, rfl⟩
abbrev main_v63 : Ref sig .tc := ⟨.hbm, 95, rfl⟩
abbrev main_cst_22 : Ref sig .tc := ⟨.hbm, 96, rfl⟩
abbrev main_cst_23 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_24 : Ref sig .tc := ⟨.hbm, 115, rfl⟩
abbrev main_v81 : Ref sig .tc := ⟨.hbm, 116, rfl⟩
abbrev main_v82 : Ref sig .tc := ⟨.hbm, 117, rfl⟩
abbrev main_cst_25 : Ref sig .tc := ⟨.hbm, 118, rfl⟩
abbrev main_v83 : Ref sig .tc := ⟨.hbm, 119, rfl⟩
abbrev main_v84 : Ref sig .tc := ⟨.hbm, 120, rfl⟩
abbrev main_cst_26 : Ref sig .tc := ⟨.hbm, 121, rfl⟩
abbrev main_v85 : Ref sig .tc := ⟨.hbm, 122, rfl⟩
abbrev main_v86 : Ref sig .tc := ⟨.hbm, 123, rfl⟩
abbrev main_cst_27 : Ref sig .tc := ⟨.hbm, 124, rfl⟩
abbrev main_call1_v0 : Ref sig .tc := ⟨.hbm, 125, rfl⟩
abbrev main_call1_v1 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_c_28 : Ref sig .tc := ⟨.hbm, 131, rfl⟩
abbrev main_c_29 : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95_0 : Ref sig .tc := ⟨.hbm, 142, rfl⟩
abbrev main_v95_1 : Ref sig .tc := ⟨.hbm, 143, rfl⟩
abbrev main_cst_30 : Ref sig .tc := ⟨.hbm, 144, rfl⟩
abbrev main_v96 : Ref sig .tc := ⟨.hbm, 145, rfl⟩
abbrev main_cst_31 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_cst_32 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_cst_33 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_c_34 : Ref sig .tc := ⟨.hbm, 161, rfl⟩
abbrev main_c_35 : Ref sig .tc := ⟨.hbm, 162, rfl⟩
abbrev main_call5_v0 : Ref sig .tc := ⟨.hbm, 163, rfl⟩
abbrev main_call5_v1 : Ref sig .tc := ⟨.hbm, 164, rfl⟩
abbrev main_call5_v2 : Ref sig .tc := ⟨.hbm, 165, rfl⟩
abbrev main_call5_v3 : Ref sig .tc := ⟨.hbm, 166, rfl⟩
abbrev main_call5_v4 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112_0 : Ref sig .tc := ⟨.hbm, 171, rfl⟩
abbrev main_v112_1 : Ref sig .tc := ⟨.hbm, 172, rfl⟩
abbrev main_v112_2 : Ref sig .tc := ⟨.hbm, 173, rfl⟩
abbrev main_c_36 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_c_37 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_c_38 : Ref sig .tc := ⟨.hbm, 186, rfl⟩
abbrev main_v123 : Ref sig .tc := ⟨.hbm, 187, rfl⟩
abbrev main_v124 : Ref sig .tc := ⟨.hbm, 188, rfl⟩
abbrev main_v125 : Ref sig .tc := ⟨.hbm, 189, rfl⟩
abbrev main_v126 : Ref sig .tc := ⟨.hbm, 190, rfl⟩
abbrev main_v127 : Ref sig .tc := ⟨.hbm, 191, rfl⟩
abbrev main_v128 : Ref sig .tc := ⟨.hbm, 192, rfl⟩
abbrev main_c_39 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩

abbrev nD : Nat := 1
abbrev τ : Topo := Topo.v7x

variable {F : FTy → Type} [FloatOps F]
-- ==== Proof.Kernel.Offsets.lean ====
/-
  The closed forms of the kernel's block offsets, over every grid point and loop trip.
-/
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

theorem off1_eq : ∀ i : grid0.Coords, k0_off1 i = ![64 * ((i 0).val % 12), 0] := by decide +kernel
instance closedOff1 (i : grid0.Coords) : ClosedOff (k0_off1 i) := ⟨![64 * ((i 0).val % 12), 0], off1_eq i⟩

theorem off7_eq : ∀ i : grid0.Coords, k0_off7 i = ![(i 0).val / 12, 0] := by decide +kernel
instance closedOff7 (i : grid0.Coords) : ClosedOff (k0_off7 i) := ⟨![(i 0).val / 12, 0], off7_eq i⟩

theorem off8_eq : ∀ i : grid0.Coords, k0_off8 i = ![0, 128 * ((i 0).val % 12 / 2)] := by decide +kernel
instance closedOff8 (i : grid0.Coords) : ClosedOff (k0_off8 i) := ⟨![0, 128 * ((i 0).val % 12 / 2)], off8_eq i⟩

theorem off9_eq : ∀ i : grid0.Coords, k0_off9 i = ![64 * ((i 0).val % 12), 0] := by decide +kernel
instance closedOff9 (i : grid0.Coords) : ClosedOff (k0_off9 i) := ⟨![64 * ((i 0).val % 12), 0], off9_eq i⟩

theorem off14_eq : ∀ i : grid0.Coords, k0_off14 i = ![64 * ((i 0).val % 12), 0] := by decide +kernel
instance closedOff14 (i : grid0.Coords) : ClosedOff (k0_off14 i) := ⟨![64 * ((i 0).val % 12), 0], off14_eq i⟩

theorem off16_eq : ∀ i : grid0.Coords, k0_off16 i = ![(i 0).val / 12, 0] := by decide +kernel
instance closedOff16 (i : grid0.Coords) : ClosedOff (k0_off16 i) := ⟨![(i 0).val / 12, 0], off16_eq i⟩

theorem off2_eq : ∀ (i : grid0.Coords) (k : Fin k0_t1_loop.trips), k0_off2 i k = ![64 * ((i 0).val % 12), 128 * k.val] := by decide +kernel
instance closedOff2 (i : grid0.Coords) (k : Fin k0_t1_loop.trips) : ClosedOff (k0_off2 i k) := ⟨![64 * ((i 0).val % 12), 128 * k.val], off2_eq i k⟩

theorem off4_eq : ∀ (i : grid0.Coords) (k : Fin k0_t1_loop.trips), k0_off4 i k = ![64 * ((i 0).val % 12), 128 * k.val + 5504] := by decide +kernel
instance closedOff4 (i : grid0.Coords) (k : Fin k0_t1_loop.trips) : ClosedOff (k0_off4 i k) := ⟨![64 * ((i 0).val % 12), 128 * k.val + 5504], off4_eq i k⟩

theorem off13_eq : ∀ (i : grid0.Coords) (k : Fin k0_t2_loop.trips) (r : Fin 2), k0_off13 i k (BitVec.ofNat 32 (5504 * r.val)) = ![64 * ((i 0).val % 12), 128 * k.val + 5504 * r.val] := by decide +kernel
instance closedOff13_0 (i : grid0.Coords) (k : Fin k0_t2_loop.trips) : ClosedOff (k0_off13 i k (BitVec.ofNat 32 0)) := ⟨![64 * ((i 0).val % 12), 128 * k.val + 5504 * 0], off13_eq i k ⟨0, by decide⟩⟩

instance closedOff13_1 (i : grid0.Coords) (k : Fin k0_t2_loop.trips) : ClosedOff (k0_off13 i k (BitVec.ofNat 32 5504)) := ⟨![64 * ((i 0).val % 12), 128 * k.val + 5504 * 1], off13_eq i k ⟨1, by decide⟩⟩

end Cert.Kernel.Hand

end
-- ==== Proof.Kernel.Trip.lean ====
/-
  One trip of the moment-update loop, run at a symbolic trip: the pieces that it writes into each buffer and the value that it carries out.
-/
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Kernel.Offsets
@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

/-- What one trip holds: the buffers that it reads and the buffers that it writes, each at its contents. -/
abbrev Trip2 (c : Dev nD) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (X2 : BufTy.Contents (Elt F) u2.view.ty) (X3 : BufTy.Contents (Elt F) u3.view.ty) (X4 : BufTy.Contents (Elt F) u4.view.ty) (X6 : BufTy.Contents (Elt F) u6.view.ty) (X17 : BufTy.Contents (Elt F) u17.view.ty) (X18 : BufTy.Contents (Elt F) u18.view.ty) (f15 : BufTy.Contents (Elt F) u15.view.ty) (f16 : BufTy.Contents (Elt F) u16.view.ty) (f19 : BufTy.Contents (Elt F) u19.view.ty) (f9 : BufTy.Contents (Elt F) u9.view.ty) (f10 : BufTy.Contents (Elt F) u10.view.ty) : sProp 𝕄 :=
  iprop((u2.view.loc (c : Thread nD τ) ↦[u2.view.set]{fullShare} X2) ∗ (u3.view.loc (c : Thread nD τ) ↦[u3.view.set]{fullShare} X3) ∗ (u4.view.loc (c : Thread nD τ) ↦[u4.view.set]{fullShare} X4) ∗ (u6.view.loc (c : Thread nD τ) ↦[u6.view.set]{fullShare} X6) ∗ (u17.view.loc (c : Thread nD τ) ↦[u17.view.set]{fullShare} X17) ∗ (u18.view.loc (c : Thread nD τ) ↦[u18.view.set]{fullShare} X18) ∗ (u15.view.loc (c : Thread nD τ) ↦[u15.view.set]{fullShare} f15) ∗ (u16.view.loc (c : Thread nD τ) ↦[u16.view.set]{fullShare} f16) ∗ (u19.view.loc (c : Thread nD τ) ↦[u19.view.set]{fullShare} f19) ∗ (u9.view.loc (c : Thread nD τ) ↦[u9.view.set]{fullShare} f9) ∗ (u10.view.loc (c : Thread nD τ) ↦[u10.view.set]{fullShare} f10))

/-- One trip: the piece lists (the moments, the row maxima, the column maxima, the update, the codes) and the carried value. -/
@[irreducible] def trip2 (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v38 : BitVec 32) (v91 : FVec F S64x128 .f32) (v100 : Vec F S1x64x86 .f32) (v104 : Vec F S1x8x128 .f32) (v107 : Vec F S1x8x128 .f32)
    (X2 : BufTy.Contents (Elt F) u2.view.ty) (X3 : BufTy.Contents (Elt F) u3.view.ty) (X4 : BufTy.Contents (Elt F) u4.view.ty) (X6 : BufTy.Contents (Elt F) u6.view.ty) (X17 : BufTy.Contents (Elt F) u17.view.ty) (X18 : BufTy.Contents (Elt F) u18.view.ty) (f15 : BufTy.Contents (Elt F) u15.view.ty) (f16 : BufTy.Contents (Elt F) u16.view.ty) (f19 : BufTy.Contents (Elt F) u19.view.ty) (f9 : BufTy.Contents (Elt F) u9.view.ty) (f10 : BufTy.Contents (Elt F) u10.view.ty) (k : Fin k0_t2_loop.trips) (acc : FVec F S64x128 .f32) :
    Σ' (L15 : List (View.Piece (Elt F) S768x11008 .f32)) (L16 : List (View.Piece (Elt F) S768x128 .f32)) (L19 : List (View.Piece (Elt F) S8x11008 .f32)) (L9 : List (View.Piece (Elt F) S1x64x11008 .f32)) (L10 : List (View.Piece (Elt F) S1x64x5504 .i8)), { acc' : FVec F S64x128 .f32 // ∀ (E : Set ℕ),
      Trip2 c u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 X2 X3 X4 X6 X17 X18 f15 f16 f19 f9 f10
      ⊢ wp frame (wpE (defs₀ (F := F)) 𝒱 (c : Thread nD τ) bd) E (k0_t2_body (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 k acc)
          (fun r => iprop(⌜r = acc'⌝ ∗ Trip2 c u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 X2 X3 X4 X6 X17 X18 (u15.view.writes (Elt F) f15 L15) (u16.view.writes (Elt F) f16 L16) (u19.view.writes (Elt F) f19 L19) (u9.view.writes (Elt F) f9 L9) (u10.view.writes (Elt F) f10 L10))) } := by
  have hk : k.val < 43 := Nat.lt_of_lt_of_le k.isLt k0_t2_abs.2.1
  have hi : (i 0).val < 36 := (i 0).isLt
  refine ⟨?_, ?_, ?_, ?_, ?_, ?_, fun E => ?run⟩
  case run =>
    unfold k0_t2_body
    iintro ⟨HR2, HR3, HR4, HR6, HR17, HR18, HW15, HW16, HW19, HW9, HW10⟩
    sl_exec
    sl_step
    isplitr
    · ipureintro; rfl
    sl_close

end Cert.Kernel.Hand

end
-- ==== Proof.Kernel.LoopInv.lean ====
/-
  The moment-update loop by its invariant: before trip `k` every written buffer holds the pieces of the recursion `st2` over its contents at the loop's entry.
-/
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Kernel.Trip
@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

/-- What a trip makes of the pieces written so far and the carried value. -/
def next2 (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v38 : BitVec 32) (v91 : FVec F S64x128 .f32) (v100 : Vec F S1x64x86 .f32) (v104 : Vec F S1x8x128 .f32) (v107 : Vec F S1x8x128 .f32) (X2 : BufTy.Contents (Elt F) u2.view.ty) (X3 : BufTy.Contents (Elt F) u3.view.ty) (X4 : BufTy.Contents (Elt F) u4.view.ty) (X6 : BufTy.Contents (Elt F) u6.view.ty) (X17 : BufTy.Contents (Elt F) u17.view.ty) (X18 : BufTy.Contents (Elt F) u18.view.ty) (G15 : BufTy.Contents (Elt F) u15.view.ty) (G16 : BufTy.Contents (Elt F) u16.view.ty) (G19 : BufTy.Contents (Elt F) u19.view.ty) (G9 : BufTy.Contents (Elt F) u9.view.ty) (G10 : BufTy.Contents (Elt F) u10.view.ty) (k : Fin k0_t2_loop.trips) (s : List (View.Piece (Elt F) S768x11008 .f32) × List (View.Piece (Elt F) S768x128 .f32) × List (View.Piece (Elt F) S8x11008 .f32) × List (View.Piece (Elt F) S1x64x11008 .f32) × List (View.Piece (Elt F) S1x64x5504 .i8) × FVec F S64x128 .f32) : List (View.Piece (Elt F) S768x11008 .f32) × List (View.Piece (Elt F) S768x128 .f32) × List (View.Piece (Elt F) S8x11008 .f32) × List (View.Piece (Elt F) S1x64x11008 .f32) × List (View.Piece (Elt F) S1x64x5504 .i8) × FVec F S64x128 .f32 :=
  ((trip2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 (u15.view.writes (Elt F) G15 s.1) (u16.view.writes (Elt F) G16 s.2.1) (u19.view.writes (Elt F) G19 s.2.2.1) (u9.view.writes (Elt F) G9 s.2.2.2.1) (u10.view.writes (Elt F) G10 s.2.2.2.2.1) k s.2.2.2.2.2).1 ++ s.1, (trip2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 (u15.view.writes (Elt F) G15 s.1) (u16.view.writes (Elt F) G16 s.2.1) (u19.view.writes (Elt F) G19 s.2.2.1) (u9.view.writes (Elt F) G9 s.2.2.2.1) (u10.view.writes (Elt F) G10 s.2.2.2.2.1) k s.2.2.2.2.2).2.1 ++ s.2.1, (trip2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 (u15.view.writes (Elt F) G15 s.1) (u16.view.writes (Elt F) G16 s.2.1) (u19.view.writes (Elt F) G19 s.2.2.1) (u9.view.writes (Elt F) G9 s.2.2.2.1) (u10.view.writes (Elt F) G10 s.2.2.2.2.1) k s.2.2.2.2.2).2.2.1 ++ s.2.2.1, (trip2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 (u15.view.writes (Elt F) G15 s.1) (u16.view.writes (Elt F) G16 s.2.1) (u19.view.writes (Elt F) G19 s.2.2.1) (u9.view.writes (Elt F) G9 s.2.2.2.1) (u10.view.writes (Elt F) G10 s.2.2.2.2.1) k s.2.2.2.2.2).2.2.2.1 ++ s.2.2.2.1, (trip2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 (u15.view.writes (Elt F) G15 s.1) (u16.view.writes (Elt F) G16 s.2.1) (u19.view.writes (Elt F) G19 s.2.2.1) (u9.view.writes (Elt F) G9 s.2.2.2.1) (u10.view.writes (Elt F) G10 s.2.2.2.2.1) k s.2.2.2.2.2).2.2.2.2.1 ++ s.2.2.2.2.1, (trip2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 (u15.view.writes (Elt F) G15 s.1) (u16.view.writes (Elt F) G16 s.2.1) (u19.view.writes (Elt F) G19 s.2.2.1) (u9.view.writes (Elt F) G9 s.2.2.2.1) (u10.view.writes (Elt F) G10 s.2.2.2.2.1) k s.2.2.2.2.2).2.2.2.2.2.1)

/-- The pieces of the trips before `k` in every written buffer (last first), and the carried value. -/
def st2 (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v38 : BitVec 32) (v91 : FVec F S64x128 .f32) (v100 : Vec F S1x64x86 .f32) (v104 : Vec F S1x8x128 .f32) (v107 : Vec F S1x8x128 .f32) (X2 : BufTy.Contents (Elt F) u2.view.ty) (X3 : BufTy.Contents (Elt F) u3.view.ty) (X4 : BufTy.Contents (Elt F) u4.view.ty) (X6 : BufTy.Contents (Elt F) u6.view.ty) (X17 : BufTy.Contents (Elt F) u17.view.ty) (X18 : BufTy.Contents (Elt F) u18.view.ty) (G15 : BufTy.Contents (Elt F) u15.view.ty) (G16 : BufTy.Contents (Elt F) u16.view.ty) (G19 : BufTy.Contents (Elt F) u19.view.ty) (G9 : BufTy.Contents (Elt F) u9.view.ty) (G10 : BufTy.Contents (Elt F) u10.view.ty) (init : FVec F S64x128 .f32) : ℕ → List (View.Piece (Elt F) S768x11008 .f32) × List (View.Piece (Elt F) S768x128 .f32) × List (View.Piece (Elt F) S8x11008 .f32) × List (View.Piece (Elt F) S1x64x11008 .f32) × List (View.Piece (Elt F) S1x64x5504 .i8) × FVec F S64x128 .f32
  | 0 => ([], [], [], [], [], init)
  | k + 1 => if h : k < k0_t2_loop.trips then next2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 ⟨k, h⟩ (st2 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k) else st2 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k

theorem st2_succ (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v38 : BitVec 32) (v91 : FVec F S64x128 .f32) (v100 : Vec F S1x64x86 .f32) (v104 : Vec F S1x8x128 .f32) (v107 : Vec F S1x8x128 .f32) (X2 : BufTy.Contents (Elt F) u2.view.ty) (X3 : BufTy.Contents (Elt F) u3.view.ty) (X4 : BufTy.Contents (Elt F) u4.view.ty) (X6 : BufTy.Contents (Elt F) u6.view.ty) (X17 : BufTy.Contents (Elt F) u17.view.ty) (X18 : BufTy.Contents (Elt F) u18.view.ty) (G15 : BufTy.Contents (Elt F) u15.view.ty) (G16 : BufTy.Contents (Elt F) u16.view.ty) (G19 : BufTy.Contents (Elt F) u19.view.ty) (G9 : BufTy.Contents (Elt F) u9.view.ty) (G10 : BufTy.Contents (Elt F) u10.view.ty) (init : FVec F S64x128 .f32) (k : Fin k0_t2_loop.trips) :
    st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init (k.val + 1) = next2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 k (st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k.val) := by
  rw [st2]; exact dif_pos k.isLt

/-- The pieces in buffer 15 before trip `k`. -/
def pb15 (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v38 : BitVec 32) (v91 : FVec F S64x128 .f32) (v100 : Vec F S1x64x86 .f32) (v104 : Vec F S1x8x128 .f32) (v107 : Vec F S1x8x128 .f32) (X2 : BufTy.Contents (Elt F) u2.view.ty) (X3 : BufTy.Contents (Elt F) u3.view.ty) (X4 : BufTy.Contents (Elt F) u4.view.ty) (X6 : BufTy.Contents (Elt F) u6.view.ty) (X17 : BufTy.Contents (Elt F) u17.view.ty) (X18 : BufTy.Contents (Elt F) u18.view.ty) (G15 : BufTy.Contents (Elt F) u15.view.ty) (G16 : BufTy.Contents (Elt F) u16.view.ty) (G19 : BufTy.Contents (Elt F) u19.view.ty) (G9 : BufTy.Contents (Elt F) u9.view.ty) (G10 : BufTy.Contents (Elt F) u10.view.ty) (init : FVec F S64x128 .f32) (k : ℕ) : List (View.Piece (Elt F) S768x11008 .f32) := (st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k).1
/-- The pieces in buffer 16 before trip `k`. -/
def pb16 (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v38 : BitVec 32) (v91 : FVec F S64x128 .f32) (v100 : Vec F S1x64x86 .f32) (v104 : Vec F S1x8x128 .f32) (v107 : Vec F S1x8x128 .f32) (X2 : BufTy.Contents (Elt F) u2.view.ty) (X3 : BufTy.Contents (Elt F) u3.view.ty) (X4 : BufTy.Contents (Elt F) u4.view.ty) (X6 : BufTy.Contents (Elt F) u6.view.ty) (X17 : BufTy.Contents (Elt F) u17.view.ty) (X18 : BufTy.Contents (Elt F) u18.view.ty) (G15 : BufTy.Contents (Elt F) u15.view.ty) (G16 : BufTy.Contents (Elt F) u16.view.ty) (G19 : BufTy.Contents (Elt F) u19.view.ty) (G9 : BufTy.Contents (Elt F) u9.view.ty) (G10 : BufTy.Contents (Elt F) u10.view.ty) (init : FVec F S64x128 .f32) (k : ℕ) : List (View.Piece (Elt F) S768x128 .f32) := (st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k).2.1
/-- The pieces in buffer 19 before trip `k`. -/
def pb19 (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v38 : BitVec 32) (v91 : FVec F S64x128 .f32) (v100 : Vec F S1x64x86 .f32) (v104 : Vec F S1x8x128 .f32) (v107 : Vec F S1x8x128 .f32) (X2 : BufTy.Contents (Elt F) u2.view.ty) (X3 : BufTy.Contents (Elt F) u3.view.ty) (X4 : BufTy.Contents (Elt F) u4.view.ty) (X6 : BufTy.Contents (Elt F) u6.view.ty) (X17 : BufTy.Contents (Elt F) u17.view.ty) (X18 : BufTy.Contents (Elt F) u18.view.ty) (G15 : BufTy.Contents (Elt F) u15.view.ty) (G16 : BufTy.Contents (Elt F) u16.view.ty) (G19 : BufTy.Contents (Elt F) u19.view.ty) (G9 : BufTy.Contents (Elt F) u9.view.ty) (G10 : BufTy.Contents (Elt F) u10.view.ty) (init : FVec F S64x128 .f32) (k : ℕ) : List (View.Piece (Elt F) S8x11008 .f32) := (st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k).2.2.1
/-- The pieces in buffer 9 before trip `k`. -/
def pb9 (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v38 : BitVec 32) (v91 : FVec F S64x128 .f32) (v100 : Vec F S1x64x86 .f32) (v104 : Vec F S1x8x128 .f32) (v107 : Vec F S1x8x128 .f32) (X2 : BufTy.Contents (Elt F) u2.view.ty) (X3 : BufTy.Contents (Elt F) u3.view.ty) (X4 : BufTy.Contents (Elt F) u4.view.ty) (X6 : BufTy.Contents (Elt F) u6.view.ty) (X17 : BufTy.Contents (Elt F) u17.view.ty) (X18 : BufTy.Contents (Elt F) u18.view.ty) (G15 : BufTy.Contents (Elt F) u15.view.ty) (G16 : BufTy.Contents (Elt F) u16.view.ty) (G19 : BufTy.Contents (Elt F) u19.view.ty) (G9 : BufTy.Contents (Elt F) u9.view.ty) (G10 : BufTy.Contents (Elt F) u10.view.ty) (init : FVec F S64x128 .f32) (k : ℕ) : List (View.Piece (Elt F) S1x64x11008 .f32) := (st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k).2.2.2.1
/-- The pieces in buffer 10 before trip `k`. -/
def pb10 (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v38 : BitVec 32) (v91 : FVec F S64x128 .f32) (v100 : Vec F S1x64x86 .f32) (v104 : Vec F S1x8x128 .f32) (v107 : Vec F S1x8x128 .f32) (X2 : BufTy.Contents (Elt F) u2.view.ty) (X3 : BufTy.Contents (Elt F) u3.view.ty) (X4 : BufTy.Contents (Elt F) u4.view.ty) (X6 : BufTy.Contents (Elt F) u6.view.ty) (X17 : BufTy.Contents (Elt F) u17.view.ty) (X18 : BufTy.Contents (Elt F) u18.view.ty) (G15 : BufTy.Contents (Elt F) u15.view.ty) (G16 : BufTy.Contents (Elt F) u16.view.ty) (G19 : BufTy.Contents (Elt F) u19.view.ty) (G9 : BufTy.Contents (Elt F) u9.view.ty) (G10 : BufTy.Contents (Elt F) u10.view.ty) (init : FVec F S64x128 .f32) (k : ℕ) : List (View.Piece (Elt F) S1x64x5504 .i8) := (st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k).2.2.2.2.1
/-- The carried value before trip `k`. -/
def car2 (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v38 : BitVec 32) (v91 : FVec F S64x128 .f32) (v100 : Vec F S1x64x86 .f32) (v104 : Vec F S1x8x128 .f32) (v107 : Vec F S1x8x128 .f32) (X2 : BufTy.Contents (Elt F) u2.view.ty) (X3 : BufTy.Contents (Elt F) u3.view.ty) (X4 : BufTy.Contents (Elt F) u4.view.ty) (X6 : BufTy.Contents (Elt F) u6.view.ty) (X17 : BufTy.Contents (Elt F) u17.view.ty) (X18 : BufTy.Contents (Elt F) u18.view.ty) (G15 : BufTy.Contents (Elt F) u15.view.ty) (G16 : BufTy.Contents (Elt F) u16.view.ty) (G19 : BufTy.Contents (Elt F) u19.view.ty) (G9 : BufTy.Contents (Elt F) u9.view.ty) (G10 : BufTy.Contents (Elt F) u10.view.ty) (init : FVec F S64x128 .f32) (k : ℕ) : FVec F S64x128 .f32 := (st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k).2.2.2.2.2

/-- The invariant before trip `k`. -/
abbrev inv2 (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v38 : BitVec 32) (v91 : FVec F S64x128 .f32) (v100 : Vec F S1x64x86 .f32) (v104 : Vec F S1x8x128 .f32) (v107 : Vec F S1x8x128 .f32) (X2 : BufTy.Contents (Elt F) u2.view.ty) (X3 : BufTy.Contents (Elt F) u3.view.ty) (X4 : BufTy.Contents (Elt F) u4.view.ty) (X6 : BufTy.Contents (Elt F) u6.view.ty) (X17 : BufTy.Contents (Elt F) u17.view.ty) (X18 : BufTy.Contents (Elt F) u18.view.ty) (G15 : BufTy.Contents (Elt F) u15.view.ty) (G16 : BufTy.Contents (Elt F) u16.view.ty) (G19 : BufTy.Contents (Elt F) u19.view.ty) (G9 : BufTy.Contents (Elt F) u9.view.ty) (G10 : BufTy.Contents (Elt F) u10.view.ty) (init : FVec F S64x128 .f32) (k : ℕ) (acc : FVec F S64x128 .f32) : sProp 𝕄 :=
  iprop((u2.view.loc (c : Thread nD τ) ↦[u2.view.set]{fullShare} X2) ∗ (u3.view.loc (c : Thread nD τ) ↦[u3.view.set]{fullShare} X3) ∗ (u4.view.loc (c : Thread nD τ) ↦[u4.view.set]{fullShare} X4) ∗ (u6.view.loc (c : Thread nD τ) ↦[u6.view.set]{fullShare} X6) ∗ (u17.view.loc (c : Thread nD τ) ↦[u17.view.set]{fullShare} X17) ∗ (u18.view.loc (c : Thread nD τ) ↦[u18.view.set]{fullShare} X18) ∗ (∃ f, (u15.view.loc (c : Thread nD τ) ↦[u15.view.set]{fullShare} f) ∗ ⌜f = u15.view.writes (Elt F) G15 (pb15 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k)⌝) ∗ (∃ f, (u16.view.loc (c : Thread nD τ) ↦[u16.view.set]{fullShare} f) ∗ ⌜f = u16.view.writes (Elt F) G16 (pb16 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k)⌝) ∗ (∃ f, (u19.view.loc (c : Thread nD τ) ↦[u19.view.set]{fullShare} f) ∗ ⌜f = u19.view.writes (Elt F) G19 (pb19 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k)⌝) ∗ (∃ f, (u9.view.loc (c : Thread nD τ) ↦[u9.view.set]{fullShare} f) ∗ ⌜f = u9.view.writes (Elt F) G9 (pb9 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k)⌝) ∗ (∃ f, (u10.view.loc (c : Thread nD τ) ↦[u10.view.set]{fullShare} f) ∗ ⌜f = u10.view.writes (Elt F) G10 (pb10 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k)⌝) ∗ ⌜acc = car2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k⌝)

set_option warn.classDefReducibility false in
@[sl_loop] def loopInv2 (𝒱 : Variants) (c : Dev nD) (bd : Option 𝒱.V) (E : Set ℕ) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v38 : BitVec 32) (v91 : FVec F S64x128 .f32) (v100 : Vec F S1x64x86 .f32) (v104 : Vec F S1x8x128 .f32) (v107 : Vec F S1x8x128 .f32) (X2 : BufTy.Contents (Elt F) u2.view.ty) (X3 : BufTy.Contents (Elt F) u3.view.ty) (X4 : BufTy.Contents (Elt F) u4.view.ty) (X6 : BufTy.Contents (Elt F) u6.view.ty) (X17 : BufTy.Contents (Elt F) u17.view.ty) (X18 : BufTy.Contents (Elt F) u18.view.ty) (G15 : BufTy.Contents (Elt F) u15.view.ty) (G16 : BufTy.Contents (Elt F) u16.view.ty) (G19 : BufTy.Contents (Elt F) u19.view.ty) (G9 : BufTy.Contents (Elt F) u9.view.ty) (G10 : BufTy.Contents (Elt F) u10.view.ty) (init : FVec F S64x128 .f32) :
    LoopInvTy_k0_t2 (F := F) Unit ℕ (UR sig nD τ) ℕ 𝒱 c bd E i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 init where
  inv := inv2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init
  step k acc := by
    iintro ⟨HR2, HR3, HR4, HR6, HR17, HR18, ⟨%f15, HW15, %h15⟩, ⟨%f16, HW16, %h16⟩, ⟨%f19, HW19, %h19⟩, ⟨%f9, HW9, %h9⟩, ⟨%f10, HW10, %h10⟩, %hacc⟩
    subst h15 h16 h19 h9 h10 hacc
    iapply (wp_wand_r Idealize.ShloMosaic.frame (wpE (defs₀ (F := F)) 𝒱 (c : Thread nD τ) bd) E)
    isplitl [HR2 HR3 HR4 HR6 HR17 HR18 HW15 HW16 HW19 HW9 HW10]
    · iapply ((trip2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 (u15.view.writes (Elt F) G15 (st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k.val).1) (u16.view.writes (Elt F) G16 (st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k.val).2.1) (u19.view.writes (Elt F) G19 (st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k.val).2.2.1) (u9.view.writes (Elt F) G9 (st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k.val).2.2.2.1) (u10.view.writes (Elt F) G10 (st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k.val).2.2.2.2.1) k (st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k.val).2.2.2.2.2).2.2.2.2.2.2 E)
      isplitl [HR2]; · iexact HR2
      isplitl [HR3]; · iexact HR3
      isplitl [HR4]; · iexact HR4
      isplitl [HR6]; · iexact HR6
      isplitl [HR17]; · iexact HR17
      isplitl [HR18]; · iexact HR18
      isplitl [HW15]; · iexact HW15
      isplitl [HW16]; · iexact HW16
      isplitl [HW19]; · iexact HW19
      isplitl [HW9]; · iexact HW9
      iexact HW10
    · iintro %r ⟨%hr, HR2, HR3, HR4, HR6, HR17, HR18, HW15, HW16, HW19, HW9, HW10⟩
      subst hr
      isplitl [HR2]; · iexact HR2
      isplitl [HR3]; · iexact HR3
      isplitl [HR4]; · iexact HR4
      isplitl [HR6]; · iexact HR6
      isplitl [HR17]; · iexact HR17
      isplitl [HR18]; · iexact HR18
      isplitl [HW15]
      · iexists _; isplitl [HW15]; · iexact HW15
        ipureintro; unfold pb15; rw [st2_succ]; unfold next2; rw [View.writes_append]
      isplitl [HW16]
      · iexists _; isplitl [HW16]; · iexact HW16
        ipureintro; unfold pb16; rw [st2_succ]; unfold next2; rw [View.writes_append]
      isplitl [HW19]
      · iexists _; isplitl [HW19]; · iexact HW19
        ipureintro; unfold pb19; rw [st2_succ]; unfold next2; rw [View.writes_append]
      isplitl [HW9]
      · iexists _; isplitl [HW9]; · iexact HW9
        ipureintro; unfold pb9; rw [st2_succ]; unfold next2; rw [View.writes_append]
      isplitl [HW10]
      · iexists _; isplitl [HW10]; · iexact HW10
        ipureintro; unfold pb10; rw [st2_succ]; unfold next2; rw [View.writes_append]
      ipureintro; unfold car2; rw [st2_succ]; rfl

end Cert.Kernel.Hand

end
-- ==== Proof.Kernel.Segs.lean ====
/-
  The body of the kernel in five segments, each run by itself: what every written buffer holds afterwards.
-/
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Kernel.LoopInv
@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

/-- A segment of the body. -/
def progI (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole)  : Prog (TpuEff nD τ sig (Elt F) Λ₀ .tc) PUnit := do
  let v399 : FVec F S8x128 .f32 ← k0_part10 i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21
  let v400 : Vec F S1x8x128 .f32 ← Prog.lift (.load u21 (Rect.unit (s := S2x8x128) ![1, 0, 0] S1x8x128.size inb_S2x8x128_S1x8x128_1_0_0).toLoadRect (View.loadsAt_vmem h_S1x8x128))
  Prog.lift (.store u21 (Rect.unit (s := S2x8x128) ![1, 0, 0] S1x8x128.size inb_S2x8x128_S1x8x128_1_0_0) (k0_pay1 v399) Finset.univ (View.stores_vmem_bits_univ h_S1x8x128 rfl) (.inl rfl))
  pure ⟨⟩

/-- A segment of the body. -/
def progR (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (k0_h2 : k0_cond2 i = 1#1) : Prog (TpuEff nD τ sig (Elt F) Λ₀ .tc) PUnit := do
  let u0 : BitVec 32 := BitVec.ofNat 32 (i 0).val
  let v10 : BitVec 1 := Scalar.cmpi .eq 12#32 0#32
  let v11 : BitVec 32 := Scalar.select v10 1#32 12#32
  let v12 : BitVec 32 := Scalar.remsi u0 v11
  let v13 : BitVec 1 := Scalar.cmpi .ne v12 0#32
  let v14 : BitVec 1 := Scalar.cmpi .slt v12 0#32
  let v15 : BitVec 1 := Scalar.cmpi .slt v11 0#32
  let v16 : BitVec 1 := Scalar.xori v14 v15
  let v17 : BitVec 1 := Scalar.andi v16 v13
  let v18 : BitVec 32 := Scalar.addi v12 v11
  let v19 : BitVec 32 := Scalar.select v17 v18 v12
  let v20 : BitVec 32 := Scalar.muli v19 64#32
  let v21 : BitVec 32 := v20
  let v23 : Vec F S64x128 .f32 ← Prog.lift (.load u16 (Rect.unit (s := S768x128) (k0_off1 i) S64x128.size (k0_off1_inb i k0_h2)).toLoadRect (View.loadsAt_vmem h_S64x128))
  Scf.Loop.for k0_t1_loop (k0_t1_ok i k0_h2) ⟨⟩ (k0_t1_body i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 k0_h2 v21 v23)
  pure ⟨⟩

/-- A segment of the body. -/
def progE (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (k0_h3 : k0_cond3 i = 1#1) (k0_h5 : k0_cond5 i = 1#1) : Prog (TpuEff nD τ sig (Elt F) Λ₀ .tc) PUnit := do
  let v166 : Vec F S8x11008 .f32 ← Prog.lift (.load u19 (Rect.unit (s := S8x11008) ![0, 0] S8x11008.size inb_S8x11008_S8x11008_0_0).toLoadRect (View.loadsAt_vmem h_S8x11008))
  let v172 : Vec F S1x11008 .f32 ← Prog.lift (.load u14 (Rect.unit (s := S2x11008) (k0_off16 i) S1x11008.size (k0_off16_inb i k0_h3 k0_h5)).toLoadRect (View.loadsAt_vmem h_S1x11008))
  Prog.lift (.store u14 (Rect.unit (s := S2x11008) (k0_off16 i) S1x11008.size (k0_off16_inb i k0_h3 k0_h5)) (k0_pay5 v166) Finset.univ (View.stores_vmem_bits_univ h_S1x11008 rfl) (.inl rfl))
  let v175 : Vec F S1x11008 .f32 ← Prog.lift (.load u20 (Rect.unit (s := S1x11008) ![0, 0] S1x11008.size inb_S1x11008_S1x11008_0_0).toLoadRect (View.loadsAt_vmem h_S1x11008))
  Prog.lift (.store u20 (Rect.unit (s := S1x11008) ![0, 0] S1x11008.size inb_S1x11008_S1x11008_0_0) (k0_pay6 v166) Finset.univ (View.stores_vmem_bits_univ h_S1x11008 rfl) (.inl rfl))
  pure ⟨⟩

/-- A segment of the body. -/
def progM (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v26 v36 v38 c2_i32 v42 v47 : BitVec 32) (v48 : BitVec 1) : Prog (TpuEff nD τ sig (Elt F) Λ₀ .tc) (Σ' (v26 : BitVec 32) (v164 : BitVec 32), BitVec 32) := do
  let ⟨v60, v81, v91⟩ : Σ' (v60 : BitVec 32) (v81 : IVec S64x128 1), FVec F S64x128 .f32 ← k0_part18 i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v26 v36 c2_i32 v42 v47 v48
  let v124 : FVec F S1x64x86 .f32 ← k0_part19 i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91
  Prog.lift (.store u11 (Rect.unit (s := S1x64x86) ![0, 0, 0] S1x64x86.size inb_S1x64x86_S1x64x86_0_0_0) v124 Finset.univ (View.stores_vmem_bits_univ h_S1x64x86 rfl) (.inl rfl))
  let v126 : Vec F S64x128 .f32 ← Prog.lift (.load u16 (Rect.unit (s := S768x128) (k0_off9 i) S64x128.size (k0_off9_inb i k0_h3)).toLoadRect (View.loadsAt_vmem h_S64x128))
  let v132 : Vec F S64x128 .f32 ← Prog.lift (.load u16 (Rect.unit (s := S768x128) (k0_off9 i) S64x128.size (k0_off9_inb i k0_h3)).toLoadRect (View.loadsAt_vmem h_S64x128))
  Prog.lift (.store u16 (Rect.unit (s := S768x128) (k0_off9 i) S64x128.size (k0_off9_inb i k0_h3)) (k0_pay123 v126) Finset.univ (View.stores_vmem_bits_univ h_S64x128 rfl) (.inl rfl))
  let v151 : Vec F S2x128 .f32 ← Prog.lift (.load u13 (Rect.unit (s := S2x768) (k0_off8 i) S2x128.size (k0_off8_inb i k0_h3)).toLoadRect (View.loadsAt_vmem h_S2x128))
  let v162 : Vec F S2x128 .f32 ← Prog.lift (.load u13 (Rect.unit (s := S2x768) (k0_off8 i) S2x128.size (k0_off8_inb i k0_h3)).toLoadRect (View.loadsAt_vmem h_S2x128))
  Prog.lift (.store u13 (Rect.unit (s := S2x768) (k0_off8 i) S2x128.size (k0_off8_inb i k0_h3)) (k0_pay124 v26 v81 v126 v151) Finset.univ (View.stores_vmem_bits_univ h_S2x128 rfl) (.inl rfl))
  let v163 : BitVec 1 := Scalar.cmpi .eq v36 11#32
  let v164 : BitVec 32 := Scalar.extui v163
  pure ⟨v26, v164, 0#32⟩

/-- The first segment computes the two constants of the step. -/
@[irreducible] def segI (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole)  (X1 : BufTy.Contents (Elt F) u1.view.ty) (f21 : BufTy.Contents (Elt F) u21.view.ty) :
    Σ' (g21 : BufTy.Contents (Elt F) u21.view.ty), { r' : PUnit // ∀ (E : Set ℕ),
      (iprop((u1.view.loc (c : Thread nD τ) ↦[u1.view.set]{fullShare} X1) ∗ (u21.view.loc (c : Thread nD τ) ↦[u21.view.set]{fullShare} f21)) : sProp 𝕄)
      ⊢ wp frame (wpE (defs₀ (F := F)) 𝒱 (c : Thread nD τ) bd) E (progI (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21)
          (fun r => iprop(⌜r = r'⌝ ∗ (u1.view.loc (c : Thread nD τ) ↦[u1.view.set]{fullShare} X1) ∗ (u21.view.loc (c : Thread nD τ) ↦[u21.view.set]{fullShare} g21))) } := by
  have hi : (i 0).val < 36 := (i 0).isLt
  refine ⟨?_, ?_, fun E => ?run⟩
  case run =>
    unfold progI
    iintro ⟨HR1, HW21⟩
    sl_exec
    sl_step
    isplitr
    · ipureintro; rfl
    sl_close

/-- The second segment quantises the second moments of the batch before. -/
@[irreducible] def segR (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (k0_h2 : k0_cond2 i = 1#1) (X15 : BufTy.Contents (Elt F) u15.view.ty) (X16 : BufTy.Contents (Elt F) u16.view.ty) (X20 : BufTy.Contents (Elt F) u20.view.ty) (f12 : BufTy.Contents (Elt F) u12.view.ty) :
    Σ' (g12 : BufTy.Contents (Elt F) u12.view.ty), { r' : PUnit // ∀ (E : Set ℕ),
      (iprop((u15.view.loc (c : Thread nD τ) ↦[u15.view.set]{fullShare} X15) ∗ (u16.view.loc (c : Thread nD τ) ↦[u16.view.set]{fullShare} X16) ∗ (u20.view.loc (c : Thread nD τ) ↦[u20.view.set]{fullShare} X20) ∗ (u12.view.loc (c : Thread nD τ) ↦[u12.view.set]{fullShare} f12)) : sProp 𝕄)
      ⊢ wp frame (wpE (defs₀ (F := F)) 𝒱 (c : Thread nD τ) bd) E (progR (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 k0_h2)
          (fun r => iprop(⌜r = r'⌝ ∗ (u15.view.loc (c : Thread nD τ) ↦[u15.view.set]{fullShare} X15) ∗ (u16.view.loc (c : Thread nD τ) ↦[u16.view.set]{fullShare} X16) ∗ (u20.view.loc (c : Thread nD τ) ↦[u20.view.set]{fullShare} X20) ∗ (u12.view.loc (c : Thread nD τ) ↦[u12.view.set]{fullShare} g12))) } := by
  have hi : (i 0).val < 36 := (i 0).isLt
  refine ⟨?_, ?_, fun E => ?run⟩
  case run =>
    unfold progR
    iintro ⟨HR15, HR16, HR20, HW12⟩
    sl_exec
    sl_step
    isplitr
    · ipureintro; rfl
    sl_close

/-- The last segment closes the column maxima of a batch. -/
@[irreducible] def segE (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (k0_h3 : k0_cond3 i = 1#1) (k0_h5 : k0_cond5 i = 1#1) (X19 : BufTy.Contents (Elt F) u19.view.ty) (f14 : BufTy.Contents (Elt F) u14.view.ty) (f20 : BufTy.Contents (Elt F) u20.view.ty) :
    Σ' (g14 : BufTy.Contents (Elt F) u14.view.ty) (g20 : BufTy.Contents (Elt F) u20.view.ty), { r' : PUnit // ∀ (E : Set ℕ),
      (iprop((u19.view.loc (c : Thread nD τ) ↦[u19.view.set]{fullShare} X19) ∗ (u14.view.loc (c : Thread nD τ) ↦[u14.view.set]{fullShare} f14) ∗ (u20.view.loc (c : Thread nD τ) ↦[u20.view.set]{fullShare} f20)) : sProp 𝕄)
      ⊢ wp frame (wpE (defs₀ (F := F)) 𝒱 (c : Thread nD τ) bd) E (progE (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 k0_h3 k0_h5)
          (fun r => iprop(⌜r = r'⌝ ∗ (u19.view.loc (c : Thread nD τ) ↦[u19.view.set]{fullShare} X19) ∗ (u14.view.loc (c : Thread nD τ) ↦[u14.view.set]{fullShare} g14) ∗ (u20.view.loc (c : Thread nD τ) ↦[u20.view.set]{fullShare} g20))) } := by
  have hi : (i 0).val < 36 := (i 0).isLt
  refine ⟨?_, ?_, ?_, fun E => ?run⟩
  case run =>
    unfold progE
    iintro ⟨HR19, HW14, HW20⟩
    sl_exec
    sl_step
    isplitr
    · ipureintro; rfl
    sl_close

/-- The start of a batch: the column factors, and the column maxima at zero. -/
@[irreducible] def seg17 (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (k0_h3 : k0_cond3 i = 1#1) (k0_h4 : k0_cond4 i = 1#1) (X8 : BufTy.Contents (Elt F) u8.view.ty) (f18 : BufTy.Contents (Elt F) u18.view.ty) (f19 : BufTy.Contents (Elt F) u19.view.ty) :
    Σ' (g18 : BufTy.Contents (Elt F) u18.view.ty) (g19 : BufTy.Contents (Elt F) u19.view.ty), { r' : (Σ' (v26 : BitVec 32) (v36 : BitVec 32) (v38 : BitVec 32) (c2_i32 : BitVec 32) (v42 : BitVec 32) (v47 : BitVec 32), BitVec 1) // ∀ (E : Set ℕ),
      (iprop((u8.view.loc (c : Thread nD τ) ↦[u8.view.set]{fullShare} X8) ∗ (u18.view.loc (c : Thread nD τ) ↦[u18.view.set]{fullShare} f18) ∗ (u19.view.loc (c : Thread nD τ) ↦[u19.view.set]{fullShare} f19)) : sProp 𝕄)
      ⊢ wp frame (wpE (defs₀ (F := F)) 𝒱 (c : Thread nD τ) bd) E (k0_part17 (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 (BitVec.ofNat 32 (i 0).val) k0_h3)
          (fun r => iprop(⌜r = r'⌝ ∗ (u8.view.loc (c : Thread nD τ) ↦[u8.view.set]{fullShare} X8) ∗ (u18.view.loc (c : Thread nD τ) ↦[u18.view.set]{fullShare} g18) ∗ (u19.view.loc (c : Thread nD τ) ↦[u19.view.set]{fullShare} g19))) } := by
  have hi : (i 0).val < 36 := (i 0).isLt
  refine ⟨?_, ?_, ?_, fun E => ?run⟩
  case run =>
    rw [k0_part17_eq_skeleton]; unfold k0_part17_skel
    iintro ⟨HR8, HW18, HW19⟩
    sl_exec
    sl_step
    isplitr
    · ipureintro; rfl
    sl_close

/-- Within a batch the same code touches nothing. -/
@[irreducible] def seg17n (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (k0_h3 : k0_cond3 i = 1#1) (k0_h4 : ¬ k0_cond4 i = 1#1) (X8 : BufTy.Contents (Elt F) u8.view.ty) (f18 : BufTy.Contents (Elt F) u18.view.ty) (f19 : BufTy.Contents (Elt F) u19.view.ty) :
    Σ' (g18 : BufTy.Contents (Elt F) u18.view.ty) (g19 : BufTy.Contents (Elt F) u19.view.ty), { r' : (Σ' (v26 : BitVec 32) (v36 : BitVec 32) (v38 : BitVec 32) (c2_i32 : BitVec 32) (v42 : BitVec 32) (v47 : BitVec 32), BitVec 1) // ∀ (E : Set ℕ),
      (iprop((u8.view.loc (c : Thread nD τ) ↦[u8.view.set]{fullShare} X8) ∗ (u18.view.loc (c : Thread nD τ) ↦[u18.view.set]{fullShare} f18) ∗ (u19.view.loc (c : Thread nD τ) ↦[u19.view.set]{fullShare} f19)) : sProp 𝕄)
      ⊢ wp frame (wpE (defs₀ (F := F)) 𝒱 (c : Thread nD τ) bd) E (k0_part17 (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 (BitVec.ofNat 32 (i 0).val) k0_h3)
          (fun r => iprop(⌜r = r'⌝ ∗ (u8.view.loc (c : Thread nD τ) ↦[u8.view.set]{fullShare} X8) ∗ (u18.view.loc (c : Thread nD τ) ↦[u18.view.set]{fullShare} g18) ∗ (u19.view.loc (c : Thread nD τ) ↦[u19.view.set]{fullShare} g19))) } := by
  have hi : (i 0).val < 36 := (i 0).isLt
  refine ⟨?_, ?_, ?_, fun E => ?run⟩
  case run =>
    rw [k0_part17_eq_skeleton]; unfold k0_part17_skel
    iintro ⟨HR8, HW18, HW19⟩
    sl_exec
    sl_step
    isplitr
    · ipureintro; rfl
    sl_close

/-- The update of a block of rows. -/
@[irreducible] def segM (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v26 v36 v38 c2_i32 v42 v47 : BitVec 32) (v48 : BitVec 1) (X2 : BufTy.Contents (Elt F) u2.view.ty) (X3 : BufTy.Contents (Elt F) u3.view.ty) (X4 : BufTy.Contents (Elt F) u4.view.ty) (X5 : BufTy.Contents (Elt F) u5.view.ty) (X6 : BufTy.Contents (Elt F) u6.view.ty) (X7 : BufTy.Contents (Elt F) u7.view.ty) (X18 : BufTy.Contents (Elt F) u18.view.ty) (X21 : BufTy.Contents (Elt F) u21.view.ty) (f17 : BufTy.Contents (Elt F) u17.view.ty) (f16 : BufTy.Contents (Elt F) u16.view.ty) (f11 : BufTy.Contents (Elt F) u11.view.ty) (f13 : BufTy.Contents (Elt F) u13.view.ty) (f9 : BufTy.Contents (Elt F) u9.view.ty) (f10 : BufTy.Contents (Elt F) u10.view.ty) (f15 : BufTy.Contents (Elt F) u15.view.ty) (f19 : BufTy.Contents (Elt F) u19.view.ty) :
    Σ' (g17 : BufTy.Contents (Elt F) u17.view.ty) (g16 : BufTy.Contents (Elt F) u16.view.ty) (g11 : BufTy.Contents (Elt F) u11.view.ty) (g13 : BufTy.Contents (Elt F) u13.view.ty) (g9 : BufTy.Contents (Elt F) u9.view.ty) (g10 : BufTy.Contents (Elt F) u10.view.ty) (g15 : BufTy.Contents (Elt F) u15.view.ty) (g19 : BufTy.Contents (Elt F) u19.view.ty), { r' : (Σ' (v26 : BitVec 32) (v164 : BitVec 32), BitVec 32) // ∀ (E : Set ℕ),
      (iprop((u2.view.loc (c : Thread nD τ) ↦[u2.view.set]{fullShare} X2) ∗ (u3.view.loc (c : Thread nD τ) ↦[u3.view.set]{fullShare} X3) ∗ (u4.view.loc (c : Thread nD τ) ↦[u4.view.set]{fullShare} X4) ∗ (u5.view.loc (c : Thread nD τ) ↦[u5.view.set]{fullShare} X5) ∗ (u6.view.loc (c : Thread nD τ) ↦[u6.view.set]{fullShare} X6) ∗ (u7.view.loc (c : Thread nD τ) ↦[u7.view.set]{fullShare} X7) ∗ (u18.view.loc (c : Thread nD τ) ↦[u18.view.set]{fullShare} X18) ∗ (u21.view.loc (c : Thread nD τ) ↦[u21.view.set]{fullShare} X21) ∗ (u17.view.loc (c : Thread nD τ) ↦[u17.view.set]{fullShare} f17) ∗ (u16.view.loc (c : Thread nD τ) ↦[u16.view.set]{fullShare} f16) ∗ (u11.view.loc (c : Thread nD τ) ↦[u11.view.set]{fullShare} f11) ∗ (u13.view.loc (c : Thread nD τ) ↦[u13.view.set]{fullShare} f13) ∗ (u9.view.loc (c : Thread nD τ) ↦[u9.view.set]{fullShare} f9) ∗ (u10.view.loc (c : Thread nD τ) ↦[u10.view.set]{fullShare} f10) ∗ (u15.view.loc (c : Thread nD τ) ↦[u15.view.set]{fullShare} f15) ∗ (u19.view.loc (c : Thread nD τ) ↦[u19.view.set]{fullShare} f19)) : sProp 𝕄)
      ⊢ wp frame (wpE (defs₀ (F := F)) 𝒱 (c : Thread nD τ) bd) E (progM (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v26 v36 v38 c2_i32 v42 v47 v48)
          (fun r => iprop(⌜r = r'⌝ ∗ (u2.view.loc (c : Thread nD τ) ↦[u2.view.set]{fullShare} X2) ∗ (u3.view.loc (c : Thread nD τ) ↦[u3.view.set]{fullShare} X3) ∗ (u4.view.loc (c : Thread nD τ) ↦[u4.view.set]{fullShare} X4) ∗ (u5.view.loc (c : Thread nD τ) ↦[u5.view.set]{fullShare} X5) ∗ (u6.view.loc (c : Thread nD τ) ↦[u6.view.set]{fullShare} X6) ∗ (u7.view.loc (c : Thread nD τ) ↦[u7.view.set]{fullShare} X7) ∗ (u18.view.loc (c : Thread nD τ) ↦[u18.view.set]{fullShare} X18) ∗ (u21.view.loc (c : Thread nD τ) ↦[u21.view.set]{fullShare} X21) ∗ (u17.view.loc (c : Thread nD τ) ↦[u17.view.set]{fullShare} g17) ∗ (u16.view.loc (c : Thread nD τ) ↦[u16.view.set]{fullShare} g16) ∗ (u11.view.loc (c : Thread nD τ) ↦[u11.view.set]{fullShare} g11) ∗ (u13.view.loc (c : Thread nD τ) ↦[u13.view.set]{fullShare} g13) ∗ (u9.view.loc (c : Thread nD τ) ↦[u9.view.set]{fullShare} g9) ∗ (u10.view.loc (c : Thread nD τ) ↦[u10.view.set]{fullShare} g10) ∗ (u15.view.loc (c : Thread nD τ) ↦[u15.view.set]{fullShare} g15) ∗ (u19.view.loc (c : Thread nD τ) ↦[u19.view.set]{fullShare} g19))) } := by
  have hi : (i 0).val < 36 := (i 0).isLt
  refine ⟨?_, ?_, ?_, ?_, ?_, ?_, ?_, ?_, ?_, fun E => ?run⟩
  case run =>
    unfold progM
    iintro ⟨HR2, HR3, HR4, HR5, HR6, HR7, HR18, HR21, HW17, HW16, HW11, HW13, HW9, HW10, HW15, HW19⟩
    sl_exec
    sl_step
    isplitr
    · ipureintro; rfl
    sl_close

end Cert.Kernel.Hand

end
-- ==== Proof.Kernel.Body.lean ====
/-
  The whole body of the kernel at one grid point: what every buffer holds afterwards, as a relation to what it held before.
-/
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Kernel.Segs
@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

/-- The first condition of the body: the first grid point. -/
abbrev cond1 (i : grid0.Coords) : BitVec 1 :=
  Scalar.cmpi .ne (Scalar.extui (Scalar.cmpi .eq (BitVec.ofNat 32 (i 0).val) 0#32) : BitVec 32) 0#32

/-- The row numbers of the lanes, as the body computes them once. -/
abbrev lanes : IVec S64x128 32 := iota .tc S64x128 32 [1] iota_S64x128_d1_w32

/-- The third block of the body. -/
def progU (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) : Prog (TpuEff nD τ sig (Elt F) Λ₀ .tc) PUnit := do
  if h3 : k0_cond3 i = 1#1 then do
    let r ← k0_part17 (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 (BitVec.ofNat 32 (i 0).val) h3
    let _ ← progM (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2
    if h5 : k0_cond5 i = 1#1 then progE (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h5 else pure ⟨⟩
  else pure ⟨⟩

/-- The body is its blocks in turn. -/
theorem cc_eq (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) : cc0_adamw_4bit (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21
    = ((if h1 : cond1 i = 1#1 then progI (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 else pure ⟨⟩) >>= fun _ =>
        (if h2 : k0_cond2 i = 1#1 then progR (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h2 else pure ⟨⟩) >>= fun _ =>
          progU (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21) := by
  rw [cc0_adamw_4bit_eq_skeleton]
  unfold cc0_adamw_4bit_skel progU progI progR progE progM
  dsimp only
  rw [k0_part20_eq_skeleton]; unfold k0_part20_skel
  by_cases h1 : cond1 i = 1#1 <;> by_cases h2 : k0_cond2 i = 1#1 <;> by_cases h3 : k0_cond3 i = 1#1 <;> by_cases h5 : k0_cond5 i = 1#1 <;>
    simp only [h1, h2, h3, h5, dite_true, dite_false, bind_assoc, pure_bind] <;> rfl
/-- The first block writes the constants at the first point and nothing else. -/
def initRel (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole)  (X1 : BufTy.Contents (Elt F) u1.view.ty) (f21 : BufTy.Contents (Elt F) u21.view.ty) (g21 : BufTy.Contents (Elt F) u21.view.ty) : Prop :=
  (∀ h : cond1 i = 1#1, g21 = (segI 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 X1 f21).1) ∧ (¬ cond1 i = 1#1 → g21 = f21)

theorem init_run (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole)  (X1 : BufTy.Contents (Elt F) u1.view.ty) (f21 : BufTy.Contents (Elt F) u21.view.ty) (E : Set ℕ) :
    (iprop((u1.view.loc (c : Thread nD τ) ↦[u1.view.set]{fullShare} X1) ∗ (u21.view.loc (c : Thread nD τ) ↦[u21.view.set]{fullShare} f21)) : sProp 𝕄)
      ⊢ wp frame (wpE (defs₀ (F := F)) 𝒱 (c : Thread nD τ) bd) E (if h : cond1 i = 1#1 then progI (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 else pure ⟨⟩)
        (fun _ => iprop(∃ g21, ⌜initRel 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21  X1 f21 g21⌝ ∗ (u1.view.loc (c : Thread nD τ) ↦[u1.view.set]{fullShare} X1) ∗ (u21.view.loc (c : Thread nD τ) ↦[u21.view.set]{fullShare} g21))) := by
  iintro ⟨H1, H21⟩
  by_cases h : cond1 i = 1#1
  · rw [dif_pos h]
    iapply (wp_wand_r frame _ E)
    isplitl [H1 H21]
    · iapply ((segI 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 X1 f21).2.2 E)
      isplitl [H1]; · iexact H1
      iexact H21
    iintro %r ⟨%hr, H1, H21⟩
    iexists ((segI 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 X1 f21).1)
    isplitr
    · ipureintro; exact ⟨fun _ => rfl, fun hn => absurd h hn⟩
    isplitl [H1]; · iexact H1
    iexact H21
  · rw [dif_neg h]
    rw [wp_pure]
    imodintro
    iexists _
    isplitr
    · ipureintro; exact ⟨fun hn => absurd hn h, fun _ => rfl⟩
    isplitl [H1]; · iexact H1
    iexact H21

/-- The second block writes the codes of the second moment of an earlier batch. -/
def codesRel (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole)  (X15 : BufTy.Contents (Elt F) u15.view.ty) (X16 : BufTy.Contents (Elt F) u16.view.ty) (X20 : BufTy.Contents (Elt F) u20.view.ty) (f12 : BufTy.Contents (Elt F) u12.view.ty) (g12 : BufTy.Contents (Elt F) u12.view.ty) : Prop :=
  (∀ h : k0_cond2 i = 1#1, g12 = (segR 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h X15 X16 X20 f12).1) ∧ (¬ k0_cond2 i = 1#1 → g12 = f12)

theorem codes_run (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole)  (X15 : BufTy.Contents (Elt F) u15.view.ty) (X16 : BufTy.Contents (Elt F) u16.view.ty) (X20 : BufTy.Contents (Elt F) u20.view.ty) (f12 : BufTy.Contents (Elt F) u12.view.ty) (E : Set ℕ) :
    (iprop((u15.view.loc (c : Thread nD τ) ↦[u15.view.set]{fullShare} X15) ∗ (u16.view.loc (c : Thread nD τ) ↦[u16.view.set]{fullShare} X16) ∗ (u20.view.loc (c : Thread nD τ) ↦[u20.view.set]{fullShare} X20) ∗ (u12.view.loc (c : Thread nD τ) ↦[u12.view.set]{fullShare} f12)) : sProp 𝕄)
      ⊢ wp frame (wpE (defs₀ (F := F)) 𝒱 (c : Thread nD τ) bd) E (if h : k0_cond2 i = 1#1 then progR (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h else pure ⟨⟩)
        (fun _ => iprop(∃ g12, ⌜codesRel 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21  X15 X16 X20 f12 g12⌝ ∗ (u15.view.loc (c : Thread nD τ) ↦[u15.view.set]{fullShare} X15) ∗ (u16.view.loc (c : Thread nD τ) ↦[u16.view.set]{fullShare} X16) ∗ (u20.view.loc (c : Thread nD τ) ↦[u20.view.set]{fullShare} X20) ∗ (u12.view.loc (c : Thread nD τ) ↦[u12.view.set]{fullShare} g12))) := by
  iintro ⟨H15, H16, H20, H12⟩
  by_cases h : k0_cond2 i = 1#1
  · rw [dif_pos h]
    iapply (wp_wand_r frame _ E)
    isplitl [H15 H16 H20 H12]
    · iapply ((segR 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h X15 X16 X20 f12).2.2 E)
      isplitl [H15]; · iexact H15
      isplitl [H16]; · iexact H16
      isplitl [H20]; · iexact H20
      iexact H12
    iintro %r ⟨%hr, H15, H16, H20, H12⟩
    iexists ((segR 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h X15 X16 X20 f12).1)
    isplitr
    · ipureintro; exact ⟨fun _ => rfl, fun hn => absurd h hn⟩
    isplitl [H15]; · iexact H15
    isplitl [H16]; · iexact H16
    isplitl [H20]; · iexact H20
    iexact H12
  · rw [dif_neg h]
    rw [wp_pure]
    imodintro
    iexists _
    isplitr
    · ipureintro; exact ⟨fun hn => absurd hn h, fun _ => rfl⟩
    isplitl [H15]; · iexact H15
    isplitl [H16]; · iexact H16
    isplitl [H20]; · iexact H20
    iexact H12

/-- The last block writes the column maxima at the end of a batch. -/
def colsRel (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (h3 : k0_cond3 i = 1#1) (X19 : BufTy.Contents (Elt F) u19.view.ty) (f14 : BufTy.Contents (Elt F) u14.view.ty) (f20 : BufTy.Contents (Elt F) u20.view.ty) (g14 : BufTy.Contents (Elt F) u14.view.ty) (g20 : BufTy.Contents (Elt F) u20.view.ty) : Prop :=
  (∀ h : k0_cond5 i = 1#1, g14 = (segE 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X19 f14 f20).1 ∧ g20 = (segE 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X19 f14 f20).2.1) ∧ (¬ k0_cond5 i = 1#1 → g14 = f14 ∧ g20 = f20)

theorem cols_run (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (h3 : k0_cond3 i = 1#1) (X19 : BufTy.Contents (Elt F) u19.view.ty) (f14 : BufTy.Contents (Elt F) u14.view.ty) (f20 : BufTy.Contents (Elt F) u20.view.ty) (E : Set ℕ) :
    (iprop((u19.view.loc (c : Thread nD τ) ↦[u19.view.set]{fullShare} X19) ∗ (u14.view.loc (c : Thread nD τ) ↦[u14.view.set]{fullShare} f14) ∗ (u20.view.loc (c : Thread nD τ) ↦[u20.view.set]{fullShare} f20)) : sProp 𝕄)
      ⊢ wp frame (wpE (defs₀ (F := F)) 𝒱 (c : Thread nD τ) bd) E (if h : k0_cond5 i = 1#1 then progE (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h else pure ⟨⟩)
        (fun _ => iprop(∃ g14 g20, ⌜colsRel 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 X19 f14 f20 g14 g20⌝ ∗ (u19.view.loc (c : Thread nD τ) ↦[u19.view.set]{fullShare} X19) ∗ (u14.view.loc (c : Thread nD τ) ↦[u14.view.set]{fullShare} g14) ∗ (u20.view.loc (c : Thread nD τ) ↦[u20.view.set]{fullShare} g20))) := by
  iintro ⟨H19, H14, H20⟩
  by_cases h : k0_cond5 i = 1#1
  · rw [dif_pos h]
    iapply (wp_wand_r frame _ E)
    isplitl [H19 H14 H20]
    · iapply ((segE 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X19 f14 f20).2.2.2 E)
      isplitl [H19]; · iexact H19
      isplitl [H14]; · iexact H14
      iexact H20
    iintro %r ⟨%hr, H19, H14, H20⟩
    iexists ((segE 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X19 f14 f20).1)
    iexists ((segE 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X19 f14 f20).2.1)
    isplitr
    · ipureintro; exact ⟨fun _ => ⟨rfl, rfl⟩, fun hn => absurd h hn⟩
    isplitl [H19]; · iexact H19
    isplitl [H14]; · iexact H14
    iexact H20
  · rw [dif_neg h]
    rw [wp_pure]
    imodintro
    iexists _
    iexists _
    isplitr
    · ipureintro; exact ⟨fun hn => absurd hn h, fun _ => ⟨rfl, rfl⟩⟩
    isplitl [H19]; · iexact H19
    isplitl [H14]; · iexact H14
    iexact H20

/-- What the third block's first part leaves. -/
def firstRel (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (h3 : k0_cond3 i = 1#1) (X8 : BufTy.Contents (Elt F) u8.view.ty) (f18 : BufTy.Contents (Elt F) u18.view.ty) (f19 : BufTy.Contents (Elt F) u19.view.ty) (g18 : BufTy.Contents (Elt F) u18.view.ty) (g19 : BufTy.Contents (Elt F) u19.view.ty) (r : (Σ' (v26 : BitVec 32) (v36 : BitVec 32) (v38 : BitVec 32) (c2_i32 : BitVec 32) (v42 : BitVec 32) (v47 : BitVec 32), BitVec 1)) : Prop :=
  (∀ h : k0_cond4 i = 1#1, g18 = (seg17 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X8 f18 f19).1 ∧ g19 = (seg17 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X8 f18 f19).2.1 ∧ r = (seg17 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X8 f18 f19).2.2.1)
  ∧ (∀ h : ¬ k0_cond4 i = 1#1, g18 = (seg17n 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X8 f18 f19).1 ∧ g19 = (seg17n 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X8 f18 f19).2.1 ∧ r = (seg17n 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X8 f18 f19).2.2.1)

theorem first_run (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (h3 : k0_cond3 i = 1#1) (X8 : BufTy.Contents (Elt F) u8.view.ty) (f18 : BufTy.Contents (Elt F) u18.view.ty) (f19 : BufTy.Contents (Elt F) u19.view.ty) (E : Set ℕ) :
    (iprop((u8.view.loc (c : Thread nD τ) ↦[u8.view.set]{fullShare} X8) ∗ (u18.view.loc (c : Thread nD τ) ↦[u18.view.set]{fullShare} f18) ∗ (u19.view.loc (c : Thread nD τ) ↦[u19.view.set]{fullShare} f19)) : sProp 𝕄)
      ⊢ wp frame (wpE (defs₀ (F := F)) 𝒱 (c : Thread nD τ) bd) E (k0_part17 (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 (BitVec.ofNat 32 (i 0).val) h3)
        (fun r => iprop(∃ g18 g19, ⌜firstRel 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 X8 f18 f19 g18 g19 r⌝ ∗ (u8.view.loc (c : Thread nD τ) ↦[u8.view.set]{fullShare} X8) ∗ (u18.view.loc (c : Thread nD τ) ↦[u18.view.set]{fullShare} g18) ∗ (u19.view.loc (c : Thread nD τ) ↦[u19.view.set]{fullShare} g19))) := by
  iintro ⟨H8, H18, H19⟩
  by_cases h : k0_cond4 i = 1#1
  · iapply (wp_wand_r frame _ E)
    isplitl [H8 H18 H19]
    · iapply ((seg17 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X8 f18 f19).2.2.2 E)
      isplitl [H8]; · iexact H8
      isplitl [H18]; · iexact H18
      iexact H19
    iintro %r ⟨%hr, H8, H18, H19⟩

    iexists ((seg17 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X8 f18 f19).1)
    iexists ((seg17 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X8 f18 f19).2.1)
    isplitr
    · ipureintro; exact ⟨fun _ => ⟨rfl, rfl, hr⟩, fun hn => absurd h hn⟩
    isplitl [H8]; · iexact H8
    isplitl [H18]; · iexact H18
    iexact H19

  · iapply (wp_wand_r frame _ E)
    isplitl [H8 H18 H19]
    · iapply ((seg17n 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X8 f18 f19).2.2.2 E)
      isplitl [H8]; · iexact H8
      isplitl [H18]; · iexact H18
      iexact H19
    iintro %r ⟨%hr, H8, H18, H19⟩

    iexists ((seg17n 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X8 f18 f19).1)
    iexists ((seg17n 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X8 f18 f19).2.1)
    isplitr
    · ipureintro; exact ⟨fun hn => absurd hn h, fun _ => ⟨rfl, rfl, hr⟩⟩
    isplitl [H8]; · iexact H8
    isplitl [H18]; · iexact H18
    iexact H19

/-- What the third block leaves: nothing changes after the last batch. -/
def stepRel (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (X2 : BufTy.Contents (Elt F) u2.view.ty) (X3 : BufTy.Contents (Elt F) u3.view.ty) (X4 : BufTy.Contents (Elt F) u4.view.ty) (X5 : BufTy.Contents (Elt F) u5.view.ty) (X6 : BufTy.Contents (Elt F) u6.view.ty) (X7 : BufTy.Contents (Elt F) u7.view.ty) (X8 : BufTy.Contents (Elt F) u8.view.ty) (X21 : BufTy.Contents (Elt F) u21.view.ty) (f9 : BufTy.Contents (Elt F) u9.view.ty) (f10 : BufTy.Contents (Elt F) u10.view.ty) (f11 : BufTy.Contents (Elt F) u11.view.ty) (f13 : BufTy.Contents (Elt F) u13.view.ty) (f14 : BufTy.Contents (Elt F) u14.view.ty) (f15 : BufTy.Contents (Elt F) u15.view.ty) (f16 : BufTy.Contents (Elt F) u16.view.ty) (f17 : BufTy.Contents (Elt F) u17.view.ty) (f18 : BufTy.Contents (Elt F) u18.view.ty) (f19 : BufTy.Contents (Elt F) u19.view.ty) (f20 : BufTy.Contents (Elt F) u20.view.ty) (g9 : BufTy.Contents (Elt F) u9.view.ty) (g10 : BufTy.Contents (Elt F) u10.view.ty) (g11 : BufTy.Contents (Elt F) u11.view.ty) (g13 : BufTy.Contents (Elt F) u13.view.ty) (g14 : BufTy.Contents (Elt F) u14.view.ty) (g15 : BufTy.Contents (Elt F) u15.view.ty) (g16 : BufTy.Contents (Elt F) u16.view.ty) (g17 : BufTy.Contents (Elt F) u17.view.ty) (g18 : BufTy.Contents (Elt F) u18.view.ty) (g19 : BufTy.Contents (Elt F) u19.view.ty) (g20 : BufTy.Contents (Elt F) u20.view.ty) : Prop :=
  (∀ h3 : k0_cond3 i = 1#1, ∃ (a19 : BufTy.Contents (Elt F) u19.view.ty) (b19 : BufTy.Contents (Elt F) u19.view.ty) (r : (Σ' (v26 : BitVec 32) (v36 : BitVec 32) (v38 : BitVec 32) (c2_i32 : BitVec 32) (v42 : BitVec 32) (v47 : BitVec 32), BitVec 1)),
    firstRel 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 X8 f18 f19 g18 a19 r
    ∧ (g17 = (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).1 ∧ g16 = (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.1 ∧ g11 = (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.1 ∧ g13 = (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.2.1 ∧ g9 = (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.2.2.1 ∧ g10 = (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.2.2.2.1 ∧ g15 = (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.2.2.2.2.1 ∧ b19 = (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.2.2.2.2.2.1)
    ∧ g19 = b19 ∧ colsRel 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 b19 f14 f20 g14 g20)
  ∧ (¬ k0_cond3 i = 1#1 → g9 = f9 ∧ g10 = f10 ∧ g11 = f11 ∧ g13 = f13 ∧ g14 = f14 ∧ g15 = f15 ∧ g16 = f16 ∧ g17 = f17 ∧ g18 = f18 ∧ g19 = f19 ∧ g20 = f20)

theorem step_run (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (X2 : BufTy.Contents (Elt F) u2.view.ty) (X3 : BufTy.Contents (Elt F) u3.view.ty) (X4 : BufTy.Contents (Elt F) u4.view.ty) (X5 : BufTy.Contents (Elt F) u5.view.ty) (X6 : BufTy.Contents (Elt F) u6.view.ty) (X7 : BufTy.Contents (Elt F) u7.view.ty) (X8 : BufTy.Contents (Elt F) u8.view.ty) (X21 : BufTy.Contents (Elt F) u21.view.ty) (f9 : BufTy.Contents (Elt F) u9.view.ty) (f10 : BufTy.Contents (Elt F) u10.view.ty) (f11 : BufTy.Contents (Elt F) u11.view.ty) (f13 : BufTy.Contents (Elt F) u13.view.ty) (f14 : BufTy.Contents (Elt F) u14.view.ty) (f15 : BufTy.Contents (Elt F) u15.view.ty) (f16 : BufTy.Contents (Elt F) u16.view.ty) (f17 : BufTy.Contents (Elt F) u17.view.ty) (f18 : BufTy.Contents (Elt F) u18.view.ty) (f19 : BufTy.Contents (Elt F) u19.view.ty) (f20 : BufTy.Contents (Elt F) u20.view.ty) (E : Set ℕ) :
    (iprop((u2.view.loc (c : Thread nD τ) ↦[u2.view.set]{fullShare} X2) ∗ (u3.view.loc (c : Thread nD τ) ↦[u3.view.set]{fullShare} X3) ∗ (u4.view.loc (c : Thread nD τ) ↦[u4.view.set]{fullShare} X4) ∗ (u5.view.loc (c : Thread nD τ) ↦[u5.view.set]{fullShare} X5) ∗ (u6.view.loc (c : Thread nD τ) ↦[u6.view.set]{fullShare} X6) ∗ (u7.view.loc (c : Thread nD τ) ↦[u7.view.set]{fullShare} X7) ∗ (u8.view.loc (c : Thread nD τ) ↦[u8.view.set]{fullShare} X8) ∗ (u21.view.loc (c : Thread nD τ) ↦[u21.view.set]{fullShare} X21) ∗ (u9.view.loc (c : Thread nD τ) ↦[u9.view.set]{fullShare} f9) ∗ (u10.view.loc (c : Thread nD τ) ↦[u10.view.set]{fullShare} f10) ∗ (u11.view.loc (c : Thread nD τ) ↦[u11.view.set]{fullShare} f11) ∗ (u13.view.loc (c : Thread nD τ) ↦[u13.view.set]{fullShare} f13) ∗ (u14.view.loc (c : Thread nD τ) ↦[u14.view.set]{fullShare} f14) ∗ (u15.view.loc (c : Thread nD τ) ↦[u15.view.set]{fullShare} f15) ∗ (u16.view.loc (c : Thread nD τ) ↦[u16.view.set]{fullShare} f16) ∗ (u17.view.loc (c : Thread nD τ) ↦[u17.view.set]{fullShare} f17) ∗ (u18.view.loc (c : Thread nD τ) ↦[u18.view.set]{fullShare} f18) ∗ (u19.view.loc (c : Thread nD τ) ↦[u19.view.set]{fullShare} f19) ∗ (u20.view.loc (c : Thread nD τ) ↦[u20.view.set]{fullShare} f20)) : sProp 𝕄)
      ⊢ wp frame (wpE (defs₀ (F := F)) 𝒱 (c : Thread nD τ) bd) E (progU (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21)
        (fun _ => iprop(∃ g9 g10 g11 g13 g14 g15 g16 g17 g18 g19 g20, ⌜stepRel 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 X2 X3 X4 X5 X6 X7 X8 X21 f9 f10 f11 f13 f14 f15 f16 f17 f18 f19 f20 g9 g10 g11 g13 g14 g15 g16 g17 g18 g19 g20⌝ ∗ (u2.view.loc (c : Thread nD τ) ↦[u2.view.set]{fullShare} X2) ∗ (u3.view.loc (c : Thread nD τ) ↦[u3.view.set]{fullShare} X3) ∗ (u4.view.loc (c : Thread nD τ) ↦[u4.view.set]{fullShare} X4) ∗ (u5.view.loc (c : Thread nD τ) ↦[u5.view.set]{fullShare} X5) ∗ (u6.view.loc (c : Thread nD τ) ↦[u6.view.set]{fullShare} X6) ∗ (u7.view.loc (c : Thread nD τ) ↦[u7.view.set]{fullShare} X7) ∗ (u8.view.loc (c : Thread nD τ) ↦[u8.view.set]{fullShare} X8) ∗ (u21.view.loc (c : Thread nD τ) ↦[u21.view.set]{fullShare} X21) ∗ (u9.view.loc (c : Thread nD τ) ↦[u9.view.set]{fullShare} g9) ∗ (u10.view.loc (c : Thread nD τ) ↦[u10.view.set]{fullShare} g10) ∗ (u11.view.loc (c : Thread nD τ) ↦[u11.view.set]{fullShare} g11) ∗ (u13.view.loc (c : Thread nD τ) ↦[u13.view.set]{fullShare} g13) ∗ (u14.view.loc (c : Thread nD τ) ↦[u14.view.set]{fullShare} g14) ∗ (u15.view.loc (c : Thread nD τ) ↦[u15.view.set]{fullShare} g15) ∗ (u16.view.loc (c : Thread nD τ) ↦[u16.view.set]{fullShare} g16) ∗ (u17.view.loc (c : Thread nD τ) ↦[u17.view.set]{fullShare} g17) ∗ (u18.view.loc (c : Thread nD τ) ↦[u18.view.set]{fullShare} g18) ∗ (u19.view.loc (c : Thread nD τ) ↦[u19.view.set]{fullShare} g19) ∗ (u20.view.loc (c : Thread nD τ) ↦[u20.view.set]{fullShare} g20))) := by
  unfold progU
  iintro ⟨H2, H3, H4, H5, H6, H7, H8, H21, H9, H10, H11, H13, H14, H15, H16, H17, H18, H19, H20⟩
  by_cases h3 : k0_cond3 i = 1#1
  · rw [dif_pos h3]
    rw [wp_bind]
    iapply (wp_wand_r frame _ E)
    isplitl [H8 H18 H19]
    · iapply (first_run 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 X8 f18 f19 E)
      isplitl [H8]; · iexact H8
      isplitl [H18]; · iexact H18
      iexact H19
    iintro %r ⟨%g18, %a19, %hfirst, H8, H18, H19⟩
    rw [wp_bind]
    iapply (wp_wand_r frame _ E)
    isplitl [H2 H3 H4 H5 H6 H7 H18 H21 H17 H16 H11 H13 H9 H10 H15 H19]
    · iapply ((segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.2.2.2.2.2.2.2 E)
      isplitl [H2]; · iexact H2
      isplitl [H3]; · iexact H3
      isplitl [H4]; · iexact H4
      isplitl [H5]; · iexact H5
      isplitl [H6]; · iexact H6
      isplitl [H7]; · iexact H7
      isplitl [H18]; · iexact H18
      isplitl [H21]; · iexact H21
      isplitl [H17]; · iexact H17
      isplitl [H16]; · iexact H16
      isplitl [H11]; · iexact H11
      isplitl [H13]; · iexact H13
      isplitl [H9]; · iexact H9
      isplitl [H10]; · iexact H10
      isplitl [H15]; · iexact H15
      iexact H19
    iintro %r2 ⟨%hr2, H2, H3, H4, H5, H6, H7, H18, H21, H17, H16, H11, H13, H9, H10, H15, H19⟩

    iapply (wp_wand_r frame _ E)
    isplitl [H19 H14 H20]
    · iapply (cols_run 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 _ f14 f20 E)
      isplitl [H19]; · iexact H19
      isplitl [H14]; · iexact H14
      iexact H20
    iintro %r3 ⟨%g14, %g20, %hcols, H19, H14, H20⟩
    iexists (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.2.2.1
    iexists (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.2.2.2.1
    iexists (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.1
    iexists (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.2.1
    iexists g14
    iexists (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.2.2.2.2.1
    iexists (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.1
    iexists (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).1
    iexists g18
    iexists (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.2.2.2.2.2.1
    iexists g20
    isplitr
    · ipureintro
      exact ⟨fun _ => ⟨a19, (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.2.2.2.2.2.1, r, hfirst, ⟨rfl, rfl, rfl, rfl, rfl, rfl, rfl, rfl⟩, rfl, hcols⟩, fun hn => absurd h3 hn⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H21]; · iexact H21
    isplitl [H9]; · iexact H9
    isplitl [H10]; · iexact H10
    isplitl [H11]; · iexact H11
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  · rw [dif_neg h3]
    rw [wp_pure]
    imodintro
    iexists _
    iexists _
    iexists _
    iexists _
    iexists _
    iexists _
    iexists _
    iexists _
    iexists _
    iexists _
    iexists _
    isplitr
    · ipureintro
      exact ⟨fun hn => absurd hn h3, fun _ => ⟨rfl, rfl, rfl, rfl, rfl, rfl, rfl, rfl, rfl, rfl, rfl⟩⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H21]; · iexact H21
    isplitl [H9]; · iexact H9
    isplitl [H10]; · iexact H10
    isplitl [H11]; · iexact H11
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

/-- What the whole body leaves at a grid point. -/
structure BodyRel (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (X1 : BufTy.Contents (Elt F) u1.view.ty) (X2 : BufTy.Contents (Elt F) u2.view.ty) (X3 : BufTy.Contents (Elt F) u3.view.ty) (X4 : BufTy.Contents (Elt F) u4.view.ty) (X5 : BufTy.Contents (Elt F) u5.view.ty) (X6 : BufTy.Contents (Elt F) u6.view.ty) (X7 : BufTy.Contents (Elt F) u7.view.ty) (X8 : BufTy.Contents (Elt F) u8.view.ty) (f9 : BufTy.Contents (Elt F) u9.view.ty) (f10 : BufTy.Contents (Elt F) u10.view.ty) (f11 : BufTy.Contents (Elt F) u11.view.ty) (f12 : BufTy.Contents (Elt F) u12.view.ty) (f13 : BufTy.Contents (Elt F) u13.view.ty) (f14 : BufTy.Contents (Elt F) u14.view.ty) (f15 : BufTy.Contents (Elt F) u15.view.ty) (f16 : BufTy.Contents (Elt F) u16.view.ty) (f17 : BufTy.Contents (Elt F) u17.view.ty) (f18 : BufTy.Contents (Elt F) u18.view.ty) (f19 : BufTy.Contents (Elt F) u19.view.ty) (f20 : BufTy.Contents (Elt F) u20.view.ty) (f21 : BufTy.Contents (Elt F) u21.view.ty) (g9 : BufTy.Contents (Elt F) u9.view.ty) (g10 : BufTy.Contents (Elt F) u10.view.ty) (g11 : BufTy.Contents (Elt F) u11.view.ty) (g12 : BufTy.Contents (Elt F) u12.view.ty) (g13 : BufTy.Contents (Elt F) u13.view.ty) (g14 : BufTy.Contents (Elt F) u14.view.ty) (g15 : BufTy.Contents (Elt F) u15.view.ty) (g16 : BufTy.Contents (Elt F) u16.view.ty) (g17 : BufTy.Contents (Elt F) u17.view.ty) (g18 : BufTy.Contents (Elt F) u18.view.ty) (g19 : BufTy.Contents (Elt F) u19.view.ty) (g20 : BufTy.Contents (Elt F) u20.view.ty) (g21 : BufTy.Contents (Elt F) u21.view.ty) : Prop where
  init : initRel 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 X1 f21 g21
  codes : codesRel 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 f15 f16 f20 f12 g12
  step : stepRel 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 X2 X3 X4 X5 X6 X7 X8 g21 f9 f10 f11 f13 f14 f15 f16 f17 f18 f19 f20 g9 g10 g11 g13 g14 g15 g16 g17 g18 g19 g20

theorem body_run (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (X1 : BufTy.Contents (Elt F) u1.view.ty) (X2 : BufTy.Contents (Elt F) u2.view.ty) (X3 : BufTy.Contents (Elt F) u3.view.ty) (X4 : BufTy.Contents (Elt F) u4.view.ty) (X5 : BufTy.Contents (Elt F) u5.view.ty) (X6 : BufTy.Contents (Elt F) u6.view.ty) (X7 : BufTy.Contents (Elt F) u7.view.ty) (X8 : BufTy.Contents (Elt F) u8.view.ty) (f9 : BufTy.Contents (Elt F) u9.view.ty) (f10 : BufTy.Contents (Elt F) u10.view.ty) (f11 : BufTy.Contents (Elt F) u11.view.ty) (f12 : BufTy.Contents (Elt F) u12.view.ty) (f13 : BufTy.Contents (Elt F) u13.view.ty) (f14 : BufTy.Contents (Elt F) u14.view.ty) (f15 : BufTy.Contents (Elt F) u15.view.ty) (f16 : BufTy.Contents (Elt F) u16.view.ty) (f17 : BufTy.Contents (Elt F) u17.view.ty) (f18 : BufTy.Contents (Elt F) u18.view.ty) (f19 : BufTy.Contents (Elt F) u19.view.ty) (f20 : BufTy.Contents (Elt F) u20.view.ty) (f21 : BufTy.Contents (Elt F) u21.view.ty) (E : Set ℕ) :
    (iprop((u1.view.loc (c : Thread nD τ) ↦[u1.view.set]{fullShare} X1) ∗ (u2.view.loc (c : Thread nD τ) ↦[u2.view.set]{fullShare} X2) ∗ (u3.view.loc (c : Thread nD τ) ↦[u3.view.set]{fullShare} X3) ∗ (u4.view.loc (c : Thread nD τ) ↦[u4.view.set]{fullShare} X4) ∗ (u5.view.loc (c : Thread nD τ) ↦[u5.view.set]{fullShare} X5) ∗ (u6.view.loc (c : Thread nD τ) ↦[u6.view.set]{fullShare} X6) ∗ (u7.view.loc (c : Thread nD τ) ↦[u7.view.set]{fullShare} X7) ∗ (u8.view.loc (c : Thread nD τ) ↦[u8.view.set]{fullShare} X8) ∗ (u9.view.loc (c : Thread nD τ) ↦[u9.view.set]{fullShare} f9) ∗ (u10.view.loc (c : Thread nD τ) ↦[u10.view.set]{fullShare} f10) ∗ (u11.view.loc (c : Thread nD τ) ↦[u11.view.set]{fullShare} f11) ∗ (u12.view.loc (c : Thread nD τ) ↦[u12.view.set]{fullShare} f12) ∗ (u13.view.loc (c : Thread nD τ) ↦[u13.view.set]{fullShare} f13) ∗ (u14.view.loc (c : Thread nD τ) ↦[u14.view.set]{fullShare} f14) ∗ (u15.view.loc (c : Thread nD τ) ↦[u15.view.set]{fullShare} f15) ∗ (u16.view.loc (c : Thread nD τ) ↦[u16.view.set]{fullShare} f16) ∗ (u17.view.loc (c : Thread nD τ) ↦[u17.view.set]{fullShare} f17) ∗ (u18.view.loc (c : Thread nD τ) ↦[u18.view.set]{fullShare} f18) ∗ (u19.view.loc (c : Thread nD τ) ↦[u19.view.set]{fullShare} f19) ∗ (u20.view.loc (c : Thread nD τ) ↦[u20.view.set]{fullShare} f20) ∗ (u21.view.loc (c : Thread nD τ) ↦[u21.view.set]{fullShare} f21)) : sProp 𝕄)
      ⊢ wp frame (wpE (defs₀ (F := F)) 𝒱 (c : Thread nD τ) bd) E (cc0_adamw_4bit (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21)
        (fun _ => iprop(∃ g9 g10 g11 g12 g13 g14 g15 g16 g17 g18 g19 g20 g21, ⌜BodyRel 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 X1 X2 X3 X4 X5 X6 X7 X8 f9 f10 f11 f12 f13 f14 f15 f16 f17 f18 f19 f20 f21 g9 g10 g11 g12 g13 g14 g15 g16 g17 g18 g19 g20 g21⌝ ∗ (u1.view.loc (c : Thread nD τ) ↦[u1.view.set]{fullShare} X1) ∗ (u2.view.loc (c : Thread nD τ) ↦[u2.view.set]{fullShare} X2) ∗ (u3.view.loc (c : Thread nD τ) ↦[u3.view.set]{fullShare} X3) ∗ (u4.view.loc (c : Thread nD τ) ↦[u4.view.set]{fullShare} X4) ∗ (u5.view.loc (c : Thread nD τ) ↦[u5.view.set]{fullShare} X5) ∗ (u6.view.loc (c : Thread nD τ) ↦[u6.view.set]{fullShare} X6) ∗ (u7.view.loc (c : Thread nD τ) ↦[u7.view.set]{fullShare} X7) ∗ (u8.view.loc (c : Thread nD τ) ↦[u8.view.set]{fullShare} X8) ∗ (u9.view.loc (c : Thread nD τ) ↦[u9.view.set]{fullShare} g9) ∗ (u10.view.loc (c : Thread nD τ) ↦[u10.view.set]{fullShare} g10) ∗ (u11.view.loc (c : Thread nD τ) ↦[u11.view.set]{fullShare} g11) ∗ (u12.view.loc (c : Thread nD τ) ↦[u12.view.set]{fullShare} g12) ∗ (u13.view.loc (c : Thread nD τ) ↦[u13.view.set]{fullShare} g13) ∗ (u14.view.loc (c : Thread nD τ) ↦[u14.view.set]{fullShare} g14) ∗ (u15.view.loc (c : Thread nD τ) ↦[u15.view.set]{fullShare} g15) ∗ (u16.view.loc (c : Thread nD τ) ↦[u16.view.set]{fullShare} g16) ∗ (u17.view.loc (c : Thread nD τ) ↦[u17.view.set]{fullShare} g17) ∗ (u18.view.loc (c : Thread nD τ) ↦[u18.view.set]{fullShare} g18) ∗ (u19.view.loc (c : Thread nD τ) ↦[u19.view.set]{fullShare} g19) ∗ (u20.view.loc (c : Thread nD τ) ↦[u20.view.set]{fullShare} g20) ∗ (u21.view.loc (c : Thread nD τ) ↦[u21.view.set]{fullShare} g21))) := by
  rw [cc_eq]
  iintro ⟨H1, H2, H3, H4, H5, H6, H7, H8, H9, H10, H11, H12, H13, H14, H15, H16, H17, H18, H19, H20, H21⟩
  rw [wp_bind]
  iapply (wp_wand_r frame _ E)
  isplitl [H1 H21]
  · iapply (init_run 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 X1 f21 E)
    isplitl [H1]; · iexact H1
    iexact H21
  iintro %r1 ⟨%g21, %hi, H1, H21⟩
  rw [wp_bind]
  iapply (wp_wand_r frame _ E)
  isplitl [H15 H16 H20 H12]
  · iapply (codes_run 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 f15 f16 f20 f12 E)
    isplitl [H15]; · iexact H15
    isplitl [H16]; · iexact H16
    isplitl [H20]; · iexact H20
    iexact H12
  iintro %r2 ⟨%g12, %hc, H15, H16, H20, H12⟩
  iapply (wp_wand_r frame _ E)
  isplitl [H2 H3 H4 H5 H6 H7 H8 H21 H9 H10 H11 H13 H14 H15 H16 H17 H18 H19 H20]
  · iapply (step_run 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 X2 X3 X4 X5 X6 X7 X8 g21 f9 f10 f11 f13 f14 f15 f16 f17 f18 f19 f20 E)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H21]; · iexact H21
    isplitl [H9]; · iexact H9
    isplitl [H10]; · iexact H10
    isplitl [H11]; · iexact H11
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  iintro %r3 ⟨%g9, %g10, %g11, %g13, %g14, %g15, %g16, %g17, %g18, %g19, %g20, %hs, H2, H3, H4, H5, H6, H7, H8, H21, H9, H10, H11, H13, H14, H15, H16, H17, H18, H19, H20⟩
  iexists _
  iexists _
  iexists _
  iexists _
  iexists _
  iexists _
  iexists _
  iexists _
  iexists _
  iexists _
  iexists _
  iexists _
  iexists _
  isplitr
  · ipureintro; exact ⟨hi, hc, hs⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

end Cert.Kernel.Hand

end
-- ==== Proof.Kernel.Obl.lean ====
/-
  From what the body leaves at one point to the obligation of the whole run, for any invariant S of the scratch buffers and any relation O of the output blocks.
-/
module

public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Kernel.Body
@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Contents of the seven scratch buffers. -/
abbrev Scr (F : FTy → Type) : Type := BufTy.Contents (Elt F) (Memref.whole cc0_scratch0).view.ty × BufTy.Contents (Elt F) (Memref.whole cc0_scratch1).view.ty × BufTy.Contents (Elt F) (Memref.whole cc0_scratch2).view.ty × BufTy.Contents (Elt F) (Memref.whole cc0_scratch3).view.ty × BufTy.Contents (Elt F) (Memref.whole cc0_scratch4).view.ty × BufTy.Contents (Elt F) (Memref.whole cc0_scratch5).view.ty × BufTy.Contents (Elt F) (Memref.whole cc0_scratch6).view.ty

/-- What one core's run is said to keep: an invariant of the scratch buffers before each point, and a relation of what each window's
    block holds after a point to what it held before. -/
structure Spec (F : FTy → Type) where
  S : ℕ → Scr F → Prop
  O : (w : Fin cfg0.W) → Fin cfg0.N → (Y X : (cfg0.win w).block.Idx → Elt F (cfg0.win w).elt) → Prop

/-- The scratch buffers at contents that meet the invariant. -/
def scr (c : Dev nD) (P : Scr F → Prop) : sProp 𝕄 :=
  iprop(∃ f15 f16 f17 f18 f19 f20 f21, ⌜P (f15, f16, f17, f18, f19, f20, f21)⌝ ∗ ((c : Thread nD τ).loc cc0_scratch0 ↦{fullShare} f15) ∗ ((c : Thread nD τ).loc cc0_scratch1 ↦{fullShare} f16) ∗ ((c : Thread nD τ).loc cc0_scratch2 ↦{fullShare} f17) ∗ ((c : Thread nD τ).loc cc0_scratch3 ↦{fullShare} f18) ∗ ((c : Thread nD τ).loc cc0_scratch4 ↦{fullShare} f19) ∗ ((c : Thread nD τ).loc cc0_scratch5 ↦{fullShare} f20) ∗ ((c : Thread nD τ).loc cc0_scratch6 ↦{fullShare} f21))

def rdat (sp : Dev nD → Spec F) (c : Dev nD) : RDat τ (Elt F) Unit ℕ (UR sig nD τ) ℕ cfg0 c where
  A := fun w => V m c (Pipeline.arrRef spec0 w)
  after := (sp c).O
  Φ := fun t => iprop(scr c ((sp c).S t.val) ∗ ∃ r, prngReg c r)
  q := fun _ => fullShare
  owed := fun _ => 0

/-- The body keeps the invariant and the relation at every point. -/
structure Keeps (sp : Dev nD → Spec F) (c : Dev nD) : Prop where
  input : ∀ (w : Fin cfg0.W) t Y, (cfg0.win w).isOut = false → (sp c).O w t Y Y
  step : ∀ (t : Fin cfg0.N) (Y : (w : Fin cfg0.W) → (cfg0.win w).block.Idx → Elt F (cfg0.win w).elt), (∀ w, (rdat m sp c).Finds w t (Y w)) →
    ∀ (f1 : BufTy.Contents (Elt F) (win0_0.stage (cfg0.slots t 0)).view.ty) (f2 : BufTy.Contents (Elt F) (win0_1.stage (cfg0.slots t 1)).view.ty) (f3 : BufTy.Contents (Elt F) (win0_2.stage (cfg0.slots t 2)).view.ty) (f4 : BufTy.Contents (Elt F) (win0_3.stage (cfg0.slots t 3)).view.ty) (f5 : BufTy.Contents (Elt F) (win0_4.stage (cfg0.slots t 4)).view.ty) (f6 : BufTy.Contents (Elt F) (win0_5.stage (cfg0.slots t 5)).view.ty) (f7 : BufTy.Contents (Elt F) (win0_6.stage (cfg0.slots t 6)).view.ty) (f8 : BufTy.Contents (Elt F) (win0_7.stage (cfg0.slots t 7)).view.ty) (f9 : BufTy.Contents (Elt F) (win0_8.stage (cfg0.slots t 8)).view.ty) (f10 : BufTy.Contents (Elt F) (win0_9.stage (cfg0.slots t 9)).view.ty) (f11 : BufTy.Contents (Elt F) (win0_10.stage (cfg0.slots t 10)).view.ty) (f12 : BufTy.Contents (Elt F) (win0_11.stage (cfg0.slots t 11)).view.ty) (f13 : BufTy.Contents (Elt F) (win0_12.stage (cfg0.slots t 12)).view.ty) (f14 : BufTy.Contents (Elt F) (win0_13.stage (cfg0.slots t 13)).view.ty) (f15 : BufTy.Contents (Elt F) (Memref.whole cc0_scratch0).view.ty) (f16 : BufTy.Contents (Elt F) (Memref.whole cc0_scratch1).view.ty) (f17 : BufTy.Contents (Elt F) (Memref.whole cc0_scratch2).view.ty) (f18 : BufTy.Contents (Elt F) (Memref.whole cc0_scratch3).view.ty) (f19 : BufTy.Contents (Elt F) (Memref.whole cc0_scratch4).view.ty) (f20 : BufTy.Contents (Elt F) (Memref.whole cc0_scratch5).view.ty) (f21 : BufTy.Contents (Elt F) (Memref.whole cc0_scratch6).view.ty),
    (win0_0.stage (cfg0.slots t 0)).view.read (Elt F) f1 = Y 0 → (win0_1.stage (cfg0.slots t 1)).view.read (Elt F) f2 = Y 1 → (win0_2.stage (cfg0.slots t 2)).view.read (Elt F) f3 = Y 2 → (win0_3.stage (cfg0.slots t 3)).view.read (Elt F) f4 = Y 3 → (win0_4.stage (cfg0.slots t 4)).view.read (Elt F) f5 = Y 4 → (win0_5.stage (cfg0.slots t 5)).view.read (Elt F) f6 = Y 5 → (win0_6.stage (cfg0.slots t 6)).view.read (Elt F) f7 = Y 6 → (win0_7.stage (cfg0.slots t 7)).view.read (Elt F) f8 = Y 7 → (win0_8.stage (cfg0.slots t 8)).view.read (Elt F) f9 = Y 8 → (win0_9.stage (cfg0.slots t 9)).view.read (Elt F) f10 = Y 9 → (win0_10.stage (cfg0.slots t 10)).view.read (Elt F) f11 = Y 10 → (win0_11.stage (cfg0.slots t 11)).view.read (Elt F) f12 = Y 11 → (win0_12.stage (cfg0.slots t 12)).view.read (Elt F) f13 = Y 12 → (win0_13.stage (cfg0.slots t 13)).view.read (Elt F) f14 = Y 13 → (sp c).S t.val (f15, f16, f17, f18, f19, f20, f21) →
    ∀ (g9 : BufTy.Contents (Elt F) (win0_8.stage (cfg0.slots t 8)).view.ty) (g10 : BufTy.Contents (Elt F) (win0_9.stage (cfg0.slots t 9)).view.ty) (g11 : BufTy.Contents (Elt F) (win0_10.stage (cfg0.slots t 10)).view.ty) (g12 : BufTy.Contents (Elt F) (win0_11.stage (cfg0.slots t 11)).view.ty) (g13 : BufTy.Contents (Elt F) (win0_12.stage (cfg0.slots t 12)).view.ty) (g14 : BufTy.Contents (Elt F) (win0_13.stage (cfg0.slots t 13)).view.ty) (g15 : BufTy.Contents (Elt F) (Memref.whole cc0_scratch0).view.ty) (g16 : BufTy.Contents (Elt F) (Memref.whole cc0_scratch1).view.ty) (g17 : BufTy.Contents (Elt F) (Memref.whole cc0_scratch2).view.ty) (g18 : BufTy.Contents (Elt F) (Memref.whole cc0_scratch3).view.ty) (g19 : BufTy.Contents (Elt F) (Memref.whole cc0_scratch4).view.ty) (g20 : BufTy.Contents (Elt F) (Memref.whole cc0_scratch5).view.ty) (g21 : BufTy.Contents (Elt F) (Memref.whole cc0_scratch6).view.ty),
    BodyRel Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f1 f2 f3 f4 f5 f6 f7 f8 f9 f10 f11 f12 f13 f14 f15 f16 f17 f18 f19 f20 f21 g9 g10 g11 g12 g13 g14 g15 g16 g17 g18 g19 g20 g21 →
    (sp c).S (t.val + 1) (g15, g16, g17, g18, g19, g20, g21) ∧ (sp c).O 8 t (Y 8) ((win0_8.stage (cfg0.slots t 8)).view.read (Elt F) g9) ∧ (sp c).O 9 t (Y 9) ((win0_9.stage (cfg0.slots t 9)).view.read (Elt F) g10) ∧ (sp c).O 10 t (Y 10) ((win0_10.stage (cfg0.slots t 10)).view.read (Elt F) g11) ∧ (sp c).O 11 t (Y 11) ((win0_11.stage (cfg0.slots t 11)).view.read (Elt F) g12) ∧ (sp c).O 12 t (Y 12) ((win0_12.stage (cfg0.slots t 12)).view.read (Elt F) g13) ∧ (sp c).O 13 t (Y 13) ((win0_13.stage (cfg0.slots t 13)).view.read (Elt F) g14)

theorem sound_body (sp : Dev nD → Spec F) (c : Dev nD) (hk : Keeps m sp c) (t : Fin cfg0.N) (Y : (w : Fin cfg0.W) → (cfg0.win w).block.Idx → Elt F (cfg0.win w).elt)
    (hY : ∀ w, (rdat m sp c).Finds w t (Y w)) :
    (iprop((rdat m sp c).Φ t.castSucc ∗ (rdat m sp c).owesAt () t.castSucc ∗ owns c (win0_0.stage (cfg0.slots t 0)) fullShare (Y 0) ∗ owns c (win0_1.stage (cfg0.slots t 1)) fullShare (Y 1) ∗ owns c (win0_2.stage (cfg0.slots t 2)) fullShare (Y 2) ∗ owns c (win0_3.stage (cfg0.slots t 3)) fullShare (Y 3) ∗ owns c (win0_4.stage (cfg0.slots t 4)) fullShare (Y 4) ∗ owns c (win0_5.stage (cfg0.slots t 5)) fullShare (Y 5) ∗ owns c (win0_6.stage (cfg0.slots t 6)) fullShare (Y 6) ∗ owns c (win0_7.stage (cfg0.slots t 7)) fullShare (Y 7) ∗ owns c (win0_8.stage (cfg0.slots t 8)) fullShare (Y 8) ∗ owns c (win0_9.stage (cfg0.slots t 9)) fullShare (Y 9) ∗ owns c (win0_10.stage (cfg0.slots t 10)) fullShare (Y 10) ∗ owns c (win0_11.stage (cfg0.slots t 11)) fullShare (Y 11) ∗ owns c (win0_12.stage (cfg0.slots t 12)) fullShare (Y 12) ∗ owns c (win0_13.stage (cfg0.slots t 13)) fullShare (Y 13)) : sProp 𝕄)
      ⊢ wp frame (wpE (defs₀ (F := F)) Variants.none c none) Set.univ (bodyAt0 t) (fun _ =>
        iprop((rdat m sp c).Φ t.succ ∗ (rdat m sp c).owesAt () t.succ ∗ (∃ X, ⌜(rdat m sp c).after 0 t (Y 0) X⌝ ∗ owns c (win0_0.stage (cfg0.slots t 0)) fullShare X) ∗ (∃ X, ⌜(rdat m sp c).after 1 t (Y 1) X⌝ ∗ owns c (win0_1.stage (cfg0.slots t 1)) fullShare X) ∗ (∃ X, ⌜(rdat m sp c).after 2 t (Y 2) X⌝ ∗ owns c (win0_2.stage (cfg0.slots t 2)) fullShare X) ∗ (∃ X, ⌜(rdat m sp c).after 3 t (Y 3) X⌝ ∗ owns c (win0_3.stage (cfg0.slots t 3)) fullShare X) ∗ (∃ X, ⌜(rdat m sp c).after 4 t (Y 4) X⌝ ∗ owns c (win0_4.stage (cfg0.slots t 4)) fullShare X) ∗ (∃ X, ⌜(rdat m sp c).after 5 t (Y 5) X⌝ ∗ owns c (win0_5.stage (cfg0.slots t 5)) fullShare X) ∗ (∃ X, ⌜(rdat m sp c).after 6 t (Y 6) X⌝ ∗ owns c (win0_6.stage (cfg0.slots t 6)) fullShare X) ∗ (∃ X, ⌜(rdat m sp c).after 7 t (Y 7) X⌝ ∗ owns c (win0_7.stage (cfg0.slots t 7)) fullShare X) ∗ (∃ X, ⌜(rdat m sp c).after 8 t (Y 8) X⌝ ∗ owns c (win0_8.stage (cfg0.slots t 8)) fullShare X) ∗ (∃ X, ⌜(rdat m sp c).after 9 t (Y 9) X⌝ ∗ owns c (win0_9.stage (cfg0.slots t 9)) fullShare X) ∗ (∃ X, ⌜(rdat m sp c).after 10 t (Y 10) X⌝ ∗ owns c (win0_10.stage (cfg0.slots t 10)) fullShare X) ∗ (∃ X, ⌜(rdat m sp c).after 11 t (Y 11) X⌝ ∗ owns c (win0_11.stage (cfg0.slots t 11)) fullShare X) ∗ (∃ X, ⌜(rdat m sp c).after 12 t (Y 12) X⌝ ∗ owns c (win0_12.stage (cfg0.slots t 12)) fullShare X) ∗ (∃ X, ⌜(rdat m sp c).after 13 t (Y 13) X⌝ ∗ owns c (win0_13.stage (cfg0.slots t 13)) fullShare X))) := by
  unfold bodyAt0
  rw [show (rdat m sp c).Φ t.castSucc = iprop(scr c ((sp c).S t.val) ∗ ∃ r, prngReg c r) from rfl,
    show (rdat m sp c).Φ t.succ = iprop(scr c ((sp c).S (t.val + 1)) ∗ ∃ r, prngReg c r) from rfl]
  unfold scr RDat.owesAt Pipeline.owesWithin
  rw [show (rdat m sp c).owed t.castSucc = 0 from rfl, show (rdat m sp c).owed t.succ = 0 from rfl]
  unfold owns
  iintro ⟨⟨⟨%f15, %f16, %f17, %f18, %f19, %f20, %f21, %hS, H15, H16, H17, H18, H19, H20, H21⟩, Hg⟩, ⟨%W, -, HW⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩⟩
  iapply (wp_wand_r frame _ Set.univ)
  isplitl [H1 H2 H3 H4 H5 H6 H7 H8 H9 H10 H11 H12 H13 H14 H15 H16 H17 H18 H19 H20 H21]
  · iapply (body_run Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f1 f2 f3 f4 f5 f6 f7 f8 f9 f10 f11 f12 f13 f14 f15 f16 f17 f18 f19 f20 f21 Set.univ)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    simp only [Memref.view_whole, View.set_whole]
    isplitl [H15]; · iexact H15
    isplitl [H16]; · iexact H16
    isplitl [H17]; · iexact H17
    isplitl [H18]; · iexact H18
    isplitl [H19]; · iexact H19
    isplitl [H20]; · iexact H20
    iexact H21
  iintro %r ⟨%g9, %g10, %g11, %g12, %g13, %g14, %g15, %g16, %g17, %g18, %g19, %g20, %g21, %hrel, H1, H2, H3, H4, H5, H6, H7, H8, H9, H10, H11, H12, H13, H14, H15, H16, H17, H18, H19, H20, H21⟩
  have hs := hk.step t Y hY f1 f2 f3 f4 f5 f6 f7 f8 f9 f10 f11 f12 f13 f14 f15 f16 f17 f18 f19 f20 f21 e1 e2 e3 e4 e5 e6 e7 e8 e9 e10 e11 e12 e13 e14 hS g9 g10 g11 g12 g13 g14 g15 g16 g17 g18 g19 g20 g21 hrel
  isplitl [H15 H16 H17 H18 H19 H20 H21 Hg]
  · isplitl [H15 H16 H17 H18 H19 H20 H21]
    · iexists g15
      iexists g16
      iexists g17
      iexists g18
      iexists g19
      iexists g20
      iexists g21
      isplitr
      · ipureintro; exact hs.1
      simp only [Memref.view_whole, View.set_whole]
      isplitl [H15]; · iexact H15
      isplitl [H16]; · iexact H16
      isplitl [H17]; · iexact H17
      isplitl [H18]; · iexact H18
      isplitl [H19]; · iexact H19
      isplitl [H20]; · iexact H20
      iexact H21
    iexact Hg
  isplitl [HW]
  · iexists W; isplitr; · ipureintro; exact fun _ _ => Or.inl trivial
    iexact HW
  isplitl [H1]
  · iexists (Y 0); isplitr
    · ipureintro; exact hk.input 0 t _ rfl
    iexists f1; isplitr
    · ipureintro; exact e1
    iexact H1
  isplitl [H2]
  · iexists (Y 1); isplitr
    · ipureintro; exact hk.input 1 t _ rfl
    iexists f2; isplitr
    · ipureintro; exact e2
    iexact H2
  isplitl [H3]
  · iexists (Y 2); isplitr
    · ipureintro; exact hk.input 2 t _ rfl
    iexists f3; isplitr
    · ipureintro; exact e3
    iexact H3
  isplitl [H4]
  · iexists (Y 3); isplitr
    · ipureintro; exact hk.input 3 t _ rfl
    iexists f4; isplitr
    · ipureintro; exact e4
    iexact H4
  isplitl [H5]
  · iexists (Y 4); isplitr
    · ipureintro; exact hk.input 4 t _ rfl
    iexists f5; isplitr
    · ipureintro; exact e5
    iexact H5
  isplitl [H6]
  · iexists (Y 5); isplitr
    · ipureintro; exact hk.input 5 t _ rfl
    iexists f6; isplitr
    · ipureintro; exact e6
    iexact H6
  isplitl [H7]
  · iexists (Y 6); isplitr
    · ipureintro; exact hk.input 6 t _ rfl
    iexists f7; isplitr
    · ipureintro; exact e7
    iexact H7
  isplitl [H8]
  · iexists (Y 7); isplitr
    · ipureintro; exact hk.input 7 t _ rfl
    iexists f8; isplitr
    · ipureintro; exact e8
    iexact H8
  isplitl [H9]
  · iexists _; isplitr
    · ipureintro; exact hs.2.1
    iexists g9; isplitr
    · ipureintro; rfl
    iexact H9
  isplitl [H10]
  · iexists _; isplitr
    · ipureintro; exact hs.2.2.1
    iexists g10; isplitr
    · ipureintro; rfl
    iexact H10
  isplitl [H11]
  · iexists _; isplitr
    · ipureintro; exact hs.2.2.2.1
    iexists g11; isplitr
    · ipureintro; rfl
    iexact H11
  isplitl [H12]
  · iexists _; isplitr
    · ipureintro; exact hs.2.2.2.2.1
    iexists g12; isplitr
    · ipureintro; rfl
    iexact H12
  isplitl [H13]
  · iexists _; isplitr
    · ipureintro; exact hs.2.2.2.2.2.1
    iexists g13; isplitr
    · ipureintro; rfl
    iexact H13
  iexists _; isplitr
  · ipureintro; exact hs.2.2.2.2.2.2
  iexists g14; isplitr
  · ipureintro; rfl
  iexact H14

theorem defs₀_row (t : Fin cfg0.N) :
    defs₀ (F := F) .tc cfg0.body (cfg0.bodyArgs t (cfg0.slots t)) = bodyAt0 t := by
  unfold defs₀; rw [Defs.onTc_tc]

theorem body_obligation (sp : Dev nD → Spec F) (c : Dev nD) (hk : Keeps m sp c) :
    (rdat m sp c).BodyObligation (defs₀ (F := F)) Variants.none () Set.univ := fun t Y hY => by
  rw [bigSep_W0, bigSep_W0, defs₀_row]
  exact triple_restated (sound_body m sp c hk t Y hY) rfl .rfl fun _ => .rfl

theorem scr_of_rest (c : Dev nD) (P : Scr F → Prop) (hP : ∀ f, P f) :
    (Pipeline.ΦA spec0 c : sProp 𝕄) ⊢ iprop(scr c P ∗ ∃ r, prngReg c r) := by
  unfold Pipeline.ΦA scr
  rw [scopedRest0_eq]
  iintro ⟨⟨⟨%f15, H15⟩, ⟨%f16, H16⟩, ⟨%f17, H17⟩, ⟨%f18, H18⟩, ⟨%f19, H19⟩, ⟨%f20, H20⟩, ⟨%f21, H21⟩⟩, Hg⟩
  isplitl [H15 H16 H17 H18 H19 H20 H21]
  · iexists f15
    iexists f16
    iexists f17
    iexists f18
    iexists f19
    iexists f20
    iexists f21
    isplitr
    · ipureintro; exact hP _
    isplitl [H15]; · iexact H15
    isplitl [H16]; · iexact H16
    isplitl [H17]; · iexact H17
    isplitl [H18]; · iexact H18
    isplitl [H19]; · iexact H19
    isplitl [H20]; · iexact H20
    iexact H21
  iexact Hg

theorem rest_of_scr (c : Dev nD) (P : Scr F → Prop) :
    iprop(scr c P ∗ ∃ r, prngReg c r) ⊢ (Pipeline.ΦA spec0 c : sProp 𝕄) := by
  unfold Pipeline.ΦA scr
  rw [scopedRest0_eq]
  iintro ⟨⟨%f15, %f16, %f17, %f18, %f19, %f20, %f21, %hS, H15, H16, H17, H18, H19, H20, H21⟩, Hg⟩
  isplitl [H15 H16 H17 H18 H19 H20 H21]
  · isplitl [H15]; · iexists f15; iexact H15
    isplitl [H16]; · iexists f16; iexact H16
    isplitl [H17]; · iexists f17; iexact H17
    isplitl [H18]; · iexists f18; iexact H18
    isplitl [H19]; · iexists f19; iexact H19
    isplitl [H20]; · iexists f20; iexact H20
    iexists f21; iexact H21
  iexact Hg

/-- The run, for any invariant and relation the body keeps: every array at contents the relation allows, every counter at zero. -/
theorem run_main (sp : Dev nD → Spec F) (hk : ∀ c, Keeps m sp c) (h0 : ∀ c f, (sp c).S 0 f) :
    θ_run defs (onTc (τ := τ) (main (F := F))) (s₀ m ρ)
      (fun r => RDat.FramePost cfg0 (rdat m sp) (V m) r ∧ r.2.sem = fun _ => 0) :=
  RDat.θ_run_frame_track (Q' := _) cfgs (0 : Fin 1) launch0 defs₀ Variants.none (rdat m sp) m ρ main
    (hbody := fun c => body_obligation m sp c (hk c)) (hshare := fun c w => by unfold RDat.share; split <;> rfl)
    (howed := fun _ _ => rfl) (V := V m) (hmain := hmain m Variants.none) (hA := fun _ _ => rfl)
    (hin := fun c => scr_of_rest c _ (h0 c)) (hout := fun c => rest_of_scr c _)

/-- The arguments end as they were. -/
theorem args_kept (sp : Dev nD → Spec F) (r : PUnit × MemSt nD τ sig (Elt F)) (h : RDat.FramePost cfg0 (rdat m sp) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(h.arr_in c 1 rfl).trans (V_main_arg0 m c),
    (h.arr_in c 2 rfl).trans (V_main_arg1 m c),
    ((h c).2 main_arg2 (Pipeline.mem_restRefs_of main_arg2 (by decide) (by decide))).trans (V_main_arg2 m c),
    (h.arr_in c 3 rfl).trans (V_main_arg3 m c),
    (h.arr_in c 4 rfl).trans (V_main_arg4 m c),
    (h.arr_in c 5 rfl).trans (V_main_arg5 m c),
    (h.arr_in c 6 rfl).trans (V_main_arg6 m c),
    (h.arr_in c 7 rfl).trans (V_main_arg7 m c)⟩

/-- The claim that says nothing of the results. -/
def trivialSpec : Dev nD → Spec F := fun _ => ⟨fun _ _ => True, fun _ _ _ _ => True⟩

theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨args_kept m trivialSpec r h.1, h.2⟩)
    (run_main m ρ trivialSpec (fun _ => ⟨fun _ _ _ _ => trivial, by intros; exact ⟨trivial, trivial, trivial, trivial, trivial, trivial, trivial⟩⟩) (fun _ _ => trivial))

end Cert.Kernel.Hand

end
-- ==== Proof.KernelIdeal.Offsets.lean ====
/-
  The closed forms of the kernel's block offsets, over every grid point and loop trip.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F] [Named F]

local notation "𝕄" => MT nD τ sig Unit (Elt F) ℕ (UR sig nD τ) ℕ

theorem off1_eq : ∀ i : grid0.Coords, k0_off1 i = ![64 * ((i 0).val % 12), 0] := by decide +kernel
instance closedOff1 (i : grid0.Coords) : ClosedOff (k0_off1 i) := ⟨![64 * ((i 0).val % 12), 0], off1_eq i⟩

theorem off7_eq : ∀ i : grid0.Coords, k0_off7 i = ![(i 0).val / 12, 0] := by decide +kernel
instance closedOff7 (i : grid0.Coords) : ClosedOff (k0_off7 i) := ⟨![(i 0).val / 12, 0], off7_eq i⟩

theorem off8_eq : ∀ i : grid0.Coords, k0_off8 i = ![0, 128 * ((i 0).val % 12 / 2)] := by decide +kernel
instance closedOff8 (i : grid0.Coords) : ClosedOff (k0_off8 i) := ⟨![0, 128 * ((i 0).val % 12 / 2)], off8_eq i⟩

theorem off9_eq : ∀ i : grid0.Coords, k0_off9 i = ![64 * ((i 0).val % 12), 0] := by decide +kernel
instance closedOff9 (i : grid0.Coords) : ClosedOff (k0_off9 i) := ⟨![64 * ((i 0).val % 12), 0], off9_eq i⟩

theorem off14_eq : ∀ i : grid0.Coords, k0_off14 i = ![64 * ((i 0).val % 12), 0] := by decide +kernel
instance closedOff14 (i : grid0.Coords) : ClosedOff (k0_off14 i) := ⟨![64 * ((i 0).val % 12), 0], off14_eq i⟩

theorem off16_eq : ∀ i : grid0.Coords, k0_off16 i = ![(i 0).val / 12, 0] := by decide +kernel
instance closedOff16 (i : grid0.Coords) : ClosedOff (k0_off16 i) := ⟨![(i 0).val / 12, 0], off16_eq i⟩

theorem off2_eq : ∀ (i : grid0.Coords) (k : Fin k0_t1_loop.trips), k0_off2 i k = ![64 * ((i 0).val % 12), 128 * k.val] := by decide +kernel
instance closedOff2 (i : grid0.Coords) (k : Fin k0_t1_loop.trips) : ClosedOff (k0_off2 i k) := ⟨![64 * ((i 0).val % 12), 128 * k.val], off2_eq i k⟩

theorem off4_eq : ∀ (i : grid0.Coords) (k : Fin k0_t1_loop.trips), k0_off4 i k = ![64 * ((i 0).val % 12), 128 * k.val + 5504] := by decide +kernel
instance closedOff4 (i : grid0.Coords) (k : Fin k0_t1_loop.trips) : ClosedOff (k0_off4 i k) := ⟨![64 * ((i 0).val % 12), 128 * k.val + 5504], off4_eq i k⟩

theorem off13_eq : ∀ (i : grid0.Coords) (k : Fin k0_t2_loop.trips) (r : Fin 2), k0_off13 i k (BitVec.ofNat 32 (5504 * r.val)) = ![64 * ((i 0).val % 12), 128 * k.val + 5504 * r.val] := by decide +kernel
instance closedOff13_0 (i : grid0.Coords) (k : Fin k0_t2_loop.trips) : ClosedOff (k0_off13 i k (BitVec.ofNat 32 0)) := ⟨![64 * ((i 0).val % 12), 128 * k.val + 5504 * 0], off13_eq i k ⟨0, by decide⟩⟩

instance closedOff13_1 (i : grid0.Coords) (k : Fin k0_t2_loop.trips) : ClosedOff (k0_off13 i k (BitVec.ofNat 32 5504)) := ⟨![64 * ((i 0).val % 12), 128 * k.val + 5504 * 1], off13_eq i k ⟨1, by decide⟩⟩

end Cert.KernelIdeal.Hand

end
-- ==== Proof.KernelIdeal.Trip.lean ====
/-
  One trip of the moment-update loop, run at a symbolic trip: the pieces that it writes into each buffer and the value that it carries out.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdeal.Offsets
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F] [Named F]

local notation "𝕄" => MT nD τ sig Unit (Elt F) ℕ (UR sig nD τ) ℕ

/-- What one trip holds: the buffers that it reads and the buffers that it writes, each at its contents. -/
abbrev Trip2 (c : Dev nD) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (X2 : BufTy.Contents (Elt F) u2.view.ty) (X3 : BufTy.Contents (Elt F) u3.view.ty) (X4 : BufTy.Contents (Elt F) u4.view.ty) (X6 : BufTy.Contents (Elt F) u6.view.ty) (X17 : BufTy.Contents (Elt F) u17.view.ty) (X18 : BufTy.Contents (Elt F) u18.view.ty) (f15 : BufTy.Contents (Elt F) u15.view.ty) (f16 : BufTy.Contents (Elt F) u16.view.ty) (f19 : BufTy.Contents (Elt F) u19.view.ty) (f9 : BufTy.Contents (Elt F) u9.view.ty) (f10 : BufTy.Contents (Elt F) u10.view.ty) : sProp 𝕄 :=
  iprop((u2.view.loc (c : Thread nD τ) ↦[u2.view.set]{fullShare} X2) ∗ (u3.view.loc (c : Thread nD τ) ↦[u3.view.set]{fullShare} X3) ∗ (u4.view.loc (c : Thread nD τ) ↦[u4.view.set]{fullShare} X4) ∗ (u6.view.loc (c : Thread nD τ) ↦[u6.view.set]{fullShare} X6) ∗ (u17.view.loc (c : Thread nD τ) ↦[u17.view.set]{fullShare} X17) ∗ (u18.view.loc (c : Thread nD τ) ↦[u18.view.set]{fullShare} X18) ∗ (u15.view.loc (c : Thread nD τ) ↦[u15.view.set]{fullShare} f15) ∗ (u16.view.loc (c : Thread nD τ) ↦[u16.view.set]{fullShare} f16) ∗ (u19.view.loc (c : Thread nD τ) ↦[u19.view.set]{fullShare} f19) ∗ (u9.view.loc (c : Thread nD τ) ↦[u9.view.set]{fullShare} f9) ∗ (u10.view.loc (c : Thread nD τ) ↦[u10.view.set]{fullShare} f10))

/-- One trip: the piece lists (the moments, the row maxima, the column maxima, the update, the codes) and the carried value. -/
@[irreducible] def trip2 (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v38 : BitVec 32) (v91 : FVec F S64x128 .f32) (v100 : Vec F S1x64x86 .f32) (v104 : Vec F S1x8x128 .f32) (v107 : Vec F S1x8x128 .f32)
    (X2 : BufTy.Contents (Elt F) u2.view.ty) (X3 : BufTy.Contents (Elt F) u3.view.ty) (X4 : BufTy.Contents (Elt F) u4.view.ty) (X6 : BufTy.Contents (Elt F) u6.view.ty) (X17 : BufTy.Contents (Elt F) u17.view.ty) (X18 : BufTy.Contents (Elt F) u18.view.ty) (f15 : BufTy.Contents (Elt F) u15.view.ty) (f16 : BufTy.Contents (Elt F) u16.view.ty) (f19 : BufTy.Contents (Elt F) u19.view.ty) (f9 : BufTy.Contents (Elt F) u9.view.ty) (f10 : BufTy.Contents (Elt F) u10.view.ty) (k : Fin k0_t2_loop.trips) (acc : FVec F S64x128 .f32) :
    Σ' (L15 : List (View.Piece (Elt F) S768x11008 .f32)) (L16 : List (View.Piece (Elt F) S768x128 .f32)) (L19 : List (View.Piece (Elt F) S8x11008 .f32)) (L9 : List (View.Piece (Elt F) S1x64x11008 .f32)) (L10 : List (View.Piece (Elt F) S1x64x5504 .i8)), { acc' : FVec F S64x128 .f32 // ∀ (E : Set ℕ),
      Trip2 c u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 X2 X3 X4 X6 X17 X18 f15 f16 f19 f9 f10
      ⊢ wp frame (wpE (defs₀ (F := F)) 𝒱 (c : Thread nD τ) bd) E (k0_t2_body (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 k acc)
          (fun r => iprop(⌜r = acc'⌝ ∗ Trip2 c u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 X2 X3 X4 X6 X17 X18 (u15.view.writes (Elt F) f15 L15) (u16.view.writes (Elt F) f16 L16) (u19.view.writes (Elt F) f19 L19) (u9.view.writes (Elt F) f9 L9) (u10.view.writes (Elt F) f10 L10))) } := by
  have hk : k.val < 43 := Nat.lt_of_lt_of_le k.isLt k0_t2_abs.2.1
  have hi : (i 0).val < 36 := (i 0).isLt
  refine ⟨?_, ?_, ?_, ?_, ?_, ?_, fun E => ?run⟩
  case run =>
    unfold k0_t2_body
    iintro ⟨HR2, HR3, HR4, HR6, HR17, HR18, HW15, HW16, HW19, HW9, HW10⟩
    sl_exec
    sl_step
    isplitr
    · ipureintro; rfl
    sl_close

end Cert.KernelIdeal.Hand

end
-- ==== Proof.KernelIdeal.LoopInv.lean ====
/-
  The moment-update loop by its invariant: before trip `k` every written buffer holds the pieces of the recursion `st2` over its contents at the loop's entry.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdeal.Trip
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F] [Named F]

local notation "𝕄" => MT nD τ sig Unit (Elt F) ℕ (UR sig nD τ) ℕ

/-- What a trip makes of the pieces written so far and the carried value. -/
def next2 (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v38 : BitVec 32) (v91 : FVec F S64x128 .f32) (v100 : Vec F S1x64x86 .f32) (v104 : Vec F S1x8x128 .f32) (v107 : Vec F S1x8x128 .f32) (X2 : BufTy.Contents (Elt F) u2.view.ty) (X3 : BufTy.Contents (Elt F) u3.view.ty) (X4 : BufTy.Contents (Elt F) u4.view.ty) (X6 : BufTy.Contents (Elt F) u6.view.ty) (X17 : BufTy.Contents (Elt F) u17.view.ty) (X18 : BufTy.Contents (Elt F) u18.view.ty) (G15 : BufTy.Contents (Elt F) u15.view.ty) (G16 : BufTy.Contents (Elt F) u16.view.ty) (G19 : BufTy.Contents (Elt F) u19.view.ty) (G9 : BufTy.Contents (Elt F) u9.view.ty) (G10 : BufTy.Contents (Elt F) u10.view.ty) (k : Fin k0_t2_loop.trips) (s : List (View.Piece (Elt F) S768x11008 .f32) × List (View.Piece (Elt F) S768x128 .f32) × List (View.Piece (Elt F) S8x11008 .f32) × List (View.Piece (Elt F) S1x64x11008 .f32) × List (View.Piece (Elt F) S1x64x5504 .i8) × FVec F S64x128 .f32) : List (View.Piece (Elt F) S768x11008 .f32) × List (View.Piece (Elt F) S768x128 .f32) × List (View.Piece (Elt F) S8x11008 .f32) × List (View.Piece (Elt F) S1x64x11008 .f32) × List (View.Piece (Elt F) S1x64x5504 .i8) × FVec F S64x128 .f32 :=
  ((trip2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 (u15.view.writes (Elt F) G15 s.1) (u16.view.writes (Elt F) G16 s.2.1) (u19.view.writes (Elt F) G19 s.2.2.1) (u9.view.writes (Elt F) G9 s.2.2.2.1) (u10.view.writes (Elt F) G10 s.2.2.2.2.1) k s.2.2.2.2.2).1 ++ s.1, (trip2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 (u15.view.writes (Elt F) G15 s.1) (u16.view.writes (Elt F) G16 s.2.1) (u19.view.writes (Elt F) G19 s.2.2.1) (u9.view.writes (Elt F) G9 s.2.2.2.1) (u10.view.writes (Elt F) G10 s.2.2.2.2.1) k s.2.2.2.2.2).2.1 ++ s.2.1, (trip2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 (u15.view.writes (Elt F) G15 s.1) (u16.view.writes (Elt F) G16 s.2.1) (u19.view.writes (Elt F) G19 s.2.2.1) (u9.view.writes (Elt F) G9 s.2.2.2.1) (u10.view.writes (Elt F) G10 s.2.2.2.2.1) k s.2.2.2.2.2).2.2.1 ++ s.2.2.1, (trip2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 (u15.view.writes (Elt F) G15 s.1) (u16.view.writes (Elt F) G16 s.2.1) (u19.view.writes (Elt F) G19 s.2.2.1) (u9.view.writes (Elt F) G9 s.2.2.2.1) (u10.view.writes (Elt F) G10 s.2.2.2.2.1) k s.2.2.2.2.2).2.2.2.1 ++ s.2.2.2.1, (trip2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 (u15.view.writes (Elt F) G15 s.1) (u16.view.writes (Elt F) G16 s.2.1) (u19.view.writes (Elt F) G19 s.2.2.1) (u9.view.writes (Elt F) G9 s.2.2.2.1) (u10.view.writes (Elt F) G10 s.2.2.2.2.1) k s.2.2.2.2.2).2.2.2.2.1 ++ s.2.2.2.2.1, (trip2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 (u15.view.writes (Elt F) G15 s.1) (u16.view.writes (Elt F) G16 s.2.1) (u19.view.writes (Elt F) G19 s.2.2.1) (u9.view.writes (Elt F) G9 s.2.2.2.1) (u10.view.writes (Elt F) G10 s.2.2.2.2.1) k s.2.2.2.2.2).2.2.2.2.2.1)

/-- The pieces of the trips before `k` in every written buffer (last first), and the carried value. -/
def st2 (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v38 : BitVec 32) (v91 : FVec F S64x128 .f32) (v100 : Vec F S1x64x86 .f32) (v104 : Vec F S1x8x128 .f32) (v107 : Vec F S1x8x128 .f32) (X2 : BufTy.Contents (Elt F) u2.view.ty) (X3 : BufTy.Contents (Elt F) u3.view.ty) (X4 : BufTy.Contents (Elt F) u4.view.ty) (X6 : BufTy.Contents (Elt F) u6.view.ty) (X17 : BufTy.Contents (Elt F) u17.view.ty) (X18 : BufTy.Contents (Elt F) u18.view.ty) (G15 : BufTy.Contents (Elt F) u15.view.ty) (G16 : BufTy.Contents (Elt F) u16.view.ty) (G19 : BufTy.Contents (Elt F) u19.view.ty) (G9 : BufTy.Contents (Elt F) u9.view.ty) (G10 : BufTy.Contents (Elt F) u10.view.ty) (init : FVec F S64x128 .f32) : ℕ → List (View.Piece (Elt F) S768x11008 .f32) × List (View.Piece (Elt F) S768x128 .f32) × List (View.Piece (Elt F) S8x11008 .f32) × List (View.Piece (Elt F) S1x64x11008 .f32) × List (View.Piece (Elt F) S1x64x5504 .i8) × FVec F S64x128 .f32
  | 0 => ([], [], [], [], [], init)
  | k + 1 => if h : k < k0_t2_loop.trips then next2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 ⟨k, h⟩ (st2 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k) else st2 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k

theorem st2_succ (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v38 : BitVec 32) (v91 : FVec F S64x128 .f32) (v100 : Vec F S1x64x86 .f32) (v104 : Vec F S1x8x128 .f32) (v107 : Vec F S1x8x128 .f32) (X2 : BufTy.Contents (Elt F) u2.view.ty) (X3 : BufTy.Contents (Elt F) u3.view.ty) (X4 : BufTy.Contents (Elt F) u4.view.ty) (X6 : BufTy.Contents (Elt F) u6.view.ty) (X17 : BufTy.Contents (Elt F) u17.view.ty) (X18 : BufTy.Contents (Elt F) u18.view.ty) (G15 : BufTy.Contents (Elt F) u15.view.ty) (G16 : BufTy.Contents (Elt F) u16.view.ty) (G19 : BufTy.Contents (Elt F) u19.view.ty) (G9 : BufTy.Contents (Elt F) u9.view.ty) (G10 : BufTy.Contents (Elt F) u10.view.ty) (init : FVec F S64x128 .f32) (k : Fin k0_t2_loop.trips) :
    st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init (k.val + 1) = next2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 k (st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k.val) := by
  rw [st2]; exact dif_pos k.isLt

/-- The pieces in buffer 15 before trip `k`. -/
def pb15 (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v38 : BitVec 32) (v91 : FVec F S64x128 .f32) (v100 : Vec F S1x64x86 .f32) (v104 : Vec F S1x8x128 .f32) (v107 : Vec F S1x8x128 .f32) (X2 : BufTy.Contents (Elt F) u2.view.ty) (X3 : BufTy.Contents (Elt F) u3.view.ty) (X4 : BufTy.Contents (Elt F) u4.view.ty) (X6 : BufTy.Contents (Elt F) u6.view.ty) (X17 : BufTy.Contents (Elt F) u17.view.ty) (X18 : BufTy.Contents (Elt F) u18.view.ty) (G15 : BufTy.Contents (Elt F) u15.view.ty) (G16 : BufTy.Contents (Elt F) u16.view.ty) (G19 : BufTy.Contents (Elt F) u19.view.ty) (G9 : BufTy.Contents (Elt F) u9.view.ty) (G10 : BufTy.Contents (Elt F) u10.view.ty) (init : FVec F S64x128 .f32) (k : ℕ) : List (View.Piece (Elt F) S768x11008 .f32) := (st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k).1
/-- The pieces in buffer 16 before trip `k`. -/
def pb16 (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v38 : BitVec 32) (v91 : FVec F S64x128 .f32) (v100 : Vec F S1x64x86 .f32) (v104 : Vec F S1x8x128 .f32) (v107 : Vec F S1x8x128 .f32) (X2 : BufTy.Contents (Elt F) u2.view.ty) (X3 : BufTy.Contents (Elt F) u3.view.ty) (X4 : BufTy.Contents (Elt F) u4.view.ty) (X6 : BufTy.Contents (Elt F) u6.view.ty) (X17 : BufTy.Contents (Elt F) u17.view.ty) (X18 : BufTy.Contents (Elt F) u18.view.ty) (G15 : BufTy.Contents (Elt F) u15.view.ty) (G16 : BufTy.Contents (Elt F) u16.view.ty) (G19 : BufTy.Contents (Elt F) u19.view.ty) (G9 : BufTy.Contents (Elt F) u9.view.ty) (G10 : BufTy.Contents (Elt F) u10.view.ty) (init : FVec F S64x128 .f32) (k : ℕ) : List (View.Piece (Elt F) S768x128 .f32) := (st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k).2.1
/-- The pieces in buffer 19 before trip `k`. -/
def pb19 (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v38 : BitVec 32) (v91 : FVec F S64x128 .f32) (v100 : Vec F S1x64x86 .f32) (v104 : Vec F S1x8x128 .f32) (v107 : Vec F S1x8x128 .f32) (X2 : BufTy.Contents (Elt F) u2.view.ty) (X3 : BufTy.Contents (Elt F) u3.view.ty) (X4 : BufTy.Contents (Elt F) u4.view.ty) (X6 : BufTy.Contents (Elt F) u6.view.ty) (X17 : BufTy.Contents (Elt F) u17.view.ty) (X18 : BufTy.Contents (Elt F) u18.view.ty) (G15 : BufTy.Contents (Elt F) u15.view.ty) (G16 : BufTy.Contents (Elt F) u16.view.ty) (G19 : BufTy.Contents (Elt F) u19.view.ty) (G9 : BufTy.Contents (Elt F) u9.view.ty) (G10 : BufTy.Contents (Elt F) u10.view.ty) (init : FVec F S64x128 .f32) (k : ℕ) : List (View.Piece (Elt F) S8x11008 .f32) := (st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k).2.2.1
/-- The pieces in buffer 9 before trip `k`. -/
def pb9 (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v38 : BitVec 32) (v91 : FVec F S64x128 .f32) (v100 : Vec F S1x64x86 .f32) (v104 : Vec F S1x8x128 .f32) (v107 : Vec F S1x8x128 .f32) (X2 : BufTy.Contents (Elt F) u2.view.ty) (X3 : BufTy.Contents (Elt F) u3.view.ty) (X4 : BufTy.Contents (Elt F) u4.view.ty) (X6 : BufTy.Contents (Elt F) u6.view.ty) (X17 : BufTy.Contents (Elt F) u17.view.ty) (X18 : BufTy.Contents (Elt F) u18.view.ty) (G15 : BufTy.Contents (Elt F) u15.view.ty) (G16 : BufTy.Contents (Elt F) u16.view.ty) (G19 : BufTy.Contents (Elt F) u19.view.ty) (G9 : BufTy.Contents (Elt F) u9.view.ty) (G10 : BufTy.Contents (Elt F) u10.view.ty) (init : FVec F S64x128 .f32) (k : ℕ) : List (View.Piece (Elt F) S1x64x11008 .f32) := (st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k).2.2.2.1
/-- The pieces in buffer 10 before trip `k`. -/
def pb10 (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v38 : BitVec 32) (v91 : FVec F S64x128 .f32) (v100 : Vec F S1x64x86 .f32) (v104 : Vec F S1x8x128 .f32) (v107 : Vec F S1x8x128 .f32) (X2 : BufTy.Contents (Elt F) u2.view.ty) (X3 : BufTy.Contents (Elt F) u3.view.ty) (X4 : BufTy.Contents (Elt F) u4.view.ty) (X6 : BufTy.Contents (Elt F) u6.view.ty) (X17 : BufTy.Contents (Elt F) u17.view.ty) (X18 : BufTy.Contents (Elt F) u18.view.ty) (G15 : BufTy.Contents (Elt F) u15.view.ty) (G16 : BufTy.Contents (Elt F) u16.view.ty) (G19 : BufTy.Contents (Elt F) u19.view.ty) (G9 : BufTy.Contents (Elt F) u9.view.ty) (G10 : BufTy.Contents (Elt F) u10.view.ty) (init : FVec F S64x128 .f32) (k : ℕ) : List (View.Piece (Elt F) S1x64x5504 .i8) := (st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k).2.2.2.2.1
/-- The carried value before trip `k`. -/
def car2 (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v38 : BitVec 32) (v91 : FVec F S64x128 .f32) (v100 : Vec F S1x64x86 .f32) (v104 : Vec F S1x8x128 .f32) (v107 : Vec F S1x8x128 .f32) (X2 : BufTy.Contents (Elt F) u2.view.ty) (X3 : BufTy.Contents (Elt F) u3.view.ty) (X4 : BufTy.Contents (Elt F) u4.view.ty) (X6 : BufTy.Contents (Elt F) u6.view.ty) (X17 : BufTy.Contents (Elt F) u17.view.ty) (X18 : BufTy.Contents (Elt F) u18.view.ty) (G15 : BufTy.Contents (Elt F) u15.view.ty) (G16 : BufTy.Contents (Elt F) u16.view.ty) (G19 : BufTy.Contents (Elt F) u19.view.ty) (G9 : BufTy.Contents (Elt F) u9.view.ty) (G10 : BufTy.Contents (Elt F) u10.view.ty) (init : FVec F S64x128 .f32) (k : ℕ) : FVec F S64x128 .f32 := (st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k).2.2.2.2.2

/-- The invariant before trip `k`. -/
abbrev inv2 (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v38 : BitVec 32) (v91 : FVec F S64x128 .f32) (v100 : Vec F S1x64x86 .f32) (v104 : Vec F S1x8x128 .f32) (v107 : Vec F S1x8x128 .f32) (X2 : BufTy.Contents (Elt F) u2.view.ty) (X3 : BufTy.Contents (Elt F) u3.view.ty) (X4 : BufTy.Contents (Elt F) u4.view.ty) (X6 : BufTy.Contents (Elt F) u6.view.ty) (X17 : BufTy.Contents (Elt F) u17.view.ty) (X18 : BufTy.Contents (Elt F) u18.view.ty) (G15 : BufTy.Contents (Elt F) u15.view.ty) (G16 : BufTy.Contents (Elt F) u16.view.ty) (G19 : BufTy.Contents (Elt F) u19.view.ty) (G9 : BufTy.Contents (Elt F) u9.view.ty) (G10 : BufTy.Contents (Elt F) u10.view.ty) (init : FVec F S64x128 .f32) (k : ℕ) (acc : FVec F S64x128 .f32) : sProp 𝕄 :=
  iprop((u2.view.loc (c : Thread nD τ) ↦[u2.view.set]{fullShare} X2) ∗ (u3.view.loc (c : Thread nD τ) ↦[u3.view.set]{fullShare} X3) ∗ (u4.view.loc (c : Thread nD τ) ↦[u4.view.set]{fullShare} X4) ∗ (u6.view.loc (c : Thread nD τ) ↦[u6.view.set]{fullShare} X6) ∗ (u17.view.loc (c : Thread nD τ) ↦[u17.view.set]{fullShare} X17) ∗ (u18.view.loc (c : Thread nD τ) ↦[u18.view.set]{fullShare} X18) ∗ (∃ f, (u15.view.loc (c : Thread nD τ) ↦[u15.view.set]{fullShare} f) ∗ ⌜f = u15.view.writes (Elt F) G15 (pb15 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k)⌝) ∗ (∃ f, (u16.view.loc (c : Thread nD τ) ↦[u16.view.set]{fullShare} f) ∗ ⌜f = u16.view.writes (Elt F) G16 (pb16 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k)⌝) ∗ (∃ f, (u19.view.loc (c : Thread nD τ) ↦[u19.view.set]{fullShare} f) ∗ ⌜f = u19.view.writes (Elt F) G19 (pb19 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k)⌝) ∗ (∃ f, (u9.view.loc (c : Thread nD τ) ↦[u9.view.set]{fullShare} f) ∗ ⌜f = u9.view.writes (Elt F) G9 (pb9 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k)⌝) ∗ (∃ f, (u10.view.loc (c : Thread nD τ) ↦[u10.view.set]{fullShare} f) ∗ ⌜f = u10.view.writes (Elt F) G10 (pb10 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k)⌝) ∗ ⌜acc = car2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k⌝)

set_option warn.classDefReducibility false in
@[sl_loop] def loopInv2 (𝒱 : Variants) (c : Dev nD) (bd : Option 𝒱.V) (E : Set ℕ) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v38 : BitVec 32) (v91 : FVec F S64x128 .f32) (v100 : Vec F S1x64x86 .f32) (v104 : Vec F S1x8x128 .f32) (v107 : Vec F S1x8x128 .f32) (X2 : BufTy.Contents (Elt F) u2.view.ty) (X3 : BufTy.Contents (Elt F) u3.view.ty) (X4 : BufTy.Contents (Elt F) u4.view.ty) (X6 : BufTy.Contents (Elt F) u6.view.ty) (X17 : BufTy.Contents (Elt F) u17.view.ty) (X18 : BufTy.Contents (Elt F) u18.view.ty) (G15 : BufTy.Contents (Elt F) u15.view.ty) (G16 : BufTy.Contents (Elt F) u16.view.ty) (G19 : BufTy.Contents (Elt F) u19.view.ty) (G9 : BufTy.Contents (Elt F) u9.view.ty) (G10 : BufTy.Contents (Elt F) u10.view.ty) (init : FVec F S64x128 .f32) :
    LoopInvTy_k0_t2 (F := F) Unit ℕ (UR sig nD τ) ℕ 𝒱 c bd E i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 init where
  inv := inv2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init
  step k acc := by
    iintro ⟨HR2, HR3, HR4, HR6, HR17, HR18, ⟨%f15, HW15, %h15⟩, ⟨%f16, HW16, %h16⟩, ⟨%f19, HW19, %h19⟩, ⟨%f9, HW9, %h9⟩, ⟨%f10, HW10, %h10⟩, %hacc⟩
    subst h15 h16 h19 h9 h10 hacc
    iapply (wp_wand_r Idealize.ShloMosaic.frame (wpE (defs₀ (F := F)) 𝒱 (c : Thread nD τ) bd) E)
    isplitl [HR2 HR3 HR4 HR6 HR17 HR18 HW15 HW16 HW19 HW9 HW10]
    · iapply ((trip2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 (u15.view.writes (Elt F) G15 (st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k.val).1) (u16.view.writes (Elt F) G16 (st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k.val).2.1) (u19.view.writes (Elt F) G19 (st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k.val).2.2.1) (u9.view.writes (Elt F) G9 (st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k.val).2.2.2.1) (u10.view.writes (Elt F) G10 (st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k.val).2.2.2.2.1) k (st2 (F := F) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init k.val).2.2.2.2.2).2.2.2.2.2.2 E)
      isplitl [HR2]; · iexact HR2
      isplitl [HR3]; · iexact HR3
      isplitl [HR4]; · iexact HR4
      isplitl [HR6]; · iexact HR6
      isplitl [HR17]; · iexact HR17
      isplitl [HR18]; · iexact HR18
      isplitl [HW15]; · iexact HW15
      isplitl [HW16]; · iexact HW16
      isplitl [HW19]; · iexact HW19
      isplitl [HW9]; · iexact HW9
      iexact HW10
    · iintro %r ⟨%hr, HR2, HR3, HR4, HR6, HR17, HR18, HW15, HW16, HW19, HW9, HW10⟩
      subst hr
      isplitl [HR2]; · iexact HR2
      isplitl [HR3]; · iexact HR3
      isplitl [HR4]; · iexact HR4
      isplitl [HR6]; · iexact HR6
      isplitl [HR17]; · iexact HR17
      isplitl [HR18]; · iexact HR18
      isplitl [HW15]
      · iexists _; isplitl [HW15]; · iexact HW15
        ipureintro; unfold pb15; rw [st2_succ]; unfold next2; rw [View.writes_append]
      isplitl [HW16]
      · iexists _; isplitl [HW16]; · iexact HW16
        ipureintro; unfold pb16; rw [st2_succ]; unfold next2; rw [View.writes_append]
      isplitl [HW19]
      · iexists _; isplitl [HW19]; · iexact HW19
        ipureintro; unfold pb19; rw [st2_succ]; unfold next2; rw [View.writes_append]
      isplitl [HW9]
      · iexists _; isplitl [HW9]; · iexact HW9
        ipureintro; unfold pb9; rw [st2_succ]; unfold next2; rw [View.writes_append]
      isplitl [HW10]
      · iexists _; isplitl [HW10]; · iexact HW10
        ipureintro; unfold pb10; rw [st2_succ]; unfold next2; rw [View.writes_append]
      ipureintro; unfold car2; rw [st2_succ]; rfl

end Cert.KernelIdeal.Hand

end
-- ==== Proof.KernelIdeal.Segs.lean ====
/-
  The body of the kernel in five segments, each run by itself: what every written buffer holds afterwards.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdeal.LoopInv
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F] [Named F]

local notation "𝕄" => MT nD τ sig Unit (Elt F) ℕ (UR sig nD τ) ℕ

/-- A segment of the body. -/
def progI (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole)  : Prog (TpuEff nD τ sig (Elt F) Λ₀ .tc) PUnit := do
  let v399 : FVec F S8x128 .f32 ← k0_part10 i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21
  let v400 : Vec F S1x8x128 .f32 ← Prog.lift (.load u21 (Rect.unit (s := S2x8x128) ![1, 0, 0] S1x8x128.size inb_S2x8x128_S1x8x128_1_0_0).toLoadRect (View.loadsAt_vmem h_S1x8x128))
  Prog.lift (.store u21 (Rect.unit (s := S2x8x128) ![1, 0, 0] S1x8x128.size inb_S2x8x128_S1x8x128_1_0_0) (k0_pay1 v399) Finset.univ (View.stores_vmem_bits_univ h_S1x8x128 rfl) (.inl rfl))
  pure ⟨⟩

/-- A segment of the body. -/
def progR (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (k0_h2 : k0_cond2 i = 1#1) : Prog (TpuEff nD τ sig (Elt F) Λ₀ .tc) PUnit := do
  let u0 : BitVec 32 := BitVec.ofNat 32 (i 0).val
  let v10 : BitVec 1 := Scalar.cmpi .eq 12#32 0#32
  let v11 : BitVec 32 := Scalar.select v10 1#32 12#32
  let v12 : BitVec 32 := Scalar.remsi u0 v11
  let v13 : BitVec 1 := Scalar.cmpi .ne v12 0#32
  let v14 : BitVec 1 := Scalar.cmpi .slt v12 0#32
  let v15 : BitVec 1 := Scalar.cmpi .slt v11 0#32
  let v16 : BitVec 1 := Scalar.xori v14 v15
  let v17 : BitVec 1 := Scalar.andi v16 v13
  let v18 : BitVec 32 := Scalar.addi v12 v11
  let v19 : BitVec 32 := Scalar.select v17 v18 v12
  let v20 : BitVec 32 := Scalar.muli v19 64#32
  let v21 : BitVec 32 := v20
  let v23 : Vec F S64x128 .f32 ← Prog.lift (.load u16 (Rect.unit (s := S768x128) (k0_off1 i) S64x128.size (k0_off1_inb i k0_h2)).toLoadRect (View.loadsAt_vmem h_S64x128))
  Scf.Loop.for k0_t1_loop (k0_t1_ok i k0_h2) ⟨⟩ (k0_t1_body i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 k0_h2 v21 v23)
  pure ⟨⟩

/-- A segment of the body. -/
def progE (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (k0_h3 : k0_cond3 i = 1#1) (k0_h5 : k0_cond5 i = 1#1) : Prog (TpuEff nD τ sig (Elt F) Λ₀ .tc) PUnit := do
  let v166 : Vec F S8x11008 .f32 ← Prog.lift (.load u19 (Rect.unit (s := S8x11008) ![0, 0] S8x11008.size inb_S8x11008_S8x11008_0_0).toLoadRect (View.loadsAt_vmem h_S8x11008))
  let v172 : Vec F S1x11008 .f32 ← Prog.lift (.load u14 (Rect.unit (s := S2x11008) (k0_off16 i) S1x11008.size (k0_off16_inb i k0_h3 k0_h5)).toLoadRect (View.loadsAt_vmem h_S1x11008))
  Prog.lift (.store u14 (Rect.unit (s := S2x11008) (k0_off16 i) S1x11008.size (k0_off16_inb i k0_h3 k0_h5)) (k0_pay5 v166) Finset.univ (View.stores_vmem_bits_univ h_S1x11008 rfl) (.inl rfl))
  let v175 : Vec F S1x11008 .f32 ← Prog.lift (.load u20 (Rect.unit (s := S1x11008) ![0, 0] S1x11008.size inb_S1x11008_S1x11008_0_0).toLoadRect (View.loadsAt_vmem h_S1x11008))
  Prog.lift (.store u20 (Rect.unit (s := S1x11008) ![0, 0] S1x11008.size inb_S1x11008_S1x11008_0_0) (k0_pay6 v166) Finset.univ (View.stores_vmem_bits_univ h_S1x11008 rfl) (.inl rfl))
  pure ⟨⟩

/-- A segment of the body. -/
def progM (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v26 v36 v38 c2_i32 v42 v47 : BitVec 32) (v48 : BitVec 1) : Prog (TpuEff nD τ sig (Elt F) Λ₀ .tc) (Σ' (v26 : BitVec 32) (v164 : BitVec 32), BitVec 32) := do
  let ⟨v60, v81, v91⟩ : Σ' (v60 : BitVec 32) (v81 : IVec S64x128 1), FVec F S64x128 .f32 ← k0_part18 i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v26 v36 c2_i32 v42 v47 v48
  let v124 : FVec F S1x64x86 .f32 ← k0_part19 i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91
  Prog.lift (.store u11 (Rect.unit (s := S1x64x86) ![0, 0, 0] S1x64x86.size inb_S1x64x86_S1x64x86_0_0_0) v124 Finset.univ (View.stores_vmem_bits_univ h_S1x64x86 rfl) (.inl rfl))
  let v126 : Vec F S64x128 .f32 ← Prog.lift (.load u16 (Rect.unit (s := S768x128) (k0_off9 i) S64x128.size (k0_off9_inb i k0_h3)).toLoadRect (View.loadsAt_vmem h_S64x128))
  let v132 : Vec F S64x128 .f32 ← Prog.lift (.load u16 (Rect.unit (s := S768x128) (k0_off9 i) S64x128.size (k0_off9_inb i k0_h3)).toLoadRect (View.loadsAt_vmem h_S64x128))
  Prog.lift (.store u16 (Rect.unit (s := S768x128) (k0_off9 i) S64x128.size (k0_off9_inb i k0_h3)) (k0_pay123 v126) Finset.univ (View.stores_vmem_bits_univ h_S64x128 rfl) (.inl rfl))
  let v151 : Vec F S2x128 .f32 ← Prog.lift (.load u13 (Rect.unit (s := S2x768) (k0_off8 i) S2x128.size (k0_off8_inb i k0_h3)).toLoadRect (View.loadsAt_vmem h_S2x128))
  let v162 : Vec F S2x128 .f32 ← Prog.lift (.load u13 (Rect.unit (s := S2x768) (k0_off8 i) S2x128.size (k0_off8_inb i k0_h3)).toLoadRect (View.loadsAt_vmem h_S2x128))
  Prog.lift (.store u13 (Rect.unit (s := S2x768) (k0_off8 i) S2x128.size (k0_off8_inb i k0_h3)) (k0_pay124 v26 v81 v126 v151) Finset.univ (View.stores_vmem_bits_univ h_S2x128 rfl) (.inl rfl))
  let v163 : BitVec 1 := Scalar.cmpi .eq v36 11#32
  let v164 : BitVec 32 := Scalar.extui v163
  pure ⟨v26, v164, 0#32⟩

/-- The first segment computes the two constants of the step. -/
@[irreducible] def segI (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole)  (X1 : BufTy.Contents (Elt F) u1.view.ty) (f21 : BufTy.Contents (Elt F) u21.view.ty) :
    Σ' (g21 : BufTy.Contents (Elt F) u21.view.ty), { r' : PUnit // ∀ (E : Set ℕ),
      (iprop((u1.view.loc (c : Thread nD τ) ↦[u1.view.set]{fullShare} X1) ∗ (u21.view.loc (c : Thread nD τ) ↦[u21.view.set]{fullShare} f21)) : sProp 𝕄)
      ⊢ wp frame (wpE (defs₀ (F := F)) 𝒱 (c : Thread nD τ) bd) E (progI (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21)
          (fun r => iprop(⌜r = r'⌝ ∗ (u1.view.loc (c : Thread nD τ) ↦[u1.view.set]{fullShare} X1) ∗ (u21.view.loc (c : Thread nD τ) ↦[u21.view.set]{fullShare} g21))) } := by
  have hi : (i 0).val < 36 := (i 0).isLt
  refine ⟨?_, ?_, fun E => ?run⟩
  case run =>
    unfold progI
    iintro ⟨HR1, HW21⟩
    sl_exec
    sl_step
    isplitr
    · ipureintro; rfl
    sl_close

/-- The second segment quantises the second moments of the batch before. -/
@[irreducible] def segR (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (k0_h2 : k0_cond2 i = 1#1) (X15 : BufTy.Contents (Elt F) u15.view.ty) (X16 : BufTy.Contents (Elt F) u16.view.ty) (X20 : BufTy.Contents (Elt F) u20.view.ty) (f12 : BufTy.Contents (Elt F) u12.view.ty) :
    Σ' (g12 : BufTy.Contents (Elt F) u12.view.ty), { r' : PUnit // ∀ (E : Set ℕ),
      (iprop((u15.view.loc (c : Thread nD τ) ↦[u15.view.set]{fullShare} X15) ∗ (u16.view.loc (c : Thread nD τ) ↦[u16.view.set]{fullShare} X16) ∗ (u20.view.loc (c : Thread nD τ) ↦[u20.view.set]{fullShare} X20) ∗ (u12.view.loc (c : Thread nD τ) ↦[u12.view.set]{fullShare} f12)) : sProp 𝕄)
      ⊢ wp frame (wpE (defs₀ (F := F)) 𝒱 (c : Thread nD τ) bd) E (progR (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 k0_h2)
          (fun r => iprop(⌜r = r'⌝ ∗ (u15.view.loc (c : Thread nD τ) ↦[u15.view.set]{fullShare} X15) ∗ (u16.view.loc (c : Thread nD τ) ↦[u16.view.set]{fullShare} X16) ∗ (u20.view.loc (c : Thread nD τ) ↦[u20.view.set]{fullShare} X20) ∗ (u12.view.loc (c : Thread nD τ) ↦[u12.view.set]{fullShare} g12))) } := by
  have hi : (i 0).val < 36 := (i 0).isLt
  refine ⟨?_, ?_, fun E => ?run⟩
  case run =>
    unfold progR
    iintro ⟨HR15, HR16, HR20, HW12⟩
    sl_exec
    sl_step
    isplitr
    · ipureintro; rfl
    sl_close

/-- The last segment closes the column maxima of a batch. -/
@[irreducible] def segE (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (k0_h3 : k0_cond3 i = 1#1) (k0_h5 : k0_cond5 i = 1#1) (X19 : BufTy.Contents (Elt F) u19.view.ty) (f14 : BufTy.Contents (Elt F) u14.view.ty) (f20 : BufTy.Contents (Elt F) u20.view.ty) :
    Σ' (g14 : BufTy.Contents (Elt F) u14.view.ty) (g20 : BufTy.Contents (Elt F) u20.view.ty), { r' : PUnit // ∀ (E : Set ℕ),
      (iprop((u19.view.loc (c : Thread nD τ) ↦[u19.view.set]{fullShare} X19) ∗ (u14.view.loc (c : Thread nD τ) ↦[u14.view.set]{fullShare} f14) ∗ (u20.view.loc (c : Thread nD τ) ↦[u20.view.set]{fullShare} f20)) : sProp 𝕄)
      ⊢ wp frame (wpE (defs₀ (F := F)) 𝒱 (c : Thread nD τ) bd) E (progE (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 k0_h3 k0_h5)
          (fun r => iprop(⌜r = r'⌝ ∗ (u19.view.loc (c : Thread nD τ) ↦[u19.view.set]{fullShare} X19) ∗ (u14.view.loc (c : Thread nD τ) ↦[u14.view.set]{fullShare} g14) ∗ (u20.view.loc (c : Thread nD τ) ↦[u20.view.set]{fullShare} g20))) } := by
  have hi : (i 0).val < 36 := (i 0).isLt
  refine ⟨?_, ?_, ?_, fun E => ?run⟩
  case run =>
    unfold progE
    iintro ⟨HR19, HW14, HW20⟩
    sl_exec
    sl_step
    isplitr
    · ipureintro; rfl
    sl_close

/-- The start of a batch: the column factors, and the column maxima at zero. -/
@[irreducible] def seg17 (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (k0_h3 : k0_cond3 i = 1#1) (k0_h4 : k0_cond4 i = 1#1) (X8 : BufTy.Contents (Elt F) u8.view.ty) (f18 : BufTy.Contents (Elt F) u18.view.ty) (f19 : BufTy.Contents (Elt F) u19.view.ty) :
    Σ' (g18 : BufTy.Contents (Elt F) u18.view.ty) (g19 : BufTy.Contents (Elt F) u19.view.ty), { r' : (Σ' (v26 : BitVec 32) (v36 : BitVec 32) (v38 : BitVec 32) (c2_i32 : BitVec 32) (v42 : BitVec 32) (v47 : BitVec 32), BitVec 1) // ∀ (E : Set ℕ),
      (iprop((u8.view.loc (c : Thread nD τ) ↦[u8.view.set]{fullShare} X8) ∗ (u18.view.loc (c : Thread nD τ) ↦[u18.view.set]{fullShare} f18) ∗ (u19.view.loc (c : Thread nD τ) ↦[u19.view.set]{fullShare} f19)) : sProp 𝕄)
      ⊢ wp frame (wpE (defs₀ (F := F)) 𝒱 (c : Thread nD τ) bd) E (k0_part17 (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 (BitVec.ofNat 32 (i 0).val) k0_h3)
          (fun r => iprop(⌜r = r'⌝ ∗ (u8.view.loc (c : Thread nD τ) ↦[u8.view.set]{fullShare} X8) ∗ (u18.view.loc (c : Thread nD τ) ↦[u18.view.set]{fullShare} g18) ∗ (u19.view.loc (c : Thread nD τ) ↦[u19.view.set]{fullShare} g19))) } := by
  have hi : (i 0).val < 36 := (i 0).isLt
  refine ⟨?_, ?_, ?_, fun E => ?run⟩
  case run =>
    rw [k0_part17_eq_skeleton]; unfold k0_part17_skel
    iintro ⟨HR8, HW18, HW19⟩
    sl_exec
    sl_step
    isplitr
    · ipureintro; rfl
    sl_close

/-- Within a batch the same code touches nothing. -/
@[irreducible] def seg17n (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (k0_h3 : k0_cond3 i = 1#1) (k0_h4 : ¬ k0_cond4 i = 1#1) (X8 : BufTy.Contents (Elt F) u8.view.ty) (f18 : BufTy.Contents (Elt F) u18.view.ty) (f19 : BufTy.Contents (Elt F) u19.view.ty) :
    Σ' (g18 : BufTy.Contents (Elt F) u18.view.ty) (g19 : BufTy.Contents (Elt F) u19.view.ty), { r' : (Σ' (v26 : BitVec 32) (v36 : BitVec 32) (v38 : BitVec 32) (c2_i32 : BitVec 32) (v42 : BitVec 32) (v47 : BitVec 32), BitVec 1) // ∀ (E : Set ℕ),
      (iprop((u8.view.loc (c : Thread nD τ) ↦[u8.view.set]{fullShare} X8) ∗ (u18.view.loc (c : Thread nD τ) ↦[u18.view.set]{fullShare} f18) ∗ (u19.view.loc (c : Thread nD τ) ↦[u19.view.set]{fullShare} f19)) : sProp 𝕄)
      ⊢ wp frame (wpE (defs₀ (F := F)) 𝒱 (c : Thread nD τ) bd) E (k0_part17 (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 (BitVec.ofNat 32 (i 0).val) k0_h3)
          (fun r => iprop(⌜r = r'⌝ ∗ (u8.view.loc (c : Thread nD τ) ↦[u8.view.set]{fullShare} X8) ∗ (u18.view.loc (c : Thread nD τ) ↦[u18.view.set]{fullShare} g18) ∗ (u19.view.loc (c : Thread nD τ) ↦[u19.view.set]{fullShare} g19))) } := by
  have hi : (i 0).val < 36 := (i 0).isLt
  refine ⟨?_, ?_, ?_, fun E => ?run⟩
  case run =>
    rw [k0_part17_eq_skeleton]; unfold k0_part17_skel
    iintro ⟨HR8, HW18, HW19⟩
    sl_exec
    sl_step
    isplitr
    · ipureintro; rfl
    sl_close

/-- The update of a block of rows. -/
@[irreducible] def segM (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (v3 : IVec S64x128 32) (k0_h3 : k0_cond3 i = 1#1) (v26 v36 v38 c2_i32 v42 v47 : BitVec 32) (v48 : BitVec 1) (X2 : BufTy.Contents (Elt F) u2.view.ty) (X3 : BufTy.Contents (Elt F) u3.view.ty) (X4 : BufTy.Contents (Elt F) u4.view.ty) (X5 : BufTy.Contents (Elt F) u5.view.ty) (X6 : BufTy.Contents (Elt F) u6.view.ty) (X7 : BufTy.Contents (Elt F) u7.view.ty) (X18 : BufTy.Contents (Elt F) u18.view.ty) (X21 : BufTy.Contents (Elt F) u21.view.ty) (f17 : BufTy.Contents (Elt F) u17.view.ty) (f16 : BufTy.Contents (Elt F) u16.view.ty) (f11 : BufTy.Contents (Elt F) u11.view.ty) (f13 : BufTy.Contents (Elt F) u13.view.ty) (f9 : BufTy.Contents (Elt F) u9.view.ty) (f10 : BufTy.Contents (Elt F) u10.view.ty) (f15 : BufTy.Contents (Elt F) u15.view.ty) (f19 : BufTy.Contents (Elt F) u19.view.ty) :
    Σ' (g17 : BufTy.Contents (Elt F) u17.view.ty) (g16 : BufTy.Contents (Elt F) u16.view.ty) (g11 : BufTy.Contents (Elt F) u11.view.ty) (g13 : BufTy.Contents (Elt F) u13.view.ty) (g9 : BufTy.Contents (Elt F) u9.view.ty) (g10 : BufTy.Contents (Elt F) u10.view.ty) (g15 : BufTy.Contents (Elt F) u15.view.ty) (g19 : BufTy.Contents (Elt F) u19.view.ty), { r' : (Σ' (v26 : BitVec 32) (v164 : BitVec 32), BitVec 32) // ∀ (E : Set ℕ),
      (iprop((u2.view.loc (c : Thread nD τ) ↦[u2.view.set]{fullShare} X2) ∗ (u3.view.loc (c : Thread nD τ) ↦[u3.view.set]{fullShare} X3) ∗ (u4.view.loc (c : Thread nD τ) ↦[u4.view.set]{fullShare} X4) ∗ (u5.view.loc (c : Thread nD τ) ↦[u5.view.set]{fullShare} X5) ∗ (u6.view.loc (c : Thread nD τ) ↦[u6.view.set]{fullShare} X6) ∗ (u7.view.loc (c : Thread nD τ) ↦[u7.view.set]{fullShare} X7) ∗ (u18.view.loc (c : Thread nD τ) ↦[u18.view.set]{fullShare} X18) ∗ (u21.view.loc (c : Thread nD τ) ↦[u21.view.set]{fullShare} X21) ∗ (u17.view.loc (c : Thread nD τ) ↦[u17.view.set]{fullShare} f17) ∗ (u16.view.loc (c : Thread nD τ) ↦[u16.view.set]{fullShare} f16) ∗ (u11.view.loc (c : Thread nD τ) ↦[u11.view.set]{fullShare} f11) ∗ (u13.view.loc (c : Thread nD τ) ↦[u13.view.set]{fullShare} f13) ∗ (u9.view.loc (c : Thread nD τ) ↦[u9.view.set]{fullShare} f9) ∗ (u10.view.loc (c : Thread nD τ) ↦[u10.view.set]{fullShare} f10) ∗ (u15.view.loc (c : Thread nD τ) ↦[u15.view.set]{fullShare} f15) ∗ (u19.view.loc (c : Thread nD τ) ↦[u19.view.set]{fullShare} f19)) : sProp 𝕄)
      ⊢ wp frame (wpE (defs₀ (F := F)) 𝒱 (c : Thread nD τ) bd) E (progM (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v26 v36 v38 c2_i32 v42 v47 v48)
          (fun r => iprop(⌜r = r'⌝ ∗ (u2.view.loc (c : Thread nD τ) ↦[u2.view.set]{fullShare} X2) ∗ (u3.view.loc (c : Thread nD τ) ↦[u3.view.set]{fullShare} X3) ∗ (u4.view.loc (c : Thread nD τ) ↦[u4.view.set]{fullShare} X4) ∗ (u5.view.loc (c : Thread nD τ) ↦[u5.view.set]{fullShare} X5) ∗ (u6.view.loc (c : Thread nD τ) ↦[u6.view.set]{fullShare} X6) ∗ (u7.view.loc (c : Thread nD τ) ↦[u7.view.set]{fullShare} X7) ∗ (u18.view.loc (c : Thread nD τ) ↦[u18.view.set]{fullShare} X18) ∗ (u21.view.loc (c : Thread nD τ) ↦[u21.view.set]{fullShare} X21) ∗ (u17.view.loc (c : Thread nD τ) ↦[u17.view.set]{fullShare} g17) ∗ (u16.view.loc (c : Thread nD τ) ↦[u16.view.set]{fullShare} g16) ∗ (u11.view.loc (c : Thread nD τ) ↦[u11.view.set]{fullShare} g11) ∗ (u13.view.loc (c : Thread nD τ) ↦[u13.view.set]{fullShare} g13) ∗ (u9.view.loc (c : Thread nD τ) ↦[u9.view.set]{fullShare} g9) ∗ (u10.view.loc (c : Thread nD τ) ↦[u10.view.set]{fullShare} g10) ∗ (u15.view.loc (c : Thread nD τ) ↦[u15.view.set]{fullShare} g15) ∗ (u19.view.loc (c : Thread nD τ) ↦[u19.view.set]{fullShare} g19))) } := by
  have hi : (i 0).val < 36 := (i 0).isLt
  refine ⟨?_, ?_, ?_, ?_, ?_, ?_, ?_, ?_, ?_, fun E => ?run⟩
  case run =>
    unfold progM
    iintro ⟨HR2, HR3, HR4, HR5, HR6, HR7, HR18, HR21, HW17, HW16, HW11, HW13, HW9, HW10, HW15, HW19⟩
    sl_exec
    sl_step
    isplitr
    · ipureintro; rfl
    sl_close

end Cert.KernelIdeal.Hand

end
-- ==== Proof.KernelIdeal.Body.lean ====
/-
  The whole body of the kernel at one grid point: what every buffer holds afterwards, as a relation to what it held before.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdeal.Segs
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F] [Named F]

local notation "𝕄" => MT nD τ sig Unit (Elt F) ℕ (UR sig nD τ) ℕ

/-- The first condition of the body: the first grid point. -/
abbrev cond1 (i : grid0.Coords) : BitVec 1 :=
  Scalar.cmpi .ne (Scalar.extui (Scalar.cmpi .eq (BitVec.ofNat 32 (i 0).val) 0#32) : BitVec 32) 0#32

/-- The row numbers of the lanes, as the body computes them once. -/
abbrev lanes : IVec S64x128 32 := iota .tc S64x128 32 [1] iota_S64x128_d1_w32

/-- The third block of the body. -/
def progU (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) : Prog (TpuEff nD τ sig (Elt F) Λ₀ .tc) PUnit := do
  if h3 : k0_cond3 i = 1#1 then do
    let r ← k0_part17 (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 (BitVec.ofNat 32 (i 0).val) h3
    let _ ← progM (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2
    if h5 : k0_cond5 i = 1#1 then progE (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h5 else pure ⟨⟩
  else pure ⟨⟩

/-- The body is its blocks in turn. -/
theorem cc_eq (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) : cc0_adamw_4bit (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21
    = ((if h1 : cond1 i = 1#1 then progI (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 else pure ⟨⟩) >>= fun _ =>
        (if h2 : k0_cond2 i = 1#1 then progR (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h2 else pure ⟨⟩) >>= fun _ =>
          progU (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21) := by
  rw [cc0_adamw_4bit_eq_skeleton]
  unfold cc0_adamw_4bit_skel progU progI progR progE progM
  dsimp only
  rw [k0_part20_eq_skeleton]; unfold k0_part20_skel
  by_cases h1 : cond1 i = 1#1 <;> by_cases h2 : k0_cond2 i = 1#1 <;> by_cases h3 : k0_cond3 i = 1#1 <;> by_cases h5 : k0_cond5 i = 1#1 <;>
    simp only [h1, h2, h3, h5, dite_true, dite_false, bind_assoc, pure_bind] <;> rfl
/-- The first block writes the constants at the first point and nothing else. -/
def initRel (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole)  (X1 : BufTy.Contents (Elt F) u1.view.ty) (f21 : BufTy.Contents (Elt F) u21.view.ty) (g21 : BufTy.Contents (Elt F) u21.view.ty) : Prop :=
  (∀ h : cond1 i = 1#1, g21 = (segI 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 X1 f21).1) ∧ (¬ cond1 i = 1#1 → g21 = f21)

theorem init_run (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole)  (X1 : BufTy.Contents (Elt F) u1.view.ty) (f21 : BufTy.Contents (Elt F) u21.view.ty) (E : Set ℕ) :
    (iprop((u1.view.loc (c : Thread nD τ) ↦[u1.view.set]{fullShare} X1) ∗ (u21.view.loc (c : Thread nD τ) ↦[u21.view.set]{fullShare} f21)) : sProp 𝕄)
      ⊢ wp frame (wpE (defs₀ (F := F)) 𝒱 (c : Thread nD τ) bd) E (if h : cond1 i = 1#1 then progI (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 else pure ⟨⟩)
        (fun _ => iprop(∃ g21, ⌜initRel 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21  X1 f21 g21⌝ ∗ (u1.view.loc (c : Thread nD τ) ↦[u1.view.set]{fullShare} X1) ∗ (u21.view.loc (c : Thread nD τ) ↦[u21.view.set]{fullShare} g21))) := by
  iintro ⟨H1, H21⟩
  by_cases h : cond1 i = 1#1
  · rw [dif_pos h]
    iapply (wp_wand_r frame _ E)
    isplitl [H1 H21]
    · iapply ((segI 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 X1 f21).2.2 E)
      isplitl [H1]; · iexact H1
      iexact H21
    iintro %r ⟨%hr, H1, H21⟩
    iexists ((segI 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 X1 f21).1)
    isplitr
    · ipureintro; exact ⟨fun _ => rfl, fun hn => absurd h hn⟩
    isplitl [H1]; · iexact H1
    iexact H21
  · rw [dif_neg h]
    rw [wp_pure]
    imodintro
    iexists _
    isplitr
    · ipureintro; exact ⟨fun hn => absurd hn h, fun _ => rfl⟩
    isplitl [H1]; · iexact H1
    iexact H21

/-- The second block writes the codes of the second moment of an earlier batch. -/
def codesRel (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole)  (X15 : BufTy.Contents (Elt F) u15.view.ty) (X16 : BufTy.Contents (Elt F) u16.view.ty) (X20 : BufTy.Contents (Elt F) u20.view.ty) (f12 : BufTy.Contents (Elt F) u12.view.ty) (g12 : BufTy.Contents (Elt F) u12.view.ty) : Prop :=
  (∀ h : k0_cond2 i = 1#1, g12 = (segR 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h X15 X16 X20 f12).1) ∧ (¬ k0_cond2 i = 1#1 → g12 = f12)

theorem codes_run (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole)  (X15 : BufTy.Contents (Elt F) u15.view.ty) (X16 : BufTy.Contents (Elt F) u16.view.ty) (X20 : BufTy.Contents (Elt F) u20.view.ty) (f12 : BufTy.Contents (Elt F) u12.view.ty) (E : Set ℕ) :
    (iprop((u15.view.loc (c : Thread nD τ) ↦[u15.view.set]{fullShare} X15) ∗ (u16.view.loc (c : Thread nD τ) ↦[u16.view.set]{fullShare} X16) ∗ (u20.view.loc (c : Thread nD τ) ↦[u20.view.set]{fullShare} X20) ∗ (u12.view.loc (c : Thread nD τ) ↦[u12.view.set]{fullShare} f12)) : sProp 𝕄)
      ⊢ wp frame (wpE (defs₀ (F := F)) 𝒱 (c : Thread nD τ) bd) E (if h : k0_cond2 i = 1#1 then progR (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h else pure ⟨⟩)
        (fun _ => iprop(∃ g12, ⌜codesRel 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21  X15 X16 X20 f12 g12⌝ ∗ (u15.view.loc (c : Thread nD τ) ↦[u15.view.set]{fullShare} X15) ∗ (u16.view.loc (c : Thread nD τ) ↦[u16.view.set]{fullShare} X16) ∗ (u20.view.loc (c : Thread nD τ) ↦[u20.view.set]{fullShare} X20) ∗ (u12.view.loc (c : Thread nD τ) ↦[u12.view.set]{fullShare} g12))) := by
  iintro ⟨H15, H16, H20, H12⟩
  by_cases h : k0_cond2 i = 1#1
  · rw [dif_pos h]
    iapply (wp_wand_r frame _ E)
    isplitl [H15 H16 H20 H12]
    · iapply ((segR 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h X15 X16 X20 f12).2.2 E)
      isplitl [H15]; · iexact H15
      isplitl [H16]; · iexact H16
      isplitl [H20]; · iexact H20
      iexact H12
    iintro %r ⟨%hr, H15, H16, H20, H12⟩
    iexists ((segR 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h X15 X16 X20 f12).1)
    isplitr
    · ipureintro; exact ⟨fun _ => rfl, fun hn => absurd h hn⟩
    isplitl [H15]; · iexact H15
    isplitl [H16]; · iexact H16
    isplitl [H20]; · iexact H20
    iexact H12
  · rw [dif_neg h]
    rw [wp_pure]
    imodintro
    iexists _
    isplitr
    · ipureintro; exact ⟨fun hn => absurd hn h, fun _ => rfl⟩
    isplitl [H15]; · iexact H15
    isplitl [H16]; · iexact H16
    isplitl [H20]; · iexact H20
    iexact H12

/-- The last block writes the column maxima at the end of a batch. -/
def colsRel (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (h3 : k0_cond3 i = 1#1) (X19 : BufTy.Contents (Elt F) u19.view.ty) (f14 : BufTy.Contents (Elt F) u14.view.ty) (f20 : BufTy.Contents (Elt F) u20.view.ty) (g14 : BufTy.Contents (Elt F) u14.view.ty) (g20 : BufTy.Contents (Elt F) u20.view.ty) : Prop :=
  (∀ h : k0_cond5 i = 1#1, g14 = (segE 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X19 f14 f20).1 ∧ g20 = (segE 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X19 f14 f20).2.1) ∧ (¬ k0_cond5 i = 1#1 → g14 = f14 ∧ g20 = f20)

theorem cols_run (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (h3 : k0_cond3 i = 1#1) (X19 : BufTy.Contents (Elt F) u19.view.ty) (f14 : BufTy.Contents (Elt F) u14.view.ty) (f20 : BufTy.Contents (Elt F) u20.view.ty) (E : Set ℕ) :
    (iprop((u19.view.loc (c : Thread nD τ) ↦[u19.view.set]{fullShare} X19) ∗ (u14.view.loc (c : Thread nD τ) ↦[u14.view.set]{fullShare} f14) ∗ (u20.view.loc (c : Thread nD τ) ↦[u20.view.set]{fullShare} f20)) : sProp 𝕄)
      ⊢ wp frame (wpE (defs₀ (F := F)) 𝒱 (c : Thread nD τ) bd) E (if h : k0_cond5 i = 1#1 then progE (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h else pure ⟨⟩)
        (fun _ => iprop(∃ g14 g20, ⌜colsRel 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 X19 f14 f20 g14 g20⌝ ∗ (u19.view.loc (c : Thread nD τ) ↦[u19.view.set]{fullShare} X19) ∗ (u14.view.loc (c : Thread nD τ) ↦[u14.view.set]{fullShare} g14) ∗ (u20.view.loc (c : Thread nD τ) ↦[u20.view.set]{fullShare} g20))) := by
  iintro ⟨H19, H14, H20⟩
  by_cases h : k0_cond5 i = 1#1
  · rw [dif_pos h]
    iapply (wp_wand_r frame _ E)
    isplitl [H19 H14 H20]
    · iapply ((segE 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X19 f14 f20).2.2.2 E)
      isplitl [H19]; · iexact H19
      isplitl [H14]; · iexact H14
      iexact H20
    iintro %r ⟨%hr, H19, H14, H20⟩
    iexists ((segE 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X19 f14 f20).1)
    iexists ((segE 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X19 f14 f20).2.1)
    isplitr
    · ipureintro; exact ⟨fun _ => ⟨rfl, rfl⟩, fun hn => absurd h hn⟩
    isplitl [H19]; · iexact H19
    isplitl [H14]; · iexact H14
    iexact H20
  · rw [dif_neg h]
    rw [wp_pure]
    imodintro
    iexists _
    iexists _
    isplitr
    · ipureintro; exact ⟨fun hn => absurd hn h, fun _ => ⟨rfl, rfl⟩⟩
    isplitl [H19]; · iexact H19
    isplitl [H14]; · iexact H14
    iexact H20

/-- What the third block's first part leaves. -/
def firstRel (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (h3 : k0_cond3 i = 1#1) (X8 : BufTy.Contents (Elt F) u8.view.ty) (f18 : BufTy.Contents (Elt F) u18.view.ty) (f19 : BufTy.Contents (Elt F) u19.view.ty) (g18 : BufTy.Contents (Elt F) u18.view.ty) (g19 : BufTy.Contents (Elt F) u19.view.ty) (r : (Σ' (v26 : BitVec 32) (v36 : BitVec 32) (v38 : BitVec 32) (c2_i32 : BitVec 32) (v42 : BitVec 32) (v47 : BitVec 32), BitVec 1)) : Prop :=
  (∀ h : k0_cond4 i = 1#1, g18 = (seg17 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X8 f18 f19).1 ∧ g19 = (seg17 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X8 f18 f19).2.1 ∧ r = (seg17 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X8 f18 f19).2.2.1)
  ∧ (∀ h : ¬ k0_cond4 i = 1#1, g18 = (seg17n 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X8 f18 f19).1 ∧ g19 = (seg17n 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X8 f18 f19).2.1 ∧ r = (seg17n 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X8 f18 f19).2.2.1)

theorem first_run (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (h3 : k0_cond3 i = 1#1) (X8 : BufTy.Contents (Elt F) u8.view.ty) (f18 : BufTy.Contents (Elt F) u18.view.ty) (f19 : BufTy.Contents (Elt F) u19.view.ty) (E : Set ℕ) :
    (iprop((u8.view.loc (c : Thread nD τ) ↦[u8.view.set]{fullShare} X8) ∗ (u18.view.loc (c : Thread nD τ) ↦[u18.view.set]{fullShare} f18) ∗ (u19.view.loc (c : Thread nD τ) ↦[u19.view.set]{fullShare} f19)) : sProp 𝕄)
      ⊢ wp frame (wpE (defs₀ (F := F)) 𝒱 (c : Thread nD τ) bd) E (k0_part17 (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 (BitVec.ofNat 32 (i 0).val) h3)
        (fun r => iprop(∃ g18 g19, ⌜firstRel 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 X8 f18 f19 g18 g19 r⌝ ∗ (u8.view.loc (c : Thread nD τ) ↦[u8.view.set]{fullShare} X8) ∗ (u18.view.loc (c : Thread nD τ) ↦[u18.view.set]{fullShare} g18) ∗ (u19.view.loc (c : Thread nD τ) ↦[u19.view.set]{fullShare} g19))) := by
  iintro ⟨H8, H18, H19⟩
  by_cases h : k0_cond4 i = 1#1
  · iapply (wp_wand_r frame _ E)
    isplitl [H8 H18 H19]
    · iapply ((seg17 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X8 f18 f19).2.2.2 E)
      isplitl [H8]; · iexact H8
      isplitl [H18]; · iexact H18
      iexact H19
    iintro %r ⟨%hr, H8, H18, H19⟩

    iexists ((seg17 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X8 f18 f19).1)
    iexists ((seg17 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X8 f18 f19).2.1)
    isplitr
    · ipureintro; exact ⟨fun _ => ⟨rfl, rfl, hr⟩, fun hn => absurd h hn⟩
    isplitl [H8]; · iexact H8
    isplitl [H18]; · iexact H18
    iexact H19

  · iapply (wp_wand_r frame _ E)
    isplitl [H8 H18 H19]
    · iapply ((seg17n 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X8 f18 f19).2.2.2 E)
      isplitl [H8]; · iexact H8
      isplitl [H18]; · iexact H18
      iexact H19
    iintro %r ⟨%hr, H8, H18, H19⟩

    iexists ((seg17n 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X8 f18 f19).1)
    iexists ((seg17n 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 h X8 f18 f19).2.1)
    isplitr
    · ipureintro; exact ⟨fun hn => absurd hn h, fun _ => ⟨rfl, rfl, hr⟩⟩
    isplitl [H8]; · iexact H8
    isplitl [H18]; · iexact H18
    iexact H19

/-- What the third block leaves: nothing changes after the last batch. -/
def stepRel (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (X2 : BufTy.Contents (Elt F) u2.view.ty) (X3 : BufTy.Contents (Elt F) u3.view.ty) (X4 : BufTy.Contents (Elt F) u4.view.ty) (X5 : BufTy.Contents (Elt F) u5.view.ty) (X6 : BufTy.Contents (Elt F) u6.view.ty) (X7 : BufTy.Contents (Elt F) u7.view.ty) (X8 : BufTy.Contents (Elt F) u8.view.ty) (X21 : BufTy.Contents (Elt F) u21.view.ty) (f9 : BufTy.Contents (Elt F) u9.view.ty) (f10 : BufTy.Contents (Elt F) u10.view.ty) (f11 : BufTy.Contents (Elt F) u11.view.ty) (f13 : BufTy.Contents (Elt F) u13.view.ty) (f14 : BufTy.Contents (Elt F) u14.view.ty) (f15 : BufTy.Contents (Elt F) u15.view.ty) (f16 : BufTy.Contents (Elt F) u16.view.ty) (f17 : BufTy.Contents (Elt F) u17.view.ty) (f18 : BufTy.Contents (Elt F) u18.view.ty) (f19 : BufTy.Contents (Elt F) u19.view.ty) (f20 : BufTy.Contents (Elt F) u20.view.ty) (g9 : BufTy.Contents (Elt F) u9.view.ty) (g10 : BufTy.Contents (Elt F) u10.view.ty) (g11 : BufTy.Contents (Elt F) u11.view.ty) (g13 : BufTy.Contents (Elt F) u13.view.ty) (g14 : BufTy.Contents (Elt F) u14.view.ty) (g15 : BufTy.Contents (Elt F) u15.view.ty) (g16 : BufTy.Contents (Elt F) u16.view.ty) (g17 : BufTy.Contents (Elt F) u17.view.ty) (g18 : BufTy.Contents (Elt F) u18.view.ty) (g19 : BufTy.Contents (Elt F) u19.view.ty) (g20 : BufTy.Contents (Elt F) u20.view.ty) : Prop :=
  (∀ h3 : k0_cond3 i = 1#1, ∃ (a19 : BufTy.Contents (Elt F) u19.view.ty) (b19 : BufTy.Contents (Elt F) u19.view.ty) (r : (Σ' (v26 : BitVec 32) (v36 : BitVec 32) (v38 : BitVec 32) (c2_i32 : BitVec 32) (v42 : BitVec 32) (v47 : BitVec 32), BitVec 1)),
    firstRel 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 X8 f18 f19 g18 a19 r
    ∧ (g17 = (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).1 ∧ g16 = (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.1 ∧ g11 = (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.1 ∧ g13 = (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.2.1 ∧ g9 = (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.2.2.1 ∧ g10 = (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.2.2.2.1 ∧ g15 = (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.2.2.2.2.1 ∧ b19 = (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.2.2.2.2.2.1)
    ∧ g19 = b19 ∧ colsRel 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 b19 f14 f20 g14 g20)
  ∧ (¬ k0_cond3 i = 1#1 → g9 = f9 ∧ g10 = f10 ∧ g11 = f11 ∧ g13 = f13 ∧ g14 = f14 ∧ g15 = f15 ∧ g16 = f16 ∧ g17 = f17 ∧ g18 = f18 ∧ g19 = f19 ∧ g20 = f20)

theorem step_run (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (X2 : BufTy.Contents (Elt F) u2.view.ty) (X3 : BufTy.Contents (Elt F) u3.view.ty) (X4 : BufTy.Contents (Elt F) u4.view.ty) (X5 : BufTy.Contents (Elt F) u5.view.ty) (X6 : BufTy.Contents (Elt F) u6.view.ty) (X7 : BufTy.Contents (Elt F) u7.view.ty) (X8 : BufTy.Contents (Elt F) u8.view.ty) (X21 : BufTy.Contents (Elt F) u21.view.ty) (f9 : BufTy.Contents (Elt F) u9.view.ty) (f10 : BufTy.Contents (Elt F) u10.view.ty) (f11 : BufTy.Contents (Elt F) u11.view.ty) (f13 : BufTy.Contents (Elt F) u13.view.ty) (f14 : BufTy.Contents (Elt F) u14.view.ty) (f15 : BufTy.Contents (Elt F) u15.view.ty) (f16 : BufTy.Contents (Elt F) u16.view.ty) (f17 : BufTy.Contents (Elt F) u17.view.ty) (f18 : BufTy.Contents (Elt F) u18.view.ty) (f19 : BufTy.Contents (Elt F) u19.view.ty) (f20 : BufTy.Contents (Elt F) u20.view.ty) (E : Set ℕ) :
    (iprop((u2.view.loc (c : Thread nD τ) ↦[u2.view.set]{fullShare} X2) ∗ (u3.view.loc (c : Thread nD τ) ↦[u3.view.set]{fullShare} X3) ∗ (u4.view.loc (c : Thread nD τ) ↦[u4.view.set]{fullShare} X4) ∗ (u5.view.loc (c : Thread nD τ) ↦[u5.view.set]{fullShare} X5) ∗ (u6.view.loc (c : Thread nD τ) ↦[u6.view.set]{fullShare} X6) ∗ (u7.view.loc (c : Thread nD τ) ↦[u7.view.set]{fullShare} X7) ∗ (u8.view.loc (c : Thread nD τ) ↦[u8.view.set]{fullShare} X8) ∗ (u21.view.loc (c : Thread nD τ) ↦[u21.view.set]{fullShare} X21) ∗ (u9.view.loc (c : Thread nD τ) ↦[u9.view.set]{fullShare} f9) ∗ (u10.view.loc (c : Thread nD τ) ↦[u10.view.set]{fullShare} f10) ∗ (u11.view.loc (c : Thread nD τ) ↦[u11.view.set]{fullShare} f11) ∗ (u13.view.loc (c : Thread nD τ) ↦[u13.view.set]{fullShare} f13) ∗ (u14.view.loc (c : Thread nD τ) ↦[u14.view.set]{fullShare} f14) ∗ (u15.view.loc (c : Thread nD τ) ↦[u15.view.set]{fullShare} f15) ∗ (u16.view.loc (c : Thread nD τ) ↦[u16.view.set]{fullShare} f16) ∗ (u17.view.loc (c : Thread nD τ) ↦[u17.view.set]{fullShare} f17) ∗ (u18.view.loc (c : Thread nD τ) ↦[u18.view.set]{fullShare} f18) ∗ (u19.view.loc (c : Thread nD τ) ↦[u19.view.set]{fullShare} f19) ∗ (u20.view.loc (c : Thread nD τ) ↦[u20.view.set]{fullShare} f20)) : sProp 𝕄)
      ⊢ wp frame (wpE (defs₀ (F := F)) 𝒱 (c : Thread nD τ) bd) E (progU (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21)
        (fun _ => iprop(∃ g9 g10 g11 g13 g14 g15 g16 g17 g18 g19 g20, ⌜stepRel 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 X2 X3 X4 X5 X6 X7 X8 X21 f9 f10 f11 f13 f14 f15 f16 f17 f18 f19 f20 g9 g10 g11 g13 g14 g15 g16 g17 g18 g19 g20⌝ ∗ (u2.view.loc (c : Thread nD τ) ↦[u2.view.set]{fullShare} X2) ∗ (u3.view.loc (c : Thread nD τ) ↦[u3.view.set]{fullShare} X3) ∗ (u4.view.loc (c : Thread nD τ) ↦[u4.view.set]{fullShare} X4) ∗ (u5.view.loc (c : Thread nD τ) ↦[u5.view.set]{fullShare} X5) ∗ (u6.view.loc (c : Thread nD τ) ↦[u6.view.set]{fullShare} X6) ∗ (u7.view.loc (c : Thread nD τ) ↦[u7.view.set]{fullShare} X7) ∗ (u8.view.loc (c : Thread nD τ) ↦[u8.view.set]{fullShare} X8) ∗ (u21.view.loc (c : Thread nD τ) ↦[u21.view.set]{fullShare} X21) ∗ (u9.view.loc (c : Thread nD τ) ↦[u9.view.set]{fullShare} g9) ∗ (u10.view.loc (c : Thread nD τ) ↦[u10.view.set]{fullShare} g10) ∗ (u11.view.loc (c : Thread nD τ) ↦[u11.view.set]{fullShare} g11) ∗ (u13.view.loc (c : Thread nD τ) ↦[u13.view.set]{fullShare} g13) ∗ (u14.view.loc (c : Thread nD τ) ↦[u14.view.set]{fullShare} g14) ∗ (u15.view.loc (c : Thread nD τ) ↦[u15.view.set]{fullShare} g15) ∗ (u16.view.loc (c : Thread nD τ) ↦[u16.view.set]{fullShare} g16) ∗ (u17.view.loc (c : Thread nD τ) ↦[u17.view.set]{fullShare} g17) ∗ (u18.view.loc (c : Thread nD τ) ↦[u18.view.set]{fullShare} g18) ∗ (u19.view.loc (c : Thread nD τ) ↦[u19.view.set]{fullShare} g19) ∗ (u20.view.loc (c : Thread nD τ) ↦[u20.view.set]{fullShare} g20))) := by
  unfold progU
  iintro ⟨H2, H3, H4, H5, H6, H7, H8, H21, H9, H10, H11, H13, H14, H15, H16, H17, H18, H19, H20⟩
  by_cases h3 : k0_cond3 i = 1#1
  · rw [dif_pos h3]
    rw [wp_bind]
    iapply (wp_wand_r frame _ E)
    isplitl [H8 H18 H19]
    · iapply (first_run 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 X8 f18 f19 E)
      isplitl [H8]; · iexact H8
      isplitl [H18]; · iexact H18
      iexact H19
    iintro %r ⟨%g18, %a19, %hfirst, H8, H18, H19⟩
    rw [wp_bind]
    iapply (wp_wand_r frame _ E)
    isplitl [H2 H3 H4 H5 H6 H7 H18 H21 H17 H16 H11 H13 H9 H10 H15 H19]
    · iapply ((segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.2.2.2.2.2.2.2 E)
      isplitl [H2]; · iexact H2
      isplitl [H3]; · iexact H3
      isplitl [H4]; · iexact H4
      isplitl [H5]; · iexact H5
      isplitl [H6]; · iexact H6
      isplitl [H7]; · iexact H7
      isplitl [H18]; · iexact H18
      isplitl [H21]; · iexact H21
      isplitl [H17]; · iexact H17
      isplitl [H16]; · iexact H16
      isplitl [H11]; · iexact H11
      isplitl [H13]; · iexact H13
      isplitl [H9]; · iexact H9
      isplitl [H10]; · iexact H10
      isplitl [H15]; · iexact H15
      iexact H19
    iintro %r2 ⟨%hr2, H2, H3, H4, H5, H6, H7, H18, H21, H17, H16, H11, H13, H9, H10, H15, H19⟩

    iapply (wp_wand_r frame _ E)
    isplitl [H19 H14 H20]
    · iapply (cols_run 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 h3 _ f14 f20 E)
      isplitl [H19]; · iexact H19
      isplitl [H14]; · iexact H14
      iexact H20
    iintro %r3 ⟨%g14, %g20, %hcols, H19, H14, H20⟩
    iexists (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.2.2.1
    iexists (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.2.2.2.1
    iexists (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.1
    iexists (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.2.1
    iexists g14
    iexists (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.2.2.2.2.1
    iexists (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.1
    iexists (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).1
    iexists g18
    iexists (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.2.2.2.2.2.1
    iexists g20
    isplitr
    · ipureintro
      exact ⟨fun _ => ⟨a19, (segM 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 lanes h3 r.1 r.2.1 r.2.2.1 r.2.2.2.1 r.2.2.2.2.1 r.2.2.2.2.2.1 r.2.2.2.2.2.2 X2 X3 X4 X5 X6 X7 g18 X21 f17 f16 f11 f13 f9 f10 f15 a19).2.2.2.2.2.2.2.1, r, hfirst, ⟨rfl, rfl, rfl, rfl, rfl, rfl, rfl, rfl⟩, rfl, hcols⟩, fun hn => absurd h3 hn⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H21]; · iexact H21
    isplitl [H9]; · iexact H9
    isplitl [H10]; · iexact H10
    isplitl [H11]; · iexact H11
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  · rw [dif_neg h3]
    rw [wp_pure]
    imodintro
    iexists _
    iexists _
    iexists _
    iexists _
    iexists _
    iexists _
    iexists _
    iexists _
    iexists _
    iexists _
    iexists _
    isplitr
    · ipureintro
      exact ⟨fun hn => absurd hn h3, fun _ => ⟨rfl, rfl, rfl, rfl, rfl, rfl, rfl, rfl, rfl, rfl, rfl⟩⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H21]; · iexact H21
    isplitl [H9]; · iexact H9
    isplitl [H10]; · iexact H10
    isplitl [H11]; · iexact H11
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20

/-- What the whole body leaves at a grid point. -/
structure BodyRel (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (X1 : BufTy.Contents (Elt F) u1.view.ty) (X2 : BufTy.Contents (Elt F) u2.view.ty) (X3 : BufTy.Contents (Elt F) u3.view.ty) (X4 : BufTy.Contents (Elt F) u4.view.ty) (X5 : BufTy.Contents (Elt F) u5.view.ty) (X6 : BufTy.Contents (Elt F) u6.view.ty) (X7 : BufTy.Contents (Elt F) u7.view.ty) (X8 : BufTy.Contents (Elt F) u8.view.ty) (f9 : BufTy.Contents (Elt F) u9.view.ty) (f10 : BufTy.Contents (Elt F) u10.view.ty) (f11 : BufTy.Contents (Elt F) u11.view.ty) (f12 : BufTy.Contents (Elt F) u12.view.ty) (f13 : BufTy.Contents (Elt F) u13.view.ty) (f14 : BufTy.Contents (Elt F) u14.view.ty) (f15 : BufTy.Contents (Elt F) u15.view.ty) (f16 : BufTy.Contents (Elt F) u16.view.ty) (f17 : BufTy.Contents (Elt F) u17.view.ty) (f18 : BufTy.Contents (Elt F) u18.view.ty) (f19 : BufTy.Contents (Elt F) u19.view.ty) (f20 : BufTy.Contents (Elt F) u20.view.ty) (f21 : BufTy.Contents (Elt F) u21.view.ty) (g9 : BufTy.Contents (Elt F) u9.view.ty) (g10 : BufTy.Contents (Elt F) u10.view.ty) (g11 : BufTy.Contents (Elt F) u11.view.ty) (g12 : BufTy.Contents (Elt F) u12.view.ty) (g13 : BufTy.Contents (Elt F) u13.view.ty) (g14 : BufTy.Contents (Elt F) u14.view.ty) (g15 : BufTy.Contents (Elt F) u15.view.ty) (g16 : BufTy.Contents (Elt F) u16.view.ty) (g17 : BufTy.Contents (Elt F) u17.view.ty) (g18 : BufTy.Contents (Elt F) u18.view.ty) (g19 : BufTy.Contents (Elt F) u19.view.ty) (g20 : BufTy.Contents (Elt F) u20.view.ty) (g21 : BufTy.Contents (Elt F) u21.view.ty) : Prop where
  init : initRel 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 X1 f21 g21
  codes : codesRel 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 f15 f16 f20 f12 g12
  step : stepRel 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 X2 X3 X4 X5 X6 X7 X8 g21 f9 f10 f11 f13 f14 f15 f16 f17 f18 f19 f20 g9 g10 g11 g13 g14 g15 g16 g17 g18 g19 g20

theorem body_run (𝒱 : Variants) (c : Dev nD) (bd : Option 𝒱.V) (i : grid0.Coords) (u1 : Memref sig .tc .smem S1 .i32) (p1 : u1.IsWhole) (u2 : Memref sig .tc .vmem S1x64x11008 .bf16) (p2 : u2.IsWhole) (u3 : Memref sig .tc .vmem S1x64x11008 .bf16) (p3 : u3.IsWhole) (u4 : Memref sig .tc .vmem S1x64x5504 .i8) (p4 : u4.IsWhole) (u5 : Memref sig .tc .vmem S1x64x86 .f32) (p5 : u5.IsWhole) (u6 : Memref sig .tc .vmem S1x64x5504 .i8) (p6 : u6.IsWhole) (u7 : Memref sig .tc .vmem S2x768 .f32) (p7 : u7.IsWhole) (u8 : Memref sig .tc .vmem S2x11008 .f32) (p8 : u8.IsWhole) (u9 : Memref sig .tc .vmem S1x64x11008 .f32) (p9 : u9.IsWhole) (u10 : Memref sig .tc .vmem S1x64x5504 .i8) (p10 : u10.IsWhole) (u11 : Memref sig .tc .vmem S1x64x86 .f32) (p11 : u11.IsWhole) (u12 : Memref sig .tc .vmem S1x64x5504 .i8) (p12 : u12.IsWhole) (u13 : Memref sig .tc .vmem S2x768 .f32) (p13 : u13.IsWhole) (u14 : Memref sig .tc .vmem S2x11008 .f32) (p14 : u14.IsWhole) (u15 : Memref sig .tc .vmem S768x11008 .f32) (p15 : u15.IsWhole) (u16 : Memref sig .tc .vmem S768x128 .f32) (p16 : u16.IsWhole) (u17 : Memref sig .tc .vmem S64x128 .f32) (p17 : u17.IsWhole) (u18 : Memref sig .tc .vmem S1x11008 .f32) (p18 : u18.IsWhole) (u19 : Memref sig .tc .vmem S8x11008 .f32) (p19 : u19.IsWhole) (u20 : Memref sig .tc .vmem S1x11008 .f32) (p20 : u20.IsWhole) (u21 : Memref sig .tc .vmem S2x8x128 .f32) (p21 : u21.IsWhole) (X1 : BufTy.Contents (Elt F) u1.view.ty) (X2 : BufTy.Contents (Elt F) u2.view.ty) (X3 : BufTy.Contents (Elt F) u3.view.ty) (X4 : BufTy.Contents (Elt F) u4.view.ty) (X5 : BufTy.Contents (Elt F) u5.view.ty) (X6 : BufTy.Contents (Elt F) u6.view.ty) (X7 : BufTy.Contents (Elt F) u7.view.ty) (X8 : BufTy.Contents (Elt F) u8.view.ty) (f9 : BufTy.Contents (Elt F) u9.view.ty) (f10 : BufTy.Contents (Elt F) u10.view.ty) (f11 : BufTy.Contents (Elt F) u11.view.ty) (f12 : BufTy.Contents (Elt F) u12.view.ty) (f13 : BufTy.Contents (Elt F) u13.view.ty) (f14 : BufTy.Contents (Elt F) u14.view.ty) (f15 : BufTy.Contents (Elt F) u15.view.ty) (f16 : BufTy.Contents (Elt F) u16.view.ty) (f17 : BufTy.Contents (Elt F) u17.view.ty) (f18 : BufTy.Contents (Elt F) u18.view.ty) (f19 : BufTy.Contents (Elt F) u19.view.ty) (f20 : BufTy.Contents (Elt F) u20.view.ty) (f21 : BufTy.Contents (Elt F) u21.view.ty) (E : Set ℕ) :
    (iprop((u1.view.loc (c : Thread nD τ) ↦[u1.view.set]{fullShare} X1) ∗ (u2.view.loc (c : Thread nD τ) ↦[u2.view.set]{fullShare} X2) ∗ (u3.view.loc (c : Thread nD τ) ↦[u3.view.set]{fullShare} X3) ∗ (u4.view.loc (c : Thread nD τ) ↦[u4.view.set]{fullShare} X4) ∗ (u5.view.loc (c : Thread nD τ) ↦[u5.view.set]{fullShare} X5) ∗ (u6.view.loc (c : Thread nD τ) ↦[u6.view.set]{fullShare} X6) ∗ (u7.view.loc (c : Thread nD τ) ↦[u7.view.set]{fullShare} X7) ∗ (u8.view.loc (c : Thread nD τ) ↦[u8.view.set]{fullShare} X8) ∗ (u9.view.loc (c : Thread nD τ) ↦[u9.view.set]{fullShare} f9) ∗ (u10.view.loc (c : Thread nD τ) ↦[u10.view.set]{fullShare} f10) ∗ (u11.view.loc (c : Thread nD τ) ↦[u11.view.set]{fullShare} f11) ∗ (u12.view.loc (c : Thread nD τ) ↦[u12.view.set]{fullShare} f12) ∗ (u13.view.loc (c : Thread nD τ) ↦[u13.view.set]{fullShare} f13) ∗ (u14.view.loc (c : Thread nD τ) ↦[u14.view.set]{fullShare} f14) ∗ (u15.view.loc (c : Thread nD τ) ↦[u15.view.set]{fullShare} f15) ∗ (u16.view.loc (c : Thread nD τ) ↦[u16.view.set]{fullShare} f16) ∗ (u17.view.loc (c : Thread nD τ) ↦[u17.view.set]{fullShare} f17) ∗ (u18.view.loc (c : Thread nD τ) ↦[u18.view.set]{fullShare} f18) ∗ (u19.view.loc (c : Thread nD τ) ↦[u19.view.set]{fullShare} f19) ∗ (u20.view.loc (c : Thread nD τ) ↦[u20.view.set]{fullShare} f20) ∗ (u21.view.loc (c : Thread nD τ) ↦[u21.view.set]{fullShare} f21)) : sProp 𝕄)
      ⊢ wp frame (wpE (defs₀ (F := F)) 𝒱 (c : Thread nD τ) bd) E (cc0_adamw_4bit (F := F) i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21)
        (fun _ => iprop(∃ g9 g10 g11 g12 g13 g14 g15 g16 g17 g18 g19 g20 g21, ⌜BodyRel 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 X1 X2 X3 X4 X5 X6 X7 X8 f9 f10 f11 f12 f13 f14 f15 f16 f17 f18 f19 f20 f21 g9 g10 g11 g12 g13 g14 g15 g16 g17 g18 g19 g20 g21⌝ ∗ (u1.view.loc (c : Thread nD τ) ↦[u1.view.set]{fullShare} X1) ∗ (u2.view.loc (c : Thread nD τ) ↦[u2.view.set]{fullShare} X2) ∗ (u3.view.loc (c : Thread nD τ) ↦[u3.view.set]{fullShare} X3) ∗ (u4.view.loc (c : Thread nD τ) ↦[u4.view.set]{fullShare} X4) ∗ (u5.view.loc (c : Thread nD τ) ↦[u5.view.set]{fullShare} X5) ∗ (u6.view.loc (c : Thread nD τ) ↦[u6.view.set]{fullShare} X6) ∗ (u7.view.loc (c : Thread nD τ) ↦[u7.view.set]{fullShare} X7) ∗ (u8.view.loc (c : Thread nD τ) ↦[u8.view.set]{fullShare} X8) ∗ (u9.view.loc (c : Thread nD τ) ↦[u9.view.set]{fullShare} g9) ∗ (u10.view.loc (c : Thread nD τ) ↦[u10.view.set]{fullShare} g10) ∗ (u11.view.loc (c : Thread nD τ) ↦[u11.view.set]{fullShare} g11) ∗ (u12.view.loc (c : Thread nD τ) ↦[u12.view.set]{fullShare} g12) ∗ (u13.view.loc (c : Thread nD τ) ↦[u13.view.set]{fullShare} g13) ∗ (u14.view.loc (c : Thread nD τ) ↦[u14.view.set]{fullShare} g14) ∗ (u15.view.loc (c : Thread nD τ) ↦[u15.view.set]{fullShare} g15) ∗ (u16.view.loc (c : Thread nD τ) ↦[u16.view.set]{fullShare} g16) ∗ (u17.view.loc (c : Thread nD τ) ↦[u17.view.set]{fullShare} g17) ∗ (u18.view.loc (c : Thread nD τ) ↦[u18.view.set]{fullShare} g18) ∗ (u19.view.loc (c : Thread nD τ) ↦[u19.view.set]{fullShare} g19) ∗ (u20.view.loc (c : Thread nD τ) ↦[u20.view.set]{fullShare} g20) ∗ (u21.view.loc (c : Thread nD τ) ↦[u21.view.set]{fullShare} g21))) := by
  rw [cc_eq]
  iintro ⟨H1, H2, H3, H4, H5, H6, H7, H8, H9, H10, H11, H12, H13, H14, H15, H16, H17, H18, H19, H20, H21⟩
  rw [wp_bind]
  iapply (wp_wand_r frame _ E)
  isplitl [H1 H21]
  · iapply (init_run 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 X1 f21 E)
    isplitl [H1]; · iexact H1
    iexact H21
  iintro %r1 ⟨%g21, %hi, H1, H21⟩
  rw [wp_bind]
  iapply (wp_wand_r frame _ E)
  isplitl [H15 H16 H20 H12]
  · iapply (codes_run 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 f15 f16 f20 f12 E)
    isplitl [H15]; · iexact H15
    isplitl [H16]; · iexact H16
    isplitl [H20]; · iexact H20
    iexact H12
  iintro %r2 ⟨%g12, %hc, H15, H16, H20, H12⟩
  iapply (wp_wand_r frame _ E)
  isplitl [H2 H3 H4 H5 H6 H7 H8 H21 H9 H10 H11 H13 H14 H15 H16 H17 H18 H19 H20]
  · iapply (step_run 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 X2 X3 X4 X5 X6 X7 X8 g21 f9 f10 f11 f13 f14 f15 f16 f17 f18 f19 f20 E)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H21]; · iexact H21
    isplitl [H9]; · iexact H9
    isplitl [H10]; · iexact H10
    isplitl [H11]; · iexact H11
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  iintro %r3 ⟨%g9, %g10, %g11, %g13, %g14, %g15, %g16, %g17, %g18, %g19, %g20, %hs, H2, H3, H4, H5, H6, H7, H8, H21, H9, H10, H11, H13, H14, H15, H16, H17, H18, H19, H20⟩
  iexists _
  iexists _
  iexists _
  iexists _
  iexists _
  iexists _
  iexists _
  iexists _
  iexists _
  iexists _
  iexists _
  iexists _
  iexists _
  isplitr
  · ipureintro; exact ⟨hi, hc, hs⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

end Cert.KernelIdeal.Hand

end
-- ==== Proof.KernelIdeal.Obl.lean ====
/-
  From what the body leaves at one point to the obligation of the whole run, for any invariant S of the scratch buffers and any relation O of the output blocks.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdeal.Body
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Contents of the seven scratch buffers. -/
abbrev Scr (F : FTy → Type) : Type := BufTy.Contents (Elt F) (Memref.whole cc0_scratch0).view.ty × BufTy.Contents (Elt F) (Memref.whole cc0_scratch1).view.ty × BufTy.Contents (Elt F) (Memref.whole cc0_scratch2).view.ty × BufTy.Contents (Elt F) (Memref.whole cc0_scratch3).view.ty × BufTy.Contents (Elt F) (Memref.whole cc0_scratch4).view.ty × BufTy.Contents (Elt F) (Memref.whole cc0_scratch5).view.ty × BufTy.Contents (Elt F) (Memref.whole cc0_scratch6).view.ty

/-- What one core's run is said to keep: an invariant of the scratch buffers before each point, and a relation of what each window's
    block holds after a point to what it held before. -/
structure Spec (F : FTy → Type) where
  S : ℕ → Scr F → Prop
  O : (w : Fin cfg0.W) → Fin cfg0.N → (Y X : (cfg0.win w).block.Idx → Elt F (cfg0.win w).elt) → Prop

/-- The scratch buffers at contents that meet the invariant. -/
def scr (c : Dev nD) (P : Scr F → Prop) : sProp 𝕄 :=
  iprop(∃ f15 f16 f17 f18 f19 f20 f21, ⌜P (f15, f16, f17, f18, f19, f20, f21)⌝ ∗ ((c : Thread nD τ).loc cc0_scratch0 ↦{fullShare} f15) ∗ ((c : Thread nD τ).loc cc0_scratch1 ↦{fullShare} f16) ∗ ((c : Thread nD τ).loc cc0_scratch2 ↦{fullShare} f17) ∗ ((c : Thread nD τ).loc cc0_scratch3 ↦{fullShare} f18) ∗ ((c : Thread nD τ).loc cc0_scratch4 ↦{fullShare} f19) ∗ ((c : Thread nD τ).loc cc0_scratch5 ↦{fullShare} f20) ∗ ((c : Thread nD τ).loc cc0_scratch6 ↦{fullShare} f21))

def rdat (sp : Dev nD → Spec F) (c : Dev nD) : RDat τ (Elt F) Unit ℕ (UR sig nD τ) ℕ cfg0 c where
  A := fun w => V m c (Pipeline.arrRef spec0 w)
  after := (sp c).O
  Φ := fun t => iprop(scr c ((sp c).S t.val) ∗ ∃ r, prngReg c r)
  q := fun _ => fullShare
  owed := fun _ => 0

/-- The body keeps the invariant and the relation at every point. -/
structure Keeps (sp : Dev nD → Spec F) (c : Dev nD) : Prop where
  input : ∀ (w : Fin cfg0.W) t Y, (cfg0.win w).isOut = false → (sp c).O w t Y Y
  step : ∀ (t : Fin cfg0.N) (Y : (w : Fin cfg0.W) → (cfg0.win w).block.Idx → Elt F (cfg0.win w).elt), (∀ w, (rdat m sp c).Finds w t (Y w)) →
    ∀ (f1 : BufTy.Contents (Elt F) (win0_0.stage (cfg0.slots t 0)).view.ty) (f2 : BufTy.Contents (Elt F) (win0_1.stage (cfg0.slots t 1)).view.ty) (f3 : BufTy.Contents (Elt F) (win0_2.stage (cfg0.slots t 2)).view.ty) (f4 : BufTy.Contents (Elt F) (win0_3.stage (cfg0.slots t 3)).view.ty) (f5 : BufTy.Contents (Elt F) (win0_4.stage (cfg0.slots t 4)).view.ty) (f6 : BufTy.Contents (Elt F) (win0_5.stage (cfg0.slots t 5)).view.ty) (f7 : BufTy.Contents (Elt F) (win0_6.stage (cfg0.slots t 6)).view.ty) (f8 : BufTy.Contents (Elt F) (win0_7.stage (cfg0.slots t 7)).view.ty) (f9 : BufTy.Contents (Elt F) (win0_8.stage (cfg0.slots t 8)).view.ty) (f10 : BufTy.Contents (Elt F) (win0_9.stage (cfg0.slots t 9)).view.ty) (f11 : BufTy.Contents (Elt F) (win0_10.stage (cfg0.slots t 10)).view.ty) (f12 : BufTy.Contents (Elt F) (win0_11.stage (cfg0.slots t 11)).view.ty) (f13 : BufTy.Contents (Elt F) (win0_12.stage (cfg0.slots t 12)).view.ty) (f14 : BufTy.Contents (Elt F) (win0_13.stage (cfg0.slots t 13)).view.ty) (f15 : BufTy.Contents (Elt F) (Memref.whole cc0_scratch0).view.ty) (f16 : BufTy.Contents (Elt F) (Memref.whole cc0_scratch1).view.ty) (f17 : BufTy.Contents (Elt F) (Memref.whole cc0_scratch2).view.ty) (f18 : BufTy.Contents (Elt F) (Memref.whole cc0_scratch3).view.ty) (f19 : BufTy.Contents (Elt F) (Memref.whole cc0_scratch4).view.ty) (f20 : BufTy.Contents (Elt F) (Memref.whole cc0_scratch5).view.ty) (f21 : BufTy.Contents (Elt F) (Memref.whole cc0_scratch6).view.ty),
    (win0_0.stage (cfg0.slots t 0)).view.read (Elt F) f1 = Y 0 → (win0_1.stage (cfg0.slots t 1)).view.read (Elt F) f2 = Y 1 → (win0_2.stage (cfg0.slots t 2)).view.read (Elt F) f3 = Y 2 → (win0_3.stage (cfg0.slots t 3)).view.read (Elt F) f4 = Y 3 → (win0_4.stage (cfg0.slots t 4)).view.read (Elt F) f5 = Y 4 → (win0_5.stage (cfg0.slots t 5)).view.read (Elt F) f6 = Y 5 → (win0_6.stage (cfg0.slots t 6)).view.read (Elt F) f7 = Y 6 → (win0_7.stage (cfg0.slots t 7)).view.read (Elt F) f8 = Y 7 → (win0_8.stage (cfg0.slots t 8)).view.read (Elt F) f9 = Y 8 → (win0_9.stage (cfg0.slots t 9)).view.read (Elt F) f10 = Y 9 → (win0_10.stage (cfg0.slots t 10)).view.read (Elt F) f11 = Y 10 → (win0_11.stage (cfg0.slots t 11)).view.read (Elt F) f12 = Y 11 → (win0_12.stage (cfg0.slots t 12)).view.read (Elt F) f13 = Y 12 → (win0_13.stage (cfg0.slots t 13)).view.read (Elt F) f14 = Y 13 → (sp c).S t.val (f15, f16, f17, f18, f19, f20, f21) →
    ∀ (g9 : BufTy.Contents (Elt F) (win0_8.stage (cfg0.slots t 8)).view.ty) (g10 : BufTy.Contents (Elt F) (win0_9.stage (cfg0.slots t 9)).view.ty) (g11 : BufTy.Contents (Elt F) (win0_10.stage (cfg0.slots t 10)).view.ty) (g12 : BufTy.Contents (Elt F) (win0_11.stage (cfg0.slots t 11)).view.ty) (g13 : BufTy.Contents (Elt F) (win0_12.stage (cfg0.slots t 12)).view.ty) (g14 : BufTy.Contents (Elt F) (win0_13.stage (cfg0.slots t 13)).view.ty) (g15 : BufTy.Contents (Elt F) (Memref.whole cc0_scratch0).view.ty) (g16 : BufTy.Contents (Elt F) (Memref.whole cc0_scratch1).view.ty) (g17 : BufTy.Contents (Elt F) (Memref.whole cc0_scratch2).view.ty) (g18 : BufTy.Contents (Elt F) (Memref.whole cc0_scratch3).view.ty) (g19 : BufTy.Contents (Elt F) (Memref.whole cc0_scratch4).view.ty) (g20 : BufTy.Contents (Elt F) (Memref.whole cc0_scratch5).view.ty) (g21 : BufTy.Contents (Elt F) (Memref.whole cc0_scratch6).view.ty),
    BodyRel Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f1 f2 f3 f4 f5 f6 f7 f8 f9 f10 f11 f12 f13 f14 f15 f16 f17 f18 f19 f20 f21 g9 g10 g11 g12 g13 g14 g15 g16 g17 g18 g19 g20 g21 →
    (sp c).S (t.val + 1) (g15, g16, g17, g18, g19, g20, g21) ∧ (sp c).O 8 t (Y 8) ((win0_8.stage (cfg0.slots t 8)).view.read (Elt F) g9) ∧ (sp c).O 9 t (Y 9) ((win0_9.stage (cfg0.slots t 9)).view.read (Elt F) g10) ∧ (sp c).O 10 t (Y 10) ((win0_10.stage (cfg0.slots t 10)).view.read (Elt F) g11) ∧ (sp c).O 11 t (Y 11) ((win0_11.stage (cfg0.slots t 11)).view.read (Elt F) g12) ∧ (sp c).O 12 t (Y 12) ((win0_12.stage (cfg0.slots t 12)).view.read (Elt F) g13) ∧ (sp c).O 13 t (Y 13) ((win0_13.stage (cfg0.slots t 13)).view.read (Elt F) g14)

theorem sound_body (sp : Dev nD → Spec F) (c : Dev nD) (hk : Keeps m sp c) (t : Fin cfg0.N) (Y : (w : Fin cfg0.W) → (cfg0.win w).block.Idx → Elt F (cfg0.win w).elt)
    (hY : ∀ w, (rdat m sp c).Finds w t (Y w)) :
    (iprop((rdat m sp c).Φ t.castSucc ∗ (rdat m sp c).owesAt () t.castSucc ∗ owns c (win0_0.stage (cfg0.slots t 0)) fullShare (Y 0) ∗ owns c (win0_1.stage (cfg0.slots t 1)) fullShare (Y 1) ∗ owns c (win0_2.stage (cfg0.slots t 2)) fullShare (Y 2) ∗ owns c (win0_3.stage (cfg0.slots t 3)) fullShare (Y 3) ∗ owns c (win0_4.stage (cfg0.slots t 4)) fullShare (Y 4) ∗ owns c (win0_5.stage (cfg0.slots t 5)) fullShare (Y 5) ∗ owns c (win0_6.stage (cfg0.slots t 6)) fullShare (Y 6) ∗ owns c (win0_7.stage (cfg0.slots t 7)) fullShare (Y 7) ∗ owns c (win0_8.stage (cfg0.slots t 8)) fullShare (Y 8) ∗ owns c (win0_9.stage (cfg0.slots t 9)) fullShare (Y 9) ∗ owns c (win0_10.stage (cfg0.slots t 10)) fullShare (Y 10) ∗ owns c (win0_11.stage (cfg0.slots t 11)) fullShare (Y 11) ∗ owns c (win0_12.stage (cfg0.slots t 12)) fullShare (Y 12) ∗ owns c (win0_13.stage (cfg0.slots t 13)) fullShare (Y 13)) : sProp 𝕄)
      ⊢ wp frame (wpE (defs₀ (F := F)) Variants.none c none) Set.univ (bodyAt0 t) (fun _ =>
        iprop((rdat m sp c).Φ t.succ ∗ (rdat m sp c).owesAt () t.succ ∗ (∃ X, ⌜(rdat m sp c).after 0 t (Y 0) X⌝ ∗ owns c (win0_0.stage (cfg0.slots t 0)) fullShare X) ∗ (∃ X, ⌜(rdat m sp c).after 1 t (Y 1) X⌝ ∗ owns c (win0_1.stage (cfg0.slots t 1)) fullShare X) ∗ (∃ X, ⌜(rdat m sp c).after 2 t (Y 2) X⌝ ∗ owns c (win0_2.stage (cfg0.slots t 2)) fullShare X) ∗ (∃ X, ⌜(rdat m sp c).after 3 t (Y 3) X⌝ ∗ owns c (win0_3.stage (cfg0.slots t 3)) fullShare X) ∗ (∃ X, ⌜(rdat m sp c).after 4 t (Y 4) X⌝ ∗ owns c (win0_4.stage (cfg0.slots t 4)) fullShare X) ∗ (∃ X, ⌜(rdat m sp c).after 5 t (Y 5) X⌝ ∗ owns c (win0_5.stage (cfg0.slots t 5)) fullShare X) ∗ (∃ X, ⌜(rdat m sp c).after 6 t (Y 6) X⌝ ∗ owns c (win0_6.stage (cfg0.slots t 6)) fullShare X) ∗ (∃ X, ⌜(rdat m sp c).after 7 t (Y 7) X⌝ ∗ owns c (win0_7.stage (cfg0.slots t 7)) fullShare X) ∗ (∃ X, ⌜(rdat m sp c).after 8 t (Y 8) X⌝ ∗ owns c (win0_8.stage (cfg0.slots t 8)) fullShare X) ∗ (∃ X, ⌜(rdat m sp c).after 9 t (Y 9) X⌝ ∗ owns c (win0_9.stage (cfg0.slots t 9)) fullShare X) ∗ (∃ X, ⌜(rdat m sp c).after 10 t (Y 10) X⌝ ∗ owns c (win0_10.stage (cfg0.slots t 10)) fullShare X) ∗ (∃ X, ⌜(rdat m sp c).after 11 t (Y 11) X⌝ ∗ owns c (win0_11.stage (cfg0.slots t 11)) fullShare X) ∗ (∃ X, ⌜(rdat m sp c).after 12 t (Y 12) X⌝ ∗ owns c (win0_12.stage (cfg0.slots t 12)) fullShare X) ∗ (∃ X, ⌜(rdat m sp c).after 13 t (Y 13) X⌝ ∗ owns c (win0_13.stage (cfg0.slots t 13)) fullShare X))) := by
  unfold bodyAt0
  rw [show (rdat m sp c).Φ t.castSucc = iprop(scr c ((sp c).S t.val) ∗ ∃ r, prngReg c r) from rfl,
    show (rdat m sp c).Φ t.succ = iprop(scr c ((sp c).S (t.val + 1)) ∗ ∃ r, prngReg c r) from rfl]
  unfold scr RDat.owesAt Pipeline.owesWithin
  rw [show (rdat m sp c).owed t.castSucc = 0 from rfl, show (rdat m sp c).owed t.succ = 0 from rfl]
  unfold owns
  iintro ⟨⟨⟨%f15, %f16, %f17, %f18, %f19, %f20, %f21, %hS, H15, H16, H17, H18, H19, H20, H21⟩, Hg⟩, ⟨%W, -, HW⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩⟩
  iapply (wp_wand_r frame _ Set.univ)
  isplitl [H1 H2 H3 H4 H5 H6 H7 H8 H9 H10 H11 H12 H13 H14 H15 H16 H17 H18 H19 H20 H21]
  · iapply (body_run Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f1 f2 f3 f4 f5 f6 f7 f8 f9 f10 f11 f12 f13 f14 f15 f16 f17 f18 f19 f20 f21 Set.univ)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    simp only [Memref.view_whole, View.set_whole]
    isplitl [H15]; · iexact H15
    isplitl [H16]; · iexact H16
    isplitl [H17]; · iexact H17
    isplitl [H18]; · iexact H18
    isplitl [H19]; · iexact H19
    isplitl [H20]; · iexact H20
    iexact H21
  iintro %r ⟨%g9, %g10, %g11, %g12, %g13, %g14, %g15, %g16, %g17, %g18, %g19, %g20, %g21, %hrel, H1, H2, H3, H4, H5, H6, H7, H8, H9, H10, H11, H12, H13, H14, H15, H16, H17, H18, H19, H20, H21⟩
  have hs := hk.step t Y hY f1 f2 f3 f4 f5 f6 f7 f8 f9 f10 f11 f12 f13 f14 f15 f16 f17 f18 f19 f20 f21 e1 e2 e3 e4 e5 e6 e7 e8 e9 e10 e11 e12 e13 e14 hS g9 g10 g11 g12 g13 g14 g15 g16 g17 g18 g19 g20 g21 hrel
  isplitl [H15 H16 H17 H18 H19 H20 H21 Hg]
  · isplitl [H15 H16 H17 H18 H19 H20 H21]
    · iexists g15
      iexists g16
      iexists g17
      iexists g18
      iexists g19
      iexists g20
      iexists g21
      isplitr
      · ipureintro; exact hs.1
      simp only [Memref.view_whole, View.set_whole]
      isplitl [H15]; · iexact H15
      isplitl [H16]; · iexact H16
      isplitl [H17]; · iexact H17
      isplitl [H18]; · iexact H18
      isplitl [H19]; · iexact H19
      isplitl [H20]; · iexact H20
      iexact H21
    iexact Hg
  isplitl [HW]
  · iexists W; isplitr; · ipureintro; exact fun _ _ => Or.inl trivial
    iexact HW
  isplitl [H1]
  · iexists (Y 0); isplitr
    · ipureintro; exact hk.input 0 t _ rfl
    iexists f1; isplitr
    · ipureintro; exact e1
    iexact H1
  isplitl [H2]
  · iexists (Y 1); isplitr
    · ipureintro; exact hk.input 1 t _ rfl
    iexists f2; isplitr
    · ipureintro; exact e2
    iexact H2
  isplitl [H3]
  · iexists (Y 2); isplitr
    · ipureintro; exact hk.input 2 t _ rfl
    iexists f3; isplitr
    · ipureintro; exact e3
    iexact H3
  isplitl [H4]
  · iexists (Y 3); isplitr
    · ipureintro; exact hk.input 3 t _ rfl
    iexists f4; isplitr
    · ipureintro; exact e4
    iexact H4
  isplitl [H5]
  · iexists (Y 4); isplitr
    · ipureintro; exact hk.input 4 t _ rfl
    iexists f5; isplitr
    · ipureintro; exact e5
    iexact H5
  isplitl [H6]
  · iexists (Y 5); isplitr
    · ipureintro; exact hk.input 5 t _ rfl
    iexists f6; isplitr
    · ipureintro; exact e6
    iexact H6
  isplitl [H7]
  · iexists (Y 6); isplitr
    · ipureintro; exact hk.input 6 t _ rfl
    iexists f7; isplitr
    · ipureintro; exact e7
    iexact H7
  isplitl [H8]
  · iexists (Y 7); isplitr
    · ipureintro; exact hk.input 7 t _ rfl
    iexists f8; isplitr
    · ipureintro; exact e8
    iexact H8
  isplitl [H9]
  · iexists _; isplitr
    · ipureintro; exact hs.2.1
    iexists g9; isplitr
    · ipureintro; rfl
    iexact H9
  isplitl [H10]
  · iexists _; isplitr
    · ipureintro; exact hs.2.2.1
    iexists g10; isplitr
    · ipureintro; rfl
    iexact H10
  isplitl [H11]
  · iexists _; isplitr
    · ipureintro; exact hs.2.2.2.1
    iexists g11; isplitr
    · ipureintro; rfl
    iexact H11
  isplitl [H12]
  · iexists _; isplitr
    · ipureintro; exact hs.2.2.2.2.1
    iexists g12; isplitr
    · ipureintro; rfl
    iexact H12
  isplitl [H13]
  · iexists _; isplitr
    · ipureintro; exact hs.2.2.2.2.2.1
    iexists g13; isplitr
    · ipureintro; rfl
    iexact H13
  iexists _; isplitr
  · ipureintro; exact hs.2.2.2.2.2.2
  iexists g14; isplitr
  · ipureintro; rfl
  iexact H14

theorem defs₀_row (t : Fin cfg0.N) :
    defs₀ (F := F) .tc cfg0.body (cfg0.bodyArgs t (cfg0.slots t)) = bodyAt0 t := by
  unfold defs₀; rw [Defs.onTc_tc]

theorem body_obligation (sp : Dev nD → Spec F) (c : Dev nD) (hk : Keeps m sp c) :
    (rdat m sp c).BodyObligation (defs₀ (F := F)) Variants.none () Set.univ := fun t Y hY => by
  rw [bigSep_W0, bigSep_W0, defs₀_row]
  exact triple_restated (sound_body m sp c hk t Y hY) rfl .rfl fun _ => .rfl

theorem scr_of_rest (c : Dev nD) (P : Scr F → Prop) (hP : ∀ f, P f) :
    (Pipeline.ΦA spec0 c : sProp 𝕄) ⊢ iprop(scr c P ∗ ∃ r, prngReg c r) := by
  unfold Pipeline.ΦA scr
  rw [scopedRest0_eq]
  iintro ⟨⟨⟨%f15, H15⟩, ⟨%f16, H16⟩, ⟨%f17, H17⟩, ⟨%f18, H18⟩, ⟨%f19, H19⟩, ⟨%f20, H20⟩, ⟨%f21, H21⟩⟩, Hg⟩
  isplitl [H15 H16 H17 H18 H19 H20 H21]
  · iexists f15
    iexists f16
    iexists f17
    iexists f18
    iexists f19
    iexists f20
    iexists f21
    isplitr
    · ipureintro; exact hP _
    isplitl [H15]; · iexact H15
    isplitl [H16]; · iexact H16
    isplitl [H17]; · iexact H17
    isplitl [H18]; · iexact H18
    isplitl [H19]; · iexact H19
    isplitl [H20]; · iexact H20
    iexact H21
  iexact Hg

theorem rest_of_scr (c : Dev nD) (P : Scr F → Prop) :
    iprop(scr c P ∗ ∃ r, prngReg c r) ⊢ (Pipeline.ΦA spec0 c : sProp 𝕄) := by
  unfold Pipeline.ΦA scr
  rw [scopedRest0_eq]
  iintro ⟨⟨%f15, %f16, %f17, %f18, %f19, %f20, %f21, %hS, H15, H16, H17, H18, H19, H20, H21⟩, Hg⟩
  isplitl [H15 H16 H17 H18 H19 H20 H21]
  · isplitl [H15]; · iexists f15; iexact H15
    isplitl [H16]; · iexists f16; iexact H16
    isplitl [H17]; · iexists f17; iexact H17
    isplitl [H18]; · iexists f18; iexact H18
    isplitl [H19]; · iexists f19; iexact H19
    isplitl [H20]; · iexists f20; iexact H20
    iexists f21; iexact H21
  iexact Hg

/-- The run, for any invariant and relation the body keeps: every array at contents the relation allows, every counter at zero. -/
theorem run_main (sp : Dev nD → Spec F) (hk : ∀ c, Keeps m sp c) (h0 : ∀ c f, (sp c).S 0 f) :
    θ_run defs (onTc (τ := τ) (main (F := F))) (s₀ m ρ)
      (fun r => RDat.FramePost cfg0 (rdat m sp) (V m) r ∧ r.2.sem = fun _ => 0) :=
  RDat.θ_run_frame_track (Q' := _) cfgs (0 : Fin 1) launch0 defs₀ Variants.none (rdat m sp) m ρ main
    (hbody := fun c => body_obligation m sp c (hk c)) (hshare := fun c w => by unfold RDat.share; split <;> rfl)
    (howed := fun _ _ => rfl) (V := V m) (hmain := hmain m Variants.none) (hA := fun _ _ => rfl)
    (hin := fun c => scr_of_rest c _ (h0 c)) (hout := fun c => rest_of_scr c _)

/-- The arguments end as they were. -/
theorem args_kept (sp : Dev nD → Spec F) (r : PUnit × MemSt nD τ sig (Elt F)) (h : RDat.FramePost cfg0 (rdat m sp) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(h.arr_in c 1 rfl).trans (V_main_arg0 m c),
    (h.arr_in c 2 rfl).trans (V_main_arg1 m c),
    ((h c).2 main_arg2 (Pipeline.mem_restRefs_of main_arg2 (by decide) (by decide))).trans (V_main_arg2 m c),
    (h.arr_in c 3 rfl).trans (V_main_arg3 m c),
    (h.arr_in c 4 rfl).trans (V_main_arg4 m c),
    (h.arr_in c 5 rfl).trans (V_main_arg5 m c),
    (h.arr_in c 6 rfl).trans (V_main_arg6 m c),
    (h.arr_in c 7 rfl).trans (V_main_arg7 m c)⟩

/-- The claim that says nothing of the results. -/
def trivialSpec : Dev nD → Spec F := fun _ => ⟨fun _ _ => True, fun _ _ _ _ => True⟩

theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨args_kept m trivialSpec r h.1, h.2⟩)
    (run_main m ρ trivialSpec (fun _ => ⟨fun _ _ _ _ => trivial, by intros; exact ⟨trivial, trivial, trivial, trivial, trivial, trivial, trivial⟩⟩) (fun _ _ => trivial))

end Cert.KernelIdeal.Hand

end
-- ==== Proof.KernelIdeal.Pay.lean ====
/-
  The update step read at one element: the closed forms of the two moments, the update and the codes of a block of rows, and what each
  payload of a trip is at an element.
-/
module

public import proofs.«01_k».proof.Proof.Gen.KernelIdeal.Skeleton
public import Idealize.ShloMosaic.Lib.Pointwise
public import Idealize.ShloMosaic.Lib.WritesUnit
@[expose] public section

set_option maxRecDepth 16384

noncomputable section

namespace Cert.KernelIdeal.Hand

open Cert.KernelIdeal Cert.KernelIdeal.Gen
open Idealize.ShloMosaic Idealize.ShloMosaic.Tactic

/-- A packed byte's low (`h = 0`) or high nibble. -/
def nibW (h : ℕ) (x : BitVec 8) : BitVec 32 :=
  if h = 0 then IntOp.andi (BitVec.setWidth 32 x) 15#32 else IntOp.shrsi .vector (BitVec.setWidth 32 x) 4#32

/-- A nibble as an unsigned number. -/
def ucode (b : BitVec 32) : EReal := FloatOps.sitofp (F := Ideal) .f32 b

/-- A nibble as a signed number. -/
def scode (b : BitVec 32) : EReal := FloatOps.sitofp (F := Ideal) .f32 (IntOp.subi (IntOp.xori b 8#32) 8#32)

/-- The constants 9, 62.4375, 7, -7, 16 as the kernel prints them. -/
def k9 : EReal := Ideal.ofBits .f32 1091567616#32
def k62 : EReal := Ideal.ofBits .f32 0x4279C000#32
def k7 : EReal := Ideal.ofBits .f32 0x40E00000#32
def km7 : EReal := Ideal.ofBits .f32 0xC0E00000#32
def k16 : EReal := Ideal.ofBits .f32 0x41800000#32
def kbot : EReal := Ideal.ofBits .f32 0xFF800000#32
def klr : EReal := Named.named (F := Ideal) κ "lr_tenth" (φ := .f32) 0x37FBA882#32
def keps : EReal := Named.named (F := Ideal) κ "eps" (φ := .f32) 0x322BCC77#32
def ktenth : EReal := Named.named (F := Ideal) κ "tenth" (φ := .f32) 0x3DCCCCCD#32
def kthou : EReal := Named.named (F := Ideal) κ "thousandth" (φ := .f32) 0x3A83126F#32

/-- The scaled first moment of an element. -/
def mEl (h : ℕ) (c : BitVec 8) (s9 g : EReal) : EReal := scode (nibW h c) * s9 + g
/-- The scaled second moment of an element. -/
def vEl (h : ℕ) (c : BitVec 8) (rn cn g : EReal) : EReal := (ucode (nibW h c) + 1) * min rn cn + g * g
/-- The update of an element. -/
def dEl (a e m v w : EReal) : EReal :=
  m * Ideal.div 1 (Ideal.div 1 (Ideal.rsqrt v) + e) * a + w * klr
/-- The scale that a block's absolute maximum gives. -/
def sEl (a : EReal) : EReal := if a = 0 then 1 else Ideal.div a k7
/-- The signed code of an element under a block's absolute maximum. -/
def qEl (a m : EReal) : BitVec 32 :=
  IntOp.andi (FloatOps.fptosi (F := Ideal) (φ := .f32) 32 (FloatOps.roundeven (F := Ideal) (φ := .f32) (min (max (m * Ideal.div 1 (sEl a)) km7) k7))) 15#32
/-- Two codes in a byte. -/
def packEl (lo hi : BitVec 32) : BitVec 8 := BitVec.setWidth 8 (IntOp.ori lo (IntOp.shli .vector hi 4#32))
/-- The unsigned code of a second moment under the larger of the two inverse norms. -/
def uEl (v inv : EReal) : BitVec 32 :=
  IntOp.andi (FloatOps.fptosi (F := Ideal) (φ := .f32) 32 (FloatOps.roundeven (F := Ideal) (φ := .f32) (min (max (v * inv) 1) k16 - 1))) 15#32
/-- The fold of `max` over 128 lanes. -/
def max128 (f : Fin 128 → EReal) : EReal := Finset.fold max kbot f Finset.univ

section
variable (nib : Vec Ideal S1x64x128 .i8) (g w : Vec Ideal S1x64x128 .bf16) (rn : Vec Ideal S64x128 .f32) (cn : Vec Ideal S1x128 .f32)
  (v3 : IVec S64x128 32) (kw : BitVec 32) (ms : Vec Ideal S1x64x86 .f32) (r : Fin 64) (l : Fin 128)

theorem pay87_at : k0_pay87 (F := Ideal) (k0_pay80 nib) (k0_pay82 g) rn cn (ix2 r l) = vEl 0 (nib (ix3 0 r l)) (rn (ix2 r l)) (cn (ix2 0 l)) (g (ix3 0 r l)) := by
  pointwise [k0_pay87, k0_pay80, k0_pay79, k0_pay82]; rfl
theorem pay100_at : k0_pay100 (F := Ideal) (k0_pay81 nib) (k0_pay96 g) rn cn (ix2 r l) = vEl 1 (nib (ix3 0 r l)) (rn (ix2 r l)) (cn (ix2 0 l)) (g (ix3 0 r l)) := by
  pointwise [k0_pay100, k0_pay81, k0_pay79, k0_pay96]; rfl
theorem pay88_at : k0_pay88 (F := Ideal) (k0_pay80 nib) (k0_pay82 g) rn cn (ix2 r l) = vEl 0 (nib (ix3 0 r l)) (rn (ix2 r l)) (cn (ix2 0 l)) (g (ix3 0 r l)) := by
  pointwise [k0_pay88]; exact pay87_at nib g rn cn r l
theorem pay101_at : k0_pay101 (F := Ideal) (k0_pay81 nib) (k0_pay96 g) rn cn (ix2 r l) = vEl 1 (nib (ix3 0 r l)) (rn (ix2 r l)) (cn (ix2 0 l)) (g (ix3 0 r l)) := by
  pointwise [k0_pay101]; exact pay100_at nib g rn cn r l
theorem pay89_at (x : Vec Ideal S64x128 .f32) : k0_pay89 (F := Ideal) (k0_pay80 nib) (k0_pay82 g) rn cn x (ix2 r l) = max (x (ix2 r l)) (vEl 0 (nib (ix3 0 r l)) (rn (ix2 r l)) (cn (ix2 0 l)) (g (ix3 0 r l))) := by
  rw [← pay87_at]; pointwise [k0_pay89]
theorem pay102_at (x : Vec Ideal S64x128 .f32) : k0_pay102 (F := Ideal) (k0_pay81 nib) (k0_pay96 g) rn cn x (ix2 r l) = max (x (ix2 r l)) (vEl 1 (nib (ix3 0 r l)) (rn (ix2 r l)) (cn (ix2 0 l)) (g (ix3 0 r l))) := by
  rw [← pay100_at]; pointwise [k0_pay102]

/-- The picked scale: one lane's scale, times nine. -/
theorem pick_sum (k : Fin 86) (f : Fin 86 → EReal) (hv : ∀ x : Fin 86, v3 (ix2 r ⟨x.val, by omega⟩) = BitVec.ofNat 32 x.val) :
    (∑ x : Fin 86, Scalar.select (IntOp.cmpi CmpIPredicate.eq (v3 (ix2 r ⟨x.val, by omega⟩)) (BitVec.ofNat 32 k.val)) (f x) 0) = f k := by
  rw [Finset.sum_eq_single k]
  · rw [hv]; simp [Scalar.select, IntOp.cmpi]
  · intro b _ hb
    rw [hv]
    have : BitVec.ofNat 32 b.val ≠ BitVec.ofNat 32 k.val := by
      intro h; have := congrArg BitVec.toNat h
      simp only [BitVec.toNat_ofNat] at this
      rw [Nat.mod_eq_of_lt (by omega), Nat.mod_eq_of_lt (by omega)] at this
      exact hb (Fin.ext this)
    simp [Scalar.select, IntOp.cmpi, beq_eq_false_iff_ne.mpr this]
  · intro h; exact absurd (Finset.mem_univ _) h

theorem pay86_at (k : Fin 86) (hv : ∀ x : Fin 86, v3 (ix2 r ⟨x.val, by omega⟩) = BitVec.ofNat 32 x.val) :
    k0_pay86 (F := Ideal) v3 (k0_pay116 ms) (k0_pay77 nib) (BitVec.ofNat 32 k.val) (k0_pay82 g) (ix2 r l) = mEl 0 (nib (ix3 0 r l)) (ms (ix3 0 r k) * k9) (g (ix3 0 r l)) := by
  pointwise [k0_pay86, k0_pay85, k0_pay116, k0_pay77, k0_pay76, k0_pay82]
  rw [pick_sum v3 r k (fun x => ms (ix3 0 r x) * Ideal.ofBits FTy.f32 1091567616#32) hv]; rfl
theorem pay99_at (k : Fin 86) (hv : ∀ x : Fin 86, v3 (ix2 r ⟨x.val, by omega⟩) = BitVec.ofNat 32 x.val) :
    k0_pay99 (F := Ideal) v3 (k0_pay116 ms) (k0_pay78 nib) (BitVec.ofNat 32 k.val) (k0_pay96 g) (ix2 r l) = mEl 1 (nib (ix3 0 r l)) (ms (ix3 0 r k) * k9) (g (ix3 0 r l)) := by
  pointwise [k0_pay99, k0_pay98, k0_pay116, k0_pay78, k0_pay76, k0_pay96]
  rw [pick_sum v3 r k (fun x => ms (ix3 0 r x) * Ideal.ofBits FTy.f32 1091567616#32) hv]; rfl

theorem pay92_at (c0 c1 : Vec Ideal S1x8x128 .f32) (m : FVec Ideal S64x128 .f32) :
    k0_pay92 (F := Ideal) (k0_pay117 c0) (k0_pay84 (k0_pay83 w)) m (k0_pay91 (k0_pay118 c1) (k0_pay80 nib) (k0_pay82 g) rn cn) (ix3 0 r l)
      = dEl (c0 (ix3 0 0 0)) (c1 (ix3 0 0 0)) (m (ix2 r l)) (vEl 0 (nib (ix3 0 r l)) (rn (ix2 r l)) (cn (ix2 0 l)) (g (ix3 0 r l))) (w (ix3 0 r l)) := by
  rw [← pay87_at]; pointwise [k0_pay92, k0_pay91, k0_pay117, k0_pay118, k0_pay84, k0_pay83]; rfl
theorem pay106_at (c0 c1 : Vec Ideal S1x8x128 .f32) (m : FVec Ideal S64x128 .f32) :
    k0_pay106 (F := Ideal) (k0_pay117 c0) (k0_pay97 w) m (k0_pay104 (k0_pay81 nib) (k0_pay96 g) rn cn) (k0_pay105 (k0_pay118 c1)) (ix3 0 r l)
      = dEl (c0 (ix3 0 0 0)) (c1 (ix3 0 0 0)) (m (ix2 r l)) (vEl 1 (nib (ix3 0 r l)) (rn (ix2 r l)) (cn (ix2 0 l)) (g (ix3 0 r l))) (w (ix3 0 r l)) := by
  rw [← pay100_at]; pointwise [k0_pay106, k0_pay104, k0_pay105, k0_pay117, k0_pay118, k0_pay97]; rfl

theorem sel_eq0 (a x y : EReal) : Scalar.select (FloatOps.cmpf (F := Ideal) (φ := .f32) .oeq a 0) x y = if a = 0 then x else y := by
  show Scalar.select (Ideal.cmp .oeq a 0) x y = _
  by_cases h : a = 0 <;> simp [Scalar.select, Ideal.cmp, h]

theorem pay94_at (acc m : FVec Ideal S64x128 .f32) (k : ℕ) (hk : k < 128) (hv : v3 (ix2 r l) = BitVec.ofNat 32 l.val) :
    k0_pay94 (F := Ideal) acc (k0_pay85 v3 (BitVec.ofNat 32 k)) m (ix2 r l) = if l.val = k then max128 (fun x => FloatOps.absf (F := Ideal) (φ := .f32) (m (ix2 r x))) else acc (ix2 r l) := by
  pointwise [k0_pay94, k0_pay93, k0_pay85]
  rw [hv]
  by_cases h : l.val = k
  · subst h; simp [Scalar.select, IntOp.cmpi]; rfl
  · have : BitVec.ofNat 32 l.val ≠ BitVec.ofNat 32 k := by
      intro h'; have := congrArg BitVec.toNat h'
      simp only [BitVec.toNat_ofNat] at this
      rw [Nat.mod_eq_of_lt (by omega), Nat.mod_eq_of_lt (by omega)] at this
      exact h this
    simp [Scalar.select, IntOp.cmpi, beq_eq_false_iff_ne.mpr this, h]
theorem pay108_at (acc m : FVec Ideal S64x128 .f32) (k : ℕ) (hk : k < 128) (hv : v3 (ix2 r l) = BitVec.ofNat 32 l.val) :
    k0_pay108 (F := Ideal) acc (k0_pay98 v3 (BitVec.ofNat 32 k)) m (ix2 r l) = if l.val = k then max128 (fun x => FloatOps.absf (F := Ideal) (φ := .f32) (m (ix2 r x))) else acc (ix2 r l) :=
  pay94_at v3 r l acc m k hk hv

theorem pay120_at (m m' : FVec Ideal S64x128 .f32) :
    k0_pay120 (k0_pay109 (F := Ideal) (k0_pay95 (F := Ideal) m) m') (ix3 0 r l)
      = packEl (qEl (max128 fun x => FloatOps.absf (F := Ideal) (φ := .f32) (m (ix2 r x))) (m (ix2 r l))) (qEl (max128 fun x => FloatOps.absf (F := Ideal) (φ := .f32) (m' (ix2 r x))) (m' (ix2 r l))) := by
  pointwise [k0_pay120, k0_pay109, k0_pay95, k0_pay93, k0_pay107]
  simp only [packEl, qEl, sEl, ← sel_eq0]
  rfl

/-- The two maxima over eight rows. -/
theorem pay90_at (x : Vec Ideal S8x128 .f32) (q : Fin 8) : k0_pay90 (F := Ideal) (k0_pay80 nib) (k0_pay82 g) rn cn x (ix2 q l)
    = max (x (ix2 q l)) (Finset.fold max kbot (fun y : Fin 8 => k0_pay87 (F := Ideal) (k0_pay80 nib) (k0_pay82 g) rn cn (ix2 ⟨y.val * 8 + q.val, by omega⟩ l)) Finset.univ) := by
  pointwise [k0_pay90]; rfl
theorem pay103_at (x : Vec Ideal S8x128 .f32) (q : Fin 8) : k0_pay103 (F := Ideal) (k0_pay81 nib) (k0_pay96 g) rn cn x (ix2 q l)
    = max (x (ix2 q l)) (Finset.fold max kbot (fun y : Fin 8 => k0_pay100 (F := Ideal) (k0_pay81 nib) (k0_pay96 g) rn cn (ix2 ⟨y.val * 8 + q.val, by omega⟩ l)) Finset.univ) := by
  pointwise [k0_pay103]; rfl
end

/-- The first moments of a block of rows. -/
def mB (g : Vec Ideal S1x64x11008 .bf16) (mc : Vec Ideal S1x64x5504 .i8) (ms : Vec Ideal S1x64x86 .f32) (r : Fin 64) (d : Fin 11008) : EReal :=
  mEl (d.val / 5504) (mc (ix3 0 r ⟨d.val % 5504, Nat.mod_lt _ (by decide)⟩)) (ms (ix3 0 r ⟨d.val / 128, by omega⟩) * k9) (g (ix3 0 r d))
/-- The second moments of a block of rows. -/
def vB (g : Vec Ideal S1x64x11008 .bf16) (vc : Vec Ideal S1x64x5504 .i8) (rn : Fin 64 → EReal) (cn : Fin 11008 → EReal) (r : Fin 64) (d : Fin 11008) : EReal :=
  vEl (d.val / 5504) (vc (ix3 0 r ⟨d.val % 5504, Nat.mod_lt _ (by decide)⟩)) (rn r) (cn d) (g (ix3 0 r d))
/-- The absolute maximum of 128 columns. -/
def aB (m : Fin 64 → Fin 11008 → EReal) (r : Fin 64) (j : Fin 86) : EReal :=
  max128 fun l => FloatOps.absf (F := Ideal) (φ := .f32) (m r ⟨128 * j.val + l.val, by omega⟩)
/-- The code of a column's first moment. -/
def qB (m : Fin 64 → Fin 11008 → EReal) (r : Fin 64) (d : Fin 11008) : BitVec 32 := qEl (aB m r ⟨d.val / 128, by omega⟩) (m r d)
/-- The column that lane `l` of half `h` of trip `k` holds. -/
def colOf (k h l : ℕ) (hk : k < 43) (hh : h < 2) (hl : l < 128) : Fin 11008 := ⟨128 * k + 5504 * h + l, by omega⟩

/-- A load of a unit-stride rectangle, read at an index. -/
theorem readAt_unit {sig : RefSig} {κ : Kind} {sp : Space} {s : Shape} {e : EltTy} {Val : EltTy → Type} (v : View sig κ sp s e) (f : v.ty.Contents Val)
    {off off' size : Fin s.rank → ℕ} (inb : ∀ a, off a + size a ≤ s.size a) (x : (Rect.unit off size inb).shape.Idx) (y : s.Idx) (heq : off = off')
    (hy : ∀ a, (y a).val = off' a + (x a).val) :
    v.readAt Val (Rect.unit off size inb).toLoadRect f x = v.read Val f y := by
  subst heq
  rw [View.readAt_apply]; congr 1; funext a; apply Fin.ext
  rw [hy a]; show off a + 1 * (x a).val = _; omega

end Cert.KernelIdeal.Hand

end
-- ==== Proof.KernelIdeal.ValT.lean ====
/-
  One trip of the update loop read at an element: what it leaves in every buffer that it writes, and the carried block maxima.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdeal.LoopInv
public import proofs.«01_k».proof.Proof.KernelIdeal.Pay
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

local notation "𝕄" => MT nD τ sig Unit (Elt Ideal) ℕ (UR sig nD τ) ℕ

variable {𝒱 : Variants} {c : Dev nD} {bd : Option 𝒱.V} {i : grid0.Coords} {u1 : Memref sig .tc .smem S1 .i32} {p1 : u1.IsWhole} {u2 : Memref sig .tc .vmem S1x64x11008 .bf16} {p2 : u2.IsWhole} {u3 : Memref sig .tc .vmem S1x64x11008 .bf16} {p3 : u3.IsWhole} {u4 : Memref sig .tc .vmem S1x64x5504 .i8} {p4 : u4.IsWhole} {u5 : Memref sig .tc .vmem S1x64x86 .f32} {p5 : u5.IsWhole} {u6 : Memref sig .tc .vmem S1x64x5504 .i8} {p6 : u6.IsWhole} {u7 : Memref sig .tc .vmem S2x768 .f32} {p7 : u7.IsWhole} {u8 : Memref sig .tc .vmem S2x11008 .f32} {p8 : u8.IsWhole} {u9 : Memref sig .tc .vmem S1x64x11008 .f32} {p9 : u9.IsWhole} {u10 : Memref sig .tc .vmem S1x64x5504 .i8} {p10 : u10.IsWhole} {u11 : Memref sig .tc .vmem S1x64x86 .f32} {p11 : u11.IsWhole} {u12 : Memref sig .tc .vmem S1x64x5504 .i8} {p12 : u12.IsWhole} {u13 : Memref sig .tc .vmem S2x768 .f32} {p13 : u13.IsWhole} {u14 : Memref sig .tc .vmem S2x11008 .f32} {p14 : u14.IsWhole} {u15 : Memref sig .tc .vmem S768x11008 .f32} {p15 : u15.IsWhole} {u16 : Memref sig .tc .vmem S768x128 .f32} {p16 : u16.IsWhole} {u17 : Memref sig .tc .vmem S64x128 .f32} {p17 : u17.IsWhole} {u18 : Memref sig .tc .vmem S1x11008 .f32} {p18 : u18.IsWhole} {u19 : Memref sig .tc .vmem S8x11008 .f32} {p19 : u19.IsWhole} {u20 : Memref sig .tc .vmem S1x11008 .f32} {p20 : u20.IsWhole} {u21 : Memref sig .tc .vmem S2x8x128 .f32} {p21 : u21.IsWhole} {v3 : IVec S64x128 32} {k0_h3 : k0_cond3 i = 1#1} {v38 : BitVec 32} {v91 : FVec Ideal S64x128 .f32} {v100 : Vec Ideal S1x64x86 .f32} {v104 v107 : Vec Ideal S1x8x128 .f32}
variable {X2 : BufTy.Contents (Elt Ideal) u2.view.ty} {X3 : BufTy.Contents (Elt Ideal) u3.view.ty} {X4 : BufTy.Contents (Elt Ideal) u4.view.ty} {X6 : BufTy.Contents (Elt Ideal) u6.view.ty} {X17 : BufTy.Contents (Elt Ideal) u17.view.ty} {X18 : BufTy.Contents (Elt Ideal) u18.view.ty}
variable {f15 : BufTy.Contents (Elt Ideal) u15.view.ty} {f16 : BufTy.Contents (Elt Ideal) u16.view.ty} {f19 : BufTy.Contents (Elt Ideal) u19.view.ty} {f9 : BufTy.Contents (Elt Ideal) u9.view.ty} {f10 : BufTy.Contents (Elt Ideal) u10.view.ty} {k : Fin k0_t2_loop.trips} {acc : FVec Ideal S64x128 .f32}

theorem trips2_lt (k : Fin k0_t2_loop.trips) : k.val < 43 := Nat.lt_of_lt_of_le k.isLt k0_t2_abs.2.1
theorem off10_eq : ∀ (k : Fin k0_t2_loop.trips), k0_off10 k = ![0, 0, 128 * k.val] := by decide +kernel
theorem off11_eq0 : ∀ (k : Fin k0_t2_loop.trips), k0_off11 k 0#32 = ![0, 0, 128 * k.val + 5504 * 0] := by decide +kernel
theorem off11_eq1 : ∀ (k : Fin k0_t2_loop.trips), k0_off11 k 5504#32 = ![0, 0, 128 * k.val + 5504 * 1] := by decide +kernel
theorem off12_eq0 : ∀ (k : Fin k0_t2_loop.trips), k0_off12 k 0#32 = ![0, 128 * k.val + 5504 * 0] := by decide +kernel
theorem off12_eq1 : ∀ (k : Fin k0_t2_loop.trips), k0_off12 k 5504#32 = ![0, 128 * k.val + 5504 * 1] := by decide +kernel
theorem off15_eq0 : ∀ (k : Fin k0_t2_loop.trips), k0_off15 k 0#32 = ![0, 128 * k.val + 5504 * 0] := by decide +kernel
theorem off15_eq1 : ∀ (k : Fin k0_t2_loop.trips), k0_off15 k 5504#32 = ![0, 128 * k.val + 5504 * 1] := by decide +kernel
theorem off13_eq0 (i : grid0.Coords) (k : Fin k0_t2_loop.trips) : k0_off13 i k 0#32 = ![64 * ((i 0).val % 12), 128 * k.val + 5504 * 0] := off13_eq i k ⟨0, by decide⟩
theorem off13_eq1 (i : grid0.Coords) (k : Fin k0_t2_loop.trips) : k0_off13 i k 5504#32 = ![64 * ((i 0).val % 12), 128 * k.val + 5504 * 1] := off13_eq i k ⟨1, by decide⟩
theorem kw_eq0 : ∀ (k : Fin k0_t2_loop.trips), Scalar.addi (Scf.iv 0#32 1#32 k.val) 0#32 = BitVec.ofNat 32 (k.val + 43 * 0) := by decide +kernel
theorem kw_eq1 : ∀ (k : Fin k0_t2_loop.trips), Scalar.addi (Scf.iv 0#32 1#32 k.val) 43#32 = BitVec.ofNat 32 (k.val + 43 * 1) := by decide +kernel

section Loads
theorem ld2_0 (r : Fin 64) (l : Fin 128) (inb) : u2.view.readAt (Elt Ideal) (Rect.unit (s := S1x64x11008) (k0_off11 k 0#32) S1x64x128.size inb).toLoadRect X2 (ix3 0 r l) = (u2.view.read (Elt Ideal) X2) (ix3 0 r (colOf k.val 0 l.val (trips2_lt k) (by decide) l.isLt)) :=
  readAt_unit _ _ inb _ _ (off11_eq0 k) (fun a => by fin_cases a <;> simp [colOf])
theorem ld2_1 (r : Fin 64) (l : Fin 128) (inb) : u2.view.readAt (Elt Ideal) (Rect.unit (s := S1x64x11008) (k0_off11 k 5504#32) S1x64x128.size inb).toLoadRect X2 (ix3 0 r l) = (u2.view.read (Elt Ideal) X2) (ix3 0 r (colOf k.val 1 l.val (trips2_lt k) (by decide) l.isLt)) :=
  readAt_unit _ _ inb _ _ (off11_eq1 k) (fun a => by fin_cases a <;> simp [colOf])
theorem ld3_0 (r : Fin 64) (l : Fin 128) (inb) : u3.view.readAt (Elt Ideal) (Rect.unit (s := S1x64x11008) (k0_off11 k 0#32) S1x64x128.size inb).toLoadRect X3 (ix3 0 r l) = (u3.view.read (Elt Ideal) X3) (ix3 0 r (colOf k.val 0 l.val (trips2_lt k) (by decide) l.isLt)) :=
  readAt_unit _ _ inb _ _ (off11_eq0 k) (fun a => by fin_cases a <;> simp [colOf])
theorem ld3_1 (r : Fin 64) (l : Fin 128) (inb) : u3.view.readAt (Elt Ideal) (Rect.unit (s := S1x64x11008) (k0_off11 k 5504#32) S1x64x128.size inb).toLoadRect X3 (ix3 0 r l) = (u3.view.read (Elt Ideal) X3) (ix3 0 r (colOf k.val 1 l.val (trips2_lt k) (by decide) l.isLt)) :=
  readAt_unit _ _ inb _ _ (off11_eq1 k) (fun a => by fin_cases a <;> simp [colOf])
theorem ld4 (r : Fin 64) (l : Fin 128) (inb) : u4.view.readAt (Elt Ideal) (Rect.unit (s := S1x64x5504) (k0_off10 k) S1x64x128.size inb).toLoadRect X4 (ix3 0 r l) = (u4.view.read (Elt Ideal) X4) (ix3 0 r ⟨128 * k.val + l.val, by have := trips2_lt k; omega⟩) :=
  readAt_unit _ _ inb _ _ (off10_eq k) (fun a => by fin_cases a <;> simp)
theorem ld6 (r : Fin 64) (l : Fin 128) (inb) : u6.view.readAt (Elt Ideal) (Rect.unit (s := S1x64x5504) (k0_off10 k) S1x64x128.size inb).toLoadRect X6 (ix3 0 r l) = (u6.view.read (Elt Ideal) X6) (ix3 0 r ⟨128 * k.val + l.val, by have := trips2_lt k; omega⟩) :=
  readAt_unit _ _ inb _ _ (off10_eq k) (fun a => by fin_cases a <;> simp)
theorem ld18_0 (l : Fin 128) (inb) : u18.view.readAt (Elt Ideal) (Rect.unit (s := S1x11008) (k0_off12 k 0#32) S1x128.size inb).toLoadRect X18 (ix2 0 l) = (u18.view.read (Elt Ideal) X18) (ix2 0 (colOf k.val 0 l.val (trips2_lt k) (by decide) l.isLt)) :=
  readAt_unit _ _ inb _ _ (off12_eq0 k) (fun a => by fin_cases a <;> simp [colOf])
theorem ld19_0 (q : Fin 8) (l : Fin 128) (inb) : u19.view.readAt (Elt Ideal) (Rect.unit (s := S8x11008) (k0_off15 k 0#32) S8x128.size inb).toLoadRect f19 (ix2 q l) = u19.view.read (Elt Ideal) f19 (ix2 q (colOf k.val 0 l.val (trips2_lt k) (by decide) l.isLt)) :=
  readAt_unit _ _ inb _ _ (off15_eq0 k) (fun a => by fin_cases a <;> simp [colOf])
theorem ld18_1 (l : Fin 128) (inb) : u18.view.readAt (Elt Ideal) (Rect.unit (s := S1x11008) (k0_off12 k 5504#32) S1x128.size inb).toLoadRect X18 (ix2 0 l) = (u18.view.read (Elt Ideal) X18) (ix2 0 (colOf k.val 1 l.val (trips2_lt k) (by decide) l.isLt)) :=
  readAt_unit _ _ inb _ _ (off12_eq1 k) (fun a => by fin_cases a <;> simp [colOf])
theorem ld19_1 (q : Fin 8) (l : Fin 128) (inb) : u19.view.readAt (Elt Ideal) (Rect.unit (s := S8x11008) (k0_off15 k 5504#32) S8x128.size inb).toLoadRect f19 (ix2 q l) = u19.view.read (Elt Ideal) f19 (ix2 q (colOf k.val 1 l.val (trips2_lt k) (by decide) l.isLt)) :=
  readAt_unit _ _ inb _ _ (off15_eq1 k) (fun a => by fin_cases a <;> simp [colOf])
theorem ld17 (r : Fin 64) (l : Fin 128) (inb) : u17.view.readAt (Elt Ideal) (Rect.unit (s := S64x128) ![0, 0] S64x128.size inb).toLoadRect X17 (ix2 r l) = (u17.view.read (Elt Ideal) X17) (ix2 r l) :=
  readAt_unit _ _ inb _ _ rfl (fun a => by fin_cases a <;> simp)
theorem ld16 (r : Fin 64) (l : Fin 128) (inb) (f : BufTy.Contents (Elt Ideal) u16.view.ty) : u16.view.readAt (Elt Ideal) (Rect.unit (s := S768x128) (k0_off14 i) S64x128.size inb).toLoadRect f (ix2 r l) = u16.view.read (Elt Ideal) f (ix2 ⟨64 * ((i 0).val % 12) + r.val, by have := (i 0).isLt; omega⟩ l) :=
  readAt_unit _ _ inb _ _ (off14_eq i) (fun a => by fin_cases a <;> simp)
end Loads

section Elements
variable (rn : Fin 64 → EReal) (hrn : ∀ r l, u17.view.read (Elt Ideal) X17 (ix2 r l) = rn r)
theorem nibcol (k l h : ℕ) (hk : k < 43) (hl : l < 128) (hh : h < 2) : (128 * k + 5504 * h + l) / 5504 = h ∧ (128 * k + 5504 * h + l) % 5504 = 128 * k + l ∧ (128 * k + 5504 * h + l) / 128 = k + 43 * h := by
  rcases (by omega : h = 0 ∨ h = 1) with rfl | rfl <;> omega
include hrn in
theorem vT0 (r : Fin 64) (l : Fin 128) : k0_pay87 (F := Ideal) (k0_pay80 (u6.view.readAt (Elt Ideal) (Rect.unit (s := S1x64x5504) (k0_off10 k) S1x64x128.size (k0_off10_inb i k k0_h3)).toLoadRect X6)) (k0_pay82 (u3.view.readAt (Elt Ideal) (Rect.unit (s := S1x64x11008) (k0_off11 k 0#32) S1x64x128.size (k0_off11_inb i k k0_h3 0)).toLoadRect X3)) (u17.view.readAt (Elt Ideal) (Rect.unit (s := S64x128) ![0, 0] S64x128.size inb_S64x128_S64x128_0_0).toLoadRect X17) (u18.view.readAt (Elt Ideal) (Rect.unit (s := S1x11008) (k0_off12 k 0#32) S1x128.size (k0_off12_inb i k k0_h3 0)).toLoadRect X18) (ix2 r l) = vB (u3.view.read (Elt Ideal) X3) (u6.view.read (Elt Ideal) X6) rn (fun d => u18.view.read (Elt Ideal) X18 (ix2 0 d)) r (colOf k.val 0 l.val (trips2_lt k) (by decide) l.isLt) := by
  rw [pay87_at, ld6, ld3_0, ld17, ld18_0, hrn]
  have h3 := nibcol k.val l.val 0 (trips2_lt k) l.isLt (by decide)
  unfold vB; simp only [colOf]; simp only [h3.1, h3.2.1]
theorem mT0 (hv : ∀ r l, v3 (ix2 r l) = BitVec.ofNat 32 l.val) (r : Fin 64) (l : Fin 128) : (k0_pay86 (F := Ideal) v3 (k0_pay116 v100) (k0_pay77 (u4.view.readAt (Elt Ideal) (Rect.unit (s := S1x64x5504) (k0_off10 k) S1x64x128.size (k0_off10_inb i k k0_h3)).toLoadRect X4)) (Scalar.addi (Scf.iv 0#32 1#32 k.val) 0#32) (k0_pay82 (u3.view.readAt (Elt Ideal) (Rect.unit (s := S1x64x11008) (k0_off11 k 0#32) S1x64x128.size (k0_off11_inb i k k0_h3 0)).toLoadRect X3))) (ix2 r l) = mB (u3.view.read (Elt Ideal) X3) (u4.view.read (Elt Ideal) X4) v100 r (colOf k.val 0 l.val (trips2_lt k) (by decide) l.isLt) := by
  rw [kw_eq0 k, pay86_at _ _ _ _ r l ⟨k.val + 43 * 0, by have := trips2_lt k; omega⟩ (fun x => hv r ⟨x.val, by omega⟩), ld4, ld3_0]
  have h3 := nibcol k.val l.val 0 (trips2_lt k) l.isLt (by decide)
  unfold mB; simp only [colOf]; simp only [h3.1, h3.2.1, h3.2.2]
include hrn in
theorem vT1 (r : Fin 64) (l : Fin 128) : k0_pay100 (F := Ideal) (k0_pay81 (u6.view.readAt (Elt Ideal) (Rect.unit (s := S1x64x5504) (k0_off10 k) S1x64x128.size (k0_off10_inb i k k0_h3)).toLoadRect X6)) (k0_pay96 (u3.view.readAt (Elt Ideal) (Rect.unit (s := S1x64x11008) (k0_off11 k 5504#32) S1x64x128.size (k0_off11_inb i k k0_h3 1)).toLoadRect X3)) (u17.view.readAt (Elt Ideal) (Rect.unit (s := S64x128) ![0, 0] S64x128.size inb_S64x128_S64x128_0_0).toLoadRect X17) (u18.view.readAt (Elt Ideal) (Rect.unit (s := S1x11008) (k0_off12 k 5504#32) S1x128.size (k0_off12_inb i k k0_h3 1)).toLoadRect X18) (ix2 r l) = vB (u3.view.read (Elt Ideal) X3) (u6.view.read (Elt Ideal) X6) rn (fun d => u18.view.read (Elt Ideal) X18 (ix2 0 d)) r (colOf k.val 1 l.val (trips2_lt k) (by decide) l.isLt) := by
  rw [pay100_at, ld6, ld3_1, ld17, ld18_1, hrn]
  have h3 := nibcol k.val l.val 1 (trips2_lt k) l.isLt (by decide)
  unfold vB; simp only [colOf]; simp only [h3.1, h3.2.1]
theorem mT1 (hv : ∀ r l, v3 (ix2 r l) = BitVec.ofNat 32 l.val) (r : Fin 64) (l : Fin 128) : (k0_pay99 (F := Ideal) v3 (k0_pay116 v100) (k0_pay78 (u4.view.readAt (Elt Ideal) (Rect.unit (s := S1x64x5504) (k0_off10 k) S1x64x128.size (k0_off10_inb i k k0_h3)).toLoadRect X4)) (Scalar.addi (Scf.iv 0#32 1#32 k.val) 43#32) (k0_pay96 (u3.view.readAt (Elt Ideal) (Rect.unit (s := S1x64x11008) (k0_off11 k 5504#32) S1x64x128.size (k0_off11_inb i k k0_h3 1)).toLoadRect X3))) (ix2 r l) = mB (u3.view.read (Elt Ideal) X3) (u4.view.read (Elt Ideal) X4) v100 r (colOf k.val 1 l.val (trips2_lt k) (by decide) l.isLt) := by
  rw [kw_eq1 k, pay99_at _ _ _ _ r l ⟨k.val + 43 * 1, by have := trips2_lt k; omega⟩ (fun x => hv r ⟨x.val, by omega⟩), ld4, ld3_1]
  have h3 := nibcol k.val l.val 1 (trips2_lt k) l.isLt (by decide)
  unfold mB; simp only [colOf]; simp only [h3.1, h3.2.1, h3.2.2]
end Elements

section Trip
variable (rn : Fin 64 → EReal) (hrn : ∀ r l, u17.view.read (Elt Ideal) X17 (ix2 r l) = rn r)
include hrn in
theorem trip15_0 (r : Fin 64) (l : Fin 128) : u15.view.read (Elt Ideal) (u15.view.writes (Elt Ideal) f15 (trip2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 f15 f16 f19 f9 f10 k acc).1) (ix2 ⟨64 * ((i 0).val % 12) + r.val, by have := (i 0).isLt; omega⟩ (colOf k.val 0 l.val (trips2_lt k) (by decide) l.isLt)) = vB (u3.view.read (Elt Ideal) X3) (u6.view.read (Elt Ideal) X6) rn (fun d => u18.view.read (Elt Ideal) X18 (ix2 0 d)) r (colOf k.val 0 l.val (trips2_lt k) (by decide) l.isLt) := by
  have hk := trips2_lt k
  unfold trip2; dsimp only
  rw [View.read_writes_cons_unit_of_not_mem _ _ _ _ _ _ (off13_eq1 i k) (1 : Fin 2) (by left; show 128 * k.val + 5504 * 0 + l.val < 128 * k.val + 5504 * 1; omega)]
  rw [View.read_writes_cons_unit_of_mem _ _ _ _ _ _ (ix2 r l) (off13_eq0 i k) (fun a => by fin_cases a <;> simp [colOf])]
  show k0_pay88 (F := Ideal) (k0_pay80 (u6.view.readAt (Elt Ideal) (Rect.unit (s := S1x64x5504) (k0_off10 k) S1x64x128.size (k0_off10_inb i k k0_h3)).toLoadRect X6)) (k0_pay82 (u3.view.readAt (Elt Ideal) (Rect.unit (s := S1x64x11008) (k0_off11 k 0#32) S1x64x128.size (k0_off11_inb i k k0_h3 0)).toLoadRect X3)) (u17.view.readAt (Elt Ideal) (Rect.unit (s := S64x128) ![0, 0] S64x128.size inb_S64x128_S64x128_0_0).toLoadRect X17) (u18.view.readAt (Elt Ideal) (Rect.unit (s := S1x11008) (k0_off12 k 0#32) S1x128.size (k0_off12_inb i k k0_h3 0)).toLoadRect X18) (ix2 r l) = _
  refine Eq.trans ?_ (vT0 (k0_h3 := k0_h3) rn hrn r l)
  pointwise [k0_pay88]
theorem trip9_0 {rn : Fin 64 → EReal} (hrn : ∀ r l, u17.view.read (Elt Ideal) X17 (ix2 r l) = rn r) (hv : ∀ r l, v3 (ix2 r l) = BitVec.ofNat 32 l.val) (r : Fin 64) (l : Fin 128) : u9.view.read (Elt Ideal) (u9.view.writes (Elt Ideal) f9 (trip2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 f15 f16 f19 f9 f10 k acc).2.2.2.1) (ix3 0 r (colOf k.val 0 l.val (trips2_lt k) (by decide) l.isLt)) = dEl (v104 (ix3 0 0 0)) (v107 (ix3 0 0 0)) (mB (u3.view.read (Elt Ideal) X3) (u4.view.read (Elt Ideal) X4) v100 r (colOf k.val 0 l.val (trips2_lt k) (by decide) l.isLt)) (vB (u3.view.read (Elt Ideal) X3) (u6.view.read (Elt Ideal) X6) rn (fun d => u18.view.read (Elt Ideal) X18 (ix2 0 d)) r (colOf k.val 0 l.val (trips2_lt k) (by decide) l.isLt)) ((u2.view.read (Elt Ideal) X2) (ix3 0 r (colOf k.val 0 l.val (trips2_lt k) (by decide) l.isLt))) := by
  have hk := trips2_lt k
  unfold trip2; dsimp only
  rw [View.read_writes_cons_unit_of_not_mem _ _ _ _ _ _ (off11_eq1 k) (2 : Fin 3) (by left; show 128 * k.val + 5504 * 0 + l.val < 128 * k.val + 5504 * 1; omega)]
  rw [View.read_writes_cons_unit_of_mem _ _ _ _ _ _ (ix3 0 r l) (off11_eq0 k) (fun a => by fin_cases a <;> simp [colOf])]
  rw [← vT0 (k0_h3 := k0_h3) rn hrn r l, ← mT0 (k0_h3 := k0_h3) hv r l, ← ld2_0 r l (k0_off11_inb i k k0_h3 0), pay87_at]
  exact pay92_at _ _ _ _ _ r l _ _ (k0_pay86 (F := Ideal) v3 (k0_pay116 v100) (k0_pay77 (u4.view.readAt (Elt Ideal) (Rect.unit (s := S1x64x5504) (k0_off10 k) S1x64x128.size (k0_off10_inb i k k0_h3)).toLoadRect X4)) (Scalar.addi (Scf.iv 0#32 1#32 k.val) 0#32) (k0_pay82 (u3.view.readAt (Elt Ideal) (Rect.unit (s := S1x64x11008) (k0_off11 k 0#32) S1x64x128.size (k0_off11_inb i k k0_h3 0)).toLoadRect X3)))
include hrn in
theorem trip19_0 (q : Fin 8) (l : Fin 128) : u19.view.read (Elt Ideal) (u19.view.writes (Elt Ideal) f19 (trip2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 f15 f16 f19 f9 f10 k acc).2.2.1) (ix2 q (colOf k.val 0 l.val (trips2_lt k) (by decide) l.isLt)) = max (u19.view.read (Elt Ideal) f19 (ix2 q (colOf k.val 0 l.val (trips2_lt k) (by decide) l.isLt))) (Finset.fold max kbot (fun y : Fin 8 => vB (u3.view.read (Elt Ideal) X3) (u6.view.read (Elt Ideal) X6) rn (fun d => u18.view.read (Elt Ideal) X18 (ix2 0 d)) ⟨y.val * 8 + q.val, by omega⟩ (colOf k.val 0 l.val (trips2_lt k) (by decide) l.isLt)) Finset.univ) := by
  have hk := trips2_lt k
  unfold trip2; dsimp only
  rw [View.read_writes_cons_unit_of_not_mem _ _ _ _ _ _ (off15_eq1 k) (1 : Fin 2) (by left; show 128 * k.val + 5504 * 0 + l.val < 128 * k.val + 5504 * 1; omega)]
  rw [View.read_writes_cons_unit_of_mem _ _ _ _ _ _ (ix2 q l) (off15_eq0 k) (fun a => by fin_cases a <;> simp [colOf])]
  show k0_pay90 (F := Ideal) (k0_pay80 (u6.view.readAt (Elt Ideal) (Rect.unit (s := S1x64x5504) (k0_off10 k) S1x64x128.size (k0_off10_inb i k k0_h3)).toLoadRect X6)) (k0_pay82 (u3.view.readAt (Elt Ideal) (Rect.unit (s := S1x64x11008) (k0_off11 k 0#32) S1x64x128.size (k0_off11_inb i k k0_h3 0)).toLoadRect X3)) (u17.view.readAt (Elt Ideal) (Rect.unit (s := S64x128) ![0, 0] S64x128.size inb_S64x128_S64x128_0_0).toLoadRect X17) (u18.view.readAt (Elt Ideal) (Rect.unit (s := S1x11008) (k0_off12 k 0#32) S1x128.size (k0_off12_inb i k k0_h3 0)).toLoadRect X18) (u19.view.readAt (Elt Ideal) (Rect.unit (s := S8x11008) (k0_off15 k 0#32) S8x128.size (k0_off15_inb i k k0_h3 0)).toLoadRect f19) (ix2 q l) = _
  refine (pay90_at _ _ _ _ l _ q).trans ?_
  rw [ld19_0]
  exact congrArg (max _) (congrArg (fun z => Finset.fold max kbot z Finset.univ) (funext fun y => vT0 (k0_h3 := k0_h3) rn hrn _ l))
include hrn in
theorem trip15_1 (r : Fin 64) (l : Fin 128) : u15.view.read (Elt Ideal) (u15.view.writes (Elt Ideal) f15 (trip2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 f15 f16 f19 f9 f10 k acc).1) (ix2 ⟨64 * ((i 0).val % 12) + r.val, by have := (i 0).isLt; omega⟩ (colOf k.val 1 l.val (trips2_lt k) (by decide) l.isLt)) = vB (u3.view.read (Elt Ideal) X3) (u6.view.read (Elt Ideal) X6) rn (fun d => u18.view.read (Elt Ideal) X18 (ix2 0 d)) r (colOf k.val 1 l.val (trips2_lt k) (by decide) l.isLt) := by
  have hk := trips2_lt k
  unfold trip2; dsimp only
  rw [View.read_writes_cons_unit_of_mem _ _ _ _ _ _ (ix2 r l) (off13_eq1 i k) (fun a => by fin_cases a <;> simp [colOf])]
  show k0_pay101 (F := Ideal) (k0_pay81 (u6.view.readAt (Elt Ideal) (Rect.unit (s := S1x64x5504) (k0_off10 k) S1x64x128.size (k0_off10_inb i k k0_h3)).toLoadRect X6)) (k0_pay96 (u3.view.readAt (Elt Ideal) (Rect.unit (s := S1x64x11008) (k0_off11 k 5504#32) S1x64x128.size (k0_off11_inb i k k0_h3 1)).toLoadRect X3)) (u17.view.readAt (Elt Ideal) (Rect.unit (s := S64x128) ![0, 0] S64x128.size inb_S64x128_S64x128_0_0).toLoadRect X17) (u18.view.readAt (Elt Ideal) (Rect.unit (s := S1x11008) (k0_off12 k 5504#32) S1x128.size (k0_off12_inb i k k0_h3 1)).toLoadRect X18) (ix2 r l) = _
  refine Eq.trans ?_ (vT1 (k0_h3 := k0_h3) rn hrn r l)
  pointwise [k0_pay101]
theorem trip9_1 {rn : Fin 64 → EReal} (hrn : ∀ r l, u17.view.read (Elt Ideal) X17 (ix2 r l) = rn r) (hv : ∀ r l, v3 (ix2 r l) = BitVec.ofNat 32 l.val) (r : Fin 64) (l : Fin 128) : u9.view.read (Elt Ideal) (u9.view.writes (Elt Ideal) f9 (trip2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 f15 f16 f19 f9 f10 k acc).2.2.2.1) (ix3 0 r (colOf k.val 1 l.val (trips2_lt k) (by decide) l.isLt)) = dEl (v104 (ix3 0 0 0)) (v107 (ix3 0 0 0)) (mB (u3.view.read (Elt Ideal) X3) (u4.view.read (Elt Ideal) X4) v100 r (colOf k.val 1 l.val (trips2_lt k) (by decide) l.isLt)) (vB (u3.view.read (Elt Ideal) X3) (u6.view.read (Elt Ideal) X6) rn (fun d => u18.view.read (Elt Ideal) X18 (ix2 0 d)) r (colOf k.val 1 l.val (trips2_lt k) (by decide) l.isLt)) ((u2.view.read (Elt Ideal) X2) (ix3 0 r (colOf k.val 1 l.val (trips2_lt k) (by decide) l.isLt))) := by
  have hk := trips2_lt k
  unfold trip2; dsimp only
  rw [View.read_writes_cons_unit_of_mem _ _ _ _ _ _ (ix3 0 r l) (off11_eq1 k) (fun a => by fin_cases a <;> simp [colOf])]
  rw [← vT1 (k0_h3 := k0_h3) rn hrn r l, ← mT1 (k0_h3 := k0_h3) hv r l, ← ld2_1 r l (k0_off11_inb i k k0_h3 1), pay100_at]
  exact pay106_at _ _ _ _ _ r l _ _ (k0_pay99 (F := Ideal) v3 (k0_pay116 v100) (k0_pay78 (u4.view.readAt (Elt Ideal) (Rect.unit (s := S1x64x5504) (k0_off10 k) S1x64x128.size (k0_off10_inb i k k0_h3)).toLoadRect X4)) (Scalar.addi (Scf.iv 0#32 1#32 k.val) 43#32) (k0_pay96 (u3.view.readAt (Elt Ideal) (Rect.unit (s := S1x64x11008) (k0_off11 k 5504#32) S1x64x128.size (k0_off11_inb i k k0_h3 1)).toLoadRect X3)))
include hrn in
theorem trip19_1 (q : Fin 8) (l : Fin 128) : u19.view.read (Elt Ideal) (u19.view.writes (Elt Ideal) f19 (trip2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 f15 f16 f19 f9 f10 k acc).2.2.1) (ix2 q (colOf k.val 1 l.val (trips2_lt k) (by decide) l.isLt)) = max (u19.view.read (Elt Ideal) f19 (ix2 q (colOf k.val 1 l.val (trips2_lt k) (by decide) l.isLt))) (Finset.fold max kbot (fun y : Fin 8 => vB (u3.view.read (Elt Ideal) X3) (u6.view.read (Elt Ideal) X6) rn (fun d => u18.view.read (Elt Ideal) X18 (ix2 0 d)) ⟨y.val * 8 + q.val, by omega⟩ (colOf k.val 1 l.val (trips2_lt k) (by decide) l.isLt)) Finset.univ) := by
  have hk := trips2_lt k
  unfold trip2; dsimp only
  rw [View.read_writes_cons_unit_of_mem _ _ _ _ _ _ (ix2 q l) (off15_eq1 k) (fun a => by fin_cases a <;> simp [colOf])]
  show k0_pay103 (F := Ideal) (k0_pay81 (u6.view.readAt (Elt Ideal) (Rect.unit (s := S1x64x5504) (k0_off10 k) S1x64x128.size (k0_off10_inb i k k0_h3)).toLoadRect X6)) (k0_pay96 (u3.view.readAt (Elt Ideal) (Rect.unit (s := S1x64x11008) (k0_off11 k 5504#32) S1x64x128.size (k0_off11_inb i k k0_h3 1)).toLoadRect X3)) (u17.view.readAt (Elt Ideal) (Rect.unit (s := S64x128) ![0, 0] S64x128.size inb_S64x128_S64x128_0_0).toLoadRect X17) (u18.view.readAt (Elt Ideal) (Rect.unit (s := S1x11008) (k0_off12 k 5504#32) S1x128.size (k0_off12_inb i k k0_h3 1)).toLoadRect X18) (u19.view.readAt (Elt Ideal) (Rect.unit (s := S8x11008) (k0_off15 k 5504#32) S8x128.size (k0_off15_inb i k k0_h3 1)).toLoadRect f19) (ix2 q l) = _
  refine (pay103_at _ _ _ _ l _ q).trans ?_
  rw [ld19_1]
  exact congrArg (max _) (congrArg (fun z => Finset.fold max kbot z Finset.univ) (funext fun y => vT1 (k0_h3 := k0_h3) rn hrn _ l))
theorem trip10 (hv : ∀ r l, v3 (ix2 r l) = BitVec.ofNat 32 l.val) (r : Fin 64) (l : Fin 128) : u10.view.read (Elt Ideal) (u10.view.writes (Elt Ideal) f10 (trip2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 f15 f16 f19 f9 f10 k acc).2.2.2.2.1) (ix3 0 r ⟨128 * k.val + l.val, by have := trips2_lt k; omega⟩) = packEl (qB (mB (u3.view.read (Elt Ideal) X3) (u4.view.read (Elt Ideal) X4) v100) r (colOf k.val 0 l.val (trips2_lt k) (by decide) l.isLt)) (qB (mB (u3.view.read (Elt Ideal) X3) (u4.view.read (Elt Ideal) X4) v100) r (colOf k.val 1 l.val (trips2_lt k) (by decide) l.isLt)) := by
  have hk := trips2_lt k
  unfold trip2; dsimp only
  rw [View.read_writes_cons_unit_of_mem _ _ _ _ _ _ (ix3 0 r l) (off10_eq k) (fun a => by fin_cases a <;> simp)]
  show k0_pay120 (k0_pay109 (F := Ideal) (k0_pay95 (F := Ideal) (k0_pay86 (F := Ideal) v3 (k0_pay116 v100) (k0_pay77 (u4.view.readAt (Elt Ideal) (Rect.unit (s := S1x64x5504) (k0_off10 k) S1x64x128.size (k0_off10_inb i k k0_h3)).toLoadRect X4)) (Scalar.addi (Scf.iv 0#32 1#32 k.val) 0#32) (k0_pay82 (u3.view.readAt (Elt Ideal) (Rect.unit (s := S1x64x11008) (k0_off11 k 0#32) S1x64x128.size (k0_off11_inb i k k0_h3 0)).toLoadRect X3)))) (k0_pay99 (F := Ideal) v3 (k0_pay116 v100) (k0_pay78 (u4.view.readAt (Elt Ideal) (Rect.unit (s := S1x64x5504) (k0_off10 k) S1x64x128.size (k0_off10_inb i k k0_h3)).toLoadRect X4)) (Scalar.addi (Scf.iv 0#32 1#32 k.val) 43#32) (k0_pay96 (u3.view.readAt (Elt Ideal) (Rect.unit (s := S1x64x11008) (k0_off11 k 5504#32) S1x64x128.size (k0_off11_inb i k k0_h3 1)).toLoadRect X3)))) (ix3 0 r l) = _
  rw [pay120_at]
  simp only [mT0 (k0_h3 := k0_h3) hv, mT1 (k0_h3 := k0_h3) hv]
  have h0 := fun l : Fin 128 => nibcol k.val l.val 0 hk l.isLt (by decide)
  have h1 := fun l : Fin 128 => nibcol k.val l.val 1 hk l.isLt (by decide)
  unfold qB aB
  congr 3 <;> (congr 1; funext x; congr 3; apply Fin.ext; simp only [colOf, (h0 l).2.2, (h1 l).2.2]; omega)
theorem trip10_miss (r : Fin 64) (e : Fin 5504) (he : e.val / 128 ≠ k.val) : u10.view.read (Elt Ideal) (u10.view.writes (Elt Ideal) f10 (trip2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 f15 f16 f19 f9 f10 k acc).2.2.2.2.1) (ix3 0 r e) = u10.view.read (Elt Ideal) f10 (ix3 0 r e) := by
  unfold trip2; dsimp only
  rw [View.read_writes_cons_unit_of_not_mem _ _ _ _ _ _ (off10_eq k) (2 : Fin 3) (by show e.val < 128 * k.val ∨ 128 * k.val + 128 ≤ e.val; omega)]
  rfl
theorem trip9_miss (r : Fin 64) (d : Fin 11008) (he : d.val % 5504 / 128 ≠ k.val) : u9.view.read (Elt Ideal) (u9.view.writes (Elt Ideal) f9 (trip2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 f15 f16 f19 f9 f10 k acc).2.2.2.1) (ix3 0 r d) = u9.view.read (Elt Ideal) f9 (ix3 0 r d) := by
  have hk := trips2_lt k
  unfold trip2; dsimp only
  rw [View.read_writes_cons_unit_of_not_mem _ _ _ _ _ _ (off11_eq1 k) (2 : Fin 3) (by show d.val < 128 * k.val + 5504 * 1 ∨ 128 * k.val + 5504 * 1 + 128 ≤ d.val; omega),
    View.read_writes_cons_unit_of_not_mem _ _ _ _ _ _ (off11_eq0 k) (2 : Fin 3) (by show d.val < 128 * k.val + 5504 * 0 ∨ 128 * k.val + 5504 * 0 + 128 ≤ d.val; omega)]
  rfl
theorem trip15_miss (R : Fin 768) (d : Fin 11008) (he : R.val / 64 ≠ (i 0).val % 12 ∨ d.val % 5504 / 128 ≠ k.val) : u15.view.read (Elt Ideal) (u15.view.writes (Elt Ideal) f15 (trip2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 f15 f16 f19 f9 f10 k acc).1) (ix2 R d) = u15.view.read (Elt Ideal) f15 (ix2 R d) := by
  have hk := trips2_lt k
  unfold trip2; dsimp only
  rcases he with he | he
  · rw [View.read_writes_cons_unit_of_not_mem _ _ _ _ _ _ (off13_eq1 i k) (0 : Fin 2) (by show R.val < 64 * ((i 0).val % 12) ∨ 64 * ((i 0).val % 12) + 64 ≤ R.val; omega),
      View.read_writes_cons_unit_of_not_mem _ _ _ _ _ _ (off13_eq0 i k) (0 : Fin 2) (by show R.val < 64 * ((i 0).val % 12) ∨ 64 * ((i 0).val % 12) + 64 ≤ R.val; omega)]
    rfl
  · rw [View.read_writes_cons_unit_of_not_mem _ _ _ _ _ _ (off13_eq1 i k) (1 : Fin 2) (by show d.val < 128 * k.val + 5504 * 1 ∨ 128 * k.val + 5504 * 1 + 128 ≤ d.val; omega),
      View.read_writes_cons_unit_of_not_mem _ _ _ _ _ _ (off13_eq0 i k) (1 : Fin 2) (by show d.val < 128 * k.val + 5504 * 0 ∨ 128 * k.val + 5504 * 0 + 128 ≤ d.val; omega)]
    rfl
theorem trip19_miss (q : Fin 8) (d : Fin 11008) (he : d.val % 5504 / 128 ≠ k.val) : u19.view.read (Elt Ideal) (u19.view.writes (Elt Ideal) f19 (trip2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 f15 f16 f19 f9 f10 k acc).2.2.1) (ix2 q d) = u19.view.read (Elt Ideal) f19 (ix2 q d) := by
  have hk := trips2_lt k
  unfold trip2; dsimp only
  rw [View.read_writes_cons_unit_of_not_mem _ _ _ _ _ _ (off15_eq1 k) (1 : Fin 2) (by show d.val < 128 * k.val + 5504 * 1 ∨ 128 * k.val + 5504 * 1 + 128 ≤ d.val; omega),
    View.read_writes_cons_unit_of_not_mem _ _ _ _ _ _ (off15_eq0 k) (1 : Fin 2) (by show d.val < 128 * k.val + 5504 * 0 ∨ 128 * k.val + 5504 * 0 + 128 ≤ d.val; omega)]
  rfl
include hrn in
theorem trip16 (r : Fin 64) (l : Fin 128) : u16.view.read (Elt Ideal) (u16.view.writes (Elt Ideal) f16 (trip2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 f15 f16 f19 f9 f10 k acc).2.1) (ix2 ⟨64 * ((i 0).val % 12) + r.val, by have := (i 0).isLt; omega⟩ l)
    = max (max (u16.view.read (Elt Ideal) f16 (ix2 ⟨64 * ((i 0).val % 12) + r.val, by have := (i 0).isLt; omega⟩ l)) (vB (u3.view.read (Elt Ideal) X3) (u6.view.read (Elt Ideal) X6) rn (fun d => u18.view.read (Elt Ideal) X18 (ix2 0 d)) r (colOf k.val 0 l.val (trips2_lt k) (by decide) l.isLt))) (vB (u3.view.read (Elt Ideal) X3) (u6.view.read (Elt Ideal) X6) rn (fun d => u18.view.read (Elt Ideal) X18 (ix2 0 d)) r (colOf k.val 1 l.val (trips2_lt k) (by decide) l.isLt)) := by
  have hk := trips2_lt k
  unfold trip2; dsimp only
  rw [View.read_writes_cons_unit_of_mem _ _ _ _ _ _ (ix2 r l) (off14_eq i) (fun a => by fin_cases a <;> simp)]
  rw [← vT0 (k0_h3 := k0_h3) rn hrn r l, ← vT1 (k0_h3 := k0_h3) rn hrn r l]
  show k0_pay102 (F := Ideal) (k0_pay81 (u6.view.readAt (Elt Ideal) (Rect.unit (s := S1x64x5504) (k0_off10 k) S1x64x128.size (k0_off10_inb i k k0_h3)).toLoadRect X6)) (k0_pay96 (u3.view.readAt (Elt Ideal) (Rect.unit (s := S1x64x11008) (k0_off11 k 5504#32) S1x64x128.size (k0_off11_inb i k k0_h3 1)).toLoadRect X3)) (u17.view.readAt (Elt Ideal) (Rect.unit (s := S64x128) ![0, 0] S64x128.size inb_S64x128_S64x128_0_0).toLoadRect X17) (u18.view.readAt (Elt Ideal) (Rect.unit (s := S1x11008) (k0_off12 k 5504#32) S1x128.size (k0_off12_inb i k k0_h3 1)).toLoadRect X18) (u16.view.readCov (⟨Rect.unit (s := S768x128) (k0_off14 i) S64x128.size (k0_off14_inb i k0_h3), k0_pay89 (F := Ideal) (k0_pay80 (u6.view.readAt (Elt Ideal) (Rect.unit (s := S1x64x5504) (k0_off10 k) S1x64x128.size (k0_off10_inb i k k0_h3)).toLoadRect X6)) (k0_pay82 (u3.view.readAt (Elt Ideal) (Rect.unit (s := S1x64x11008) (k0_off11 k 0#32) S1x64x128.size (k0_off11_inb i k k0_h3 0)).toLoadRect X3)) (u17.view.readAt (Elt Ideal) (Rect.unit (s := S64x128) ![0, 0] S64x128.size inb_S64x128_S64x128_0_0).toLoadRect X17) (u18.view.readAt (Elt Ideal) (Rect.unit (s := S1x11008) (k0_off12 k 0#32) S1x128.size (k0_off12_inb i k k0_h3 0)).toLoadRect X18) (u16.view.readAt (Elt Ideal) (Rect.unit (s := S768x128) (k0_off14 i) S64x128.size (k0_off14_inb i k0_h3)).toLoadRect f16)⟩ :: []) (Rect.unit (s := S768x128) (k0_off14 i) S64x128.size (k0_off14_inb i k0_h3)).toLoadRect) (ix2 r l) = _
  rw [View.readCov_cons_toLoadRect]
  have e := ld16 (u16 := u16) (i := i) r l (k0_off14_inb i k0_h3) f16
  rw [← e]
  pointwise [k0_pay102, k0_pay89]
theorem trip16_miss (R : Fin 768) (l : Fin 128) (he : R.val / 64 ≠ (i 0).val % 12) : u16.view.read (Elt Ideal) (u16.view.writes (Elt Ideal) f16 (trip2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 f15 f16 f19 f9 f10 k acc).2.1) (ix2 R l) = u16.view.read (Elt Ideal) f16 (ix2 R l) := by
  unfold trip2; dsimp only [trip2.sl.HW16_1]
  rw [View.read_writes_cons_unit_of_not_mem _ _ _ _ _ _ (off14_eq i) (0 : Fin 2) (by show R.val < 64 * ((i 0).val % 12) ∨ 64 * ((i 0).val % 12) + 64 ≤ R.val; omega),
      View.read_writes_cons_unit_of_not_mem _ _ _ _ _ _ (off14_eq i) (0 : Fin 2) (by show R.val < 64 * ((i 0).val % 12) ∨ 64 * ((i 0).val % 12) + 64 ≤ R.val; omega)]
  rfl
theorem tripAcc (hv : ∀ r l, v3 (ix2 r l) = BitVec.ofNat 32 l.val) (r : Fin 64) (l : Fin 128) : (trip2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 f15 f16 f19 f9 f10 k acc).2.2.2.2.2.1 (ix2 r l) = if l.val = k.val + 43 then aB (mB (u3.view.read (Elt Ideal) X3) (u4.view.read (Elt Ideal) X4) v100) r ⟨k.val + 43, by have := trips2_lt k; omega⟩ else if l.val = k.val then aB (mB (u3.view.read (Elt Ideal) X3) (u4.view.read (Elt Ideal) X4) v100) r ⟨k.val, by have := trips2_lt k; omega⟩ else acc (ix2 r l) := by
  have hk := trips2_lt k
  unfold trip2; dsimp only
  show k0_pay108 (F := Ideal) (k0_pay94 (F := Ideal) acc (k0_pay85 v3 (Scalar.addi (Scf.iv 0#32 1#32 k.val) 0#32)) (k0_pay86 (F := Ideal) v3 (k0_pay116 v100) (k0_pay77 (u4.view.readAt (Elt Ideal) (Rect.unit (s := S1x64x5504) (k0_off10 k) S1x64x128.size (k0_off10_inb i k k0_h3)).toLoadRect X4)) (Scalar.addi (Scf.iv 0#32 1#32 k.val) 0#32) (k0_pay82 (u3.view.readAt (Elt Ideal) (Rect.unit (s := S1x64x11008) (k0_off11 k 0#32) S1x64x128.size (k0_off11_inb i k k0_h3 0)).toLoadRect X3)))) (k0_pay98 v3 (Scalar.addi (Scf.iv 0#32 1#32 k.val) 43#32)) (k0_pay99 (F := Ideal) v3 (k0_pay116 v100) (k0_pay78 (u4.view.readAt (Elt Ideal) (Rect.unit (s := S1x64x5504) (k0_off10 k) S1x64x128.size (k0_off10_inb i k k0_h3)).toLoadRect X4)) (Scalar.addi (Scf.iv 0#32 1#32 k.val) 43#32) (k0_pay96 (u3.view.readAt (Elt Ideal) (Rect.unit (s := S1x64x11008) (k0_off11 k 5504#32) S1x64x128.size (k0_off11_inb i k k0_h3 1)).toLoadRect X3))) (ix2 r l) = _
  have e0 : (fun x => FloatOps.absf (F := Ideal) (φ := .f32) ((k0_pay86 (F := Ideal) v3 (k0_pay116 v100) (k0_pay77 (u4.view.readAt (Elt Ideal) (Rect.unit (s := S1x64x5504) (k0_off10 k) S1x64x128.size (k0_off10_inb i k k0_h3)).toLoadRect X4)) (Scalar.addi (Scf.iv 0#32 1#32 k.val) 0#32) (k0_pay82 (u3.view.readAt (Elt Ideal) (Rect.unit (s := S1x64x11008) (k0_off11 k 0#32) S1x64x128.size (k0_off11_inb i k k0_h3 0)).toLoadRect X3))) (ix2 r x))) = fun x : Fin 128 => FloatOps.absf (F := Ideal) (φ := .f32) (mB (u3.view.read (Elt Ideal) X3) (u4.view.read (Elt Ideal) X4) v100 r ⟨128 * k.val + x.val, by omega⟩) := by
    funext x; rw [mT0 (k0_h3 := k0_h3) hv]; congr 2
  have e1 : (fun x => FloatOps.absf (F := Ideal) (φ := .f32) ((k0_pay99 (F := Ideal) v3 (k0_pay116 v100) (k0_pay78 (u4.view.readAt (Elt Ideal) (Rect.unit (s := S1x64x5504) (k0_off10 k) S1x64x128.size (k0_off10_inb i k k0_h3)).toLoadRect X4)) (Scalar.addi (Scf.iv 0#32 1#32 k.val) 43#32) (k0_pay96 (u3.view.readAt (Elt Ideal) (Rect.unit (s := S1x64x11008) (k0_off11 k 5504#32) S1x64x128.size (k0_off11_inb i k k0_h3 1)).toLoadRect X3))) (ix2 r x))) = fun x : Fin 128 => FloatOps.absf (F := Ideal) (φ := .f32) (mB (u3.view.read (Elt Ideal) X3) (u4.view.read (Elt Ideal) X4) v100 r ⟨128 * (k.val + 43) + x.val, by omega⟩) := by
    funext x; rw [mT1 (k0_h3 := k0_h3) hv]; congr 2
  rw [kw_eq0 k, kw_eq1 k]
  rw [kw_eq0 k] at e0
  rw [kw_eq1 k] at e1
  rw [pay108_at v3 r l _ _ (k.val + 43 * 1) (by omega) (hv r l), pay94_at v3 r l _ _ (k.val + 43 * 0) (by omega) (hv r l), e0, e1]
  rfl
end Trip

end Cert.KernelIdeal.Hand

end
-- ==== Proof.KernelIdeal.LoopVal.lean ====
/-
  The update loop read at an element: what the trips before `n` leave in every buffer that they write, and the carried block maxima.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdeal.ValT
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

local notation "𝕄" => MT nD τ sig Unit (Elt Ideal) ℕ (UR sig nD τ) ℕ

variable {𝒱 : Variants} {c : Dev nD} {bd : Option 𝒱.V} {i : grid0.Coords} {u1 : Memref sig .tc .smem S1 .i32} {p1 : u1.IsWhole} {u2 : Memref sig .tc .vmem S1x64x11008 .bf16} {p2 : u2.IsWhole} {u3 : Memref sig .tc .vmem S1x64x11008 .bf16} {p3 : u3.IsWhole} {u4 : Memref sig .tc .vmem S1x64x5504 .i8} {p4 : u4.IsWhole} {u5 : Memref sig .tc .vmem S1x64x86 .f32} {p5 : u5.IsWhole} {u6 : Memref sig .tc .vmem S1x64x5504 .i8} {p6 : u6.IsWhole} {u7 : Memref sig .tc .vmem S2x768 .f32} {p7 : u7.IsWhole} {u8 : Memref sig .tc .vmem S2x11008 .f32} {p8 : u8.IsWhole} {u9 : Memref sig .tc .vmem S1x64x11008 .f32} {p9 : u9.IsWhole} {u10 : Memref sig .tc .vmem S1x64x5504 .i8} {p10 : u10.IsWhole} {u11 : Memref sig .tc .vmem S1x64x86 .f32} {p11 : u11.IsWhole} {u12 : Memref sig .tc .vmem S1x64x5504 .i8} {p12 : u12.IsWhole} {u13 : Memref sig .tc .vmem S2x768 .f32} {p13 : u13.IsWhole} {u14 : Memref sig .tc .vmem S2x11008 .f32} {p14 : u14.IsWhole} {u15 : Memref sig .tc .vmem S768x11008 .f32} {p15 : u15.IsWhole} {u16 : Memref sig .tc .vmem S768x128 .f32} {p16 : u16.IsWhole} {u17 : Memref sig .tc .vmem S64x128 .f32} {p17 : u17.IsWhole} {u18 : Memref sig .tc .vmem S1x11008 .f32} {p18 : u18.IsWhole} {u19 : Memref sig .tc .vmem S8x11008 .f32} {p19 : u19.IsWhole} {u20 : Memref sig .tc .vmem S1x11008 .f32} {p20 : u20.IsWhole} {u21 : Memref sig .tc .vmem S2x8x128 .f32} {p21 : u21.IsWhole} {v3 : IVec S64x128 32} {k0_h3 : k0_cond3 i = 1#1} {v38 : BitVec 32} {v91 : FVec Ideal S64x128 .f32} {v100 : Vec Ideal S1x64x86 .f32} {v104 v107 : Vec Ideal S1x8x128 .f32}
variable {X2 : BufTy.Contents (Elt Ideal) u2.view.ty} {X3 : BufTy.Contents (Elt Ideal) u3.view.ty} {X4 : BufTy.Contents (Elt Ideal) u4.view.ty} {X6 : BufTy.Contents (Elt Ideal) u6.view.ty} {X17 : BufTy.Contents (Elt Ideal) u17.view.ty} {X18 : BufTy.Contents (Elt Ideal) u18.view.ty}
variable {G15 : BufTy.Contents (Elt Ideal) u15.view.ty} {G16 : BufTy.Contents (Elt Ideal) u16.view.ty} {G19 : BufTy.Contents (Elt Ideal) u19.view.ty} {G9 : BufTy.Contents (Elt Ideal) u9.view.ty} {G10 : BufTy.Contents (Elt Ideal) u10.view.ty} {init : FVec Ideal S64x128 .f32}

theorem trips2_eq : k0_t2_loop.trips = 43 := by decide +kernel
theorem kbot_eq : kbot = ⊥ := by simp [kbot, Ideal.ofBits, Ideal.ieee]

theorem col_cases (d : Fin 11008) (n : ℕ) (hn : n < 43) (h : d.val % 5504 / 128 = n) :
    ∃ l : Fin 128, d = colOf n 0 l.val hn (by decide) l.isLt ∨ d = colOf n 1 l.val hn (by decide) l.isLt := by
  have := d.isLt
  refine ⟨⟨d.val % 128, by omega⟩, ?_⟩
  rcases Nat.lt_or_ge d.val 5504 with h' | h'
  · left; apply Fin.ext; show d.val = 128 * n + 5504 * 0 + d.val % 128; omega
  · right; apply Fin.ext; show d.val = 128 * n + 5504 * 1 + d.val % 128; omega

section Loop
variable {rn : Fin 64 → EReal} (hrn : ∀ r l, u17.view.read (Elt Ideal) X17 (ix2 r l) = rn r)
theorem lp9 (hrn : ∀ r l, u17.view.read (Elt Ideal) X17 (ix2 r l) = rn r) (hv : ∀ r l, v3 (ix2 r l) = BitVec.ofNat 32 l.val) (r : Fin 64) (d : Fin 11008) (n : ℕ) (hn : n ≤ 43) :
    u9.view.read (Elt Ideal) (u9.view.writes (Elt Ideal) G9 (st2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init n).2.2.2.1) (ix3 0 r d) = if d.val % 5504 / 128 < n then dEl (v104 (ix3 0 0 0)) (v107 (ix3 0 0 0)) (mB (u3.view.read (Elt Ideal) X3) (u4.view.read (Elt Ideal) X4) v100 r d) (vB (u3.view.read (Elt Ideal) X3) (u6.view.read (Elt Ideal) X6) rn (fun d => u18.view.read (Elt Ideal) X18 (ix2 0 d)) r d) ((u2.view.read (Elt Ideal) X2) (ix3 0 r d)) else u9.view.read (Elt Ideal) G9 (ix3 0 r d) := by
  induction n with
  | zero => rw [if_neg (by omega)]; rfl
  | succ n ih =>
    have hn43 : n < 43 := by omega
    have hn' : n < k0_t2_loop.trips := by rw [trips2_eq]; exact hn43
    have ih := ih (by omega)
    rw [show (st2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init (n + 1)) = _ from st2_succ 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init ⟨n, hn'⟩]
    unfold next2; dsimp only; try rw [View.writes_append]
    by_cases h : d.val % 5504 / 128 = n
    · rw [if_pos (by omega)]
      obtain ⟨l, rfl | rfl⟩ := col_cases d n hn43 h
      · exact trip9_0 (k := ⟨n, hn'⟩) hrn hv r l
      · exact trip9_1 (k := ⟨n, hn'⟩) hrn hv r l
    · rw [trip9_miss (k := ⟨n, hn'⟩) r d h, ih]
      simp only [show (d.val % 5504 / 128 < n + 1) ↔ (d.val % 5504 / 128 < n) by omega]
theorem lp10 (hv : ∀ r l, v3 (ix2 r l) = BitVec.ofNat 32 l.val) (r : Fin 64) (e : Fin 5504) (n : ℕ) (hn : n ≤ 43) :
    u10.view.read (Elt Ideal) (u10.view.writes (Elt Ideal) G10 (st2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init n).2.2.2.2.1) (ix3 0 r e) = if e.val / 128 < n then packEl (qB (mB (u3.view.read (Elt Ideal) X3) (u4.view.read (Elt Ideal) X4) v100) r ⟨e.val, by omega⟩) (qB (mB (u3.view.read (Elt Ideal) X3) (u4.view.read (Elt Ideal) X4) v100) r ⟨e.val + 5504, by omega⟩) else u10.view.read (Elt Ideal) G10 (ix3 0 r e) := by
  induction n with
  | zero => rw [if_neg (by omega)]; rfl
  | succ n ih =>
    have hn43 : n < 43 := by omega
    have hn' : n < k0_t2_loop.trips := by rw [trips2_eq]; exact hn43
    have ih := ih (by omega)
    rw [show (st2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init (n + 1)) = _ from st2_succ 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init ⟨n, hn'⟩]
    unfold next2; dsimp only; try rw [View.writes_append]
    by_cases h : e.val / 128 = n
    · rw [if_pos (by omega)]
      have e1 := trip10 (k := ⟨n, hn'⟩) (v3 := v3) hv (f15 := u15.view.writes (Elt Ideal) G15 (st2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init n).1) (f16 := u16.view.writes (Elt Ideal) G16 (st2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init n).2.1) (f19 := u19.view.writes (Elt Ideal) G19 (st2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init n).2.2.1) (f9 := u9.view.writes (Elt Ideal) G9 (st2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init n).2.2.2.1) (f10 := u10.view.writes (Elt Ideal) G10 (st2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init n).2.2.2.2.1) (acc := (st2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init n).2.2.2.2.2) (v91 := v91) (v38 := v38) (v104 := v104) (v107 := v107) (k0_h3 := k0_h3) (c := c) (bd := bd) (𝒱 := 𝒱) (X2 := X2) (X3 := X3) (X4 := X4) (X6 := X6) (X17 := X17) (X18 := X18) (v100 := v100) (p1 := p1) (p2 := p2) (p3 := p3) (p4 := p4) (p5 := p5) (p6 := p6) (p7 := p7) (p8 := p8) (p9 := p9) (p10 := p10) (p11 := p11) (p12 := p12) (p13 := p13) (p14 := p14) (p15 := p15) (p16 := p16) (p17 := p17) (p18 := p18) (p19 := p19) (p20 := p20) (p21 := p21) r ⟨e.val % 128, by omega⟩
      have he : (⟨128 * n + e.val % 128, by omega⟩ : Fin 5504) = e := Fin.ext (by show 128 * n + e.val % 128 = e.val; omega)
      have h0 : (colOf n 0 (e.val % 128) (by omega) (by decide) (by omega)) = ⟨e.val, by omega⟩ := Fin.ext (by show 128 * n + 5504 * 0 + e.val % 128 = e.val; omega)
      have h1 : (colOf n 1 (e.val % 128) (by omega) (by decide) (by omega)) = ⟨e.val + 5504, by omega⟩ := Fin.ext (by show 128 * n + 5504 * 1 + e.val % 128 = e.val + 5504; omega)
      rw [← h0, ← h1, ← e1]; congr 2; exact he.symm
    · rw [trip10_miss (k := ⟨n, hn'⟩) r e h, ih]
      simp only [show (e.val / 128 < n + 1) ↔ (e.val / 128 < n) by omega]
include hrn in
theorem lp15 (R : Fin 768) (d : Fin 11008) (n : ℕ) (hn : n ≤ 43) :
    u15.view.read (Elt Ideal) (u15.view.writes (Elt Ideal) G15 (st2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init n).1) (ix2 R d) = if R.val / 64 = (i 0).val % 12 ∧ d.val % 5504 / 128 < n then vB (u3.view.read (Elt Ideal) X3) (u6.view.read (Elt Ideal) X6) rn (fun d => u18.view.read (Elt Ideal) X18 (ix2 0 d)) ⟨R.val % 64, by omega⟩ d else u15.view.read (Elt Ideal) G15 (ix2 R d) := by
  induction n with
  | zero => rw [if_neg (by omega)]; rfl
  | succ n ih =>
    have hn43 : n < 43 := by omega
    have hn' : n < k0_t2_loop.trips := by rw [trips2_eq]; exact hn43
    have ih := ih (by omega)
    rw [show (st2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init (n + 1)) = _ from st2_succ 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init ⟨n, hn'⟩]
    unfold next2; dsimp only; try rw [View.writes_append]
    by_cases h : R.val / 64 = (i 0).val % 12 ∧ d.val % 5504 / 128 = n
    · rw [if_pos (by omega)]
      have hR : (⟨64 * ((i 0).val % 12) + R.val % 64, by omega⟩ : Fin 768) = R := Fin.ext (by show 64 * ((i 0).val % 12) + R.val % 64 = R.val; omega)
      obtain ⟨l, rfl | rfl⟩ := col_cases d n hn43 h.2
      · conv_lhs => rw [← hR]
        exact trip15_0 (k := ⟨n, hn'⟩) rn hrn ⟨R.val % 64, by omega⟩ l
      · conv_lhs => rw [← hR]
        exact trip15_1 (k := ⟨n, hn'⟩) rn hrn ⟨R.val % 64, by omega⟩ l
    · rw [trip15_miss (k := ⟨n, hn'⟩) R d (by show _ ∨ _ ≠ n; omega), ih]
      simp only [show (R.val / 64 = (i 0).val % 12 ∧ d.val % 5504 / 128 < n + 1) ↔ (R.val / 64 = (i 0).val % 12 ∧ d.val % 5504 / 128 < n) by omega]
include hrn in
theorem lp19 (q : Fin 8) (d : Fin 11008) (x : EReal) (n : ℕ) (hn : n ≤ 43) :
    u19.view.read (Elt Ideal) (u19.view.writes (Elt Ideal) G19 (st2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init n).2.2.1) (ix2 q d) ≤ x ↔ u19.view.read (Elt Ideal) G19 (ix2 q d) ≤ x ∧ (d.val % 5504 / 128 < n → ∀ y : Fin 8, vB (u3.view.read (Elt Ideal) X3) (u6.view.read (Elt Ideal) X6) rn (fun d => u18.view.read (Elt Ideal) X18 (ix2 0 d)) ⟨y.val * 8 + q.val, by omega⟩ d ≤ x) := by
  induction n with
  | zero => exact ⟨fun h => ⟨h, fun h' => absurd h' (by omega)⟩, fun h => h.1⟩
  | succ n ih =>
    have hn43 : n < 43 := by omega
    have hn' : n < k0_t2_loop.trips := by rw [trips2_eq]; exact hn43
    have ih := ih (by omega)
    rw [show (st2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init (n + 1)) = _ from st2_succ 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init ⟨n, hn'⟩]
    unfold next2; dsimp only; try rw [View.writes_append]
    by_cases h : d.val % 5504 / 128 = n
    · obtain ⟨l, rfl | rfl⟩ := col_cases d n hn43 h
      all_goals
        first
          | rw [trip19_0 (k := ⟨n, hn'⟩) rn hrn q l]
          | rw [trip19_1 (k := ⟨n, hn'⟩) rn hrn q l]
        rw [max_le_iff, ih, Finset.fold_max_le, kbot_eq]
        constructor
        · rintro ⟨⟨h1, -⟩, -, h2⟩
          exact ⟨h1, fun _ y => h2 y (Finset.mem_univ _)⟩
        · rintro ⟨h1, h2⟩
          exact ⟨⟨h1, fun h' => absurd h' (by omega)⟩, bot_le, fun y _ => h2 (by omega) y⟩
    · rw [trip19_miss (k := ⟨n, hn'⟩) q d h, ih]
      simp only [show (d.val % 5504 / 128 < n + 1) ↔ (d.val % 5504 / 128 < n) by omega]
include hrn in
theorem lp16 (r : Fin 64) (l : Fin 128) (x : EReal) (n : ℕ) (hn : n ≤ 43) :
    u16.view.read (Elt Ideal) (u16.view.writes (Elt Ideal) G16 (st2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init n).2.1) (ix2 ⟨64 * ((i 0).val % 12) + r.val, by have := (i 0).isLt; omega⟩ l) ≤ x ↔ u16.view.read (Elt Ideal) G16 (ix2 ⟨64 * ((i 0).val % 12) + r.val, by have := (i 0).isLt; omega⟩ l) ≤ x ∧ (∀ d : Fin 11008, d.val % 5504 / 128 < n → d.val % 128 = l.val → vB (u3.view.read (Elt Ideal) X3) (u6.view.read (Elt Ideal) X6) rn (fun d => u18.view.read (Elt Ideal) X18 (ix2 0 d)) r d ≤ x) := by
  induction n with
  | zero => exact ⟨fun h => ⟨h, fun _ h' => absurd h' (by omega)⟩, fun h => h.1⟩
  | succ n ih =>
    have hn43 : n < 43 := by omega
    have hn' : n < k0_t2_loop.trips := by rw [trips2_eq]; exact hn43
    have ih := ih (by omega)
    rw [show (st2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init (n + 1)) = _ from st2_succ 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init ⟨n, hn'⟩]
    unfold next2; dsimp only; try rw [View.writes_append]
    rw [trip16 (k := ⟨n, hn'⟩) rn hrn r l, max_le_iff, max_le_iff, ih]
    constructor
    · rintro ⟨⟨⟨h1, h2⟩, h3⟩, h4⟩
      refine ⟨h1, fun d hd hl => ?_⟩
      by_cases h : d.val % 5504 / 128 = n
      · obtain ⟨l', rfl | rfl⟩ := col_cases d n hn43 h
        · have : l' = l := Fin.ext (by have : (128 * n + 5504 * 0 + l'.val) % 128 = l.val := hl; omega)
          subst this; exact h3
        · have : l' = l := Fin.ext (by have : (128 * n + 5504 * 1 + l'.val) % 128 = l.val := hl; omega)
          subst this; exact h4
      · exact h2 d (by omega) hl
    · rintro ⟨h1, h2⟩
      refine ⟨⟨⟨h1, fun d hd hl => h2 d (by omega) hl⟩, h2 _ ?_ ?_⟩, h2 _ ?_ ?_⟩
      · show (128 * n + 5504 * 0 + l.val) % 5504 / 128 < n + 1; omega
      · show (128 * n + 5504 * 0 + l.val) % 128 = l.val; omega
      · show (128 * n + 5504 * 1 + l.val) % 5504 / 128 < n + 1; omega
      · show (128 * n + 5504 * 1 + l.val) % 128 = l.val; omega
theorem lp16_miss (R : Fin 768) (l : Fin 128) (he : R.val / 64 ≠ (i 0).val % 12) (n : ℕ) (hn : n ≤ 43) :
    u16.view.read (Elt Ideal) (u16.view.writes (Elt Ideal) G16 (st2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init n).2.1) (ix2 R l) = u16.view.read (Elt Ideal) G16 (ix2 R l) := by
  induction n with
  | zero => rfl
  | succ n ih =>
    have hn43 : n < 43 := by omega
    have hn' : n < k0_t2_loop.trips := by rw [trips2_eq]; exact hn43
    have ih := ih (by omega)
    rw [show (st2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init (n + 1)) = _ from st2_succ 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init ⟨n, hn'⟩]
    unfold next2; dsimp only; try rw [View.writes_append]
    rw [trip16_miss (k := ⟨n, hn'⟩) R l he, ih]
theorem lpAcc (hv : ∀ r l, v3 (ix2 r l) = BitVec.ofNat 32 l.val) (r : Fin 64) (l : Fin 128) (n : ℕ) (hn : n ≤ 43) :
    (st2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init n).2.2.2.2.2 (ix2 r l) = if h : l.val < n ∨ 43 ≤ l.val ∧ l.val < 43 + n then aB (mB (u3.view.read (Elt Ideal) X3) (u4.view.read (Elt Ideal) X4) v100) r ⟨l.val, by omega⟩ else init (ix2 r l) := by
  induction n with
  | zero => rw [dif_neg (by omega)]; rfl
  | succ n ih =>
    have hn43 : n < 43 := by omega
    have hn' : n < k0_t2_loop.trips := by rw [trips2_eq]; exact hn43
    have ih := ih (by omega)
    rw [show (st2 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init (n + 1)) = _ from st2_succ 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 v38 v91 v100 v104 v107 X2 X3 X4 X6 X17 X18 G15 G16 G19 G9 G10 init ⟨n, hn'⟩]
    unfold next2; dsimp only; try rw [View.writes_append]
    rw [tripAcc (k := ⟨n, hn'⟩) hv r l, ih]
    show (if l.val = n + 43 then _ else if l.val = n then _ else _) = _
    by_cases h1 : l.val = n + 43
    · rw [if_pos h1, dif_pos (by omega)]; congr 1; exact Fin.ext h1.symm
    · rw [if_neg h1]
      by_cases h2 : l.val = n
      · rw [if_pos h2, dif_pos (by omega)]; congr 1; exact Fin.ext h2.symm
      · rw [if_neg h2]
        by_cases h3 : l.val < n ∨ 43 ≤ l.val ∧ l.val < 43 + n
        · rw [dif_pos h3, dif_pos (by omega)]
        · rw [dif_neg h3, dif_neg (by omega)]
end Loop

end Cert.KernelIdeal.Hand

end
-- ==== Proof.KernelIdeal.Pay2.lean ====
/-
  What the kernel stores around the update loop, as closed forms at an element.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdeal.LoopVal
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

local notation "𝕄" => MT nD τ sig Unit (Elt Ideal) ℕ (UR sig nD τ) ℕ

theorem hitW : ∀ a : Fin 12, (Scalar.muli (Scalar.select (Scalar.andi (Scalar.xori (Scalar.cmpi CmpIPredicate.slt (Scalar.remsi (BitVec.ofNat 32 a.val) (Scalar.select (Scalar.cmpi CmpIPredicate.eq 2#32 0#32) 1#32 2#32)) 0#32) (Scalar.cmpi CmpIPredicate.slt (Scalar.select (Scalar.cmpi CmpIPredicate.eq 2#32 0#32) 1#32 2#32) 0#32)) (Scalar.cmpi CmpIPredicate.ne (Scalar.remsi (BitVec.ofNat 32 a.val) (Scalar.select (Scalar.cmpi CmpIPredicate.eq 2#32 0#32) 1#32 2#32)) 0#32)) (Scalar.addi (Scalar.remsi (BitVec.ofNat 32 a.val) (Scalar.select (Scalar.cmpi CmpIPredicate.eq 2#32 0#32) 1#32 2#32)) (Scalar.select (Scalar.cmpi CmpIPredicate.eq 2#32 0#32) 1#32 2#32)) (Scalar.remsi (BitVec.ofNat 32 a.val) (Scalar.select (Scalar.cmpi CmpIPredicate.eq 2#32 0#32) 1#32 2#32))) 64#32) = BitVec.ofNat 32 (64 * (a.val % 2)) := by decide +kernel

theorem ofNat_eq_iff (a b : ℕ) (ha : a < 1024) (hb : b < 1024) : BitVec.ofNat 32 a = BitVec.ofNat 32 b ↔ a = b := by
  constructor
  · intro h; have := congrArg BitVec.toNat h
    simp only [BitVec.toNat_ofNat] at this
    rwa [Nat.mod_eq_of_lt (by omega), Nat.mod_eq_of_lt (by omega)] at this
  · rintro rfl; rfl

section
variable {v3 : IVec S64x128 32} (hv : ∀ r l, v3 (ix2 r l) = BitVec.ofNat 32 l.val) (a : Fin 12) (b : Fin 2)
include hv
theorem pay112_at (r : Fin 64) (x : Fin 128) :
    k0_pay112 v3 (BitVec.ofNat 32 a.val) (ix2 r x) = if x.val = r.val + 64 * (a.val % 2) then 1#1 else 0#1 := by
  pointwise [k0_pay112]
  rw [hitW, hv]
  have e : IntOp.addi (BitVec.ofNat 32 r.val) (BitVec.ofNat 32 (64 * (a.val % 2))) = BitVec.ofNat 32 (r.val + 64 * (a.val % 2)) := by
    show BitVec.ofNat 32 r.val + BitVec.ofNat 32 (64 * (a.val % 2)) = _
    exact (BitVec.ofNat_add ..).symm
  rw [e]
  by_cases h : x.val = r.val + 64 * (a.val % 2)
  · rw [if_pos h, h]; simp [IntOp.cmpi]
  · rw [if_neg h]
    have := fun h' => h ((ofNat_eq_iff _ _ (by omega) (by omega)).1 h')
    simp [IntOp.cmpi, beq_eq_false_iff_ne.mpr this]

theorem pay113_at (v : Vec Ideal S2x128 .f32) (r : Fin 64) (l : Fin 128) :
    k0_pay113 (F := Ideal) v3 (BitVec.ofNat 32 b.val) (BitVec.ofNat 32 a.val) v (ix2 r l) = v (ix2 b ⟨r.val + 64 * (a.val % 2), by omega⟩) * k62 := by
  pointwise [k0_pay113]
  congr 1
  simp only [pay112_at hv]
  rw [Finset.sum_eq_single ⟨r.val + 64 * (a.val % 2), by omega⟩]
  · simp only [if_pos]
    fin_cases b <;> simp [Scalar.select, Scalar.cmpi, IntOp.cmpi]
  · intro x _ hx
    rw [if_neg (fun h => hx (Fin.ext h))]; rfl
  · intro h; exact absurd (Finset.mem_univ _) h

theorem fold_pick (c : Fin 64 → EReal) (j : Fin 128) :
    Finset.fold max (Ideal.ofBits FTy.f32 4286578688#32) (fun x => Scalar.select (k0_pay112 v3 (BitVec.ofNat 32 a.val) (ix2 x j)) (c x) 0) Finset.univ
      = if j.val / 64 = a.val % 2 then max 0 (c ⟨j.val % 64, by omega⟩) else 0 := by
  simp only [pay112_at hv]
  have hb : Ideal.ofBits FTy.f32 4286578688#32 = ⊥ := kbot_eq
  rw [hb]
  have h0 : ∃ x : Fin 64, x.val ≠ j.val % 64 := by
    by_cases h : j.val % 64 = 0
    · exact ⟨1, by rw [h]; decide⟩
    · exact ⟨0, fun h' => h h'.symm⟩
  obtain ⟨x0, hx0⟩ := h0
  have n0 : ¬ j.val = x0.val + 64 * (a.val % 2) := by omega
  split
  · rename_i h
    apply le_antisymm
    · rw [Finset.fold_max_le]
      refine ⟨bot_le, fun x _ => ?_⟩
      by_cases hx : j.val = x.val + 64 * (a.val % 2)
      · rw [if_pos hx]
        have : x = ⟨j.val % 64, by have := j.isLt; exact Nat.mod_lt _ (by decide)⟩ := Fin.ext (by show x.val = j.val % 64; omega)
        have e : Scalar.select (1#1) (c x) 0 = c x := rfl
        rw [e]
        refine le_trans (le_of_eq ?_) (le_max_right _ _)
        exact congrArg c this
      · rw [if_neg hx]; exact le_max_left _ _
    · apply max_le
      · rw [Finset.le_fold_max]; right
        exact ⟨x0, Finset.mem_univ _, by rw [if_neg n0]; exact le_refl _⟩
      · rw [Finset.le_fold_max]; right
        exact ⟨⟨j.val % 64, by omega⟩, Finset.mem_univ _, by rw [if_pos (by show j.val = j.val % 64 + 64 * (a.val % 2); omega)]; exact le_refl _⟩
  · rename_i h
    apply le_antisymm
    · rw [Finset.fold_max_le]
      refine ⟨bot_le, fun x _ => ?_⟩
      rw [if_neg (by omega)]; exact le_refl _
    · rw [Finset.le_fold_max]; right
      exact ⟨x0, Finset.mem_univ _, by rw [if_neg n0]; exact le_refl _⟩

omit hv in
theorem pay122_at (m : Vec Ideal S64x128 .f32) (x : Fin 64) : k0_pay122 (F := Ideal) m (ix2 x 0) = max128 (fun l => m (ix2 x l)) := by
  pointwise [k0_pay122]; rfl

theorem pay124_at (m : Vec Ideal S64x128 .f32) (v : Vec Ideal S2x128 .f32) (q : Fin 2) (j : Fin 128) :
    k0_pay124 (F := Ideal) (BitVec.ofNat 32 b.val) (k0_pay112 v3 (BitVec.ofNat 32 a.val)) m v (ix2 q j)
      = if q = b ∧ j.val / 64 = a.val % 2 then max 0 (max128 (fun l => m (ix2 ⟨j.val % 64, by omega⟩ l)) * kthou) else v (ix2 q j) := by
  pointwise [k0_pay124]
  have f1 := fold_pick (v3 := v3) hv a (fun _ => 1) j
  have f2 := fold_pick (v3 := v3) hv a (fun x => max128 (fun l => m (ix2 x l)) * kthou) j
  simp only [pay122_at]
  refine Eq.trans (congrArg₂ (fun s t => Scalar.select (IntOp.andi (IntOp.cmpi CmpIPredicate.eq (BitVec.ofNat 32 q.val) (BitVec.ofNat 32 b.val)) (BitVec.ofBool (decide ((0 : EReal) < s)))) t (v (ix2 q j))) f1 f2) ?_
  have hq : q = b ↔ BitVec.ofNat 32 q.val = BitVec.ofNat 32 b.val := by
    rw [ofNat_eq_iff _ _ (by omega) (by omega)]; exact Fin.ext_iff
  by_cases h1 : q = b
  · subst q
    by_cases h2 : j.val / 64 = a.val % 2
    · rw [if_pos (show b = b ∧ j.val / 64 = a.val % 2 from ⟨rfl, h2⟩)]
      simp only [if_pos h2]
      have : (0 : EReal) < max 0 1 := lt_max_of_lt_right (by norm_num)
      simp [Scalar.select, IntOp.cmpi, IntOp.andi]
    · simp only [if_neg h2]
      rw [if_neg (fun h => h2 h.2)]
      simp [Scalar.select, IntOp.cmpi, IntOp.andi]
  · rw [if_neg (fun h : q = b ∧ j.val / 64 = a.val % 2 => h1 h.1)]
    have := beq_eq_false_iff_ne.mpr (fun h => h1 (hq.2 h))
    simp [Scalar.select, IntOp.cmpi, IntOp.andi, this]
end

theorem pay121_at (v : Vec Ideal S64x128 .f32) (r : Fin 64) (j : Fin 86) : k0_pay121 (F := Ideal) v (ix3 0 r j) = sEl (v (ix2 r ⟨j.val, by omega⟩) * ktenth) := by
  pointwise [k0_pay121]; rfl
theorem pay123_at (v : Vec Ideal S64x128 .f32) (r : Fin 64) (l : Fin 128) : k0_pay123 (F := Ideal) v (ix2 r l) = max128 (fun l => v (ix2 r l)) := by
  pointwise [k0_pay123]; exact pay122_at v r
theorem pay115_at (r : Fin 64) (l : Fin 128) : k0_pay115 (F := Ideal) (ix2 r l) = 0 := by
  pointwise [k0_pay115]
theorem pay114_at (v : Vec Ideal S64x128 .f32) (r : Fin 64) (l : Fin 128) : k0_pay114 (F := Ideal) v (ix2 r l) = v (ix2 r l) := by
  pointwise [k0_pay114]
theorem pay5_at (v : Vec Ideal S8x11008 .f32) (d : Fin 11008) : k0_pay5 (F := Ideal) v (ix2 0 d) = Finset.fold max kbot (fun y : Fin 8 => v (ix2 y d)) Finset.univ * kthou := by
  pointwise [k0_pay5, k0_pay4]; rfl
theorem pay6_at (v : Vec Ideal S8x11008 .f32) (d : Fin 11008) : k0_pay6 (F := Ideal) v (ix2 0 d) = Ideal.div k16 (Finset.fold max kbot (fun y : Fin 8 => v (ix2 y d)) Finset.univ) := by
  pointwise [k0_pay6, k0_pay4]; rfl
theorem pay110_at (v : Vec Ideal S1x11008 .f32) (d : Fin 11008) : k0_pay110 (F := Ideal) v (ix2 0 d) = v (ix2 0 d) * k62 := by
  pointwise [k0_pay110]; rfl
theorem pay111_at (r : Fin 8) (d : Fin 11008) : k0_pay111 (F := Ideal) (ix2 r d) = 0 := by
  pointwise [k0_pay111]

end Cert.KernelIdeal.Hand

end
-- ==== Proof.KernelIdeal.SegVal.lean ====
/-
  What one update of a block of rows leaves in every buffer, as closed forms of what it read.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdeal.Pay2
public import proofs.«01_k».proof.Proof.KernelIdeal.Segs
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

local notation "𝕄" => MT nD τ sig Unit (Elt Ideal) ℕ (UR sig nD τ) ℕ

/-- The step within a batch that a grid point makes. -/
def aI (i : grid0.Coords) : Fin 12 := ⟨(i 0).val % 12, Nat.mod_lt _ (by decide)⟩
/-- The row factors of a block of rows. -/
def rowN (row : Vec Ideal S2x768 .f32) (a : Fin 12) (b : Fin 2) (r : Fin 64) : EReal := row (ix2 b ⟨64 * a.val + r.val, by omega⟩) * k62
/-- The supremum of nonnegative values. -/
def supV {n : ℕ} (f : Fin n → EReal) : EReal := max 0 (Finset.univ.sup f)
theorem supV_le {n : ℕ} (f : Fin n → EReal) (x : EReal) : supV f ≤ x ↔ 0 ≤ x ∧ ∀ d, f d ≤ x := by
  unfold supV; rw [max_le_iff, Finset.sup_le_iff]; simp
theorem supV_nonneg {n : ℕ} (f : Fin n → EReal) : 0 ≤ supV f := le_max_left _ _
theorem kthou_eq : kthou = ((1 / 1000 : ℝ) : EReal) := rfl
theorem kthou_pos : 0 ≤ kthou := by rw [kthou_eq]; exact_mod_cast (by norm_num : (0:ℝ) ≤ 1 / 1000)
theorem supV_thou {n : ℕ} (f : Fin n → EReal) : max 0 (supV f * kthou) = supV f * kthou :=
  max_eq_right (EReal.mul_nonneg (supV_nonneg f) kthou_pos)
theorem trips43 : Scf.trips (0#32) (Scalar.addi 0#32 43#32) 1#32 = 43 := by decide +kernel
theorem off8_eq' : ∀ (i : grid0.Coords), k0_off8 i = ![0, 128 * ((i 0).val % 12 / 2)] := by decide +kernel

variable {𝒱 : Variants} {c : Dev nD} {bd : Option 𝒱.V} {i : grid0.Coords} {u1 : Memref sig .tc .smem S1 .i32} {p1 : u1.IsWhole} {u2 : Memref sig .tc .vmem S1x64x11008 .bf16} {p2 : u2.IsWhole} {u3 : Memref sig .tc .vmem S1x64x11008 .bf16} {p3 : u3.IsWhole} {u4 : Memref sig .tc .vmem S1x64x5504 .i8} {p4 : u4.IsWhole} {u5 : Memref sig .tc .vmem S1x64x86 .f32} {p5 : u5.IsWhole} {u6 : Memref sig .tc .vmem S1x64x5504 .i8} {p6 : u6.IsWhole} {u7 : Memref sig .tc .vmem S2x768 .f32} {p7 : u7.IsWhole} {u8 : Memref sig .tc .vmem S2x11008 .f32} {p8 : u8.IsWhole} {u9 : Memref sig .tc .vmem S1x64x11008 .f32} {p9 : u9.IsWhole} {u10 : Memref sig .tc .vmem S1x64x5504 .i8} {p10 : u10.IsWhole} {u11 : Memref sig .tc .vmem S1x64x86 .f32} {p11 : u11.IsWhole} {u12 : Memref sig .tc .vmem S1x64x5504 .i8} {p12 : u12.IsWhole} {u13 : Memref sig .tc .vmem S2x768 .f32} {p13 : u13.IsWhole} {u14 : Memref sig .tc .vmem S2x11008 .f32} {p14 : u14.IsWhole} {u15 : Memref sig .tc .vmem S768x11008 .f32} {p15 : u15.IsWhole} {u16 : Memref sig .tc .vmem S768x128 .f32} {p16 : u16.IsWhole} {u17 : Memref sig .tc .vmem S64x128 .f32} {p17 : u17.IsWhole} {u18 : Memref sig .tc .vmem S1x11008 .f32} {p18 : u18.IsWhole} {u19 : Memref sig .tc .vmem S8x11008 .f32} {p19 : u19.IsWhole} {u20 : Memref sig .tc .vmem S1x11008 .f32} {p20 : u20.IsWhole} {u21 : Memref sig .tc .vmem S2x8x128 .f32} {p21 : u21.IsWhole} {v3 : IVec S64x128 32} {k0_h3 : k0_cond3 i = 1#1} {b : Fin 2} {v38 c2_i32 v42 v47 : BitVec 32} {v48 : BitVec 1}
variable {X2 : BufTy.Contents (Elt Ideal) u2.view.ty} {X3 : BufTy.Contents (Elt Ideal) u3.view.ty} {X4 : BufTy.Contents (Elt Ideal) u4.view.ty} {X5 : BufTy.Contents (Elt Ideal) u5.view.ty} {X6 : BufTy.Contents (Elt Ideal) u6.view.ty} {X7 : BufTy.Contents (Elt Ideal) u7.view.ty} {X18 : BufTy.Contents (Elt Ideal) u18.view.ty} {X21 : BufTy.Contents (Elt Ideal) u21.view.ty}
variable {f17 : BufTy.Contents (Elt Ideal) u17.view.ty} {f16 : BufTy.Contents (Elt Ideal) u16.view.ty} {f11 : BufTy.Contents (Elt Ideal) u11.view.ty} {f13 : BufTy.Contents (Elt Ideal) u13.view.ty} {f9 : BufTy.Contents (Elt Ideal) u9.view.ty} {f10 : BufTy.Contents (Elt Ideal) u10.view.ty} {f15 : BufTy.Contents (Elt Ideal) u15.view.ty} {f19 : BufTy.Contents (Elt Ideal) u19.view.ty}

section Update
theorem rn17 (hv : ∀ r l, v3 (ix2 r l) = BitVec.ofNat 32 l.val) (r : Fin 64) (l : Fin 128) : u17.view.read (Elt Ideal) (u17.view.writes (Elt Ideal) u17.view.junk [⟨Rect.unit (s := S64x128) ![0, 0] S64x128.size inb_S64x128_S64x128_0_0, k0_pay114 (F := Ideal) (k0_pay113 (F := Ideal) v3 (BitVec.ofNat 32 b.val) (BitVec.ofNat 32 (aI i).val) (u7.view.readAt (Elt Ideal) (Rect.unit (s := S2x768) (k0_off8 i) S2x128.size (k0_off8_inb i k0_h3)).toLoadRect X7))⟩]) (ix2 r l) = (rowN (u7.view.read (Elt Ideal) X7) (aI i) b) r := by
  rw [View.read_writes_cons_unit_of_mem _ _ _ _ _ _ (ix2 r l) rfl (fun a => by fin_cases a <;> simp)]
  rw [pay114_at, pay113_at hv]
  unfold rowN; congr 1
  refine readAt_unit _ _ _ _ _ (off8_eq' i) (fun x => ?_)
  fin_cases x
  · simp
  · show 64 * ((i 0).val % 12) + r.val = 128 * ((i 0).val % 12 / 2) + (r.val + 64 * ((i 0).val % 12 % 2)); omega
theorem ldw5 (inb) : u5.view.readAt (Elt Ideal) (Rect.unit (s := S1x64x86) ![0, 0, 0] S1x64x86.size inb).toLoadRect X5 = (u5.view.read (Elt Ideal) X5) := by
  funext x; exact readAt_unit _ _ inb _ _ rfl (fun a => by fin_cases a <;> simp)
theorem ld21_0 (inb) : u21.view.readAt (Elt Ideal) (Rect.unit (s := S2x8x128) ![0, 0, 0] S1x8x128.size inb).toLoadRect X21 (ix3 0 0 0) = (u21.view.read (Elt Ideal) X21) (ix3 0 0 0) :=
  readAt_unit _ _ inb _ _ rfl (fun a => by fin_cases a <;> simp)
theorem ld21_1 (inb) : u21.view.readAt (Elt Ideal) (Rect.unit (s := S2x8x128) ![1, 0, 0] S1x8x128.size inb).toLoadRect X21 (ix3 0 0 0) = (u21.view.read (Elt Ideal) X21) (ix3 1 0 0) :=
  readAt_unit _ _ inb _ _ rfl (fun a => by fin_cases a <;> simp)

theorem sm9 (hv : ∀ r l, v3 (ix2 r l) = BitVec.ofNat 32 l.val) (r : Fin 64) (d : Fin 11008) : u9.view.read (Elt Ideal) (segM (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 (BitVec.ofNat 32 b.val) (BitVec.ofNat 32 (aI i).val) v38 c2_i32 v42 v47 v48 X2 X3 X4 X5 X6 X7 X18 X21 f17 f16 f11 f13 f9 f10 f15 f19).2.2.2.2.1 (ix3 0 r d)
    = dEl ((u21.view.read (Elt Ideal) X21) (ix3 0 0 0)) ((u21.view.read (Elt Ideal) X21) (ix3 1 0 0)) (mB (u3.view.read (Elt Ideal) X3) (u4.view.read (Elt Ideal) X4) (u5.view.read (Elt Ideal) X5) r d) (vB (u3.view.read (Elt Ideal) X3) (u6.view.read (Elt Ideal) X6) (rowN (u7.view.read (Elt Ideal) X7) (aI i) b) (fun d => (u18.view.read (Elt Ideal) X18) (ix2 0 d)) r d) ((u2.view.read (Elt Ideal) X2) (ix3 0 r d)) := by
  unfold segM; dsimp only [segM.sl.HW17_1, segM.sl.v91]; unfold pb9; rw [trips43]
  refine (lp9 (rn17 (k0_h3 := k0_h3) hv) hv r d 43 le_rfl).trans ?_
  rw [if_pos (by omega), ldw5, ld21_0, ld21_1]
theorem sm10 (hv : ∀ r l, v3 (ix2 r l) = BitVec.ofNat 32 l.val) (r : Fin 64) (e : Fin 5504) : u10.view.read (Elt Ideal) (segM (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 (BitVec.ofNat 32 b.val) (BitVec.ofNat 32 (aI i).val) v38 c2_i32 v42 v47 v48 X2 X3 X4 X5 X6 X7 X18 X21 f17 f16 f11 f13 f9 f10 f15 f19).2.2.2.2.2.1 (ix3 0 r e)
    = packEl (qB (mB (u3.view.read (Elt Ideal) X3) (u4.view.read (Elt Ideal) X4) (u5.view.read (Elt Ideal) X5)) r ⟨e.val, by omega⟩) (qB (mB (u3.view.read (Elt Ideal) X3) (u4.view.read (Elt Ideal) X4) (u5.view.read (Elt Ideal) X5)) r ⟨e.val + 5504, by omega⟩) := by
  unfold segM; dsimp only [segM.sl.HW17_1, segM.sl.v91]; unfold pb10; rw [trips43]
  rw [lp10 hv r e 43 le_rfl, if_pos (by omega), ldw5]
theorem sm11 (hv : ∀ r l, v3 (ix2 r l) = BitVec.ofNat 32 l.val) (r : Fin 64) (j : Fin 86) : u11.view.read (Elt Ideal) (segM (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 (BitVec.ofNat 32 b.val) (BitVec.ofNat 32 (aI i).val) v38 c2_i32 v42 v47 v48 X2 X3 X4 X5 X6 X7 X18 X21 f17 f16 f11 f13 f9 f10 f15 f19).2.2.1 (ix3 0 r j) = sEl (aB (mB (u3.view.read (Elt Ideal) X3) (u4.view.read (Elt Ideal) X4) (u5.view.read (Elt Ideal) X5)) r j * ktenth) := by
  unfold segM; dsimp only [segM.sl.r]; unfold car2; rw [trips43]
  rw [View.read_writes_cons_unit_of_mem _ _ _ _ _ _ (ix3 0 r j) rfl (fun a => by fin_cases a <;> simp)]
  rw [pay121_at, lpAcc hv r _ 43 le_rfl, dif_pos (by show j.val < 43 ∨ 43 ≤ j.val ∧ j.val < 43 + 43; omega), ldw5]
theorem sm15 (hv : ∀ r l, v3 (ix2 r l) = BitVec.ofNat 32 l.val) (R : Fin 768) (d : Fin 11008) : u15.view.read (Elt Ideal) (segM (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 (BitVec.ofNat 32 b.val) (BitVec.ofNat 32 (aI i).val) v38 c2_i32 v42 v47 v48 X2 X3 X4 X5 X6 X7 X18 X21 f17 f16 f11 f13 f9 f10 f15 f19).2.2.2.2.2.2.1 (ix2 R d)
    = if R.val / 64 = (i 0).val % 12 then vB (u3.view.read (Elt Ideal) X3) (u6.view.read (Elt Ideal) X6) (rowN (u7.view.read (Elt Ideal) X7) (aI i) b) (fun d => (u18.view.read (Elt Ideal) X18) (ix2 0 d)) ⟨R.val % 64, Nat.mod_lt _ (by decide)⟩ d else u15.view.read (Elt Ideal) f15 (ix2 R d) := by
  unfold segM; dsimp only [segM.sl.HW17_1, segM.sl.v91]; unfold pb15; rw [trips43]
  refine (lp15 (rn17 (k0_h3 := k0_h3) hv) R d 43 le_rfl).trans ?_
  simp only [show d.val % 5504 / 128 < 43 from by omega, and_true]
theorem sm19 (hv : ∀ r l, v3 (ix2 r l) = BitVec.ofNat 32 l.val) (q : Fin 8) (d : Fin 11008) (x : EReal) : u19.view.read (Elt Ideal) (segM (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 (BitVec.ofNat 32 b.val) (BitVec.ofNat 32 (aI i).val) v38 c2_i32 v42 v47 v48 X2 X3 X4 X5 X6 X7 X18 X21 f17 f16 f11 f13 f9 f10 f15 f19).2.2.2.2.2.2.2.1 (ix2 q d) ≤ x
    ↔ u19.view.read (Elt Ideal) f19 (ix2 q d) ≤ x ∧ ∀ y : Fin 8, vB (u3.view.read (Elt Ideal) X3) (u6.view.read (Elt Ideal) X6) (rowN (u7.view.read (Elt Ideal) X7) (aI i) b) (fun d => (u18.view.read (Elt Ideal) X18) (ix2 0 d)) ⟨y.val * 8 + q.val, by omega⟩ d ≤ x := by
  unfold segM; dsimp only [segM.sl.HW17_1, segM.sl.v91]; unfold pb19; rw [trips43]
  refine (lp19 (rn17 (k0_h3 := k0_h3) hv) q d x 43 le_rfl).trans ?_
  simp only [show d.val % 5504 / 128 < 43 from by omega, true_imp_iff]
theorem sm126 (hv : ∀ r l, v3 (ix2 r l) = BitVec.ofNat 32 l.val) (r : Fin 64) (l : Fin 128) (x : EReal) : segM.sl.v126 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 (BitVec.ofNat 32 b.val) (BitVec.ofNat 32 (aI i).val) v38 X2 X3 X4 X5 X6 X7 X18 X21 f16 f9 f10 f15 f19 (ix2 r l) ≤ x
    ↔ 0 ≤ x ∧ ∀ d : Fin 11008, d.val % 128 = l.val → vB (u3.view.read (Elt Ideal) X3) (u6.view.read (Elt Ideal) X6) (rowN (u7.view.read (Elt Ideal) X7) (aI i) b) (fun d => (u18.view.read (Elt Ideal) X18) (ix2 0 d)) r d ≤ x := by
  dsimp only [segM.sl.v126, segM.sl.HW17_1, segM.sl.v91]; unfold pb16; rw [trips43, View.writes_append]
  refine (iff_of_eq (congrArg (· ≤ x) (readAt_unit _ _ _ (ix2 r l) (ix2 ⟨64 * ((i 0).val % 12) + r.val, by omega⟩ l) (off9_eq i) (fun a => by fin_cases a <;> simp)))).trans ?_
  refine (lp16 (rn17 (k0_h3 := k0_h3) hv) r l x 43 le_rfl).trans ?_
  rw [View.read_writes_cons_unit_of_mem _ _ _ _ _ _ (ix2 r l) (off9_eq i) (fun a => by fin_cases a <;> simp), pay115_at]
  constructor
  · rintro ⟨h, h2⟩; exact ⟨h, fun d hd => h2 d (by omega) hd⟩
  · rintro ⟨h, h2⟩; exact ⟨h, fun d _ hd => h2 d hd⟩
theorem smax (hv : ∀ r l, v3 (ix2 r l) = BitVec.ofNat 32 l.val) (r : Fin 64) : max128 (fun l => segM.sl.v126 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 (BitVec.ofNat 32 b.val) (BitVec.ofNat 32 (aI i).val) v38 X2 X3 X4 X5 X6 X7 X18 X21 f16 f9 f10 f15 f19 (ix2 r l)) = supV (vB (u3.view.read (Elt Ideal) X3) (u6.view.read (Elt Ideal) X6) (rowN (u7.view.read (Elt Ideal) X7) (aI i) b) (fun d => (u18.view.read (Elt Ideal) X18) (ix2 0 d)) r) := by
  apply eq_of_forall_ge_iff
  intro x
  unfold max128; rw [Finset.fold_max_le, kbot_eq, supV_le]
  simp only [sm126 hv]
  constructor
  · rintro ⟨-, h⟩
    exact ⟨(h 0 (Finset.mem_univ _)).1, fun d => (h ⟨d.val % 128, by omega⟩ (Finset.mem_univ _)).2 d rfl⟩
  · rintro ⟨h, h2⟩
    exact ⟨bot_le, fun l _ => ⟨h, fun d _ => h2 d⟩⟩
theorem sm16 (hv : ∀ r l, v3 (ix2 r l) = BitVec.ofNat 32 l.val) (R : Fin 768) (l : Fin 128) : u16.view.read (Elt Ideal) (segM (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 (BitVec.ofNat 32 b.val) (BitVec.ofNat 32 (aI i).val) v38 c2_i32 v42 v47 v48 X2 X3 X4 X5 X6 X7 X18 X21 f17 f16 f11 f13 f9 f10 f15 f19).2.1 (ix2 R l)
    = if R.val / 64 = (i 0).val % 12 then supV (vB (u3.view.read (Elt Ideal) X3) (u6.view.read (Elt Ideal) X6) (rowN (u7.view.read (Elt Ideal) X7) (aI i) b) (fun d => (u18.view.read (Elt Ideal) X18) (ix2 0 d)) ⟨R.val % 64, Nat.mod_lt _ (by decide)⟩) else u16.view.read (Elt Ideal) f16 (ix2 R l) := by
  unfold segM; dsimp only
  by_cases h : R.val / 64 = (i 0).val % 12
  · rw [if_pos h]
    rw [View.read_writes_cons_unit_of_mem _ _ _ _ _ _ (ix2 ⟨R.val % 64, Nat.mod_lt _ (by decide)⟩ l) (off9_eq i) (fun a => by fin_cases a <;> [(show R.val = 64 * ((i 0).val % 12) + R.val % 64; omega); (simp)])]
    rw [pay123_at, smax hv]
  · rw [if_neg h]
    rw [View.read_writes_cons_unit_of_not_mem _ _ _ _ _ _ (off9_eq i) (0 : Fin 2) (by show R.val < 64 * ((i 0).val % 12) ∨ 64 * ((i 0).val % 12) + 64 ≤ R.val; omega)]
    rw [View.writes_append]; unfold pb16; rw [trips43, lp16_miss R l h 43 le_rfl]
    rw [View.read_writes_cons_unit_of_not_mem _ _ _ _ _ _ (off9_eq i) (0 : Fin 2) (by show R.val < 64 * ((i 0).val % 12) ∨ 64 * ((i 0).val % 12) + 64 ≤ R.val; omega)]
    rfl
theorem sm13 (hv : ∀ r l, v3 (ix2 r l) = BitVec.ofNat 32 l.val) (q : Fin 2) (R : Fin 768) : u13.view.read (Elt Ideal) (segM (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 v3 k0_h3 (BitVec.ofNat 32 b.val) (BitVec.ofNat 32 (aI i).val) v38 c2_i32 v42 v47 v48 X2 X3 X4 X5 X6 X7 X18 X21 f17 f16 f11 f13 f9 f10 f15 f19).2.2.2.1 (ix2 q R)
    = if q = b ∧ R.val / 64 = (i 0).val % 12 then supV (vB (u3.view.read (Elt Ideal) X3) (u6.view.read (Elt Ideal) X6) (rowN (u7.view.read (Elt Ideal) X7) (aI i) b) (fun d => (u18.view.read (Elt Ideal) X18) (ix2 0 d)) ⟨R.val % 64, Nat.mod_lt _ (by decide)⟩) * kthou else u13.view.read (Elt Ideal) f13 (ix2 q R) := by
  unfold segM; dsimp only
  have ha : (aI i).val = (i 0).val % 12 := rfl
  by_cases h : R.val / 128 = (i 0).val % 12 / 2
  · rw [View.read_writes_cons_unit_of_mem _ _ _ _ _ _ (ix2 q ⟨R.val % 128, Nat.mod_lt _ (by decide)⟩) (off8_eq' i) (fun a => by fin_cases a <;> [(simp); (show R.val = 128 * ((i 0).val % 12 / 2) + R.val % 128; omega)])]
    dsimp only [segM.sl.v81]
    refine (pay124_at hv (aI i) b _ _ q _).trans ?_
    rw [smax hv, supV_thou]
    by_cases h2 : q = b ∧ R.val / 64 = (i 0).val % 12
    · rw [if_pos h2, if_pos ⟨h2.1, by show R.val % 128 / 64 = (i 0).val % 12 % 2; omega⟩]
      congr 3; apply Fin.ext; show R.val % 128 % 64 = R.val % 64; omega
    · rw [if_neg h2, if_neg (fun h3 => h2 ⟨h3.1, by have : R.val % 128 / 64 = (i 0).val % 12 % 2 := h3.2; omega⟩)]
      exact readAt_unit _ _ _ _ _ (off8_eq' i) (fun a => by fin_cases a <;> [(simp); (show R.val = 128 * ((i 0).val % 12 / 2) + R.val % 128; omega)])
  · rw [if_neg (fun h3 => h (by omega))]
    rw [View.read_writes_cons_unit_of_not_mem _ _ _ _ _ _ (off8_eq' i) (1 : Fin 2) (by show R.val < 128 * ((i 0).val % 12 / 2) ∨ 128 * ((i 0).val % 12 / 2) + 128 ≤ R.val; omega)]
    rfl
end Update

end Cert.KernelIdeal.Hand

end
-- ==== Proof.KernelIdeal.SegVal2.lean ====
/-
  What the remaining segments leave: the codes of an earlier batch, the column factors, and the closing of the column maxima.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdeal.SegVal
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

local notation "𝕄" => MT nD τ sig Unit (Elt Ideal) ℕ (UR sig nD τ) ℕ

variable {𝒱 : Variants} {c : Dev nD} {bd : Option 𝒱.V} {i : grid0.Coords} {u1 : Memref sig .tc .smem S1 .i32} {p1 : u1.IsWhole} {u2 : Memref sig .tc .vmem S1x64x11008 .bf16} {p2 : u2.IsWhole} {u3 : Memref sig .tc .vmem S1x64x11008 .bf16} {p3 : u3.IsWhole} {u4 : Memref sig .tc .vmem S1x64x5504 .i8} {p4 : u4.IsWhole} {u5 : Memref sig .tc .vmem S1x64x86 .f32} {p5 : u5.IsWhole} {u6 : Memref sig .tc .vmem S1x64x5504 .i8} {p6 : u6.IsWhole} {u7 : Memref sig .tc .vmem S2x768 .f32} {p7 : u7.IsWhole} {u8 : Memref sig .tc .vmem S2x11008 .f32} {p8 : u8.IsWhole} {u9 : Memref sig .tc .vmem S1x64x11008 .f32} {p9 : u9.IsWhole} {u10 : Memref sig .tc .vmem S1x64x5504 .i8} {p10 : u10.IsWhole} {u11 : Memref sig .tc .vmem S1x64x86 .f32} {p11 : u11.IsWhole} {u12 : Memref sig .tc .vmem S1x64x5504 .i8} {p12 : u12.IsWhole} {u13 : Memref sig .tc .vmem S2x768 .f32} {p13 : u13.IsWhole} {u14 : Memref sig .tc .vmem S2x11008 .f32} {p14 : u14.IsWhole} {u15 : Memref sig .tc .vmem S768x11008 .f32} {p15 : u15.IsWhole} {u16 : Memref sig .tc .vmem S768x128 .f32} {p16 : u16.IsWhole} {u17 : Memref sig .tc .vmem S64x128 .f32} {p17 : u17.IsWhole} {u18 : Memref sig .tc .vmem S1x11008 .f32} {p18 : u18.IsWhole} {u19 : Memref sig .tc .vmem S8x11008 .f32} {p19 : u19.IsWhole} {u20 : Memref sig .tc .vmem S1x11008 .f32} {p20 : u20.IsWhole} {u21 : Memref sig .tc .vmem S2x8x128 .f32} {p21 : u21.IsWhole}

/-- The code of one second moment, from the entry and the two maxima. -/
theorem pay3_at (w : FVec Ideal S64x128 .f32) (a c : FVec Ideal S64x128 .f32) (b d : FVec Ideal S1x128 .f32) (r : Fin 64) (l : Fin 128) :
    k0_pay3 (k0_pay75 (F := Ideal) (k0_pay2 (F := Ideal) w) a b c d) (ix3 0 r l) = packEl (uEl (a (ix2 r l)) (max (Ideal.div k16 (w (ix2 r l))) (b (ix2 0 l)))) (uEl (c (ix2 r l)) (max (Ideal.div k16 (w (ix2 r l))) (d (ix2 0 l)))) := by
  pointwise [k0_pay3, k0_pay75, k0_pay2]; rfl
theorem trips1_eq : k0_t1_loop.trips = 43 := by decide +kernel
theorem trips1' : Scf.trips 0#32 (Scalar.addi 0#32 43#32) 1#32 = 43 := by decide +kernel
theorem off3_eq' : ∀ (k : Fin k0_t1_loop.trips), k0_off3 k = ![0, 128 * k.val] := by decide +kernel
theorem off5_eq' : ∀ (k : Fin k0_t1_loop.trips), k0_off5 k = ![0, 128 * k.val + 5504] := by decide +kernel
theorem off6_eq' : ∀ (k : Fin k0_t1_loop.trips), k0_off6 k = ![0, 0, 128 * k.val] := by decide +kernel
section Codes
variable {k0_h2 : k0_cond2 i = 1#1} {v21 : BitVec 32} {w : Vec Ideal S64x128 .f32} {X15 : BufTy.Contents (Elt Ideal) u15.view.ty} {X20 : BufTy.Contents (Elt Ideal) u20.view.ty} {G : BufTy.Contents (Elt Ideal) u12.view.ty}
theorem lp12 (r : Fin 64) (e : Fin 5504) (hw : ∀ l : Fin 128, w (ix2 r l) = w (ix2 r 0)) (n : ℕ) (hn : n ≤ 43) :
    u12.view.read (Elt Ideal) (u12.view.writes (Elt Ideal) G (pb_k0_t1 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 k0_h2 v21 w X15 X20 n)) (ix3 0 r e)
    = if e.val / 128 < n then packEl (uEl (u15.view.read (Elt Ideal) X15 (ix2 ⟨64 * ((i 0).val % 12) + r.val, by omega⟩ ⟨e.val, by omega⟩)) (max (Ideal.div k16 (w (ix2 r 0))) (u20.view.read (Elt Ideal) X20 (ix2 0 ⟨e.val, by omega⟩)))) (uEl (u15.view.read (Elt Ideal) X15 (ix2 ⟨64 * ((i 0).val % 12) + r.val, by omega⟩ ⟨e.val + 5504, by omega⟩)) (max (Ideal.div k16 (w (ix2 r 0))) (u20.view.read (Elt Ideal) X20 (ix2 0 ⟨e.val + 5504, by omega⟩)))) else u12.view.read (Elt Ideal) G (ix3 0 r e) := by
  induction n with
  | zero => rw [if_neg (by omega)]; rfl
  | succ n ih =>
    have hn43 : n < 43 := by omega
    have hn' : n < k0_t1_loop.trips := by rw [trips1_eq]; exact hn43
    have ih := ih (by omega)
    rw [show (pb_k0_t1 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 k0_h2 v21 w X15 X20 (n + 1)) = _ from pb_k0_t1_succ 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 k0_h2 v21 w X15 X20 ⟨n, hn'⟩]
    unfold tripL_k0_t1 trip_k0_t1; dsimp only
    rw [List.singleton_append]
    by_cases h : e.val / 128 = n
    · rw [if_pos (by omega)]
      rw [View.read_writes_cons_unit_of_mem _ _ _ _ _ _ (ix3 0 r ⟨e.val % 128, Nat.mod_lt _ (by decide)⟩) (off6_eq' ⟨n, hn'⟩) (fun a => by fin_cases a <;> [(simp); (simp); (show e.val = 128 * n + e.val % 128; omega)])]
      dsimp only [trip_k0_t1.sl.v71]
      refine (pay3_at _ _ _ _ _ _ _).trans ?_
      rw [hw]
      refine congr (congrArg packEl (congr (congrArg uEl ?_) (congrArg (max _) ?_))) (congr (congrArg uEl ?_) (congrArg (max _) ?_))
      · exact readAt_unit _ _ _ _ _ (off2_eq i ⟨n, hn'⟩) (fun a => by fin_cases a <;> [(simp); (show e.val = 128 * n + e.val % 128; omega)])
      · exact readAt_unit _ _ _ _ _ (off3_eq' ⟨n, hn'⟩) (fun a => by fin_cases a <;> [(simp); (show e.val = 128 * n + e.val % 128; omega)])
      · exact readAt_unit _ _ _ _ _ (off4_eq i ⟨n, hn'⟩) (fun a => by fin_cases a <;> [(simp); (show e.val + 5504 = 128 * n + 5504 + e.val % 128; omega)])
      · exact readAt_unit _ _ _ _ _ (off5_eq' ⟨n, hn'⟩) (fun a => by fin_cases a <;> [(simp); (show e.val + 5504 = 128 * n + 5504 + e.val % 128; omega)])
    · rw [View.read_writes_cons_unit_of_not_mem _ _ _ _ _ _ (off6_eq' ⟨n, hn'⟩) (2 : Fin 3) (by show e.val < 128 * n ∨ 128 * n + 128 ≤ e.val; omega), ih]
      simp only [show (e.val / 128 < n + 1) ↔ (e.val / 128 < n) by omega]
variable {X16 : BufTy.Contents (Elt Ideal) u16.view.ty}
theorem sR12 (r : Fin 64) (e : Fin 5504) (M : EReal) (hM : ∀ l : Fin 128, u16.view.read (Elt Ideal) X16 (ix2 ⟨64 * ((i 0).val % 12) + r.val, by omega⟩ l) = M) :
    u12.view.read (Elt Ideal) (segR (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 k0_h2 X15 X16 X20 G).1 (ix3 0 r e)
    = packEl (uEl (u15.view.read (Elt Ideal) X15 (ix2 ⟨64 * ((i 0).val % 12) + r.val, by omega⟩ ⟨e.val, by omega⟩)) (max (Ideal.div k16 M) (u20.view.read (Elt Ideal) X20 (ix2 0 ⟨e.val, by omega⟩)))) (uEl (u15.view.read (Elt Ideal) X15 (ix2 ⟨64 * ((i 0).val % 12) + r.val, by omega⟩ ⟨e.val + 5504, by omega⟩)) (max (Ideal.div k16 M) (u20.view.read (Elt Ideal) X20 (ix2 0 ⟨e.val + 5504, by omega⟩)))) := by
  unfold segR; dsimp only; rw [trips1']
  have hx : ∀ l : Fin 128, u16.view.readAt (Elt Ideal) (Rect.unit (s := S768x128) (k0_off1 i) S64x128.size (k0_off1_inb i k0_h2)).toLoadRect X16 (ix2 r l) = M := fun l =>
    (readAt_unit _ _ _ _ (ix2 ⟨64 * ((i 0).val % 12) + r.val, by omega⟩ l) (off1_eq i) (fun a => by fin_cases a <;> simp)).trans (hM l)
  refine (lp12 r e (fun l => (hx l).trans (hx 0).symm) 43 le_rfl).trans ?_
  rw [if_pos (by omega)]
  refine congr (congrArg packEl (congrArg (uEl _) (congrFun (congrArg max (congrArg (Ideal.div k16) (hx 0))) _))) (congrArg (uEl _) (congrFun (congrArg max (congrArg (Ideal.div k16) (hx 0))) _))
end Codes
section Cols
variable {k0_h3 : k0_cond3 i = 1#1} {h5 : k0_cond5 i = 1#1} {h4 : k0_cond4 i = 1#1} {h4n : ¬ k0_cond4 i = 1#1} {X19 : BufTy.Contents (Elt Ideal) u19.view.ty} {f14 : BufTy.Contents (Elt Ideal) u14.view.ty} {f20 : BufTy.Contents (Elt Ideal) u20.view.ty} {X8 : BufTy.Contents (Elt Ideal) u8.view.ty} {f18 : BufTy.Contents (Elt Ideal) u18.view.ty} {f19 : BufTy.Contents (Elt Ideal) u19.view.ty}
theorem sE14 (q : Fin 2) (d : Fin 11008) :
    u14.view.read (Elt Ideal) (segE (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 k0_h3 h5 X19 f14 f20).1 (ix2 q d)
    = if q.val = (i 0).val / 12 then (Finset.univ.fold max kbot fun y : Fin 8 => u19.view.read (Elt Ideal) X19 (ix2 y d)) * kthou else u14.view.read (Elt Ideal) f14 (ix2 q d) := by
  unfold segE; dsimp only
  by_cases h : q.val = (i 0).val / 12
  · rw [if_pos h, View.read_writes_cons_unit_of_mem _ _ _ _ _ _ (ix2 0 d) (off16_eq i) (fun a => by fin_cases a <;> [(show q.val = (i 0).val / 12 + 0; omega); (simp)]), pay5_at]
    refine congrArg (· * kthou) (congrArg (fun z => Finset.fold max kbot z Finset.univ) (funext fun y => ?_))
    exact readAt_unit _ _ _ _ _ rfl (fun a => by fin_cases a <;> simp)
  · rw [if_neg h, View.read_writes_cons_unit_of_not_mem _ _ _ _ _ _ (off16_eq i) (0 : Fin 2) (by show q.val < (i 0).val / 12 ∨ (i 0).val / 12 + 1 ≤ q.val; omega)]
    rfl
theorem sE20 (d : Fin 11008) :
    u20.view.read (Elt Ideal) (segE (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 k0_h3 h5 X19 f14 f20).2.1 (ix2 0 d)
    = Ideal.div k16 (Finset.univ.fold max kbot fun y : Fin 8 => u19.view.read (Elt Ideal) X19 (ix2 y d)) := by
  unfold segE; dsimp only
  rw [View.read_writes_cons_unit_of_mem _ _ _ _ _ _ (ix2 0 d) rfl (fun a => by fin_cases a <;> simp), pay6_at]
  refine congrArg (Ideal.div k16) (congrArg (fun z => Finset.fold max kbot z Finset.univ) (funext fun y => ?_))
  exact readAt_unit _ _ _ _ _ rfl (fun a => by fin_cases a <;> simp)
theorem s17_18 (b : Fin 2) (hb : b.val = (i 0).val / 12) (d : Fin 11008) :
    u18.view.read (Elt Ideal) (seg17 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 k0_h3 h4 X8 f18 f19).1 (ix2 0 d) = u8.view.read (Elt Ideal) X8 (ix2 b d) * k62 := by
  unfold seg17; dsimp only
  rw [View.read_writes_cons_unit_of_mem _ _ _ _ _ _ (ix2 0 d) rfl (fun a => by fin_cases a <;> simp), pay110_at]
  refine congrArg (· * k62) ?_
  exact readAt_unit _ _ _ _ _ (off7_eq i) (fun a => by fin_cases a <;> [(show b.val = (i 0).val / 12 + 0; omega); (simp)])
theorem s17_19 (y : Fin 8) (d : Fin 11008) :
    u19.view.read (Elt Ideal) (seg17 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 k0_h3 h4 X8 f18 f19).2.1 (ix2 y d) = 0 := by
  unfold seg17; dsimp only
  rw [View.read_writes_cons_unit_of_mem _ _ _ _ _ _ (ix2 y d) rfl (fun a => by fin_cases a <;> simp), pay111_at]
theorem s17_r1 : (seg17 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 k0_h3 h4 X8 f18 f19).2.2.1.1 = BitVec.ofNat 32 ((i 0).val / 12) := by
  unfold seg17; dsimp only
  revert i; decide +kernel
theorem s17_r2 : (seg17 (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 k0_h3 h4 X8 f18 f19).2.2.1.2.1 = BitVec.ofNat 32 ((i 0).val % 12) := by
  unfold seg17; dsimp only
  revert i; decide +kernel
theorem s17n_18 : (seg17n (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 k0_h3 h4n X8 f18 f19).1 = f18 := by
  unfold seg17n; rfl
theorem s17n_19 : (seg17n (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 k0_h3 h4n X8 f18 f19).2.1 = f19 := by
  unfold seg17n; rfl
theorem s17n_r1 : (seg17n (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 k0_h3 h4n X8 f18 f19).2.2.1.1 = BitVec.ofNat 32 ((i 0).val / 12) := by
  unfold seg17n; dsimp only
  revert i; decide +kernel
theorem s17n_r2 : (seg17n (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 k0_h3 h4n X8 f18 f19).2.2.1.2.1 = BitVec.ofNat 32 ((i 0).val % 12) := by
  unfold seg17n; dsimp only
  revert i; decide +kernel
end Cols

end Cert.KernelIdeal.Hand

end
-- ==== Proof.KernelIdeal.Pow.lean ====
/-
  The two constants of the step: the integer powers by squaring, and what the first segment stores.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdeal.SegVal
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

local notation "𝕄" => MT nD τ sig Unit (Elt Ideal) ℕ (UR sig nD τ) ℕ

/-- A vector that holds the `2^n`th power of `b` in every lane. -/
def IsB (b : EReal) (v : FVec Ideal S8x128 .f32) (n : ℕ) : Prop := ∀ x, v x = b ^ (2 ^ n)
/-- A vector that holds in every lane the power of `b` by the lowest `n` bits of `t`. -/
def IsR (b : EReal) (t : BitVec 32) (v : FVec Ideal S8x128 .f32) (n : ℕ) : Prop := ∀ x, v x = b ^ (t.toNat % 2 ^ n)
/-- The bit `n` of a word, as the kernel tests it. -/
abbrev bitW (t : BitVec 32) (n : ℕ) : BitVec 1 := Scalar.cmpi .eq (Scalar.andi (Scalar.shrsi t (BitVec.ofNat 32 n)) 1#32) 1#32

theorem sqB {b : EReal} {v : FVec Ideal S8x128 .f32} {n : ℕ} (h : IsB b v n) : IsB b (mulf v v) (n + 1) := by
  intro x
  show v x * v x = _
  rw [h x, ← pow_add]; congr 1; rw [pow_succ]; omega

theorem bitW_eq (t : BitVec 32) (n : ℕ) (hn : n < 31) : bitW t n = if t.toNat / 2 ^ n % 2 = 1 then 1#1 else 0#1 := by
  have e : Scalar.andi (Scalar.shrsi t (BitVec.ofNat 32 n)) 1#32 = BitVec.ofNat 32 (t.toNat / 2 ^ n % 2) := by
    apply BitVec.eq_of_toNat_eq
    have h1 : (t.sshiftRight n) &&& 1#32 = (t >>> n) &&& 1#32 := by
      apply BitVec.eq_of_getLsbD_eq
      intro i hi
      rw [BitVec.getLsbD_and, BitVec.getLsbD_and, BitVec.getLsbD_sshiftRight, BitVec.getLsbD_ushiftRight]
      by_cases h0 : i = 0
      · subst h0; simp [show n < 32 by omega]
      · simp [BitVec.getLsbD_one, h0]
    have h2 : Scalar.andi (Scalar.shrsi t (BitVec.ofNat 32 n)) 1#32 = (t.sshiftRight n) &&& 1#32 := by
      show IntOp.andi (IntOp.shrsi .scalar t (BitVec.ofNat 32 n)) 1#32 = _
      simp only [IntOp.andi, IntOp.shrsi]
      have e : (BitVec.ofNat 32 n).toNat = n := by rw [BitVec.toNat_ofNat]; exact Nat.mod_eq_of_lt (by omega)
      rw [if_pos (by rw [e]; omega)]
      congr 1
      show t.sshiftRight (BitVec.ofNat 32 n).toNat = _
      rw [e]
    rw [h2, h1]
    simp only [BitVec.toNat_and, BitVec.toNat_ushiftRight, BitVec.toNat_ofNat, Nat.shiftRight_eq_div_pow]
    rw [show (1 % 2 ^ 32 : ℕ) = 1 from rfl, Nat.and_one_is_mod, Nat.mod_eq_of_lt (a := _ % 2) (by omega)]
  unfold bitW; rw [e]
  have : t.toNat / 2 ^ n % 2 = 0 ∨ t.toNat / 2 ^ n % 2 = 1 := by omega
  rcases this with h | h <;> rw [h] <;> rfl

theorem stepR {b : EReal} {t : BitVec 32} {v w : FVec Ideal S8x128 .f32} (n : ℕ) (hn : n < 31) (h : IsR b t v n) (hw : IsB b w n) :
    IsR b t (Scalar.select (bitW t n) (mulf v w) v) (n + 1) := by
  intro x
  rw [bitW_eq t n hn]
  have e : t.toNat % 2 ^ (n + 1) = t.toNat % 2 ^ n + 2 ^ n * (t.toNat / 2 ^ n % 2) := by
    rw [pow_succ, Nat.mod_mul]
  rw [e]
  by_cases hb : t.toNat / 2 ^ n % 2 = 1
  · rw [if_pos hb, hb, mul_one, pow_add]
    show v x * w x = _
    rw [h x, hw x]
  · have : t.toNat / 2 ^ n % 2 = 0 := by omega
    rw [if_neg hb, this, mul_zero, add_zero]
    exact h x

theorem one_bits : Scalar.ofBits (F := Ideal) .f32 0x3F800000#32 = (1 : EReal) := by
  show Ideal.ofBits .f32 0x3F800000#32 = 1
  simp [Ideal.ofBits, Ideal.ieee]
  rw [← EReal.coe_mul]
  norm_num

theorem stepR0 {b : EReal} {t : BitVec 32} : IsR b t (broadcast S8x128 (Scalar.ofBits (F := Ideal) .f32 0x3F800000#32)) 0 := by
  intro x
  rw [pow_zero, Nat.mod_one, pow_zero]
  exact one_bits

/-- The two bases as the kernel prints them. -/
def kb1 : EReal := Ideal.ofBits .f32 0x3F666666#32
def kb2 : EReal := Ideal.ofBits .f32 0x3F7FBE77#32

section PowW
variable {u1 : Memref sig .tc .smem S1 .i32} {X1 : BufTy.Contents (Elt Ideal) u1.view.ty}
/-- The word t as the kernel reads it. -/
abbrev tW (u1 : Memref sig .tc .smem S1 .i32) (X1 : BufTy.Contents (Elt Ideal) u1.view.ty) : BitVec 32 := segI.sl.r u1 X1
theorem w_v12 : IsB kb1 (segI.sl.v12 (F := Ideal)) 0 := fun _ => (pow_one _).symm
theorem w_v17 : IsR kb1 (tW u1 X1) (segI.sl.v17 u1 X1) 1 := stepR 0 (by decide) stepR0 w_v12
theorem w_v18 : IsB kb1 (segI.sl.v18 (F := Ideal)) 1 := sqB w_v12
theorem w_v23 : IsR kb1 (tW u1 X1) (segI.sl.v23 u1 X1) 2 := stepR 1 (by decide) (w_v17 (u1 := u1) (X1 := X1)) w_v18
theorem w_v24 : IsB kb1 (segI.sl.v24 (F := Ideal)) 2 := sqB w_v18
theorem w_v29 : IsR kb1 (tW u1 X1) (segI.sl.v29 u1 X1) 3 := stepR 2 (by decide) (w_v23 (u1 := u1) (X1 := X1)) w_v24
theorem w_v30 : IsB kb1 (segI.sl.v30 (F := Ideal)) 3 := sqB w_v24
theorem w_v35 : IsR kb1 (tW u1 X1) (segI.sl.v35 u1 X1) 4 := stepR 3 (by decide) (w_v29 (u1 := u1) (X1 := X1)) w_v30
theorem w_v36 : IsB kb1 (segI.sl.v36 (F := Ideal)) 4 := sqB w_v30
theorem w_v41 : IsR kb1 (tW u1 X1) (segI.sl.v41 u1 X1) 5 := stepR 4 (by decide) (w_v35 (u1 := u1) (X1 := X1)) w_v36
theorem w_v42 : IsB kb1 (segI.sl.v42 (F := Ideal)) 5 := sqB w_v36
theorem w_v47 : IsR kb1 (tW u1 X1) (segI.sl.v47 u1 X1) 6 := stepR 5 (by decide) (w_v41 (u1 := u1) (X1 := X1)) w_v42
theorem w_v48 : IsB kb1 (segI.sl.v48 (F := Ideal)) 6 := sqB w_v42
theorem w_v53 : IsR kb1 (tW u1 X1) (segI.sl.v53 u1 X1) 7 := stepR 6 (by decide) (w_v47 (u1 := u1) (X1 := X1)) w_v48
theorem w_v54 : IsB kb1 (segI.sl.v54 (F := Ideal)) 7 := sqB w_v48
theorem w_v59 : IsR kb1 (tW u1 X1) (segI.sl.v59 u1 X1) 8 := stepR 7 (by decide) (w_v53 (u1 := u1) (X1 := X1)) w_v54
theorem w_v60 : IsB kb1 (segI.sl.v60 (F := Ideal)) 8 := sqB w_v54
theorem w_v65 : IsR kb1 (tW u1 X1) (segI.sl.v65 u1 X1) 9 := stepR 8 (by decide) (w_v59 (u1 := u1) (X1 := X1)) w_v60
theorem w_v66 : IsB kb1 (segI.sl.v66 (F := Ideal)) 9 := sqB w_v60
theorem w_v71 : IsR kb1 (tW u1 X1) (segI.sl.v71 u1 X1) 10 := stepR 9 (by decide) (w_v65 (u1 := u1) (X1 := X1)) w_v66
theorem w_v72 : IsB kb1 (segI.sl.v72 (F := Ideal)) 10 := sqB w_v66
theorem w_v77 : IsR kb1 (tW u1 X1) (segI.sl.v77 u1 X1) 11 := stepR 10 (by decide) (w_v71 (u1 := u1) (X1 := X1)) w_v72
theorem w_v78 : IsB kb1 (segI.sl.v78 (F := Ideal)) 11 := sqB w_v72
theorem w_v83 : IsR kb1 (tW u1 X1) (segI.sl.v83 u1 X1) 12 := stepR 11 (by decide) (w_v77 (u1 := u1) (X1 := X1)) w_v78
theorem w_v84 : IsB kb1 (segI.sl.v84 (F := Ideal)) 12 := sqB w_v78
theorem w_v89 : IsR kb1 (tW u1 X1) (segI.sl.v89 u1 X1) 13 := stepR 12 (by decide) (w_v83 (u1 := u1) (X1 := X1)) w_v84
theorem w_v90 : IsB kb1 (segI.sl.v90 (F := Ideal)) 13 := sqB w_v84
theorem w_v95 : IsR kb1 (tW u1 X1) (segI.sl.v95 u1 X1) 14 := stepR 13 (by decide) (w_v89 (u1 := u1) (X1 := X1)) w_v90
theorem w_v96 : IsB kb1 (segI.sl.v96 (F := Ideal)) 14 := sqB w_v90
theorem w_v101 : IsR kb1 (tW u1 X1) (segI.sl.v101 u1 X1) 15 := stepR 14 (by decide) (w_v95 (u1 := u1) (X1 := X1)) w_v96
theorem w_v102 : IsB kb1 (segI.sl.v102 (F := Ideal)) 15 := sqB w_v96
theorem w_v107 : IsR kb1 (tW u1 X1) (segI.sl.v107 u1 X1) 16 := stepR 15 (by decide) (w_v101 (u1 := u1) (X1 := X1)) w_v102
theorem w_v108 : IsB kb1 (segI.sl.v108 (F := Ideal)) 16 := sqB w_v102
theorem w_v113 : IsR kb1 (tW u1 X1) (segI.sl.v113 u1 X1) 17 := stepR 16 (by decide) (w_v107 (u1 := u1) (X1 := X1)) w_v108
theorem w_v114 : IsB kb1 (segI.sl.v114 (F := Ideal)) 17 := sqB w_v108
theorem w_v119 : IsR kb1 (tW u1 X1) (segI.sl.v119 u1 X1) 18 := stepR 17 (by decide) (w_v113 (u1 := u1) (X1 := X1)) w_v114
theorem w_v120 : IsB kb1 (segI.sl.v120 (F := Ideal)) 18 := sqB w_v114
theorem w_v125 : IsR kb1 (tW u1 X1) (segI.sl.v125 u1 X1) 19 := stepR 18 (by decide) (w_v119 (u1 := u1) (X1 := X1)) w_v120
theorem w_v126 : IsB kb1 (segI.sl.v126 (F := Ideal)) 19 := sqB w_v120
theorem w_v131 : IsR kb1 (tW u1 X1) (segI.sl.v131 u1 X1) 20 := stepR 19 (by decide) (w_v125 (u1 := u1) (X1 := X1)) w_v126
theorem w_v132 : IsB kb1 (segI.sl.v132 (F := Ideal)) 20 := sqB w_v126
theorem w_v137 : IsR kb1 (tW u1 X1) (segI.sl.v137 u1 X1) 21 := stepR 20 (by decide) (w_v131 (u1 := u1) (X1 := X1)) w_v132
theorem w_v138 : IsB kb1 (segI.sl.v138 (F := Ideal)) 21 := sqB w_v132
theorem w_v143 : IsR kb1 (tW u1 X1) (segI.sl.v143 u1 X1) 22 := stepR 21 (by decide) (w_v137 (u1 := u1) (X1 := X1)) w_v138
theorem w_v144 : IsB kb1 (segI.sl.v144 (F := Ideal)) 22 := sqB w_v138
theorem w_v149 : IsR kb1 (tW u1 X1) (segI.sl.v149 u1 X1) 23 := stepR 22 (by decide) (w_v143 (u1 := u1) (X1 := X1)) w_v144
theorem w_v150 : IsB kb1 (segI.sl.v150 (F := Ideal)) 23 := sqB w_v144
theorem w_v155 : IsR kb1 (tW u1 X1) (segI.sl.v155 u1 X1) 24 := stepR 23 (by decide) (w_v149 (u1 := u1) (X1 := X1)) w_v150
theorem w_v156 : IsB kb1 (segI.sl.v156 (F := Ideal)) 24 := sqB w_v150
theorem w_v161 : IsR kb1 (tW u1 X1) (segI.sl.v161 u1 X1) 25 := stepR 24 (by decide) (w_v155 (u1 := u1) (X1 := X1)) w_v156
theorem w_v162 : IsB kb1 (segI.sl.v162 (F := Ideal)) 25 := sqB w_v156
theorem w_v167 : IsR kb1 (tW u1 X1) (segI.sl.v167 u1 X1) 26 := stepR 25 (by decide) (w_v161 (u1 := u1) (X1 := X1)) w_v162
theorem w_v168 : IsB kb1 (segI.sl.v168 (F := Ideal)) 26 := sqB w_v162
theorem w_v173 : IsR kb1 (tW u1 X1) (segI.sl.v173 u1 X1) 27 := stepR 26 (by decide) (w_v167 (u1 := u1) (X1 := X1)) w_v168
theorem w_v174 : IsB kb1 (segI.sl.v174 (F := Ideal)) 27 := sqB w_v168
theorem w_v179 : IsR kb1 (tW u1 X1) (segI.sl.v179 u1 X1) 28 := stepR 27 (by decide) (w_v173 (u1 := u1) (X1 := X1)) w_v174
theorem w_v180 : IsB kb1 (segI.sl.v180 (F := Ideal)) 28 := sqB w_v174
theorem w_v185 : IsR kb1 (tW u1 X1) (segI.sl.v185 u1 X1) 29 := stepR 28 (by decide) (w_v179 (u1 := u1) (X1 := X1)) w_v180
theorem w_v186 : IsB kb1 (segI.sl.v186 (F := Ideal)) 29 := sqB w_v180
theorem w_v191 : IsR kb1 (tW u1 X1) (segI.sl.v191 u1 X1) 30 := stepR 29 (by decide) (w_v185 (u1 := u1) (X1 := X1)) w_v186
theorem w_v192 : IsB kb1 (segI.sl.v192 (F := Ideal)) 30 := sqB w_v186
theorem w_v197 : IsR kb1 (tW u1 X1) (segI.sl.v197 u1 X1) 31 := stepR 30 (by decide) (w_v191 (u1 := u1) (X1 := X1)) w_v192
theorem w_v201 : IsB kb2 (segI.sl.v201 (F := Ideal)) 0 := fun _ => (pow_one _).symm
theorem w_v206 : IsR kb2 (tW u1 X1) (segI.sl.v206 u1 X1) 1 := stepR 0 (by decide) stepR0 w_v201
theorem w_v207 : IsB kb2 (segI.sl.v207 (F := Ideal)) 1 := sqB w_v201
theorem w_v212 : IsR kb2 (tW u1 X1) (segI.sl.v212 u1 X1) 2 := stepR 1 (by decide) (w_v206 (u1 := u1) (X1 := X1)) w_v207
theorem w_v213 : IsB kb2 (segI.sl.v213 (F := Ideal)) 2 := sqB w_v207
theorem w_v218 : IsR kb2 (tW u1 X1) (segI.sl.v218 u1 X1) 3 := stepR 2 (by decide) (w_v212 (u1 := u1) (X1 := X1)) w_v213
theorem w_v219 : IsB kb2 (segI.sl.v219 (F := Ideal)) 3 := sqB w_v213
theorem w_v224 : IsR kb2 (tW u1 X1) (segI.sl.v224 u1 X1) 4 := stepR 3 (by decide) (w_v218 (u1 := u1) (X1 := X1)) w_v219
theorem w_v225 : IsB kb2 (segI.sl.v225 (F := Ideal)) 4 := sqB w_v219
theorem w_v230 : IsR kb2 (tW u1 X1) (segI.sl.v230 u1 X1) 5 := stepR 4 (by decide) (w_v224 (u1 := u1) (X1 := X1)) w_v225
theorem w_v231 : IsB kb2 (segI.sl.v231 (F := Ideal)) 5 := sqB w_v225
theorem w_v236 : IsR kb2 (tW u1 X1) (segI.sl.v236 u1 X1) 6 := stepR 5 (by decide) (w_v230 (u1 := u1) (X1 := X1)) w_v231
theorem w_v237 : IsB kb2 (segI.sl.v237 (F := Ideal)) 6 := sqB w_v231
theorem w_v242 : IsR kb2 (tW u1 X1) (segI.sl.v242 u1 X1) 7 := stepR 6 (by decide) (w_v236 (u1 := u1) (X1 := X1)) w_v237
theorem w_v243 : IsB kb2 (segI.sl.v243 (F := Ideal)) 7 := sqB w_v237
theorem w_v248 : IsR kb2 (tW u1 X1) (segI.sl.v248 u1 X1) 8 := stepR 7 (by decide) (w_v242 (u1 := u1) (X1 := X1)) w_v243
theorem w_v249 : IsB kb2 (segI.sl.v249 (F := Ideal)) 8 := sqB w_v243
theorem w_v254 : IsR kb2 (tW u1 X1) (segI.sl.v254 u1 X1) 9 := stepR 8 (by decide) (w_v248 (u1 := u1) (X1 := X1)) w_v249
theorem w_v255 : IsB kb2 (segI.sl.v255 (F := Ideal)) 9 := sqB w_v249
theorem w_v260 : IsR kb2 (tW u1 X1) (segI.sl.v260 u1 X1) 10 := stepR 9 (by decide) (w_v254 (u1 := u1) (X1 := X1)) w_v255
theorem w_v261 : IsB kb2 (segI.sl.v261 (F := Ideal)) 10 := sqB w_v255
theorem w_v266 : IsR kb2 (tW u1 X1) (segI.sl.v266 u1 X1) 11 := stepR 10 (by decide) (w_v260 (u1 := u1) (X1 := X1)) w_v261
theorem w_v267 : IsB kb2 (segI.sl.v267 (F := Ideal)) 11 := sqB w_v261
theorem w_v272 : IsR kb2 (tW u1 X1) (segI.sl.v272 u1 X1) 12 := stepR 11 (by decide) (w_v266 (u1 := u1) (X1 := X1)) w_v267
theorem w_v273 : IsB kb2 (segI.sl.v273 (F := Ideal)) 12 := sqB w_v267
theorem w_v278 : IsR kb2 (tW u1 X1) (segI.sl.v278 u1 X1) 13 := stepR 12 (by decide) (w_v272 (u1 := u1) (X1 := X1)) w_v273
theorem w_v279 : IsB kb2 (segI.sl.v279 (F := Ideal)) 13 := sqB w_v273
theorem w_v284 : IsR kb2 (tW u1 X1) (segI.sl.v284 u1 X1) 14 := stepR 13 (by decide) (w_v278 (u1 := u1) (X1 := X1)) w_v279
theorem w_v285 : IsB kb2 (segI.sl.v285 (F := Ideal)) 14 := sqB w_v279
theorem w_v290 : IsR kb2 (tW u1 X1) (segI.sl.v290 u1 X1) 15 := stepR 14 (by decide) (w_v284 (u1 := u1) (X1 := X1)) w_v285
theorem w_v291 : IsB kb2 (segI.sl.v291 (F := Ideal)) 15 := sqB w_v285
theorem w_v296 : IsR kb2 (tW u1 X1) (segI.sl.v296 u1 X1) 16 := stepR 15 (by decide) (w_v290 (u1 := u1) (X1 := X1)) w_v291
theorem w_v297 : IsB kb2 (segI.sl.v297 (F := Ideal)) 16 := sqB w_v291
theorem w_v302 : IsR kb2 (tW u1 X1) (segI.sl.v302 u1 X1) 17 := stepR 16 (by decide) (w_v296 (u1 := u1) (X1 := X1)) w_v297
theorem w_v303 : IsB kb2 (segI.sl.v303 (F := Ideal)) 17 := sqB w_v297
theorem w_v308 : IsR kb2 (tW u1 X1) (segI.sl.v308 u1 X1) 18 := stepR 17 (by decide) (w_v302 (u1 := u1) (X1 := X1)) w_v303
theorem w_v309 : IsB kb2 (segI.sl.v309 (F := Ideal)) 18 := sqB w_v303
theorem w_v314 : IsR kb2 (tW u1 X1) (segI.sl.v314 u1 X1) 19 := stepR 18 (by decide) (w_v308 (u1 := u1) (X1 := X1)) w_v309
theorem w_v315 : IsB kb2 (segI.sl.v315 (F := Ideal)) 19 := sqB w_v309
theorem w_v320 : IsR kb2 (tW u1 X1) (segI.sl.v320 u1 X1) 20 := stepR 19 (by decide) (w_v314 (u1 := u1) (X1 := X1)) w_v315
theorem w_v321 : IsB kb2 (segI.sl.v321 (F := Ideal)) 20 := sqB w_v315
theorem w_v326 : IsR kb2 (tW u1 X1) (segI.sl.v326 u1 X1) 21 := stepR 20 (by decide) (w_v320 (u1 := u1) (X1 := X1)) w_v321
theorem w_v327 : IsB kb2 (segI.sl.v327 (F := Ideal)) 21 := sqB w_v321
theorem w_v332 : IsR kb2 (tW u1 X1) (segI.sl.v332 u1 X1) 22 := stepR 21 (by decide) (w_v326 (u1 := u1) (X1 := X1)) w_v327
theorem w_v333 : IsB kb2 (segI.sl.v333 (F := Ideal)) 22 := sqB w_v327
theorem w_v338 : IsR kb2 (tW u1 X1) (segI.sl.v338 u1 X1) 23 := stepR 22 (by decide) (w_v332 (u1 := u1) (X1 := X1)) w_v333
theorem w_v339 : IsB kb2 (segI.sl.v339 (F := Ideal)) 23 := sqB w_v333
theorem w_v344 : IsR kb2 (tW u1 X1) (segI.sl.v344 u1 X1) 24 := stepR 23 (by decide) (w_v338 (u1 := u1) (X1 := X1)) w_v339
theorem w_v345 : IsB kb2 (segI.sl.v345 (F := Ideal)) 24 := sqB w_v339
theorem w_v350 : IsR kb2 (tW u1 X1) (segI.sl.v350 u1 X1) 25 := stepR 24 (by decide) (w_v344 (u1 := u1) (X1 := X1)) w_v345
theorem w_v351 : IsB kb2 (segI.sl.v351 (F := Ideal)) 25 := sqB w_v345
theorem w_v356 : IsR kb2 (tW u1 X1) (segI.sl.v356 u1 X1) 26 := stepR 25 (by decide) (w_v350 (u1 := u1) (X1 := X1)) w_v351
theorem w_v357 : IsB kb2 (segI.sl.v357 (F := Ideal)) 26 := sqB w_v351
theorem w_v362 : IsR kb2 (tW u1 X1) (segI.sl.v362 u1 X1) 27 := stepR 26 (by decide) (w_v356 (u1 := u1) (X1 := X1)) w_v357
theorem w_v363 : IsB kb2 (segI.sl.v363 (F := Ideal)) 27 := sqB w_v357

theorem rA31 (x) : (segI.sl.v199 u1 X1) x = 1 - kb1 ^ ((tW u1 X1).toNat % 2 ^ 31) := by
  rw [← w_v197 (u1 := u1) (X1 := X1) x]
  rw [← one_bits]
  rfl
/-- The square root of the second bias correction over the factor of the second moment. -/
def kroot (t : BitVec 32) : EReal := Ideal.sqrt (Ideal.div (1 - kb2 ^ (t.toNat % 2 ^ 31)) kthou)

theorem root72 (x) : k0_pay72 (segI.sl.r u1 X1) (segI.sl.v362 u1 X1) (segI.sl.v363 (F := Ideal)) (segI.sl.v177 u1 X1) x = kroot (tW u1 X1) := by
  have h : IsR kb2 (tW u1 X1) _ 31 := (stepR 30 (by decide) (stepR 29 (by decide) (stepR 28 (by decide) (stepR 27 (by decide) (w_v362 (u1 := u1) (X1 := X1)) w_v363) (sqB w_v363)) (sqB (sqB w_v363))) (sqB (sqB (sqB w_v363))))
  unfold kroot
  rw [← h x]
  rw [← one_bits]
  rfl
/-- The factor of the step. -/
def kA (t : BitVec 32) : EReal := Ideal.div (klr * kroot t) (1 - kb1 ^ (t.toNat % 2 ^ 31))
/-- The summand of the denominator. -/
def kE (t : BitVec 32) : EReal := keps * kroot t

theorem c73 : k0_pay73 (segI.sl.r u1 X1) (segI.sl.v199 u1 X1) (segI.sl.v362 u1 X1) (segI.sl.v363 (F := Ideal)) (segI.sl.v177 u1 X1) (ix3 0 0 0) = kA (tW u1 X1) := by
  pointwise [k0_pay73]
  rw [root72, rA31]; rfl
theorem c74 : k0_pay1 (segI.sl.r_1 u1 X1) (ix3 0 0 0) = kE (tW u1 X1) := by
  unfold segI.sl.r_1
  pointwise [k0_pay1, k0_pay74]
  rw [root72]; rfl
theorem tW_eq : tW u1 X1 = u1.view.read (Elt Ideal) X1 (ix1 0) := by
  unfold tW segI.sl.r
  refine (readAt_unit _ _ _ _ (ix1 0) rfl ?_).trans rfl
  intro a; fin_cases a; rfl
end PowW
variable {𝒱 : Variants} {c : Dev nD} {bd : Option 𝒱.V} {i : grid0.Coords} {u1 : Memref sig .tc .smem S1 .i32} {p1 : u1.IsWhole} {u2 : Memref sig .tc .vmem S1x64x11008 .bf16} {p2 : u2.IsWhole} {u3 : Memref sig .tc .vmem S1x64x11008 .bf16} {p3 : u3.IsWhole} {u4 : Memref sig .tc .vmem S1x64x5504 .i8} {p4 : u4.IsWhole} {u5 : Memref sig .tc .vmem S1x64x86 .f32} {p5 : u5.IsWhole} {u6 : Memref sig .tc .vmem S1x64x5504 .i8} {p6 : u6.IsWhole} {u7 : Memref sig .tc .vmem S2x768 .f32} {p7 : u7.IsWhole} {u8 : Memref sig .tc .vmem S2x11008 .f32} {p8 : u8.IsWhole} {u9 : Memref sig .tc .vmem S1x64x11008 .f32} {p9 : u9.IsWhole} {u10 : Memref sig .tc .vmem S1x64x5504 .i8} {p10 : u10.IsWhole} {u11 : Memref sig .tc .vmem S1x64x86 .f32} {p11 : u11.IsWhole} {u12 : Memref sig .tc .vmem S1x64x5504 .i8} {p12 : u12.IsWhole} {u13 : Memref sig .tc .vmem S2x768 .f32} {p13 : u13.IsWhole} {u14 : Memref sig .tc .vmem S2x11008 .f32} {p14 : u14.IsWhole} {u15 : Memref sig .tc .vmem S768x11008 .f32} {p15 : u15.IsWhole} {u16 : Memref sig .tc .vmem S768x128 .f32} {p16 : u16.IsWhole} {u17 : Memref sig .tc .vmem S64x128 .f32} {p17 : u17.IsWhole} {u18 : Memref sig .tc .vmem S1x11008 .f32} {p18 : u18.IsWhole} {u19 : Memref sig .tc .vmem S8x11008 .f32} {p19 : u19.IsWhole} {u20 : Memref sig .tc .vmem S1x11008 .f32} {p20 : u20.IsWhole} {u21 : Memref sig .tc .vmem S2x8x128 .f32} {p21 : u21.IsWhole} {X1 : BufTy.Contents (Elt Ideal) u1.view.ty} {f21 : BufTy.Contents (Elt Ideal) u21.view.ty}
set_option maxHeartbeats 4000000 in
theorem sI0 : u21.view.read (Elt Ideal) (segI (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 X1 f21).1 (ix3 0 0 0) = kA (u1.view.read (Elt Ideal) X1 (ix1 0)) := by
  unfold segI; dsimp only
  rw [View.read_writes_cons_unit_of_not_mem _ _ _ _ _ _ rfl (0 : Fin 3) (by show (0:ℕ) < 1 ∨ 1 + 1 ≤ 0; omega)]
  rw [View.read_writes_cons_unit_of_mem _ _ _ _ _ _ (ix3 0 0 0) rfl (fun a => by fin_cases a <;> simp)]
  rw [← tW_eq]; exact c73
set_option maxHeartbeats 4000000 in
theorem sI1 : u21.view.read (Elt Ideal) (segI (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 X1 f21).1 (ix3 1 0 0) = kE (u1.view.read (Elt Ideal) X1 (ix1 0)) := by
  unfold segI; dsimp only
  rw [View.read_writes_cons_unit_of_mem _ _ _ _ _ _ (ix3 0 0 0) rfl (fun a => by fin_cases a <;> simp)]
  rw [← tW_eq]; exact c74

end Cert.KernelIdeal.Hand

end
-- ==== Proof.KernelIdeal.Win.lean ====
/-
  What the windows hold: an input block at an index of its array, and a property of all that is written back.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdeal.SegVal2
public import proofs.«01_k».proof.Proof.KernelIdeal.Obl
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

local notation "𝕄" => MT nD τ sig Unit (Elt Ideal) ℕ (UR sig nD τ) ℕ

variable (m : (ℓ : Loc nD τ sig) → Buf (Elt Ideal) ℓ) (sp : Dev nD → Spec Ideal) (c : Dev nD)

/-- The grid has 36 points. -/
theorem N36 : cfg0.N = 36 := by decide +kernel
theorem crd (t : Fin cfg0.N) : ((grid0.coords t) 0).val = t.val := by
  have h : ∀ t : Fin grid0.N, ((grid0.coords t) 0).val = t.val := by decide +kernel
  exact h t
theorem lt36 (t : Fin cfg0.N) : t.val < 36 := lt_of_lt_of_eq t.isLt N36
theorem blkrow (q r : ℕ) (h : q < 36) (hr : r < 64) : 64 * (q % 12) + r < 768 := by omega
/-- The batch a point works on. -/
def bT (t : Fin cfg0.N) : Fin 2 := ⟨min t.val 23 / 12, by omega⟩
/-- The row of the array that row `r` of a point's block is. -/
def rT (t : Fin cfg0.N) (r : Fin 64) : Fin 768 := ⟨64 * (min t.val 23 % 12) + r.val, by omega⟩

theorem idx_1 (t : Fin cfg0.N) : win0_1.index t 0 = min t.val 23 / 12 ∧ win0_1.index t 1 = min t.val 23 % 12 ∧ win0_1.index t 2 = 0 := by
  have h : ∀ t : Fin grid0.N, win0_1.index t 0 = min t.val 23 / 12 ∧ win0_1.index t 1 = min t.val 23 % 12 ∧ win0_1.index t 2 = 0 := by decide +kernel
  exact h t
theorem in_1 (hin : ∀ t Y X, (sp c).O 1 t Y X → X = Y) (t : Fin cfg0.N) (Y) (h : (rdat m sp c).Finds 1 t Y) (r : Fin 64) (d : Fin 11008) :
    Y (ix3 0 r d) = m ((c : Thread nD τ).loc main_arg0) (ix3 (bT t) (rT t r) d) := by
  obtain ⟨d0, rfl⟩ := (rdat m sp c).finds_in_eq_fetched 1 rfl (fun _ _ _ => rfl) hin t Y h
  rw [← V_main_arg0 m c]
  show (((cfg0.win 1).blk t).view.read (Elt Ideal) (V m c main_arg0)) (ix3 0 r d) = _
  rw [View.read_apply]
  show V m c main_arg0 _ = V m c main_arg0 _
  congr 1
  funext a
  apply Fin.ext
  have hi := idx_1 t
  match a with
  | ⟨0, _⟩ => show win0_1.index t 0 * 1 + 1 * 0 = min t.val 23 / 12; rw [hi.1]; omega
  | ⟨1, _⟩ => show win0_1.index t 1 * 64 + 1 * r.val = 64 * (min t.val 23 % 12) + r.val; rw [hi.2.1]; omega
  | ⟨2, _⟩ => show win0_1.index t 2 * 11008 + 1 * d.val = d.val; rw [hi.2.2]; omega

theorem idx_2 (t : Fin cfg0.N) : win0_2.index t 0 = min t.val 23 / 12 ∧ win0_2.index t 1 = min t.val 23 % 12 ∧ win0_2.index t 2 = 0 := by
  have h : ∀ t : Fin grid0.N, win0_2.index t 0 = min t.val 23 / 12 ∧ win0_2.index t 1 = min t.val 23 % 12 ∧ win0_2.index t 2 = 0 := by decide +kernel
  exact h t
theorem in_2 (hin : ∀ t Y X, (sp c).O 2 t Y X → X = Y) (t : Fin cfg0.N) (Y) (h : (rdat m sp c).Finds 2 t Y) (r : Fin 64) (d : Fin 11008) :
    Y (ix3 0 r d) = m ((c : Thread nD τ).loc main_arg1) (ix3 (bT t) (rT t r) d) := by
  obtain ⟨d0, rfl⟩ := (rdat m sp c).finds_in_eq_fetched 2 rfl (fun _ _ _ => rfl) hin t Y h
  rw [← V_main_arg1 m c]
  show (((cfg0.win 2).blk t).view.read (Elt Ideal) (V m c main_arg1)) (ix3 0 r d) = _
  rw [View.read_apply]
  show V m c main_arg1 _ = V m c main_arg1 _
  congr 1
  funext a
  apply Fin.ext
  have hi := idx_2 t
  match a with
  | ⟨0, _⟩ => show win0_2.index t 0 * 1 + 1 * 0 = min t.val 23 / 12; rw [hi.1]; omega
  | ⟨1, _⟩ => show win0_2.index t 1 * 64 + 1 * r.val = 64 * (min t.val 23 % 12) + r.val; rw [hi.2.1]; omega
  | ⟨2, _⟩ => show win0_2.index t 2 * 11008 + 1 * d.val = d.val; rw [hi.2.2]; omega

theorem idx_3 (t : Fin cfg0.N) : win0_3.index t 0 = min t.val 23 / 12 ∧ win0_3.index t 1 = min t.val 23 % 12 ∧ win0_3.index t 2 = 0 := by
  have h : ∀ t : Fin grid0.N, win0_3.index t 0 = min t.val 23 / 12 ∧ win0_3.index t 1 = min t.val 23 % 12 ∧ win0_3.index t 2 = 0 := by decide +kernel
  exact h t
theorem in_3 (hin : ∀ t Y X, (sp c).O 3 t Y X → X = Y) (t : Fin cfg0.N) (Y) (h : (rdat m sp c).Finds 3 t Y) (r : Fin 64) (d : Fin 5504) :
    Y (ix3 0 r d) = m ((c : Thread nD τ).loc main_arg3) (ix3 (bT t) (rT t r) d) := by
  obtain ⟨d0, rfl⟩ := (rdat m sp c).finds_in_eq_fetched 3 rfl (fun _ _ _ => rfl) hin t Y h
  rw [← V_main_arg3 m c]
  show (((cfg0.win 3).blk t).view.read (Elt Ideal) (V m c main_arg3)) (ix3 0 r d) = _
  rw [View.read_apply]
  show V m c main_arg3 _ = V m c main_arg3 _
  congr 1
  funext a
  apply Fin.ext
  have hi := idx_3 t
  match a with
  | ⟨0, _⟩ => show win0_3.index t 0 * 1 + 1 * 0 = min t.val 23 / 12; rw [hi.1]; omega
  | ⟨1, _⟩ => show win0_3.index t 1 * 64 + 1 * r.val = 64 * (min t.val 23 % 12) + r.val; rw [hi.2.1]; omega
  | ⟨2, _⟩ => show win0_3.index t 2 * 5504 + 1 * d.val = d.val; rw [hi.2.2]; omega

theorem idx_4 (t : Fin cfg0.N) : win0_4.index t 0 = min t.val 23 / 12 ∧ win0_4.index t 1 = min t.val 23 % 12 ∧ win0_4.index t 2 = 0 := by
  have h : ∀ t : Fin grid0.N, win0_4.index t 0 = min t.val 23 / 12 ∧ win0_4.index t 1 = min t.val 23 % 12 ∧ win0_4.index t 2 = 0 := by decide +kernel
  exact h t
theorem in_4 (hin : ∀ t Y X, (sp c).O 4 t Y X → X = Y) (t : Fin cfg0.N) (Y) (h : (rdat m sp c).Finds 4 t Y) (r : Fin 64) (d : Fin 86) :
    Y (ix3 0 r d) = m ((c : Thread nD τ).loc main_arg4) (ix3 (bT t) (rT t r) d) := by
  obtain ⟨d0, rfl⟩ := (rdat m sp c).finds_in_eq_fetched 4 rfl (fun _ _ _ => rfl) hin t Y h
  rw [← V_main_arg4 m c]
  show (((cfg0.win 4).blk t).view.read (Elt Ideal) (V m c main_arg4)) (ix3 0 r d) = _
  rw [View.read_apply]
  show V m c main_arg4 _ = V m c main_arg4 _
  congr 1
  funext a
  apply Fin.ext
  have hi := idx_4 t
  match a with
  | ⟨0, _⟩ => show win0_4.index t 0 * 1 + 1 * 0 = min t.val 23 / 12; rw [hi.1]; omega
  | ⟨1, _⟩ => show win0_4.index t 1 * 64 + 1 * r.val = 64 * (min t.val 23 % 12) + r.val; rw [hi.2.1]; omega
  | ⟨2, _⟩ => show win0_4.index t 2 * 86 + 1 * d.val = d.val; rw [hi.2.2]; omega

theorem idx_5 (t : Fin cfg0.N) : win0_5.index t 0 = min t.val 23 / 12 ∧ win0_5.index t 1 = min t.val 23 % 12 ∧ win0_5.index t 2 = 0 := by
  have h : ∀ t : Fin grid0.N, win0_5.index t 0 = min t.val 23 / 12 ∧ win0_5.index t 1 = min t.val 23 % 12 ∧ win0_5.index t 2 = 0 := by decide +kernel
  exact h t
theorem in_5 (hin : ∀ t Y X, (sp c).O 5 t Y X → X = Y) (t : Fin cfg0.N) (Y) (h : (rdat m sp c).Finds 5 t Y) (r : Fin 64) (d : Fin 5504) :
    Y (ix3 0 r d) = m ((c : Thread nD τ).loc main_arg5) (ix3 (bT t) (rT t r) d) := by
  obtain ⟨d0, rfl⟩ := (rdat m sp c).finds_in_eq_fetched 5 rfl (fun _ _ _ => rfl) hin t Y h
  rw [← V_main_arg5 m c]
  show (((cfg0.win 5).blk t).view.read (Elt Ideal) (V m c main_arg5)) (ix3 0 r d) = _
  rw [View.read_apply]
  show V m c main_arg5 _ = V m c main_arg5 _
  congr 1
  funext a
  apply Fin.ext
  have hi := idx_5 t
  match a with
  | ⟨0, _⟩ => show win0_5.index t 0 * 1 + 1 * 0 = min t.val 23 / 12; rw [hi.1]; omega
  | ⟨1, _⟩ => show win0_5.index t 1 * 64 + 1 * r.val = 64 * (min t.val 23 % 12) + r.val; rw [hi.2.1]; omega
  | ⟨2, _⟩ => show win0_5.index t 2 * 5504 + 1 * d.val = d.val; rw [hi.2.2]; omega

theorem idx_6 (t : Fin cfg0.N) : win0_6.index t 0 = 0 ∧ win0_6.index t 1 = 0 := by
  have h : ∀ t : Fin grid0.N, win0_6.index t 0 = 0 ∧ win0_6.index t 1 = 0 := by decide +kernel
  exact h t
theorem in_6 (hin : ∀ t Y X, (sp c).O 6 t Y X → X = Y) (t : Fin cfg0.N) (Y) (h : (rdat m sp c).Finds 6 t Y) (r : Fin 2) (d : Fin 768) :
    Y (ix2 r d) = m ((c : Thread nD τ).loc main_arg6) (ix2 r d) := by
  obtain ⟨d0, rfl⟩ := (rdat m sp c).finds_in_eq_fetched 6 rfl (fun _ _ _ => rfl) hin t Y h
  rw [← V_main_arg6 m c]
  show (((cfg0.win 6).blk t).view.read (Elt Ideal) (V m c main_arg6)) (ix2 r d) = _
  rw [View.read_apply]
  show V m c main_arg6 _ = V m c main_arg6 _
  congr 1
  funext a
  apply Fin.ext
  have hi := idx_6 t
  match a with
  | ⟨0, _⟩ => show win0_6.index t 0 * 2 + 1 * r.val = r.val; rw [hi.1]; omega
  | ⟨1, _⟩ => show win0_6.index t 1 * 768 + 1 * d.val = d.val; rw [hi.2]; omega

theorem idx_7 (t : Fin cfg0.N) : win0_7.index t 0 = 0 ∧ win0_7.index t 1 = 0 := by
  have h : ∀ t : Fin grid0.N, win0_7.index t 0 = 0 ∧ win0_7.index t 1 = 0 := by decide +kernel
  exact h t
theorem in_7 (hin : ∀ t Y X, (sp c).O 7 t Y X → X = Y) (t : Fin cfg0.N) (Y) (h : (rdat m sp c).Finds 7 t Y) (r : Fin 2) (d : Fin 11008) :
    Y (ix2 r d) = m ((c : Thread nD τ).loc main_arg7) (ix2 r d) := by
  obtain ⟨d0, rfl⟩ := (rdat m sp c).finds_in_eq_fetched 7 rfl (fun _ _ _ => rfl) hin t Y h
  rw [← V_main_arg7 m c]
  show (((cfg0.win 7).blk t).view.read (Elt Ideal) (V m c main_arg7)) (ix2 r d) = _
  rw [View.read_apply]
  show V m c main_arg7 _ = V m c main_arg7 _
  congr 1
  funext a
  apply Fin.ext
  have hi := idx_7 t
  match a with
  | ⟨0, _⟩ => show win0_7.index t 0 * 2 + 1 * r.val = r.val; rw [hi.1]; omega
  | ⟨1, _⟩ => show win0_7.index t 1 * 11008 + 1 * d.val = d.val; rw [hi.2]; omega

theorem V_v0 : V m c main_v0 (ix1 0) = m ((c : Thread nD τ).loc main_arg2) (fun a => a.elim0) := by
  rfl
theorem in_0 (hin : ∀ t Y X, (sp c).O 0 t Y X → X = Y) (t : Fin cfg0.N) (Y) (h : (rdat m sp c).Finds 0 t Y) :
    Y (ix1 0) = m ((c : Thread nD τ).loc main_arg2) (fun a => a.elim0) := by
  obtain ⟨d0, rfl⟩ := (rdat m sp c).finds_in_eq_fetched 0 rfl (fun _ _ _ => rfl) hin t Y h
  rw [← V_v0 m c]
  show (((cfg0.win 0).blk t).view.read (Elt Ideal) (V m c main_v0)) (ix1 0) = _
  rw [View.read_apply]
  show V m c main_v0 _ = V m c main_v0 _
  congr 1
  funext a
  apply Fin.ext
  match a with
  | ⟨0, _⟩ => exact Nat.lt_one_iff.mp (Fin.isLt _)

/-- A property of every element written back is a property of every covered element in the end. -/
theorem arr_forall (rd : RDat τ (Elt Ideal) Unit ℕ (UR sig nD τ) ℕ cfg0 c) (w : Fin cfg0.W)
    (P : ((cfg0.win w).arr.view.loc (c.tc : Thread nD τ)).2.ty.Idx → Elt Ideal ((cfg0.win w).arr.view.loc (c.tc : Thread nD τ)).2.ty.elt → Prop)
    (hP : ∀ t, (cfg0.win w).flush t = true → ∀ X, rd.Leaves w t X → ∀ y : ((cfg0.win w).xblock (cfg0.grid.coords t)).Idx,
      P (((cfg0.win w).blk t).view.emb y) (_root_.cast (congrArg (Elt Ideal) ((cfg0.win w).blk t).view.elt_eq.symm) ((cfg0.win w).cut (cfg0.grid.coords t) X y))) :
    ∀ (n : Nat) (t : Fin cfg0.N) (i : ((cfg0.win w).arr.view.loc (c.tc : Thread nD τ)).2.ty.Idx),
      t.val < n → (cfg0.win w).flush t = true → i ∈ ((cfg0.win w).blk t).view.set → ∀ G, rd.ArrAt w n G → P i (G i)
  | 0, _, _, ht, _, _, _, _ => absurd ht (Nat.not_lt_zero _)
  | n + 1, t, i, ht, hf, hi, G, hG => by
    simp only [RDat.ArrAt] at hG
    by_cases hn : n < cfg0.N
    swap
    · rw [dif_neg hn] at hG
      exact arr_forall rd w P hP n t i (by have := t.isLt; omega) hf hi G hG
    rw [dif_pos hn] at hG
    by_cases hfn : (cfg0.win w).flush ⟨n, hn⟩ = true
    · rw [if_pos hfn] at hG
      obtain ⟨G₀, X, h0, hL, rfl⟩ := hG
      by_cases hin : i ∈ ((cfg0.win w).blk ⟨n, hn⟩).view.set
      · obtain ⟨y, -, rfl⟩ := Finset.mem_map.mp hin
        rw [View.write_emb_of_mem _ _ (Finset.mem_univ y)]
        exact hP _ hfn X hL y
      · rw [View.write_of_not_mem _ _ _ (by rwa [View.setOn_univ])]
        have htn : t.val ≠ n := fun e => hin (by have : t = ⟨n, hn⟩ := Fin.ext e; exact this ▸ hi)
        exact arr_forall rd w P hP n t i (by omega) hf hi G₀ h0
    · rw [if_neg hfn] at hG
      have htn : t.val ≠ n := fun e => hfn (by have : t = ⟨n, hn⟩ := Fin.ext e; exact this ▸ hf)
      exact arr_forall rd w P hP n t i (by omega) hf hi G hG

end Cert.KernelIdeal.Hand

end
-- ==== Proof.KernelIdeal.Facts.lean ====
/-
  What one grid point leaves in every buffer, read at an element, as closed forms of what it found.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdeal.SegVal2
public import proofs.«01_k».proof.Proof.KernelIdeal.Pow
public import proofs.«01_k».proof.Proof.KernelIdeal.Body
public import proofs.«01_k».proof.Proof.KernelIdeal.Win
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

local notation "𝕄" => MT nD τ sig Unit (Elt Ideal) ℕ (UR sig nD τ) ℕ

/-- The batch of a point. -/
def bN (n : ℕ) : Fin 2 := ⟨min n 23 / 12, by omega⟩
/-- The step within its batch of a point. -/
def aN (n : ℕ) : Fin 12 := ⟨n % 12, Nat.mod_lt _ (by decide)⟩
/-- The second moments that a point computes. -/
abbrev vN (n : ℕ) (x3 : Vec Ideal S1x64x11008 .bf16) (x6 : Vec Ideal S1x64x5504 .i8) (x7 : Vec Ideal S2x768 .f32) (z18 : Vec Ideal S1x11008 .f32) : Fin 64 → Fin 11008 → EReal := vB x3 x6 (rowN x7 (aN n) (bN n)) (fun d => z18 (ix2 0 d))

/-- What a point that updates a block of rows leaves: the y are the contents before, the z those after. -/
structure Upd (n : ℕ) (x1 : Vec Ideal S1 .i32) (x2 : Vec Ideal S1x64x11008 .bf16) (x3 : Vec Ideal S1x64x11008 .bf16) (x4 : Vec Ideal S1x64x5504 .i8) (x5 : Vec Ideal S1x64x86 .f32) (x6 : Vec Ideal S1x64x5504 .i8) (x7 : Vec Ideal S2x768 .f32) (x8 : Vec Ideal S2x11008 .f32) (y9 : Vec Ideal S1x64x11008 .f32) (y10 : Vec Ideal S1x64x5504 .i8) (y11 : Vec Ideal S1x64x86 .f32) (y12 : Vec Ideal S1x64x5504 .i8) (y13 : Vec Ideal S2x768 .f32) (y14 : Vec Ideal S2x11008 .f32) (y15 : Vec Ideal S768x11008 .f32) (y16 : Vec Ideal S768x128 .f32) (y18 : Vec Ideal S1x11008 .f32) (y19 : Vec Ideal S8x11008 .f32) (y20 : Vec Ideal S1x11008 .f32) (y21 : Vec Ideal S2x8x128 .f32) (z9 : Vec Ideal S1x64x11008 .f32) (z10 : Vec Ideal S1x64x5504 .i8) (z11 : Vec Ideal S1x64x86 .f32) (z12 : Vec Ideal S1x64x5504 .i8) (z13 : Vec Ideal S2x768 .f32) (z14 : Vec Ideal S2x11008 .f32) (z15 : Vec Ideal S768x11008 .f32) (z16 : Vec Ideal S768x128 .f32) (z18 : Vec Ideal S1x11008 .f32) (z19 : Vec Ideal S8x11008 .f32) (z20 : Vec Ideal S1x11008 .f32) (z21 : Vec Ideal S2x8x128 .f32) : Prop where
  c18 : ∀ d, z18 (ix2 0 d) = if n % 12 = 0 then x8 (ix2 (bN n) d) * k62 else y18 (ix2 0 d)
  c19 : ∀ q d x, z19 (ix2 q d) ≤ x ↔ (if n % 12 = 0 then 0 else y19 (ix2 q d)) ≤ x ∧ ∀ y : Fin 8, vN n x3 x6 x7 z18 ⟨y.val * 8 + q.val, by omega⟩ d ≤ x
  c9 : ∀ r d, z9 (ix3 0 r d) = dEl (z21 (ix3 0 0 0)) (z21 (ix3 1 0 0)) (mB x3 x4 x5 r d) (vN n x3 x6 x7 z18 r d) (x2 (ix3 0 r d))
  c10 : ∀ r (e : Fin 5504), z10 (ix3 0 r e) = packEl (qB (mB x3 x4 x5) r ⟨e.val, by omega⟩) (qB (mB x3 x4 x5) r ⟨e.val + 5504, by omega⟩)
  c11 : ∀ r j, z11 (ix3 0 r j) = sEl (aB (mB x3 x4 x5) r j * ktenth)
  c15 : ∀ R d, z15 (ix2 R d) = if R.val / 64 = n % 12 then vN n x3 x6 x7 z18 ⟨R.val % 64, Nat.mod_lt _ (by decide)⟩ d else y15 (ix2 R d)
  c16 : ∀ R l, z16 (ix2 R l) = if R.val / 64 = n % 12 then supV (vN n x3 x6 x7 z18 ⟨R.val % 64, Nat.mod_lt _ (by decide)⟩) else y16 (ix2 R l)
  c13 : ∀ q R, z13 (ix2 q R) = if q = bN n ∧ R.val / 64 = n % 12 then supV (vN n x3 x6 x7 z18 ⟨R.val % 64, Nat.mod_lt _ (by decide)⟩) * kthou else y13 (ix2 q R)
  c14 : ∀ q d, z14 (ix2 q d) = if n % 12 = 11 ∧ q = bN n then (Finset.univ.fold max kbot fun y : Fin 8 => z19 (ix2 y d)) * kthou else y14 (ix2 q d)
  c20 : ∀ d, z20 (ix2 0 d) = if n % 12 = 11 then Ideal.div k16 (Finset.univ.fold max kbot fun y : Fin 8 => z19 (ix2 y d)) else y20 (ix2 0 d)

/-- What a point leaves. -/
structure Facts (n : ℕ) (x1 : Vec Ideal S1 .i32) (x2 : Vec Ideal S1x64x11008 .bf16) (x3 : Vec Ideal S1x64x11008 .bf16) (x4 : Vec Ideal S1x64x5504 .i8) (x5 : Vec Ideal S1x64x86 .f32) (x6 : Vec Ideal S1x64x5504 .i8) (x7 : Vec Ideal S2x768 .f32) (x8 : Vec Ideal S2x11008 .f32) (y9 : Vec Ideal S1x64x11008 .f32) (y10 : Vec Ideal S1x64x5504 .i8) (y11 : Vec Ideal S1x64x86 .f32) (y12 : Vec Ideal S1x64x5504 .i8) (y13 : Vec Ideal S2x768 .f32) (y14 : Vec Ideal S2x11008 .f32) (y15 : Vec Ideal S768x11008 .f32) (y16 : Vec Ideal S768x128 .f32) (y18 : Vec Ideal S1x11008 .f32) (y19 : Vec Ideal S8x11008 .f32) (y20 : Vec Ideal S1x11008 .f32) (y21 : Vec Ideal S2x8x128 .f32) (z9 : Vec Ideal S1x64x11008 .f32) (z10 : Vec Ideal S1x64x5504 .i8) (z11 : Vec Ideal S1x64x86 .f32) (z12 : Vec Ideal S1x64x5504 .i8) (z13 : Vec Ideal S2x768 .f32) (z14 : Vec Ideal S2x11008 .f32) (z15 : Vec Ideal S768x11008 .f32) (z16 : Vec Ideal S768x128 .f32) (z18 : Vec Ideal S1x11008 .f32) (z19 : Vec Ideal S8x11008 .f32) (z20 : Vec Ideal S1x11008 .f32) (z21 : Vec Ideal S2x8x128 .f32) : Prop where
  first : n = 0 → z21 (ix3 0 0 0) = kA (x1 (ix1 0)) ∧ z21 (ix3 1 0 0) = kE (x1 (ix1 0))
  keep21 : n ≠ 0 → z21 = y21
  upd : n < 24 → Upd n x1 x2 x3 x4 x5 x6 x7 x8 y9 y10 y11 y12 y13 y14 y15 y16 y18 y19 y20 y21 z9 z10 z11 z12 z13 z14 z15 z16 z18 z19 z20 z21
  keep : 24 ≤ n → z9 = y9 ∧ z10 = y10 ∧ z11 = y11 ∧ z13 = y13 ∧ z14 = y14 ∧ z15 = y15 ∧ z16 = y16 ∧ z18 = y18 ∧ z19 = y19 ∧ z20 = y20
  codes : 12 ≤ n → ∀ (r : Fin 64) (e : Fin 5504) (M : EReal), (∀ l : Fin 128, y16 (ix2 ⟨64 * (n % 12) + r.val, by omega⟩ l) = M) →
    z12 (ix3 0 r e) = packEl (uEl (y15 (ix2 ⟨64 * (n % 12) + r.val, by omega⟩ ⟨e.val, by omega⟩)) (max (Ideal.div k16 M) (y20 (ix2 0 ⟨e.val, by omega⟩))))
      (uEl (y15 (ix2 ⟨64 * (n % 12) + r.val, by omega⟩ ⟨e.val + 5504, by omega⟩)) (max (Ideal.div k16 M) (y20 (ix2 0 ⟨e.val + 5504, by omega⟩))))

theorem cond1_iff : ∀ i : grid0.Coords, cond1 i = 1#1 ↔ (i 0).val = 0 := by decide +kernel
theorem cond2_iff : ∀ i : grid0.Coords, k0_cond2 i = 1#1 ↔ 12 ≤ (i 0).val := by decide +kernel
theorem cond3_iff : ∀ i : grid0.Coords, k0_cond3 i = 1#1 ↔ (i 0).val < 24 := by decide +kernel
theorem cond4_iff : ∀ i : grid0.Coords, k0_cond4 i = 1#1 ↔ (i 0).val % 12 = 0 := by decide +kernel
theorem cond5_iff : ∀ i : grid0.Coords, k0_cond5 i = 1#1 ↔ (i 0).val % 12 = 11 := by decide +kernel
theorem lanes_at (r : Fin 64) (l : Fin 128) : lanes (ix2 r l) = BitVec.ofNat 32 l.val := by
  pointwise [lanes]

variable {𝒱 : Variants} {c : Dev nD} {bd : Option 𝒱.V} {i : grid0.Coords} {u1 : Memref sig .tc .smem S1 .i32} {p1 : u1.IsWhole} {u2 : Memref sig .tc .vmem S1x64x11008 .bf16} {p2 : u2.IsWhole} {u3 : Memref sig .tc .vmem S1x64x11008 .bf16} {p3 : u3.IsWhole} {u4 : Memref sig .tc .vmem S1x64x5504 .i8} {p4 : u4.IsWhole} {u5 : Memref sig .tc .vmem S1x64x86 .f32} {p5 : u5.IsWhole} {u6 : Memref sig .tc .vmem S1x64x5504 .i8} {p6 : u6.IsWhole} {u7 : Memref sig .tc .vmem S2x768 .f32} {p7 : u7.IsWhole} {u8 : Memref sig .tc .vmem S2x11008 .f32} {p8 : u8.IsWhole} {u9 : Memref sig .tc .vmem S1x64x11008 .f32} {p9 : u9.IsWhole} {u10 : Memref sig .tc .vmem S1x64x5504 .i8} {p10 : u10.IsWhole} {u11 : Memref sig .tc .vmem S1x64x86 .f32} {p11 : u11.IsWhole} {u12 : Memref sig .tc .vmem S1x64x5504 .i8} {p12 : u12.IsWhole} {u13 : Memref sig .tc .vmem S2x768 .f32} {p13 : u13.IsWhole} {u14 : Memref sig .tc .vmem S2x11008 .f32} {p14 : u14.IsWhole} {u15 : Memref sig .tc .vmem S768x11008 .f32} {p15 : u15.IsWhole} {u16 : Memref sig .tc .vmem S768x128 .f32} {p16 : u16.IsWhole} {u17 : Memref sig .tc .vmem S64x128 .f32} {p17 : u17.IsWhole} {u18 : Memref sig .tc .vmem S1x11008 .f32} {p18 : u18.IsWhole} {u19 : Memref sig .tc .vmem S8x11008 .f32} {p19 : u19.IsWhole} {u20 : Memref sig .tc .vmem S1x11008 .f32} {p20 : u20.IsWhole} {u21 : Memref sig .tc .vmem S2x8x128 .f32} {p21 : u21.IsWhole}
variable {X1 : BufTy.Contents (Elt Ideal) u1.view.ty} {X2 : BufTy.Contents (Elt Ideal) u2.view.ty} {X3 : BufTy.Contents (Elt Ideal) u3.view.ty} {X4 : BufTy.Contents (Elt Ideal) u4.view.ty} {X5 : BufTy.Contents (Elt Ideal) u5.view.ty} {X6 : BufTy.Contents (Elt Ideal) u6.view.ty} {X7 : BufTy.Contents (Elt Ideal) u7.view.ty} {X8 : BufTy.Contents (Elt Ideal) u8.view.ty}
variable {f9 : BufTy.Contents (Elt Ideal) u9.view.ty} {g9 : BufTy.Contents (Elt Ideal) u9.view.ty} {f10 : BufTy.Contents (Elt Ideal) u10.view.ty} {g10 : BufTy.Contents (Elt Ideal) u10.view.ty} {f11 : BufTy.Contents (Elt Ideal) u11.view.ty} {g11 : BufTy.Contents (Elt Ideal) u11.view.ty} {f12 : BufTy.Contents (Elt Ideal) u12.view.ty} {g12 : BufTy.Contents (Elt Ideal) u12.view.ty} {f13 : BufTy.Contents (Elt Ideal) u13.view.ty} {g13 : BufTy.Contents (Elt Ideal) u13.view.ty} {f14 : BufTy.Contents (Elt Ideal) u14.view.ty} {g14 : BufTy.Contents (Elt Ideal) u14.view.ty} {f15 : BufTy.Contents (Elt Ideal) u15.view.ty} {g15 : BufTy.Contents (Elt Ideal) u15.view.ty} {f16 : BufTy.Contents (Elt Ideal) u16.view.ty} {g16 : BufTy.Contents (Elt Ideal) u16.view.ty} {f17 : BufTy.Contents (Elt Ideal) u17.view.ty} {g17 : BufTy.Contents (Elt Ideal) u17.view.ty} {f18 : BufTy.Contents (Elt Ideal) u18.view.ty} {g18 : BufTy.Contents (Elt Ideal) u18.view.ty} {f19 : BufTy.Contents (Elt Ideal) u19.view.ty} {g19 : BufTy.Contents (Elt Ideal) u19.view.ty} {f20 : BufTy.Contents (Elt Ideal) u20.view.ty} {g20 : BufTy.Contents (Elt Ideal) u20.view.ty} {f21 : BufTy.Contents (Elt Ideal) u21.view.ty} {g21 : BufTy.Contents (Elt Ideal) u21.view.ty}

set_option maxHeartbeats 4000000 in
theorem upd_of_step (hi : (i 0).val < 24) (h : stepRel (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 X2 X3 X4 X5 X6 X7 X8 g21 f9 f10 f11 f13 f14 f15 f16 f17 f18 f19 f20 g9 g10 g11 g13 g14 g15 g16 g17 g18 g19 g20) :
    Upd (i 0).val (u1.view.read (Elt Ideal) X1) (u2.view.read (Elt Ideal) X2) (u3.view.read (Elt Ideal) X3) (u4.view.read (Elt Ideal) X4) (u5.view.read (Elt Ideal) X5) (u6.view.read (Elt Ideal) X6) (u7.view.read (Elt Ideal) X7) (u8.view.read (Elt Ideal) X8) (u9.view.read (Elt Ideal) f9) (u10.view.read (Elt Ideal) f10) (u11.view.read (Elt Ideal) f11) (u12.view.read (Elt Ideal) f12) (u13.view.read (Elt Ideal) f13) (u14.view.read (Elt Ideal) f14) (u15.view.read (Elt Ideal) f15) (u16.view.read (Elt Ideal) f16) (u18.view.read (Elt Ideal) f18) (u19.view.read (Elt Ideal) f19) (u20.view.read (Elt Ideal) f20) (u21.view.read (Elt Ideal) f21) (u9.view.read (Elt Ideal) g9) (u10.view.read (Elt Ideal) g10) (u11.view.read (Elt Ideal) g11) (u12.view.read (Elt Ideal) g12) (u13.view.read (Elt Ideal) g13) (u14.view.read (Elt Ideal) g14) (u15.view.read (Elt Ideal) g15) (u16.view.read (Elt Ideal) g16) (u18.view.read (Elt Ideal) g18) (u19.view.read (Elt Ideal) g19) (u20.view.read (Elt Ideal) g20) (u21.view.read (Elt Ideal) g21) := by
  have h3 := (cond3_iff i).mpr hi
  obtain ⟨a19, b19, ⟨v26, v36, v38, c2, v42, v47, v48⟩, hf, ⟨e17, e16, e11, e13, e9, e10, e15, eb⟩, e19, hc⟩ := h.1 h3
  have hbv : (bN (i 0).val).val = (i 0).val / 12 := by show min (i 0).val 23 / 12 = _; omega
  have hF : v26 = BitVec.ofNat 32 (bN (i 0).val).val ∧ v36 = BitVec.ofNat 32 (aI i).val
      ∧ (∀ d, u18.view.read (Elt Ideal) g18 (ix2 0 d) = if (i 0).val % 12 = 0 then u8.view.read (Elt Ideal) X8 (ix2 (bN (i 0).val) d) * k62 else u18.view.read (Elt Ideal) f18 (ix2 0 d))
      ∧ (∀ q d, u19.view.read (Elt Ideal) a19 (ix2 q d) = if (i 0).val % 12 = 0 then 0 else u19.view.read (Elt Ideal) f19 (ix2 q d)) := by
    rw [hbv]
    by_cases h4 : k0_cond4 i = 1#1
    · have hz := (cond4_iff i).mp h4
      obtain ⟨q18, q19, qr⟩ := hf.1 h4
      refine ⟨(congrArg (·.1) qr).trans s17_r1, (congrArg (·.2.1) qr).trans s17_r2, fun d => ?_, fun q d => ?_⟩
      · rw [if_pos hz, q18]; exact s17_18 _ hbv d
      · rw [if_pos hz, q19]; exact s17_19 q d
    · have hz := fun h => h4 ((cond4_iff i).mpr h)
      obtain ⟨q18, q19, qr⟩ := hf.2 h4
      refine ⟨(congrArg (·.1) qr).trans s17n_r1, (congrArg (·.2.1) qr).trans s17n_r2, fun d => ?_, fun q d => ?_⟩
      · rw [if_neg hz, q18, s17n_18]
      · rw [if_neg hz, q19, s17n_19]
  obtain ⟨hr1, hr2, h18, h19⟩ := hF
  subst hr1 hr2
  have hE : (∀ q d, u14.view.read (Elt Ideal) g14 (ix2 q d) = if (i 0).val % 12 = 11 ∧ q = bN (i 0).val then (Finset.univ.fold max kbot fun y : Fin 8 => u19.view.read (Elt Ideal) g19 (ix2 y d)) * kthou else u14.view.read (Elt Ideal) f14 (ix2 q d))
      ∧ (∀ d, u20.view.read (Elt Ideal) g20 (ix2 0 d) = if (i 0).val % 12 = 11 then Ideal.div k16 (Finset.univ.fold max kbot fun y : Fin 8 => u19.view.read (Elt Ideal) g19 (ix2 y d)) else u20.view.read (Elt Ideal) f20 (ix2 0 d)) := by
    rw [e19]
    by_cases h5 : k0_cond5 i = 1#1
    · have hz := (cond5_iff i).mp h5
      obtain ⟨q14, q20⟩ := hc.1 h5
      refine ⟨fun q d => ?_, fun d => ?_⟩
      · rw [q14]; refine (sE14 q d).trans ?_
        simp only [hz, true_and, Fin.ext_iff, hbv]
      · rw [q20, if_pos hz]; exact sE20 d
    · have hz := fun h => h5 ((cond5_iff i).mpr h)
      obtain ⟨q14, q20⟩ := hc.2 h5
      refine ⟨fun q d => ?_, fun d => ?_⟩
      · rw [q14, if_neg (fun h => hz h.1)]
      · rw [q20, if_neg hz]
  exact {
    c18 := h18
    c19 := fun q d x => by
      rw [e19, eb, ← h19 q d]; exact sm19 lanes_at q d x
    c9 := fun r d => by rw [e9]; exact sm9 lanes_at r d
    c10 := fun r e => by rw [e10]; exact sm10 lanes_at r e
    c11 := fun r j => by rw [e11]; exact sm11 lanes_at r j
    c15 := fun R d => by rw [e15]; exact sm15 lanes_at R d
    c16 := fun R l => by rw [e16]; exact sm16 lanes_at R l
    c13 := fun q R => by rw [e13]; exact sm13 lanes_at q R
    c14 := hE.1
    c20 := hE.2 }

set_option maxHeartbeats 4000000 in
theorem facts_of_rel (h : BodyRel (F := Ideal) 𝒱 c bd i u1 p1 u2 p2 u3 p3 u4 p4 u5 p5 u6 p6 u7 p7 u8 p8 u9 p9 u10 p10 u11 p11 u12 p12 u13 p13 u14 p14 u15 p15 u16 p16 u17 p17 u18 p18 u19 p19 u20 p20 u21 p21 X1 X2 X3 X4 X5 X6 X7 X8 f9 f10 f11 f12 f13 f14 f15 f16 f17 f18 f19 f20 f21 g9 g10 g11 g12 g13 g14 g15 g16 g17 g18 g19 g20 g21) :
    Facts (i 0).val (u1.view.read (Elt Ideal) X1) (u2.view.read (Elt Ideal) X2) (u3.view.read (Elt Ideal) X3) (u4.view.read (Elt Ideal) X4) (u5.view.read (Elt Ideal) X5) (u6.view.read (Elt Ideal) X6) (u7.view.read (Elt Ideal) X7) (u8.view.read (Elt Ideal) X8) (u9.view.read (Elt Ideal) f9) (u10.view.read (Elt Ideal) f10) (u11.view.read (Elt Ideal) f11) (u12.view.read (Elt Ideal) f12) (u13.view.read (Elt Ideal) f13) (u14.view.read (Elt Ideal) f14) (u15.view.read (Elt Ideal) f15) (u16.view.read (Elt Ideal) f16) (u18.view.read (Elt Ideal) f18) (u19.view.read (Elt Ideal) f19) (u20.view.read (Elt Ideal) f20) (u21.view.read (Elt Ideal) f21) (u9.view.read (Elt Ideal) g9) (u10.view.read (Elt Ideal) g10) (u11.view.read (Elt Ideal) g11) (u12.view.read (Elt Ideal) g12) (u13.view.read (Elt Ideal) g13) (u14.view.read (Elt Ideal) g14) (u15.view.read (Elt Ideal) g15) (u16.view.read (Elt Ideal) g16) (u18.view.read (Elt Ideal) g18) (u19.view.read (Elt Ideal) g19) (u20.view.read (Elt Ideal) g20) (u21.view.read (Elt Ideal) g21) where
  first h0 := by
    have e := h.init.1 ((cond1_iff i).mpr h0)
    rw [e]; exact ⟨sI0, sI1⟩
  keep21 h0 := by rw [h.init.2 (fun e => h0 ((cond1_iff i).mp e))]
  upd hi := upd_of_step hi h.step
  keep hi := by
    obtain ⟨e9, e10, e11, e13, e14, e15, e16, e17, e18, e19, e20⟩ := h.step.2 (fun e => absurd ((cond3_iff i).mp e) (by omega))
    rw [e9, e10, e11, e13, e14, e15, e16, e18, e19, e20]; exact ⟨rfl, rfl, rfl, rfl, rfl, rfl, rfl, rfl, rfl, rfl⟩
  codes hi r e M hM := by
    rw [h.codes.1 ((cond2_iff i).mpr hi)]; exact sR12 r e M hM

end Cert.KernelIdeal.Hand

end
-- ==== Proof.KernelIdeal.Inv.lean ====
/-
  The closed forms of the six results, and the invariant that the scratch buffers meet before each point.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdeal.Facts
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

local notation "𝕄" => MT nD τ sig Unit (Elt Ideal) ℕ (UR sig nD τ) ℕ

/-- The eight arguments. -/
structure Raw where
  w : Vec Ideal S2x768x11008 .bf16
  g : Vec Ideal S2x768x11008 .bf16
  t : BitVec 32
  mc : Vec Ideal S2x768x5504 .i8
  ms : Vec Ideal S2x768x86 .f32
  vc : Vec Ideal S2x768x5504 .i8
  row : Vec Ideal S2x768 .f32
  col : Vec Ideal S2x11008 .f32

namespace Raw
variable (D : Raw) (b : Fin 2) (R : Fin 768)
/-- The first moment, ten times. -/
def M (d : Fin 11008) : EReal :=
  mEl (d.val / 5504) (D.mc (ix3 b R ⟨d.val % 5504, Nat.mod_lt _ (by decide)⟩)) (D.ms (ix3 b R ⟨d.val / 128, by omega⟩) * k9) (D.g (ix3 b R d))
/-- The second moment, a thousand times. -/
def V (d : Fin 11008) : EReal :=
  vEl (d.val / 5504) (D.vc (ix3 b R ⟨d.val % 5504, Nat.mod_lt _ (by decide)⟩)) (D.row (ix2 b R) * k62) (D.col (ix2 b d) * k62) (D.g (ix3 b R d))
/-- The absolute maximum of a block of 128 first moments. -/
def A (j : Fin 86) : EReal := max128 fun l => FloatOps.absf (F := Ideal) (φ := .f32) (D.M b R ⟨128 * j.val + l.val, by omega⟩)
/-- The code of a first moment. -/
def Q (d : Fin 11008) : BitVec 32 := qEl (D.A b R ⟨d.val / 128, by omega⟩) (D.M b R d)
/-- The column maximum. -/
def C (d : Fin 11008) : EReal := supV fun R => D.V b R d
/-- The code of a second moment. -/
def U (d : Fin 11008) : BitVec 32 := uEl (D.V b R d) (max (Ideal.div k16 (supV (D.V b R))) (Ideal.div k16 (D.C b d)))
def dw (d : Fin 11008) : EReal := dEl (kA D.t) (kE D.t) (D.M b R d) (D.V b R d) (D.w (ix3 b R d))
def mcn (e : Fin 5504) : BitVec 8 := packEl (D.Q b R ⟨e.val, by omega⟩) (D.Q b R ⟨e.val + 5504, by omega⟩)
def msn (j : Fin 86) : EReal := sEl (D.A b R j * ktenth)
def vcn (e : Fin 5504) : BitVec 8 := packEl (D.U b R ⟨e.val, by omega⟩) (D.U b R ⟨e.val + 5504, by omega⟩)
def vrn : EReal := supV (D.V b R) * kthou
def vln (d : Fin 11008) : EReal := D.C b d * kthou
end Raw

/-- The row of the array that row `r` of a point's block is. -/
def rN (n : ℕ) (r : Fin 64) : Fin 768 := ⟨64 * (min n 23 % 12) + r.val, by omega⟩

/-- What the scratch buffers hold before point `n`. -/
structure Inv (D : Raw) (n : ℕ) (y15 : Vec Ideal S768x11008 .f32) (y16 : Vec Ideal S768x128 .f32) (y18 : Vec Ideal S1x11008 .f32) (y19 : Vec Ideal S8x11008 .f32) (y20 : Vec Ideal S1x11008 .f32) (y21 : Vec Ideal S2x8x128 .f32) : Prop where
  a : 1 ≤ n → y21 (ix3 0 0 0) = kA D.t ∧ y21 (ix3 1 0 0) = kE D.t
  b : ∀ (b : Fin 2) (R : Fin 768), 12 * b.val + R.val / 64 < n → n ≤ 12 * (b.val + 1) + R.val / 64 → (∀ d, y15 (ix2 R d) = D.V b R d) ∧ ∀ l, y16 (ix2 R l) = supV (D.V b R)
  c : ∀ b : Fin 2, 12 * b.val < n → n ≤ 12 * (b.val + 1) → ∀ d, y18 (ix2 0 d) = D.col (ix2 b d) * k62
  d : ∀ b : Fin 2, 12 * b.val < n → n ≤ 12 * (b.val + 1) → ∀ q d x, y19 (ix2 q d) ≤ x ↔ 0 ≤ x ∧ ∀ R : Fin 768, R.val < 64 * (n - 12 * b.val) → R.val % 8 = q.val → D.V b R d ≤ x
  e : ∀ b : Fin 2, 12 * (b.val + 1) ≤ n → n ≤ 12 * (b.val + 1) + 11 → ∀ d, y20 (ix2 0 d) = Ideal.div k16 (D.C b d)

/-- The input blocks of point `n` are those of the arguments. -/
structure Ins (D : Raw) (n : ℕ) (x1 : Vec Ideal S1 .i32) (x2 : Vec Ideal S1x64x11008 .bf16) (x3 : Vec Ideal S1x64x11008 .bf16) (x4 : Vec Ideal S1x64x5504 .i8) (x5 : Vec Ideal S1x64x86 .f32) (x6 : Vec Ideal S1x64x5504 .i8) (x7 : Vec Ideal S2x768 .f32) (x8 : Vec Ideal S2x11008 .f32) : Prop where
  t : x1 (ix1 0) = D.t
  w : ∀ r d, x2 (ix3 0 r d) = D.w (ix3 (bN n) (rN n r) d)
  g : ∀ r d, x3 (ix3 0 r d) = D.g (ix3 (bN n) (rN n r) d)
  mc : ∀ r d, x4 (ix3 0 r d) = D.mc (ix3 (bN n) (rN n r) d)
  ms : ∀ r d, x5 (ix3 0 r d) = D.ms (ix3 (bN n) (rN n r) d)
  vc : ∀ r d, x6 (ix3 0 r d) = D.vc (ix3 (bN n) (rN n r) d)
  row : ∀ b d, x7 (ix2 b d) = D.row (ix2 b d)
  col : ∀ b d, x8 (ix2 b d) = D.col (ix2 b d)

section
variable {D : Raw} {n : ℕ} {x1 : Vec Ideal S1 .i32} {x2 : Vec Ideal S1x64x11008 .bf16} {x3 : Vec Ideal S1x64x11008 .bf16} {x4 : Vec Ideal S1x64x5504 .i8} {x5 : Vec Ideal S1x64x86 .f32} {x6 : Vec Ideal S1x64x5504 .i8} {x7 : Vec Ideal S2x768 .f32} {x8 : Vec Ideal S2x11008 .f32} {y9 : Vec Ideal S1x64x11008 .f32} {y10 : Vec Ideal S1x64x5504 .i8} {y11 : Vec Ideal S1x64x86 .f32} {y12 : Vec Ideal S1x64x5504 .i8} {y13 : Vec Ideal S2x768 .f32} {y14 : Vec Ideal S2x11008 .f32} {y15 : Vec Ideal S768x11008 .f32} {y16 : Vec Ideal S768x128 .f32} {y18 : Vec Ideal S1x11008 .f32} {y19 : Vec Ideal S8x11008 .f32} {y20 : Vec Ideal S1x11008 .f32} {y21 : Vec Ideal S2x8x128 .f32} {z9 : Vec Ideal S1x64x11008 .f32} {z10 : Vec Ideal S1x64x5504 .i8} {z11 : Vec Ideal S1x64x86 .f32} {z12 : Vec Ideal S1x64x5504 .i8} {z13 : Vec Ideal S2x768 .f32} {z14 : Vec Ideal S2x11008 .f32} {z15 : Vec Ideal S768x11008 .f32} {z16 : Vec Ideal S768x128 .f32} {z18 : Vec Ideal S1x11008 .f32} {z19 : Vec Ideal S8x11008 .f32} {z20 : Vec Ideal S1x11008 .f32} {z21 : Vec Ideal S2x8x128 .f32}

theorem bN_val (hn : n < 24) : (bN n).val = n / 12 := by show min n 23 / 12 = _; omega
theorem rN_val (hn : n < 24) (r : Fin 64) : (rN n r).val = 64 * (n % 12) + r.val := by show 64 * (min n 23 % 12) + r.val = _; rw [Nat.min_eq_left (by omega)]
theorem rN_of (hn : n < 24) (R : Fin 768) (h : R.val / 64 = n % 12) : rN n ⟨R.val % 64, Nat.mod_lt _ (by decide)⟩ = R := by
  apply Fin.ext; rw [rN_val hn]; show 64 * (n % 12) + R.val % 64 = R.val; omega

theorem ins_mB (hi : Ins D n x1 x2 x3 x4 x5 x6 x7 x8) (r : Fin 64) (d : Fin 11008) : mB x3 x4 x5 r d = D.M (bN n) (rN n r) d := by
  unfold mB Raw.M; rw [hi.g, hi.mc, hi.ms]
theorem ins_aB (hi : Ins D n x1 x2 x3 x4 x5 x6 x7 x8) (r : Fin 64) (j : Fin 86) : aB (mB x3 x4 x5) r j = D.A (bN n) (rN n r) j := by
  unfold aB Raw.A; simp only [ins_mB hi]
theorem ins_qB (hi : Ins D n x1 x2 x3 x4 x5 x6 x7 x8) (r : Fin 64) (d : Fin 11008) : qB (mB x3 x4 x5) r d = D.Q (bN n) (rN n r) d := by
  unfold qB Raw.Q; rw [ins_aB hi, ins_mB hi]
theorem z18_eq (hi : Ins D n x1 x2 x3 x4 x5 x6 x7 x8) (hn : n < 24) (hu : Upd n x1 x2 x3 x4 x5 x6 x7 x8 y9 y10 y11 y12 y13 y14 y15 y16 y18 y19 y20 y21 z9 z10 z11 z12 z13 z14 z15 z16 z18 z19 z20 z21) (h : Inv D n y15 y16 y18 y19 y20 y21) (d : Fin 11008) : z18 (ix2 0 d) = D.col (ix2 (bN n) d) * k62 := by
  have hb := bN_val hn
  rw [hu.c18]
  split_ifs with h0
  · rw [hi.col]
  · exact h.c _ (by omega) (by omega) d
theorem ins_vN (hi : Ins D n x1 x2 x3 x4 x5 x6 x7 x8) (hn : n < 24) (hz : ∀ d, z18 (ix2 0 d) = D.col (ix2 (bN n) d) * k62) (r : Fin 64) : vN n x3 x6 x7 z18 r = D.V (bN n) (rN n r) := by
  funext d
  unfold vN vB Raw.V rowN; simp only [hz]; rw [hi.g, hi.vc, hi.row]
  have : (⟨64 * (aN n).val + r.val, by omega⟩ : Fin 768) = rN n r := by
    apply Fin.ext; rw [rN_val hn]; rfl
  rw [this]

theorem inv_step (hf : Facts n x1 x2 x3 x4 x5 x6 x7 x8 y9 y10 y11 y12 y13 y14 y15 y16 y18 y19 y20 y21 z9 z10 z11 z12 z13 z14 z15 z16 z18 z19 z20 z21) (hi : Ins D n x1 x2 x3 x4 x5 x6 x7 x8) (hn : n < 36) (h : Inv D n y15 y16 y18 y19 y20 y21) : Inv D (n + 1) z15 z16 z18 z19 z20 z21 := by
  have ha : z21 (ix3 0 0 0) = kA D.t ∧ z21 (ix3 1 0 0) = kE D.t := by
    by_cases h0 : n = 0
    · rw [← hi.t]; exact hf.first h0
    · rw [hf.keep21 h0]; exact h.a (by omega)
  by_cases hl : n < 24
  · have hu := hf.upd hl
    have hb := bN_val hl
    have hz := z18_eq hi hl hu h
    have hv := fun r => ins_vN (x1 := x1) (x2 := x2) (x4 := x4) (x5 := x5) (x8 := x8) hi hl hz r
    have hD : ∀ b : Fin 2, 12 * b.val < n + 1 → n + 1 ≤ 12 * (b.val + 1) → ∀ q d x, z19 (ix2 q d) ≤ x ↔ 0 ≤ x ∧ ∀ R : Fin 768, R.val < 64 * (n + 1 - 12 * b.val) → R.val % 8 = q.val → D.V b R d ≤ x := by
      intro b h1 h2 q d x
      have hbb : bN n = b := Fin.ext (by omega)
      rw [hu.c19]
      simp only [hv, hbb]
      have hold : (if n % 12 = 0 then 0 else y19 (ix2 q d)) ≤ x ↔ 0 ≤ x ∧ ∀ R : Fin 768, R.val < 64 * (n - 12 * b.val) → R.val % 8 = q.val → D.V b R d ≤ x := by
        split_ifs with h0
        · constructor
          · exact fun h => ⟨h, fun R hR => by omega⟩
          · exact fun h => h.1
        · exact h.d b (by omega) (by omega) q d x
      rw [hold]
      constructor
      · rintro ⟨⟨h0, h1'⟩, h2'⟩
        refine ⟨h0, fun R hR hq => ?_⟩
        by_cases hR' : R.val < 64 * (n - 12 * b.val)
        · exact h1' R hR' hq
        · have := h2' ⟨R.val % 64 / 8, by omega⟩
          have e : rN n ⟨R.val % 64 / 8 * 8 + q.val, by omega⟩ = R := by
            apply Fin.ext; rw [rN_val hl]; show 64 * (n % 12) + (R.val % 64 / 8 * 8 + q.val) = R.val; omega
          rw [e] at this; exact this
      · rintro ⟨h0, h1'⟩
        refine ⟨⟨h0, fun R hR hq => h1' R (by omega) hq⟩, fun y => h1' _ ?_ ?_⟩
        · rw [rN_val hl]; show 64 * (n % 12) + (y.val * 8 + q.val) < _; omega
        · rw [rN_val hl]; show (64 * (n % 12) + (y.val * 8 + q.val)) % 8 = _; omega
    refine ⟨fun _ => ha, fun b R h1 h2 => ?_, fun b h1 h2 d => ?_, hD, fun b h1 h2 d => ?_⟩
    · by_cases hR : R.val / 64 = n % 12
      · have hbb : bN n = b := Fin.ext (by omega)
        refine ⟨fun d => ?_, fun l => ?_⟩
        · rw [hu.c15, if_pos hR, hv, rN_of hl R hR, hbb]
        · rw [hu.c16, if_pos hR, hv, rN_of hl R hR, hbb]
      · have := h.b b R (by omega) (by omega)
        refine ⟨fun d => ?_, fun l => ?_⟩
        · rw [hu.c15, if_neg hR, this.1]
        · rw [hu.c16, if_neg hR, this.2]
    · rw [hz]; have hbb : bN n = b := Fin.ext (by omega)
      rw [hbb]
    · rw [hu.c20]
      split_ifs with h11
      · have hq := hD b (by omega) (by omega)
        congr 1
        apply eq_of_forall_ge_iff
        intro x
        unfold Raw.C
        rw [Finset.fold_max_le, kbot_eq, supV_le]
        simp only [hq]
        constructor
        · rintro ⟨-, h⟩
          exact ⟨(h 0 (Finset.mem_univ _)).1, fun R => (h ⟨R.val % 8, Nat.mod_lt _ (by decide)⟩ (Finset.mem_univ _)).2 R (by omega) rfl⟩
        · rintro ⟨h, h2⟩
          exact ⟨bot_le, fun l _ => ⟨h, fun R _ _ => h2 R⟩⟩
      · exact h.e b (by omega) (by omega) d
  · obtain ⟨-, -, -, -, -, e15, e16, e18, e19, e20⟩ := hf.keep (by omega)
    rw [e15, e16, e18, e19, e20]
    exact ⟨fun _ => ha, fun b R h1 h2 => h.b b R (by omega) (by omega), fun b h1 h2 => by omega, fun b h1 h2 => by omega, fun b h1 h2 => h.e b (by omega) (by omega)⟩

/-- What the six output blocks hold after point `n`: z after, y before. -/
structure Outs (D : Raw) (n : ℕ) (y9 : Vec Ideal S1x64x11008 .f32) (y10 : Vec Ideal S1x64x5504 .i8) (y11 : Vec Ideal S1x64x86 .f32) (y12 : Vec Ideal S1x64x5504 .i8) (y13 : Vec Ideal S2x768 .f32) (y14 : Vec Ideal S2x11008 .f32) (z9 : Vec Ideal S1x64x11008 .f32) (z10 : Vec Ideal S1x64x5504 .i8) (z11 : Vec Ideal S1x64x86 .f32) (z12 : Vec Ideal S1x64x5504 .i8) (z13 : Vec Ideal S2x768 .f32) (z14 : Vec Ideal S2x11008 .f32) : Prop where
  o9 : if n < 24 then ∀ r d, z9 (ix3 0 r d) = D.dw (bN n) (rN n r) d else z9 = y9
  o10 : if n < 24 then ∀ r d, z10 (ix3 0 r d) = D.mcn (bN n) (rN n r) d else z10 = y10
  o11 : if n < 24 then ∀ r d, z11 (ix3 0 r d) = D.msn (bN n) (rN n r) d else z11 = y11
  o12 : 12 ≤ n → ∀ r d, z12 (ix3 0 r d) = D.vcn (bN (n - 12)) (rN (n - 12) r) d
  o13 : ∀ q R, z13 (ix2 q R) = if 12 * q.val + R.val / 64 = n then D.vrn q R else y13 (ix2 q R)
  o14 : ∀ q d, z14 (ix2 q d) = if 12 * q.val + 11 = n then D.vln q d else y14 (ix2 q d)

theorem outs_step (hf : Facts n x1 x2 x3 x4 x5 x6 x7 x8 y9 y10 y11 y12 y13 y14 y15 y16 y18 y19 y20 y21 z9 z10 z11 z12 z13 z14 z15 z16 z18 z19 z20 z21) (hi : Ins D n x1 x2 x3 x4 x5 x6 x7 x8) (hn : n < 36) (h : Inv D n y15 y16 y18 y19 y20 y21) : Outs D n y9 y10 y11 y12 y13 y14 z9 z10 z11 z12 z13 z14 := by
  have h' := inv_step hf hi hn h
  have h12 : 12 ≤ n → ∀ r d, z12 (ix3 0 r d) = D.vcn (bN (n - 12)) (rN (n - 12) r) d := by
    intro hl r e
    have hb := bN_val (n := n - 12) (by omega)
    have hr := rN_val (n := n - 12) (by omega) r
    have e0 : (⟨64 * (n % 12) + r.val, by omega⟩ : Fin 768) = rN (n - 12) r := Fin.ext (by rw [hr]; show 64 * (n % 12) + r.val = _; omega)
    have hB := h.b (bN (n - 12)) (rN (n - 12) r) (by omega) (by omega)
    rw [hf.codes hl r e (supV (D.V (bN (n - 12)) (rN (n - 12) r))) (fun l => by rw [e0]; exact hB.2 l)]
    rw [e0, hB.1, hB.1, h.e (bN (n - 12)) (by omega) (by omega), h.e (bN (n - 12)) (by omega) (by omega)]
    rfl
  by_cases hl : n < 24
  · have hu := hf.upd hl
    have hb := bN_val hl
    have hz := z18_eq hi hl hu h
    have hv := fun r => ins_vN (x1 := x1) (x2 := x2) (x4 := x4) (x5 := x5) (x8 := x8) hi hl hz r
    have ha := h'.a (by omega)
    refine ⟨?_, ?_, ?_, h12, fun q R => ?_, fun q d => ?_⟩
    · rw [if_pos hl]; intro r d
      rw [hu.c9, ha.1, ha.2, ins_mB hi, hv, hi.w]; rfl
    · rw [if_pos hl]; intro r d
      rw [hu.c10, ins_qB hi, ins_qB hi]; rfl
    · rw [if_pos hl]; intro r d
      rw [hu.c11, ins_aB hi]; rfl
    · rw [hu.c13]
      by_cases hq : 12 * q.val + R.val / 64 = n
      · have hR : R.val / 64 = n % 12 := by omega
        have hbb : q = bN n := Fin.ext (by omega)
        rw [if_pos ⟨hbb, hR⟩, if_pos hq, hv, rN_of hl R hR, ← hbb]; rfl
      · rw [if_neg hq, if_neg]
        rintro ⟨h1, h2⟩
        apply hq; rw [h1, hb]; omega
    · rw [hu.c14]
      by_cases hq : 12 * q.val + 11 = n
      · have hbb : q = bN n := Fin.ext (by omega)
        rw [if_pos ⟨by omega, hbb⟩, if_pos hq]
        unfold Raw.vln; congr 1
        have hq' := h'.d q (by omega) (by omega)
        apply eq_of_forall_ge_iff
        intro x
        unfold Raw.C
        rw [Finset.fold_max_le, kbot_eq, supV_le]
        simp only [hq']
        constructor
        · rintro ⟨-, h⟩
          exact ⟨(h 0 (Finset.mem_univ _)).1, fun R => (h ⟨R.val % 8, Nat.mod_lt _ (by decide)⟩ (Finset.mem_univ _)).2 R (by omega) rfl⟩
        · rintro ⟨h, h2⟩
          exact ⟨bot_le, fun l _ => ⟨h, fun R _ _ => h2 R⟩⟩
      · rw [if_neg hq, if_neg]
        rintro ⟨h1, h2⟩
        apply hq; rw [h2, hb]; omega
  · obtain ⟨e9, e10, e11, e13, e14, -, -, -, -, -⟩ := hf.keep (by omega)
    refine ⟨?_, ?_, ?_, h12, fun q R => ?_, fun q d => ?_⟩
    · rw [if_neg hl, e9]
    · rw [if_neg hl, e10]
    · rw [if_neg hl, e11]
    · rw [if_neg (by omega), e13]
    · rw [if_neg (by omega), e14]
end

end Cert.KernelIdeal.Hand

end
-- ==== Proof.KernelIdeal.RunVal.lean ====
/-
  The run keeps the invariant, and what the six results hold when it is done.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdeal.Inv
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

local notation "𝕄" => MT nD τ sig Unit (Elt Ideal) ℕ (UR sig nD τ) ℕ

variable (m : (ℓ : Loc nD τ sig) → Buf (Elt Ideal) ℓ) (c : Dev nD)

/-- The arguments that a device holds at launch. -/
def rawOf : Raw where
  w := m ((c : Thread nD τ).loc main_arg0)
  g := m ((c : Thread nD τ).loc main_arg1)
  t := m ((c : Thread nD τ).loc main_arg2) (fun a => a.elim0)
  mc := m ((c : Thread nD τ).loc main_arg3)
  ms := m ((c : Thread nD τ).loc main_arg4)
  vc := m ((c : Thread nD τ).loc main_arg5)
  row := m ((c : Thread nD τ).loc main_arg6)
  col := m ((c : Thread nD τ).loc main_arg7)

/-- What a point makes of each window's block. -/
def outRel (D : Raw) (n : ℕ) : (w : Fin cfg0.W) → (Y X : (cfg0.win w).block.Idx → Elt Ideal (cfg0.win w).elt) → Prop
  | ⟨0, _⟩, Y, X => X = Y
  | ⟨1, _⟩, Y, X => X = Y
  | ⟨2, _⟩, Y, X => X = Y
  | ⟨3, _⟩, Y, X => X = Y
  | ⟨4, _⟩, Y, X => X = Y
  | ⟨5, _⟩, Y, X => X = Y
  | ⟨6, _⟩, Y, X => X = Y
  | ⟨7, _⟩, Y, X => X = Y
  | ⟨8, _⟩, Y, X => if n < 24 then ∀ (r : Fin 64) (d : Fin 11008), X (ix3 0 r d) = D.dw (bN n) (rN n r) d else X = Y
  | ⟨9, _⟩, Y, X => if n < 24 then ∀ (r : Fin 64) (d : Fin 5504), X (ix3 0 r d) = D.mcn (bN n) (rN n r) d else X = Y
  | ⟨10, _⟩, Y, X => if n < 24 then ∀ (r : Fin 64) (d : Fin 86), X (ix3 0 r d) = D.msn (bN n) (rN n r) d else X = Y
  | ⟨11, _⟩, Y, X => 12 ≤ n → ∀ (r : Fin 64) (d : Fin 5504), X (ix3 0 r d) = D.vcn (bN (n - 12)) (rN (n - 12) r) d
  | ⟨12, _⟩, Y, X => ∀ (q : Fin 2) (R : Fin 768), X (ix2 q R) = if 12 * q.val + R.val / 64 = n then D.vrn q R else Y (ix2 q R)
  | ⟨13, _⟩, Y, X => ∀ (q : Fin 2) (d : Fin 11008), X (ix2 q d) = if 12 * q.val + 11 = n then D.vln q d else Y (ix2 q d)

/-- The invariant and the relation of a device. -/
def spec (c : Dev nD) : Spec Ideal where
  S n f := Inv (rawOf m c) n ((Memref.whole cc0_scratch0).view.read (Elt Ideal) f.1) ((Memref.whole cc0_scratch1).view.read (Elt Ideal) f.2.1) ((Memref.whole cc0_scratch3).view.read (Elt Ideal) f.2.2.2.1) ((Memref.whole cc0_scratch4).view.read (Elt Ideal) f.2.2.2.2.1) ((Memref.whole cc0_scratch5).view.read (Elt Ideal) f.2.2.2.2.2.1) ((Memref.whole cc0_scratch6).view.read (Elt Ideal) f.2.2.2.2.2.2)
  O w t Y X := outRel (rawOf m c) t.val w Y X

theorem spec0 (f : Scr Ideal) : (spec m c).S 0 f :=
  ⟨fun h => by omega, fun b R h => by omega, fun b h => by omega, fun b h => by omega, fun b h => by omega⟩

set_option maxHeartbeats 4000000 in
theorem keeps : Keeps m (spec m) c where
  input := by
    intro w t Y h
    match w with
    | ⟨0, _⟩ => exact rfl
    | ⟨1, _⟩ => exact rfl
    | ⟨2, _⟩ => exact rfl
    | ⟨3, _⟩ => exact rfl
    | ⟨4, _⟩ => exact rfl
    | ⟨5, _⟩ => exact rfl
    | ⟨6, _⟩ => exact rfl
    | ⟨7, _⟩ => exact rfl
    | ⟨8, _⟩ => exact absurd (show true = false from h) (by decide)
    | ⟨9, _⟩ => exact absurd (show true = false from h) (by decide)
    | ⟨10, _⟩ => exact absurd (show true = false from h) (by decide)
    | ⟨11, _⟩ => exact absurd (show true = false from h) (by decide)
    | ⟨12, _⟩ => exact absurd (show true = false from h) (by decide)
    | ⟨13, _⟩ => exact absurd (show true = false from h) (by decide)
  step := by
    intro t Y hY f1 f2 f3 f4 f5 f6 f7 f8 f9 f10 f11 f12 f13 f14 f15 f16 f17 f18 f19 f20 f21 e1 e2 e3 e4 e5 e6 e7 e8 e9 e10 e11 e12 e13 e14 hS g9 g10 g11 g12 g13 g14 g15 g16 g17 g18 g19 g20 g21 hrel
    have hf := facts_of_rel hrel
    rw [crd t] at hf
    rw [e1, e2, e3, e4, e5, e6, e7, e8, e9, e10, e11, e12, e13, e14] at hf
    have hi : Ins (rawOf m c) t.val (Y 0) (Y 1) (Y 2) (Y 3) (Y 4) (Y 5) (Y 6) (Y 7) :=
      ⟨in_0 m (spec m) c (fun _ _ _ h => h) t _ (hY 0), in_1 m (spec m) c (fun _ _ _ h => h) t _ (hY 1), in_2 m (spec m) c (fun _ _ _ h => h) t _ (hY 2), in_3 m (spec m) c (fun _ _ _ h => h) t _ (hY 3), in_4 m (spec m) c (fun _ _ _ h => h) t _ (hY 4), in_5 m (spec m) c (fun _ _ _ h => h) t _ (hY 5), in_6 m (spec m) c (fun _ _ _ h => h) t _ (hY 6), in_7 m (spec m) c (fun _ _ _ h => h) t _ (hY 7)⟩
    have hO := outs_step hf hi (lt36 t) hS
    exact ⟨inv_step hf hi (lt36 t) hS, hO.o9, hO.o10, hO.o11, hO.o12, hO.o13, hO.o14⟩

end Cert.KernelIdeal.Hand

end
-- ==== Proof.KernelIdeal.Out.lean ====
/-
  What the six result arrays hold when the run is done.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdeal.RunVal
@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window)

local notation "𝕄" => MT nD τ sig Unit (Elt Ideal) ℕ (UR sig nD τ) ℕ

theorem au64 (p y R : ℕ) (h : p * 64 + 1 * y = R) : 64 * p + y = R := by omega
theorem au1 (p y b : ℕ) (h : p * 1 + 1 * y = b) (hy : y < 1) : p = b := by omega
theorem ylt (w : Fin cfg0.W) (t : Fin cfg0.N) (y : ((cfg0.win w).xblock (cfg0.grid.coords t)).Idx) (a : Fin (cfg0.win w).shape.rank) : (y a).val < (cfg0.win w).size a :=
  lt_of_lt_of_le (y a).isLt ((cfg0.win w).xsize_le (cfg0.grid.coords t) a)
theorem au0 (n y d : ℕ) (h : 0 * n + 1 * y = d) : y = d := by omega

variable (m : (ℓ : Loc nD τ sig) → Buf (Elt Ideal) ℓ) (c : Dev nD)

theorem idx_8 (t : Fin cfg0.N) : win0_8.index t 0 = min t.val 23 / 12 ∧ win0_8.index t 1 = min t.val 23 % 12 ∧ win0_8.index t 2 = 0 := by
  have h : ∀ t : Fin grid0.N, win0_8.index t 0 = min t.val 23 / 12 ∧ win0_8.index t 1 = min t.val 23 % 12 ∧ win0_8.index t 2 = 0 := by decide +kernel
  exact h t
theorem flush_8 (t : Fin cfg0.N) : (cfg0.win 8).flush t = true ↔ t.val < 23 ∨ t.val = 35 := by
  have h : ∀ t : Fin grid0.N, win0_8.flush t = true ↔ t.val < 23 ∨ t.val = 35 := by decide +kernel
  exact h t
theorem fetch_8 (t : Fin cfg0.N) : (cfg0.win 8).fetch t = false := by
  have h : ∀ t : Fin grid0.N, win0_8.fetch t = false := by decide +kernel
  exact h t
theorem leaves_8 : ∀ (k : ℕ) (t : Fin cfg0.N), t.val = k → ∀ X, (rdat m (spec m) c).Leaves 8 t X → ∀ (r : Fin 64) (d : Fin 11008), X (ix3 0 r d) = (rawOf m c).dw (bN t.val) (rN t.val r) d := by
  intro k
  induction k with
  | zero =>
    intro t ht X ⟨Y, hY, hO⟩ r d
    have hO : if t.val < 24 then ∀ (r : Fin 64) (d : Fin 11008), X (ix3 0 r d) = (rawOf m c).dw (bN t.val) (rN t.val r) d else X = Y := hO
    rw [if_pos (by omega)] at hO; exact hO r d
  | succ k ih =>
    intro t ht X ⟨Y, hY, hO⟩ r d
    have hO : if t.val < 24 then ∀ (r : Fin 64) (d : Fin 11008), X (ix3 0 r d) = (rawOf m c).dw (bN t.val) (rN t.val r) d else X = Y := hO
    by_cases h : t.val < 24
    · rw [if_pos h] at hO; exact hO r d
    · rw [if_neg h] at hO
      rw [hO]
      have hlt := lt36 t
      rcases ((rdat m (spec m) c).finds_of_pos (fetch_8 t) (by omega) Y).mp hY with hf | hl
      · have hf := (flush_8 _).mp hf
        dsimp only at hf; omega
      · have := ih ⟨t.val - 1, _⟩ (by show t.val - 1 = k; omega) Y hl r d
        rw [this]
        have e : min (t.val - 1) 23 = min t.val 23 := by omega
        have e1 : bN (t.val - 1) = bN t.val := Fin.ext (by show min (t.val - 1) 23 / 12 = min t.val 23 / 12; rw [e])
        have e2 : rN (t.val - 1) r = rN t.val r := Fin.ext (by show 64 * (min (t.val - 1) 23 % 12) + r.val = 64 * (min t.val 23 % 12) + r.val; rw [e])
        show (rawOf m c).dw (bN (t.val - 1)) (rN (t.val - 1) r) d = _
        rw [e1, e2]
theorem out_8 (G) (hG : (rdat m (spec m) c).ArrAt 8 cfg0.N G) (b : Fin 2) (R : Fin 768) (d : Fin 11008) : G (ix3 b R d) = (rawOf m c).dw b R d := by
  have hpt : (if 12 * b.val + R.val / 64 = 23 then 35 else 12 * b.val + R.val / 64) < cfg0.N := by rw [N36]; split_ifs <;> omega
  have hi := idx_8 ⟨_, hpt⟩
  refine arr_forall c (rdat m (spec m) c) 8 (fun i v => ∀ (b : Fin 2) (R : Fin 768) (d : Fin 11008), i = ix3 b R d → v = (rawOf m c).dw b R d) ?_ cfg0.N ⟨_, hpt⟩ (ix3 b R d) hpt ?_ ?_ G hG b R d rfl
  · intro t hf X hL y b R d hy
    have hlt := lt36 t
    have hi := idx_8 t
    have h0 : win0_8.index t 0 * 1 + 1 * (y ⟨0, (by decide : 0 < 3)⟩).val = b.val := congrArg Fin.val (congrFun hy (0 : Fin 3))
    have h1 : win0_8.index t 1 * 64 + 1 * (y ⟨1, (by decide : 1 < 3)⟩).val = R.val := congrArg Fin.val (congrFun hy (1 : Fin 3))
    have h2 : win0_8.index t 2 * 11008 + 1 * (y ⟨2, (by decide : 2 < 3)⟩).val = d.val := congrArg Fin.val (congrFun hy (2 : Fin 3))
    have l0 : (y ⟨0, (by decide : 0 < 3)⟩).val < 1 := ylt 8 t y 0
    have l1 : (y ⟨1, (by decide : 1 < 3)⟩).val < 64 := ylt 8 t y 1
    have l2 : (y ⟨2, (by decide : 2 < 3)⟩).val < 11008 := ylt 8 t y 2
    rw [hi.1] at h0; rw [hi.2.1] at h1; rw [hi.2.2] at h2
    have hX : (_root_.cast (congrArg (Elt Ideal) ((cfg0.win 8).blk t).view.elt_eq.symm) ((cfg0.win 8).cut (cfg0.grid.coords t) X y)) = X (ix3 0 ⟨_, l1⟩ ⟨_, l2⟩) := by
      show X _ = X _
      congr 1
      funext a
      apply Fin.ext
      match a with
      | ⟨0, _⟩ => exact Nat.lt_one_iff.mp l0
      | ⟨1, _⟩ => rfl
      | ⟨2, _⟩ => rfl
    rw [hX, leaves_8 m c t.val t rfl X hL]
    skip
    have e0 : bN t.val = b := Fin.ext (au1 _ _ _ h0 l0)
    have e1 : rN t.val ⟨_, l1⟩ = R := Fin.ext (au64 _ _ _ h1)
    have e2 : (⟨_, l2⟩ : Fin 11008) = d := Fin.ext (au0 _ _ _ h2)
    rw [e0, e1, e2]
  · rw [flush_8]; dsimp only; split_ifs <;> omega
  · show ix3 b R d ∈ ((View.whole main_v1_0).slice (win0_8.rect ⟨_, hpt⟩)).set
    rw [View.set_slice_whole, Rect.mem_set_unit]
    intro a
    dsimp only at hi
    match a with
    | ⟨0, _⟩ => show win0_8.index _ 0 * 1 ≤ b.val ∧ b.val < win0_8.index _ 0 * 1 + 1; rw [hi.1]; split_ifs <;> omega
    | ⟨1, _⟩ => show win0_8.index _ 1 * 64 ≤ R.val ∧ R.val < win0_8.index _ 1 * 64 + 64; rw [hi.2.1]; split_ifs <;> omega
    | ⟨2, _⟩ => show win0_8.index _ 2 * 11008 ≤ d.val ∧ d.val < win0_8.index _ 2 * 11008 + 11008; rw [hi.2.2]; omega

theorem idx_9 (t : Fin cfg0.N) : win0_9.index t 0 = min t.val 23 / 12 ∧ win0_9.index t 1 = min t.val 23 % 12 ∧ win0_9.index t 2 = 0 := by
  have h : ∀ t : Fin grid0.N, win0_9.index t 0 = min t.val 23 / 12 ∧ win0_9.index t 1 = min t.val 23 % 12 ∧ win0_9.index t 2 = 0 := by decide +kernel
  exact h t
theorem flush_9 (t : Fin cfg0.N) : (cfg0.win 9).flush t = true ↔ t.val < 23 ∨ t.val = 35 := by
  have h : ∀ t : Fin grid0.N, win0_9.flush t = true ↔ t.val < 23 ∨ t.val = 35 := by decide +kernel
  exact h t
theorem fetch_9 (t : Fin cfg0.N) : (cfg0.win 9).fetch t = false := by
  have h : ∀ t : Fin grid0.N, win0_9.fetch t = false := by decide +kernel
  exact h t
theorem leaves_9 : ∀ (k : ℕ) (t : Fin cfg0.N), t.val = k → ∀ X, (rdat m (spec m) c).Leaves 9 t X → ∀ (r : Fin 64) (d : Fin 5504), X (ix3 0 r d) = (rawOf m c).mcn (bN t.val) (rN t.val r) d := by
  intro k
  induction k with
  | zero =>
    intro t ht X ⟨Y, hY, hO⟩ r d
    have hO : if t.val < 24 then ∀ (r : Fin 64) (d : Fin 5504), X (ix3 0 r d) = (rawOf m c).mcn (bN t.val) (rN t.val r) d else X = Y := hO
    rw [if_pos (by omega)] at hO; exact hO r d
  | succ k ih =>
    intro t ht X ⟨Y, hY, hO⟩ r d
    have hO : if t.val < 24 then ∀ (r : Fin 64) (d : Fin 5504), X (ix3 0 r d) = (rawOf m c).mcn (bN t.val) (rN t.val r) d else X = Y := hO
    by_cases h : t.val < 24
    · rw [if_pos h] at hO; exact hO r d
    · rw [if_neg h] at hO
      rw [hO]
      have hlt := lt36 t
      rcases ((rdat m (spec m) c).finds_of_pos (fetch_9 t) (by omega) Y).mp hY with hf | hl
      · have hf := (flush_9 _).mp hf
        dsimp only at hf; omega
      · have := ih ⟨t.val - 1, _⟩ (by show t.val - 1 = k; omega) Y hl r d
        rw [this]
        have e : min (t.val - 1) 23 = min t.val 23 := by omega
        have e1 : bN (t.val - 1) = bN t.val := Fin.ext (by show min (t.val - 1) 23 / 12 = min t.val 23 / 12; rw [e])
        have e2 : rN (t.val - 1) r = rN t.val r := Fin.ext (by show 64 * (min (t.val - 1) 23 % 12) + r.val = 64 * (min t.val 23 % 12) + r.val; rw [e])
        show (rawOf m c).mcn (bN (t.val - 1)) (rN (t.val - 1) r) d = _
        rw [e1, e2]
theorem out_9 (G) (hG : (rdat m (spec m) c).ArrAt 9 cfg0.N G) (b : Fin 2) (R : Fin 768) (d : Fin 5504) : G (ix3 b R d) = (rawOf m c).mcn b R d := by
  have hpt : (if 12 * b.val + R.val / 64 = 23 then 35 else 12 * b.val + R.val / 64) < cfg0.N := by rw [N36]; split_ifs <;> omega
  have hi := idx_9 ⟨_, hpt⟩
  refine arr_forall c (rdat m (spec m) c) 9 (fun i v => ∀ (b : Fin 2) (R : Fin 768) (d : Fin 5504), i = ix3 b R d → v = (rawOf m c).mcn b R d) ?_ cfg0.N ⟨_, hpt⟩ (ix3 b R d) hpt ?_ ?_ G hG b R d rfl
  · intro t hf X hL y b R d hy
    have hlt := lt36 t
    have hi := idx_9 t
    have h0 : win0_9.index t 0 * 1 + 1 * (y ⟨0, (by decide : 0 < 3)⟩).val = b.val := congrArg Fin.val (congrFun hy (0 : Fin 3))
    have h1 : win0_9.index t 1 * 64 + 1 * (y ⟨1, (by decide : 1 < 3)⟩).val = R.val := congrArg Fin.val (congrFun hy (1 : Fin 3))
    have h2 : win0_9.index t 2 * 5504 + 1 * (y ⟨2, (by decide : 2 < 3)⟩).val = d.val := congrArg Fin.val (congrFun hy (2 : Fin 3))
    have l0 : (y ⟨0, (by decide : 0 < 3)⟩).val < 1 := ylt 9 t y 0
    have l1 : (y ⟨1, (by decide : 1 < 3)⟩).val < 64 := ylt 9 t y 1
    have l2 : (y ⟨2, (by decide : 2 < 3)⟩).val < 5504 := ylt 9 t y 2
    rw [hi.1] at h0; rw [hi.2.1] at h1; rw [hi.2.2] at h2
    have hX : (_root_.cast (congrArg (Elt Ideal) ((cfg0.win 9).blk t).view.elt_eq.symm) ((cfg0.win 9).cut (cfg0.grid.coords t) X y)) = X (ix3 0 ⟨_, l1⟩ ⟨_, l2⟩) := by
      show X _ = X _
      congr 1
      funext a
      apply Fin.ext
      match a with
      | ⟨0, _⟩ => exact Nat.lt_one_iff.mp l0
      | ⟨1, _⟩ => rfl
      | ⟨2, _⟩ => rfl
    rw [hX, leaves_9 m c t.val t rfl X hL]
    skip
    have e0 : bN t.val = b := Fin.ext (au1 _ _ _ h0 l0)
    have e1 : rN t.val ⟨_, l1⟩ = R := Fin.ext (au64 _ _ _ h1)
    have e2 : (⟨_, l2⟩ : Fin 5504) = d := Fin.ext (au0 _ _ _ h2)
    rw [e0, e1, e2]
  · rw [flush_9]; dsimp only; split_ifs <;> omega
  · show ix3 b R d ∈ ((View.whole main_v1_1).slice (win0_9.rect ⟨_, hpt⟩)).set
    rw [View.set_slice_whole, Rect.mem_set_unit]
    intro a
    dsimp only at hi
    match a with
    | ⟨0, _⟩ => show win0_9.index _ 0 * 1 ≤ b.val ∧ b.val < win0_9.index _ 0 * 1 + 1; rw [hi.1]; split_ifs <;> omega
    | ⟨1, _⟩ => show win0_9.index _ 1 * 64 ≤ R.val ∧ R.val < win0_9.index _ 1 * 64 + 64; rw [hi.2.1]; split_ifs <;> omega
    | ⟨2, _⟩ => show win0_9.index _ 2 * 5504 ≤ d.val ∧ d.val < win0_9.index _ 2 * 5504 + 5504; rw [hi.2.2]; omega

theorem idx_10 (t : Fin cfg0.N) : win0_10.index t 0 = min t.val 23 / 12 ∧ win0_10.index t 1 = min t.val 23 % 12 ∧ win0_10.index t 2 = 0 := by
  have h : ∀ t : Fin grid0.N, win0_10.index t 0 = min t.val 23 / 12 ∧ win0_10.index t 1 = min t.val 23 % 12 ∧ win0_10.index t 2 = 0 := by decide +kernel
  exact h t
theorem flush_10 (t : Fin cfg0.N) : (cfg0.win 10).flush t = true ↔ t.val < 23 ∨ t.val = 35 := by
  have h : ∀ t : Fin grid0.N, win0_10.flush t = true ↔ t.val < 23 ∨ t.val = 35 := by decide +kernel
  exact h t
theorem fetch_10 (t : Fin cfg0.N) : (cfg0.win 10).fetch t = false := by
  have h : ∀ t : Fin grid0.N, win0_10.fetch t = false := by decide +kernel
  exact h t
theorem leaves_10 : ∀ (k : ℕ) (t : Fin cfg0.N), t.val = k → ∀ X, (rdat m (spec m) c).Leaves 10 t X → ∀ (r : Fin 64) (d : Fin 86), X (ix3 0 r d) = (rawOf m c).msn (bN t.val) (rN t.val r) d := by
  intro k
  induction k with
  | zero =>
    intro t ht X ⟨Y, hY, hO⟩ r d
    have hO : if t.val < 24 then ∀ (r : Fin 64) (d : Fin 86), X (ix3 0 r d) = (rawOf m c).msn (bN t.val) (rN t.val r) d else X = Y := hO
    rw [if_pos (by omega)] at hO; exact hO r d
  | succ k ih =>
    intro t ht X ⟨Y, hY, hO⟩ r d
    have hO : if t.val < 24 then ∀ (r : Fin 64) (d : Fin 86), X (ix3 0 r d) = (rawOf m c).msn (bN t.val) (rN t.val r) d else X = Y := hO
    by_cases h : t.val < 24
    · rw [if_pos h] at hO; exact hO r d
    · rw [if_neg h] at hO
      rw [hO]
      have hlt := lt36 t
      rcases ((rdat m (spec m) c).finds_of_pos (fetch_10 t) (by omega) Y).mp hY with hf | hl
      · have hf := (flush_10 _).mp hf
        dsimp only at hf; omega
      · have := ih ⟨t.val - 1, _⟩ (by show t.val - 1 = k; omega) Y hl r d
        rw [this]
        have e : min (t.val - 1) 23 = min t.val 23 := by omega
        have e1 : bN (t.val - 1) = bN t.val := Fin.ext (by show min (t.val - 1) 23 / 12 = min t.val 23 / 12; rw [e])
        have e2 : rN (t.val - 1) r = rN t.val r := Fin.ext (by show 64 * (min (t.val - 1) 23 % 12) + r.val = 64 * (min t.val 23 % 12) + r.val; rw [e])
        show (rawOf m c).msn (bN (t.val - 1)) (rN (t.val - 1) r) d = _
        rw [e1, e2]
theorem out_10 (G) (hG : (rdat m (spec m) c).ArrAt 10 cfg0.N G) (b : Fin 2) (R : Fin 768) (d : Fin 86) : G (ix3 b R d) = (rawOf m c).msn b R d := by
  have hpt : (if 12 * b.val + R.val / 64 = 23 then 35 else 12 * b.val + R.val / 64) < cfg0.N := by rw [N36]; split_ifs <;> omega
  have hi := idx_10 ⟨_, hpt⟩
  refine arr_forall c (rdat m (spec m) c) 10 (fun i v => ∀ (b : Fin 2) (R : Fin 768) (d : Fin 86), i = ix3 b R d → v = (rawOf m c).msn b R d) ?_ cfg0.N ⟨_, hpt⟩ (ix3 b R d) hpt ?_ ?_ G hG b R d rfl
  · intro t hf X hL y b R d hy
    have hlt := lt36 t
    have hi := idx_10 t
    have h0 : win0_10.index t 0 * 1 + 1 * (y ⟨0, (by decide : 0 < 3)⟩).val = b.val := congrArg Fin.val (congrFun hy (0 : Fin 3))
    have h1 : win0_10.index t 1 * 64 + 1 * (y ⟨1, (by decide : 1 < 3)⟩).val = R.val := congrArg Fin.val (congrFun hy (1 : Fin 3))
    have h2 : win0_10.index t 2 * 86 + 1 * (y ⟨2, (by decide : 2 < 3)⟩).val = d.val := congrArg Fin.val (congrFun hy (2 : Fin 3))
    have l0 : (y ⟨0, (by decide : 0 < 3)⟩).val < 1 := ylt 10 t y 0
    have l1 : (y ⟨1, (by decide : 1 < 3)⟩).val < 64 := ylt 10 t y 1
    have l2 : (y ⟨2, (by decide : 2 < 3)⟩).val < 86 := ylt 10 t y 2
    rw [hi.1] at h0; rw [hi.2.1] at h1; rw [hi.2.2] at h2
    have hX : (_root_.cast (congrArg (Elt Ideal) ((cfg0.win 10).blk t).view.elt_eq.symm) ((cfg0.win 10).cut (cfg0.grid.coords t) X y)) = X (ix3 0 ⟨_, l1⟩ ⟨_, l2⟩) := by
      show X _ = X _
      congr 1
      funext a
      apply Fin.ext
      match a with
      | ⟨0, _⟩ => exact Nat.lt_one_iff.mp l0
      | ⟨1, _⟩ => rfl
      | ⟨2, _⟩ => rfl
    rw [hX, leaves_10 m c t.val t rfl X hL]
    skip
    have e0 : bN t.val = b := Fin.ext (au1 _ _ _ h0 l0)
    have e1 : rN t.val ⟨_, l1⟩ = R := Fin.ext (au64 _ _ _ h1)
    have e2 : (⟨_, l2⟩ : Fin 86) = d := Fin.ext (au0 _ _ _ h2)
    rw [e0, e1, e2]
  · rw [flush_10]; dsimp only; split_ifs <;> omega
  · show ix3 b R d ∈ ((View.whole main_v1_2).slice (win0_10.rect ⟨_, hpt⟩)).set
    rw [View.set_slice_whole, Rect.mem_set_unit]
    intro a
    dsimp only at hi
    match a with
    | ⟨0, _⟩ => show win0_10.index _ 0 * 1 ≤ b.val ∧ b.val < win0_10.index _ 0 * 1 + 1; rw [hi.1]; split_ifs <;> omega
    | ⟨1, _⟩ => show win0_10.index _ 1 * 64 ≤ R.val ∧ R.val < win0_10.index _ 1 * 64 + 64; rw [hi.2.1]; split_ifs <;> omega
    | ⟨2, _⟩ => show win0_10.index _ 2 * 86 ≤ d.val ∧ d.val < win0_10.index _ 2 * 86 + 86; rw [hi.2.2]; omega

theorem idx_11 (t : Fin cfg0.N) : win0_11.index t 0 = (t.val - 12) / 12 ∧ win0_11.index t 1 = (t.val - 12) % 12 ∧ win0_11.index t 2 = 0 := by
  have h : ∀ t : Fin grid0.N, win0_11.index t 0 = (t.val - 12) / 12 ∧ win0_11.index t 1 = (t.val - 12) % 12 ∧ win0_11.index t 2 = 0 := by decide +kernel
  exact h t
theorem flush_11 (t : Fin cfg0.N) : (cfg0.win 11).flush t = true ↔ 12 ≤ t.val := by
  have h : ∀ t : Fin grid0.N, win0_11.flush t = true ↔ 12 ≤ t.val := by decide +kernel
  exact h t
theorem fetch_11 (t : Fin cfg0.N) : (cfg0.win 11).fetch t = false := by
  have h : ∀ t : Fin grid0.N, win0_11.fetch t = false := by decide +kernel
  exact h t
theorem leaves_11 (t : Fin cfg0.N) (h : 12 ≤ t.val) (X) (hL : (rdat m (spec m) c).Leaves 11 t X) (r : Fin 64) (d : Fin 5504) : X (ix3 0 r d) = (rawOf m c).vcn (bN (t.val - 12)) (rN (t.val - 12) r) d := by
  obtain ⟨Y, hY, hO⟩ := hL
  exact hO h r d
theorem out_11 (G) (hG : (rdat m (spec m) c).ArrAt 11 cfg0.N G) (b : Fin 2) (R : Fin 768) (d : Fin 5504) : G (ix3 b R d) = (rawOf m c).vcn b R d := by
  have hpt : (12 * b.val + R.val / 64 + 12) < cfg0.N := by rw [N36]; omega
  have hi := idx_11 ⟨_, hpt⟩
  refine arr_forall c (rdat m (spec m) c) 11 (fun i v => ∀ (b : Fin 2) (R : Fin 768) (d : Fin 5504), i = ix3 b R d → v = (rawOf m c).vcn b R d) ?_ cfg0.N ⟨_, hpt⟩ (ix3 b R d) hpt ?_ ?_ G hG b R d rfl
  · intro t hf X hL y b R d hy
    have hlt := lt36 t
    have hi := idx_11 t
    have h0 : win0_11.index t 0 * 1 + 1 * (y ⟨0, (by decide : 0 < 3)⟩).val = b.val := congrArg Fin.val (congrFun hy (0 : Fin 3))
    have h1 : win0_11.index t 1 * 64 + 1 * (y ⟨1, (by decide : 1 < 3)⟩).val = R.val := congrArg Fin.val (congrFun hy (1 : Fin 3))
    have h2 : win0_11.index t 2 * 5504 + 1 * (y ⟨2, (by decide : 2 < 3)⟩).val = d.val := congrArg Fin.val (congrFun hy (2 : Fin 3))
    have l0 : (y ⟨0, (by decide : 0 < 3)⟩).val < 1 := ylt 11 t y 0
    have l1 : (y ⟨1, (by decide : 1 < 3)⟩).val < 64 := ylt 11 t y 1
    have l2 : (y ⟨2, (by decide : 2 < 3)⟩).val < 5504 := ylt 11 t y 2
    rw [hi.1] at h0; rw [hi.2.1] at h1; rw [hi.2.2] at h2
    have hX : (_root_.cast (congrArg (Elt Ideal) ((cfg0.win 11).blk t).view.elt_eq.symm) ((cfg0.win 11).cut (cfg0.grid.coords t) X y)) = X (ix3 0 ⟨_, l1⟩ ⟨_, l2⟩) := by
      show X _ = X _
      congr 1
      funext a
      apply Fin.ext
      match a with
      | ⟨0, _⟩ => exact Nat.lt_one_iff.mp l0
      | ⟨1, _⟩ => rfl
      | ⟨2, _⟩ => rfl
    rw [hX, leaves_11 m c t ((flush_11 t).mp hf) X hL]
    rw [show (t.val - 12) / 12 = min (t.val - 12) 23 / 12 from by omega] at h0; rw [show (t.val - 12) % 12 = min (t.val - 12) 23 % 12 from by omega] at h1
    have e0 : bN (t.val - 12) = b := Fin.ext (au1 _ _ _ h0 l0)
    have e1 : rN (t.val - 12) ⟨_, l1⟩ = R := Fin.ext (au64 _ _ _ h1)
    have e2 : (⟨_, l2⟩ : Fin 5504) = d := Fin.ext (au0 _ _ _ h2)
    rw [e0, e1, e2]
  · rw [flush_11]; dsimp only; omega
  · show ix3 b R d ∈ ((View.whole main_v1_3).slice (win0_11.rect ⟨_, hpt⟩)).set
    rw [View.set_slice_whole, Rect.mem_set_unit]
    intro a
    dsimp only at hi
    match a with
    | ⟨0, _⟩ => show win0_11.index _ 0 * 1 ≤ b.val ∧ b.val < win0_11.index _ 0 * 1 + 1; rw [hi.1]; omega
    | ⟨1, _⟩ => show win0_11.index _ 1 * 64 ≤ R.val ∧ R.val < win0_11.index _ 1 * 64 + 64; rw [hi.2.1]; omega
    | ⟨2, _⟩ => show win0_11.index _ 2 * 5504 ≤ d.val ∧ d.val < win0_11.index _ 2 * 5504 + 5504; rw [hi.2.2]; omega

theorem idx_12 (t : Fin cfg0.N) : win0_12.index t 0 = 0 ∧ win0_12.index t 1 = 0 := by
  have h : ∀ t : Fin grid0.N, win0_12.index t 0 = 0 ∧ win0_12.index t 1 = 0 := by decide +kernel
  exact h t
theorem flush_12 (t : Fin cfg0.N) : (cfg0.win 12).flush t = true ↔ t.val = 35 := by
  have h : ∀ t : Fin grid0.N, win0_12.flush t = true ↔ t.val = 35 := by decide +kernel
  exact h t
theorem fetch_12 (t : Fin cfg0.N) : (cfg0.win 12).fetch t = false := by
  have h : ∀ t : Fin grid0.N, win0_12.fetch t = false := by decide +kernel
  exact h t
theorem leaves_12 : ∀ (k : ℕ) (t : Fin cfg0.N), t.val = k → ∀ X, (rdat m (spec m) c).Leaves 12 t X → ∀ (q : Fin 2) (R : Fin 768), 12 * q.val + R.val / 64 ≤ t.val → X (ix2 q R) = (rawOf m c).vrn q R := by
  intro k
  induction k with
  | zero =>
    intro t ht X ⟨Y, hY, hO⟩ q R hq
    have hO : ∀ (q : Fin 2) (R : Fin 768), X (ix2 q R) = if 12 * q.val + R.val / 64 = t.val then (rawOf m c).vrn q R else Y (ix2 q R) := hO
    rw [hO, if_pos (by omega)]
  | succ k ih =>
    intro t ht X ⟨Y, hY, hO⟩ q R hq
    have hO : ∀ (q : Fin 2) (R : Fin 768), X (ix2 q R) = if 12 * q.val + R.val / 64 = t.val then (rawOf m c).vrn q R else Y (ix2 q R) := hO
    rw [hO]
    split_ifs with h
    · rfl
    · have hlt := lt36 t
      rcases ((rdat m (spec m) c).finds_of_pos (fetch_12 t) (by omega) Y).mp hY with hf | hl
      · have hf := (flush_12 _).mp hf
        dsimp only at hf; omega
      · exact ih ⟨t.val - 1, _⟩ (by show t.val - 1 = k; omega) Y hl q R (by show 12 * q.val + R.val / 64 ≤ t.val - 1; omega)
theorem out_12 (G) (hG : (rdat m (spec m) c).ArrAt 12 cfg0.N G) (q : Fin 2) (R : Fin 768) : G (ix2 q R) = (rawOf m c).vrn q R := by
  have hpt : 35 < cfg0.N := by rw [N36]; omega
  have hi := idx_12 ⟨35, hpt⟩
  refine arr_forall c (rdat m (spec m) c) 12 (fun i v => ∀ (q : Fin 2) (R : Fin 768), i = ix2 q R → v = (rawOf m c).vrn q R) ?_ cfg0.N ⟨35, hpt⟩ (ix2 q R) hpt ((flush_12 _).mpr rfl) ?_ G hG q R rfl
  · intro t hf X hL y q R hy
    have hf := (flush_12 t).mp hf
    have hi := idx_12 t
    have h0 : win0_12.index t 0 * 2 + 1 * (y ⟨0, (by decide : 0 < 2)⟩).val = q.val := congrArg Fin.val (congrFun hy (0 : Fin 2))
    have h1 : win0_12.index t 1 * 768 + 1 * (y ⟨1, (by decide : 1 < 2)⟩).val = R.val := congrArg Fin.val (congrFun hy (1 : Fin 2))
    rw [hi.1] at h0; rw [hi.2] at h1
    have hX : (_root_.cast (congrArg (Elt Ideal) ((cfg0.win 12).blk t).view.elt_eq.symm) ((cfg0.win 12).cut (cfg0.grid.coords t) X y)) = X (ix2 q R) := by
      show X _ = X _
      congr 1
      funext a
      apply Fin.ext
      match a with
      | ⟨0, _⟩ => show (y ⟨0, (by decide : 0 < 2)⟩).val = q.val; omega
      | ⟨1, _⟩ => show (y ⟨1, (by decide : 1 < 2)⟩).val = R.val; omega
    rw [hX]
    exact leaves_12 m c t.val t rfl X hL q R (by omega)
  · show ix2 q R ∈ ((View.whole main_v1_4).slice (win0_12.rect ⟨35, hpt⟩)).set
    rw [View.set_slice_whole, Rect.mem_set_unit]
    intro a
    match a with
    | ⟨0, _⟩ => show win0_12.index _ 0 * 2 ≤ q.val ∧ q.val < win0_12.index _ 0 * 2 + 2; rw [hi.1]; omega
    | ⟨1, _⟩ => show win0_12.index _ 1 * 768 ≤ R.val ∧ R.val < win0_12.index _ 1 * 768 + 768; rw [hi.2]; omega

theorem idx_13 (t : Fin cfg0.N) : win0_13.index t 0 = 0 ∧ win0_13.index t 1 = 0 := by
  have h : ∀ t : Fin grid0.N, win0_13.index t 0 = 0 ∧ win0_13.index t 1 = 0 := by decide +kernel
  exact h t
theorem flush_13 (t : Fin cfg0.N) : (cfg0.win 13).flush t = true ↔ t.val = 35 := by
  have h : ∀ t : Fin grid0.N, win0_13.flush t = true ↔ t.val = 35 := by decide +kernel
  exact h t
theorem fetch_13 (t : Fin cfg0.N) : (cfg0.win 13).fetch t = false := by
  have h : ∀ t : Fin grid0.N, win0_13.fetch t = false := by decide +kernel
  exact h t
theorem leaves_13 : ∀ (k : ℕ) (t : Fin cfg0.N), t.val = k → ∀ X, (rdat m (spec m) c).Leaves 13 t X → ∀ (q : Fin 2) (R : Fin 11008), 12 * q.val + 11 ≤ t.val → X (ix2 q R) = (rawOf m c).vln q R := by
  intro k
  induction k with
  | zero =>
    intro t ht X ⟨Y, hY, hO⟩ q R hq
    have hO : ∀ (q : Fin 2) (R : Fin 11008), X (ix2 q R) = if 12 * q.val + 11 = t.val then (rawOf m c).vln q R else Y (ix2 q R) := hO
    rw [hO, if_pos (by omega)]
  | succ k ih =>
    intro t ht X ⟨Y, hY, hO⟩ q R hq
    have hO : ∀ (q : Fin 2) (R : Fin 11008), X (ix2 q R) = if 12 * q.val + 11 = t.val then (rawOf m c).vln q R else Y (ix2 q R) := hO
    rw [hO]
    split_ifs with h
    · rfl
    · have hlt := lt36 t
      rcases ((rdat m (spec m) c).finds_of_pos (fetch_13 t) (by omega) Y).mp hY with hf | hl
      · have hf := (flush_13 _).mp hf
        dsimp only at hf; omega
      · exact ih ⟨t.val - 1, _⟩ (by show t.val - 1 = k; omega) Y hl q R (by show 12 * q.val + 11 ≤ t.val - 1; omega)
theorem out_13 (G) (hG : (rdat m (spec m) c).ArrAt 13 cfg0.N G) (q : Fin 2) (R : Fin 11008) : G (ix2 q R) = (rawOf m c).vln q R := by
  have hpt : 35 < cfg0.N := by rw [N36]; omega
  have hi := idx_13 ⟨35, hpt⟩
  refine arr_forall c (rdat m (spec m) c) 13 (fun i v => ∀ (q : Fin 2) (R : Fin 11008), i = ix2 q R → v = (rawOf m c).vln q R) ?_ cfg0.N ⟨35, hpt⟩ (ix2 q R) hpt ((flush_13 _).mpr rfl) ?_ G hG q R rfl
  · intro t hf X hL y q R hy
    have hf := (flush_13 t).mp hf
    have hi := idx_13 t
    have h0 : win0_13.index t 0 * 2 + 1 * (y ⟨0, (by decide : 0 < 2)⟩).val = q.val := congrArg Fin.val (congrFun hy (0 : Fin 2))
    have h1 : win0_13.index t 1 * 11008 + 1 * (y ⟨1, (by decide : 1 < 2)⟩).val = R.val := congrArg Fin.val (congrFun hy (1 : Fin 2))
    rw [hi.1] at h0; rw [hi.2] at h1
    have hX : (_root_.cast (congrArg (Elt Ideal) ((cfg0.win 13).blk t).view.elt_eq.symm) ((cfg0.win 13).cut (cfg0.grid.coords t) X y)) = X (ix2 q R) := by
      show X _ = X _
      congr 1
      funext a
      apply Fin.ext
      match a with
      | ⟨0, _⟩ => show (y ⟨0, (by decide : 0 < 2)⟩).val = q.val; omega
      | ⟨1, _⟩ => show (y ⟨1, (by decide : 1 < 2)⟩).val = R.val; omega
    rw [hX]
    exact leaves_13 m c t.val t rfl X hL q R (by omega)
  · show ix2 q R ∈ ((View.whole main_v1_5).slice (win0_13.rect ⟨35, hpt⟩)).set
    rw [View.set_slice_whole, Rect.mem_set_unit]
    intro a
    match a with
    | ⟨0, _⟩ => show win0_13.index _ 0 * 2 ≤ q.val ∧ q.val < win0_13.index _ 0 * 2 + 2; rw [hi.1]; omega
    | ⟨1, _⟩ => show win0_13.index _ 1 * 11008 ≤ R.val ∧ R.val < win0_13.index _ 1 * 11008 + 11008; rw [hi.2]; omega

/-- The run, read: the six results at their closed forms, the arguments as they were. -/
theorem run_val (ρ : Dev nD → PrngReg) : θ_run defs (onTc (τ := τ) (main (F := Ideal))) ⟨m, fun _ => 0, ρ⟩ (fun r => ∀ c : Dev nD,
      ((∀ b R d, r.2.mem ((c.tc : Thread nD τ).loc main_v1_0) (ix3 b R d) = (rawOf m c).dw b R d) ∧ (∀ b R d, r.2.mem ((c.tc : Thread nD τ).loc main_v1_1) (ix3 b R d) = (rawOf m c).mcn b R d) ∧ (∀ b R d, r.2.mem ((c.tc : Thread nD τ).loc main_v1_2) (ix3 b R d) = (rawOf m c).msn b R d) ∧ (∀ b R d, r.2.mem ((c.tc : Thread nD τ).loc main_v1_3) (ix3 b R d) = (rawOf m c).vcn b R d)
      ∧ (∀ b R, r.2.mem ((c.tc : Thread nD τ).loc main_v1_4) (ix2 b R) = (rawOf m c).vrn b R) ∧ (∀ b d, r.2.mem ((c.tc : Thread nD τ).loc main_v1_5) (ix2 b d) = (rawOf m c).vln b d))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨⟨out_8 m c _ ((h.1 c).1 8), out_9 m c _ ((h.1 c).1 9), out_10 m c _ ((h.1 c).1 10), out_11 m c _ ((h.1 c).1 11), out_12 m c _ ((h.1 c).1 12), out_13 m c _ ((h.1 c).1 13)⟩, args_kept m (spec m) r h.1 c⟩)
    (run_main m ρ (spec m) (keeps m) (spec0 m))

end Cert.KernelIdeal.Hand

end
-- ==== Proof.Cmp.Arith.lean ====
/-
  Arithmetic of extended reals that the comparison with the reference needs.
-/
module

public import proofs.«01_k».proof.Proof.KernelIdeal.Pow
@[expose] public section

set_option maxRecDepth 16384

noncomputable section

namespace Cert.Compare

open Cert.KernelIdeal.Hand
open Idealize.ShloMosaic

theorem c9 : k9 = ((9 : ℝ) : EReal) := by
  unfold k9; simp [Ideal.ofBits, Ideal.ieee]; rw [← EReal.coe_mul]; norm_num
theorem c62 : k62 = ((999 / 16 : ℝ) : EReal) := by
  unfold k62; simp [Ideal.ofBits, Ideal.ieee]; rw [← EReal.coe_mul]; norm_num
theorem c7 : k7 = ((7 : ℝ) : EReal) := by
  unfold k7; simp [Ideal.ofBits, Ideal.ieee]; rw [← EReal.coe_mul]; norm_num
theorem cm7 : km7 = ((-7 : ℝ) : EReal) := by
  unfold km7; simp [Ideal.ofBits, Ideal.ieee]; rw [← EReal.coe_mul]; norm_num
theorem c16 : k16 = ((16 : ℝ) : EReal) := by
  unfold k16; simp [Ideal.ofBits, Ideal.ieee]; rw [← EReal.coe_mul]; norm_num
theorem b10 : Ideal.ofBits .f32 1092616192#32 = ((10 : ℝ) : EReal) := by
  simp [Ideal.ofBits, Ideal.ieee]; rw [← EReal.coe_mul]; norm_num
theorem b999 : Ideal.ofBits .f32 1148829696#32 = ((999 : ℝ) : EReal) := by
  simp [Ideal.ofBits, Ideal.ieee]; rw [← EReal.coe_mul]; norm_num
theorem b1000 : Ideal.ofBits .f32 1148846080#32 = ((1000 : ℝ) : EReal) := by
  simp [Ideal.ofBits, Ideal.ieee]; rw [← EReal.coe_mul]; norm_num
theorem b16th : Ideal.ofBits .f32 1031798784#32 = ((1 / 16 : ℝ) : EReal) := by
  simp [Ideal.ofBits, Ideal.ieee]; rw [← EReal.coe_mul]; norm_num
theorem b3 : Ideal.ofBits .f32 0x40400000#32 = ((3 : ℝ) : EReal) := by
  simp [Ideal.ofBits, Ideal.ieee]; rw [← EReal.coe_mul]; norm_num
theorem b10000 : Ideal.ofBits .f32 0x461C4000#32 = ((10000 : ℝ) : EReal) := by
  simp [Ideal.ofBits, Ideal.ieee]; rw [← EReal.coe_mul]; norm_num
theorem b1e8 : Ideal.ofBits .f32 0x4CBEBC20#32 = ((100000000 : ℝ) : EReal) := by
  simp [Ideal.ofBits, Ideal.ieee]; rw [← EReal.coe_pow, ← EReal.coe_mul]; norm_num
theorem clr : klr = ((3 / 100000 : ℝ) : EReal) := rfl
theorem ceps : keps = ((1 / 100000000 : ℝ) : EReal) := rfl
theorem ctenth : ktenth = ((1 / 10 : ℝ) : EReal) := rfl
theorem cthou : kthou = ((1 / 1000 : ℝ) : EReal) := rfl
theorem cb1 : ∃ r : ℝ, kb1 = (r : EReal) ∧ 0 < r ∧ r < 1 := by
  refine ⟨(1 + 6710886 / 8388608) / 2, ?_, by norm_num, by norm_num⟩
  unfold kb1; simp [Ideal.ofBits, Ideal.ieee]; rw [← EReal.coe_mul]; norm_num
theorem cb2 : ∃ r : ℝ, kb2 = (r : EReal) ∧ 0 < r ∧ r < 1 := by
  refine ⟨(1 + 8371831 / 8388608) / 2, ?_, by norm_num, by norm_num⟩
  unfold kb2; simp [Ideal.ofBits, Ideal.ieee]; rw [← EReal.coe_mul]; norm_num

/-- A quotient by a real that is not zero. -/
theorem div_real (x : EReal) {r : ℝ} (h : r ≠ 0) : Ideal.div x (r : EReal) = x * ((r⁻¹ : ℝ) : EReal) := by
  unfold Ideal.div
  rw [if_neg (by exact_mod_cast h), EReal.coe_inv]
theorem div_top (x : EReal) : Ideal.div x ⊤ = 0 := by
  unfold Ideal.div
  rw [if_neg (by decide), EReal.inv_top, mul_zero]
theorem real_div (a : ℝ) {r : ℝ} (h : r ≠ 0) : Ideal.div (a : EReal) (r : EReal) = ((a / r : ℝ) : EReal) := by
  rw [div_real _ h, ← EReal.coe_mul]; rfl
theorem one_div' {r : ℝ} (h : r ≠ 0) : Ideal.div 1 (r : EReal) = ((1 / r : ℝ) : EReal) := by
  rw [← EReal.coe_one, real_div _ h]
/-- A nonnegative real factor distributes over a sum. -/
theorem rdist {r : ℝ} (h : 0 ≤ r) (x y : EReal) : (r : EReal) * (x + y) = r * x + r * y :=
  EReal.left_distrib_of_nonneg_of_ne_top (by exact_mod_cast h) (EReal.coe_ne_top r) x y

/-- Rounding to nearest, ties to even, is monotone. -/
theorem rhe_mono {a b : ℝ} (h : a ≤ b) : Ideal.roundHalfEven a ≤ Ideal.roundHalfEven b := by
  have hf : ⌊a⌋ ≤ ⌊b⌋ := Int.floor_le_floor h
  unfold Ideal.roundHalfEven
  dsimp only
  rcases hf.lt_or_eq with h1 | h1
  · split_ifs <;> omega
  · rw [← h1]
    split_ifs <;> first | omega | (exfalso; linarith) | (exfalso; contradiction)
theorem rhe_int (n : ℤ) : Ideal.roundHalfEven (n : ℝ) = n := by
  unfold Ideal.roundHalfEven
  simp
/-- Rounding as a function of extended reals. -/
def rd (x : EReal) : EReal := Ideal.liftRound Ideal.roundHalfEven x
theorem rd_mono : Monotone rd := by
  intro x y h
  induction x with
  | bot => exact bot_le
  | top => rw [top_le_iff.mp h]
  | coe a =>
    induction y with
    | bot => exact absurd h (by simp)
    | top => exact le_top
    | coe b =>
      have := rhe_mono (EReal.coe_le_coe_iff.mp h)
      show ((Ideal.roundHalfEven a : ℝ) : EReal) ≤ ((Ideal.roundHalfEven b : ℝ) : EReal)
      exact_mod_cast this
theorem rd_int (n : ℤ) : rd (((n : ℝ)) : EReal) = ((n : ℝ) : EReal) := by
  show ((Ideal.roundHalfEven (n : ℝ) : ℝ) : EReal) = _
  rw [rhe_int]
/-- Clamping to whole numbers before rounding is clamping after. -/
theorem rd_clamp (lo hi : ℤ) (x : EReal) :
    rd (min (max x ((lo : ℝ) : EReal)) ((hi : ℝ) : EReal)) = min ((hi : ℝ) : EReal) (max ((lo : ℝ) : EReal) (rd x)) := by
  rw [rd_mono.map_min, rd_mono.map_max, rd_int, rd_int, min_comm, max_comm]

/-- A nibble is below sixteen. -/
theorem nib_lt (h : ℕ) (x : BitVec 8) : (nibW h x).toNat < 16 := by
  unfold nibW
  split
  · show (BitVec.setWidth 32 x &&& 15#32).toNat < 16
    rw [BitVec.toNat_and]
    exact lt_of_le_of_lt Nat.and_le_right (by decide)
  · show ((BitVec.setWidth 32 x).sshiftRight (4#32).toNat).toNat < 16
    revert x; decide
/-- A fact of every nibble. -/
theorem nib_forall (P : BitVec 32 → Prop) (hP : ∀ n : Fin 16, P (BitVec.ofNat 32 n.val)) (h : ℕ) (x : BitVec 8) : P (nibW h x) := by
  have := hP ⟨(nibW h x).toNat, nib_lt h x⟩
  rwa [BitVec.ofNat_toNat, BitVec.setWidth_eq] at this
/-- The signed reading of a nibble by comparison is the reading by exclusive or. -/
theorem scode_eq (h : ℕ) (x : BitVec 8) :
    FloatOps.sitofp (F := Ideal) FTy.f32 (Scalar.select (IntOp.cmpi CmpIPredicate.sge (nibW h x) 8#32) (IntOp.subi (nibW h x) 16#32) (nibW h x)) = scode (nibW h x) := by
  unfold scode
  congr 1
  exact nib_forall (fun b => Scalar.select (IntOp.cmpi CmpIPredicate.sge b 8#32) (IntOp.subi b 16#32) b = IntOp.subi (IntOp.xori b 8#32) 8#32) (by decide) h x
theorem ucode_nonneg (h : ℕ) (x : BitVec 8) : 0 ≤ ucode (nibW h x) := by
  unfold ucode
  show (0 : EReal) ≤ ((((nibW h x).toInt : ℤ) : ℝ) : EReal)
  have : 0 ≤ (nibW h x).toInt := nib_forall (fun b => 0 ≤ b.toInt) (by decide) h x
  exact_mod_cast this
theorem vEl_nonneg (h : ℕ) (x : BitVec 8) {r c : EReal} (g : EReal) (hr : 0 ≤ r) (hc : 0 ≤ c) : 0 ≤ vEl h x r c g := by
  unfold vEl
  have h1 : 0 ≤ g * g := by
    rcases le_total 0 g with hg | hg
    · exact mul_nonneg hg hg
    · rw [← neg_mul_neg]
      have : 0 ≤ -g := EReal.neg_nonneg.mpr hg
      exact mul_nonneg this this
  have h2 : 0 ≤ ucode (nibW h x) + 1 := add_nonneg (ucode_nonneg h x) zero_le_one
  exact add_nonneg (mul_nonneg h2 (le_min hr hc)) h1

/-- The reference's first moment is a tenth of the kernel's. -/
theorem m_cmp (c s g : EReal) :
    Ideal.div (Ideal.ofBits FTy.f32 1091567616#32) (Ideal.ofBits FTy.f32 1092616192#32) * (c * s) + Ideal.div 1 (Ideal.ofBits FTy.f32 1092616192#32) * g = ktenth * (c * (s * k9) + g) := by
  have e : Ideal.ofBits FTy.f32 1091567616#32 = k9 := rfl
  rw [e, b10, c9, one_div' (by norm_num), real_div _ (by norm_num), ctenth, rdist (by norm_num)]
  congr 1
  rw [mul_comm s, ← mul_assoc c, mul_comm c (9 : ℝ), mul_assoc, ← mul_assoc ((1 / 10 : ℝ) : EReal), ← EReal.coe_mul]
  norm_num
/-- The reference's second moment is a thousandth of the kernel's. -/
theorem v_cmp (c r cl g : EReal) :
    Ideal.div (Ideal.ofBits FTy.f32 1148829696#32) (Ideal.ofBits FTy.f32 1148846080#32) * ((c + 1) * Ideal.ofBits FTy.f32 1031798784#32 * min r cl)
      + Ideal.div 1 (Ideal.ofBits FTy.f32 1148846080#32) * g * g = kthou * ((c + 1) * min (r * k62) (cl * k62) + g * g) := by
  rw [b999, b1000, b16th, one_div' (by norm_num), real_div _ (by norm_num), cthou, rdist (by norm_num), c62]
  have hm : Monotone fun x : EReal => x * ((999 / 16 : ℝ) : EReal) := fun a b h => mul_le_mul_of_nonneg_right h (by exact_mod_cast (by norm_num : (0:ℝ) ≤ 999 / 16))
  have e := hm.map_min (a := r) (b := cl)
  rw [← e, mul_assoc ((1 / 1000 : ℝ) : EReal) g g]
  congr 1
  have e1 : ((999 / 1000 : ℝ) : EReal) = ((1 / 1000 : ℝ) : EReal) * ((999 : ℝ) : EReal) := by rw [← EReal.coe_mul]; norm_num
  have e2 : ((999 / 16 : ℝ) : EReal) = ((999 : ℝ) : EReal) * ((1 / 16 : ℝ) : EReal) := by rw [← EReal.coe_mul]; norm_num
  rw [e1, e2]; ac_rfl

end Cert.Compare

end
-- ==== Proof.Cmp.Elem.lean ====
/-
  The kernel's elements against the reference's.
-/
module

public import proofs.«01_k».proof.Proof.Cmp.Arith
@[expose] public section

set_option maxRecDepth 16384

noncomputable section

namespace Cert.Compare

open Cert.KernelIdeal.Hand
open Idealize.ShloMosaic

theorem cmax (a b : ℝ) : max (a : EReal) (b : EReal) = ((max a b : ℝ) : EReal) := (EReal.coe_strictMono.monotone.map_max).symm
theorem cmin (a b : ℝ) : min (a : EReal) (b : EReal) = ((min a b : ℝ) : EReal) := (EReal.coe_strictMono.monotone.map_min).symm
theorem div_anti {a b : EReal} (ha : 0 ≤ a) (h : a ≤ b) : Ideal.div k16 b ≤ Ideal.div k16 a := by
  rw [c16]
  induction a with
  | bot => exact absurd ha (by simp)
  | top => rw [top_le_iff.mp h]
  | coe a =>
    have ha' : 0 ≤ a := by exact_mod_cast ha
    rcases ha'.eq_or_lt with h0 | h0
    · rw [← h0]
      have : Ideal.div ((16 : ℝ) : EReal) ((0 : ℝ) : EReal) = ⊤ := by
        unfold Ideal.div
        rw [EReal.coe_zero, if_pos rfl, if_pos (by exact_mod_cast (by norm_num : (0:ℝ) < 16))]
      rw [this]; exact le_top
    · rw [div_real _ h0.ne', ← EReal.coe_mul]
      induction b with
      | bot => exact absurd h (by simp)
      | top =>
        rw [div_top]
        exact_mod_cast (by positivity : (0:ℝ) ≤ 16 * a⁻¹)
      | coe b =>
        have hb : a ≤ b := by exact_mod_cast h
        rw [div_real _ (h0.trans_le hb).ne', ← EReal.coe_mul]
        have := inv_anti₀ h0 hb
        exact_mod_cast (by linarith : 16 * b⁻¹ ≤ 16 * a⁻¹)
/-- The larger inverse is the inverse of the smaller. -/
theorem max_div {a b : EReal} (ha : 0 ≤ a) (hb : 0 ≤ b) : max (Ideal.div k16 a) (Ideal.div k16 b) = Ideal.div k16 (min a b) := by
  rcases le_total a b with h | h
  · rw [min_eq_left h, max_eq_left (div_anti ha h)]
  · rw [min_eq_right h, max_eq_right (div_anti hb h)]
theorem thou_min (a b : EReal) : min (kthou * a) (kthou * b) = kthou * min a b := by
  have hm : Monotone fun x : EReal => kthou * x := fun a b h => mul_le_mul_of_nonneg_left h (by rw [cthou]; exact_mod_cast (by norm_num : (0:ℝ) ≤ 1 / 1000))
  exact (hm.map_min (a := a) (b := b)).symm

theorem u_cmp {v r c : EReal} (h0 : 0 ≤ v) (hr : v ≤ r) (hc : v ≤ c) :
    rd (min (max (v * max (Ideal.div k16 r) (Ideal.div k16 c)) 1) k16 - 1)
      = min ((15 : ℝ) : EReal) (max ((0 : ℝ) : EReal) (rd (Ideal.div (k16 * (kthou * v)) (min (kthou * r) (kthou * c)) - 1))) := by
  rw [max_div (h0.trans hr) (h0.trans hc), thou_min]
  have hm := le_min hr hc
  generalize min r c = m at hm
  have z1 : rd (min (max (0 : EReal) 1) k16 - 1) = 0 := by
    rw [max_eq_right zero_le_one, c16, min_eq_left (by exact_mod_cast (by norm_num : (1:ℝ) ≤ 16))]
    have := rd_int 0
    rw [← EReal.coe_one, ← EReal.coe_sub]; simpa using this
  have p15 : ((0 : ℝ) : EReal) ≤ ((15 : ℝ) : EReal) := by exact_mod_cast (by norm_num : (0:ℝ) ≤ 15)
  induction m with
  | bot => exact absurd (h0.trans hm) (by simp)
  | top =>
    rw [div_top, mul_zero, z1, cthou, EReal.coe_mul_top_of_pos (by norm_num), div_top]
    have : rd (0 - 1) = ((-1 : ℝ) : EReal) := by
      have := rd_int (-1)
      rw [zero_sub]; simpa using this
    rw [this, max_eq_left (by exact_mod_cast (by norm_num : (-1:ℝ) ≤ 0)), min_eq_right p15]; rfl
  | coe m =>
    have hm0 : 0 ≤ m := by exact_mod_cast h0.trans hm
    rcases hm0.eq_or_lt with e | e
    · have hv : v = 0 := le_antisymm (by rw [← e] at hm; exact hm) h0
      rw [hv, zero_mul, z1, ← e]
      have : Ideal.div (k16 * (kthou * 0)) (kthou * ((0 : ℝ) : EReal)) = ⊥ := by
        unfold Ideal.div
        rw [EReal.coe_zero, mul_zero, mul_zero, if_pos rfl, if_neg (lt_irrefl _)]
      rw [this, EReal.bot_sub]
      have hb : rd ⊥ = ⊥ := rfl
      rw [hb, max_eq_left bot_le, min_eq_right p15]; rfl
    · induction v with
      | bot => exact absurd h0 (by simp)
      | top => exact absurd hm (by simp)
      | coe v =>
        rw [c16, cthou, real_div _ e.ne', ← EReal.coe_mul, ← EReal.coe_mul, ← EReal.coe_mul, ← EReal.coe_mul, real_div _ (by positivity)]
        have e1 : v * (16 / m) = 16 * v / m := by ring
        have e2 : 16 * (1 / 1000 * v) / (1 / 1000 * m) = 16 * v / m := by field_simp
        rw [e1, e2]
        generalize 16 * v / m = x
        have l := rd_clamp 0 15 ((x - 1 : ℝ) : EReal)
        rw [← EReal.coe_one]
        simp only [← EReal.coe_sub, cmax, cmin, Int.cast_zero] at l ⊢
        have e3 : ((15 : ℤ) : ℝ) = 15 := by norm_num
        rw [e3] at l
        rw [← l]
        congr 2
        rcases le_total x 1 with h1 | h1
        · rw [max_eq_right h1, max_eq_right (by linarith), min_eq_left (by norm_num), min_eq_left (by norm_num)]; norm_num
        · rw [max_eq_left h1, max_eq_left (by linarith)]
          rcases le_total x 16 with h2 | h2
          · rw [min_eq_left h2, min_eq_left (by linarith)]
          · rw [min_eq_right h2, min_eq_right (by linarith)]; norm_num

/-- The scale the reference divides by. -/
def sRef (a : EReal) : EReal := if a = 0 then 1 else Ideal.div a k7
theorem ms_cmp (a : EReal) : sEl (a * ktenth) = sRef (ktenth * a) := by rw [mul_comm]; rfl

theorem q_cmp {m a : EReal} (h : max m (-m) ≤ a) : Ideal.div (ktenth * m) (sRef (ktenth * a)) = m * Ideal.div 1 (sEl a) := by
  have h1 := (le_max_left _ _).trans h
  have h2 := (le_max_right _ _).trans h
  have h0 : 0 ≤ a := by
    rcases le_total 0 m with hm | hm
    · exact hm.trans h1
    · exact (EReal.neg_nonneg.mpr hm).trans h2
  unfold sRef sEl
  rw [ctenth, c7]
  induction a with
  | bot => exact absurd h0 (by simp)
  | top =>
    rw [EReal.coe_mul_top_of_pos (by norm_num), if_neg (by decide), div_real _ (by norm_num), EReal.top_mul_coe_of_pos (by norm_num), div_top, div_top, mul_zero]
  | coe a =>
    have ha : 0 ≤ a := by exact_mod_cast h0
    rcases ha.eq_or_lt with e | e
    · have hm : m = 0 := by
        rw [← e] at h1 h2
        refine le_antisymm h1 ?_
        simpa using EReal.neg_le_of_neg_le h2
      rw [hm, ← e, EReal.coe_zero, mul_zero, if_pos rfl, zero_mul, ← EReal.coe_one, ← EReal.coe_zero, real_div _ (by norm_num)]; simp
    · rw [← EReal.coe_mul, if_neg (by exact_mod_cast (by positivity : (1 / 10 * a : ℝ) ≠ 0)), if_neg (by exact_mod_cast e.ne'), real_div _ (by norm_num), real_div _ (by norm_num),
        div_real _ (by positivity), one_div' (by positivity), mul_comm _ m, mul_assoc, ← EReal.coe_mul]
      congr 2
      field_simp

theorem sqrt_coe {r : ℝ} (h : 0 ≤ r) : Ideal.sqrt (r : EReal) = ((Real.sqrt r : ℝ) : EReal) := by
  show (if r < 0 then (⊥ : EReal) else (Real.sqrt r : EReal)) = _
  rw [if_neg (not_lt.mpr h)]
theorem rsqrt_coe {r : ℝ} (h : 0 < r) : Ideal.rsqrt (r : EReal) = (((Real.sqrt r)⁻¹ : ℝ) : EReal) := by
  show (if r < 0 then (⊥ : EReal) else if r = 0 then ⊤ else ((Real.sqrt r)⁻¹ : ℝ)) = _
  rw [if_neg (not_lt.mpr h.le), if_neg h.ne']
theorem inv_rsqrt {r : ℝ} (h : 0 ≤ r) : Ideal.div 1 (Ideal.rsqrt (r : EReal)) = ((Real.sqrt r : ℝ) : EReal) := by
  rcases h.eq_or_lt with e | e
  · rw [← e]
    have : Ideal.rsqrt ((0 : ℝ) : EReal) = ⊤ := by
      show (if (0:ℝ) < 0 then (⊥ : EReal) else if (0:ℝ) = 0 then ⊤ else _) = _
      rw [if_neg (lt_irrefl _), if_pos rfl]
    rw [this, div_top, Real.sqrt_zero]; rfl
  · have := Real.sqrt_pos.mpr e
    rw [rsqrt_coe e, one_div' (by positivity)]
    congr 1
    field_simp

theorem d_cmp {c1 c2 : ℝ} (h1 : 0 < c1) (h2 : 0 < c2) {v : EReal} (hv : 0 ≤ v) (m w : EReal) :
    dEl (Ideal.div (klr * Ideal.sqrt (Ideal.div (c2 : EReal) kthou)) (c1 : EReal)) (keps * Ideal.sqrt (Ideal.div (c2 : EReal) kthou)) m v w
      = Ideal.div (Ideal.ofBits .f32 0x40400000#32) (Ideal.ofBits .f32 0x461C4000#32)
        * (Ideal.div (Ideal.div (ktenth * m) (c1 : EReal)) (Ideal.sqrt (Ideal.div (kthou * v) (c2 : EReal)) + Ideal.div 1 (Ideal.ofBits .f32 0x4CBEBC20#32))
          + Ideal.div 1 (Ideal.ofBits FTy.f32 1092616192#32) * w) := by
  rw [b3, b10000, b1e8, b10, real_div _ (by norm_num), one_div' (by norm_num), one_div' (by norm_num), cthou, ctenth, real_div _ (by norm_num), sqrt_coe (by positivity)]
  unfold dEl
  rw [clr, ceps, rdist (by norm_num), ← mul_assoc _ _ w, ← EReal.coe_mul, ← EReal.coe_mul, mul_comm w, ← EReal.coe_mul, real_div _ h1.ne', div_real _ h1.ne']
  have hs : 0 < Real.sqrt (c2 / (1 / 1000)) := Real.sqrt_pos.mpr (by positivity)
  have e0 : (3 / 10000 * (1 / 10) : ℝ) = 3 / 100000 := by norm_num
  rw [e0]
  congr 1
  induction v with
  | bot => exact absurd hv (by simp)
  | top =>
    have t1 : Ideal.rsqrt ⊤ = 0 := rfl
    have t2 : Ideal.sqrt ⊤ = ⊤ := rfl
    have t3 : Ideal.div 1 0 = ⊤ := by
      unfold Ideal.div
      rw [if_pos rfl, if_pos zero_lt_one]
    rw [t1, t3, EReal.top_add_coe, div_top, mul_zero, zero_mul, EReal.coe_mul_top_of_pos (by norm_num), div_real _ h2.ne', EReal.top_mul_coe_of_pos (by positivity), t2, EReal.top_add_coe, div_top, mul_zero]
  | coe v =>
    have hv' : 0 ≤ v := by exact_mod_cast hv
    rw [inv_rsqrt hv', ← EReal.coe_mul, real_div _ h2.ne', sqrt_coe (by positivity), ← EReal.coe_add, ← EReal.coe_add]
    have hq := Real.sqrt_nonneg v
    have e1 : Real.sqrt (1 / 1000 * v / c2) = Real.sqrt v / Real.sqrt (c2 / (1 / 1000)) := by
      rw [← Real.sqrt_div hv']; congr 1; field_simp
    rw [e1]
    generalize Real.sqrt v = s at hq
    generalize Real.sqrt (c2 / (1 / 1000)) = ρ at hs
    have p1 : 0 < s + 1 / 100000000 * ρ := by positivity
    have p2 : 0 < s / ρ + 1 / 100000000 := by positivity
    rw [one_div' p1.ne', div_real _ p2.ne', mul_comm _ m]
    simp only [mul_assoc]
    rw [mul_comm (((3 / 10000 : ℝ)) : EReal)]
    simp only [mul_assoc, ← EReal.coe_mul]
    congr 2
    field_simp
    norm_num

/-- The bias correction as the reference takes it. -/
theorem bc_cmp {β : ℝ} (h0 : 0 < β) (h1 : β < 1) {t : BitVec 32} (ht : IntOp.cmpi CmpIPredicate.sge t 1#32 = 1#1) :
    ∃ c : ℝ, 0 < c ∧ (1 : EReal) - Ideal.pow (β : EReal) (FloatOps.sitofp (F := Ideal) FTy.f32 t) = c ∧ (1 : EReal) - (β : EReal) ^ (t.toNat % 2 ^ 31) = c := by
  have h : 1 ≤ t.toInt := by
    have : (1#32).sle t = true := by
      by_contra hc
      have hc' : (1#32).sle t = false := by simpa using hc
      simp [IntOp.cmpi, hc'] at ht
    simpa [BitVec.sle] using this
  have hn : t.toInt = (t.toNat : ℤ) := by
    rw [BitVec.toInt_eq_toNat_cond] at h ⊢
    split at h <;> rename_i hh
    · rw [if_pos hh]
    · have := t.isLt; omega
  have hlt : t.toNat < 2 ^ 31 := by
    have := BitVec.toInt_lt (x := t); omega
  rw [Nat.mod_eq_of_lt hlt]
  have e : FloatOps.sitofp (F := Ideal) FTy.f32 t = (((t.toNat : ℝ)) : EReal) := by
    show (((t.toInt : ℝ)) : EReal) = _
    rw [hn]; norm_num
  refine ⟨1 - β ^ t.toNat, ?_, ?_, ?_⟩
  · have := pow_lt_one₀ h0.le h1 (by omega : t.toNat ≠ 0)
    linarith
  · rw [e]
    show 1 - ((Real.rpow β (t.toNat : ℝ) : ℝ) : EReal) = _
    rw [← EReal.coe_one, ← EReal.coe_sub]
    congr 2
    exact Real.rpow_natCast β t.toNat
  · rw [← EReal.coe_pow, ← EReal.coe_one, ← EReal.coe_sub]

end Cert.Compare

end
-- ==== Proof.Cmp.Ref.lean ====
/-
  The reference's intermediate arrays read at an element.
-/
module

public import proofs.«01_k».proof.Proof.Gen.ReferenceIdeal.Run
public import proofs.«01_k».proof.Proof.KernelIdeal.Inv
public import proofs.«01_k».proof.Proof.Cmp.Elem
@[expose] public section

set_option maxRecDepth 16384

noncomputable section

namespace Cert.Compare

open Cert.ReferenceIdeal Cert.ReferenceIdeal.Gen Cert.ReferenceIdeal.Value
open Cert.KernelIdeal.Hand (Raw nibW scode ucode supV max128 k7 km7 k9 k62 k16 kthou ktenth kbot kbot_eq mEl vEl dEl qEl uEl sEl packEl supV_le supV_nonneg kb1 kb2 kA kE kroot)
open Idealize.ShloMosaic Idealize.ShloMosaic.TcCoe Idealize.ShloMosaic.Tactic Idealize.SL.Sem
open Idealize.ShloMosaic.StableHlo

variable (V0 : Valuation τ sig (Elt Ideal))

/-- The reference's arguments. -/
def rawR : Raw where
  w := V0 (Proc.devRef .tc main_arg0)
  g := V0 (Proc.devRef .tc main_arg1)
  t := V0 (Proc.devRef .tc main_arg2) (fun a => a.elim0)
  mc := V0 (Proc.devRef .tc main_arg3)
  ms := V0 (Proc.devRef .tc main_arg4)
  vc := V0 (Proc.devRef .tc main_arg5)
  row := V0 (Proc.devRef .tc main_arg6)
  col := V0 (Proc.devRef .tc main_arg7)

variable (b : Fin 2) (R : Fin 768) (h : Fin 2) (e : Fin 5504)

/-- Column `e` of half `h`. -/
def colH (h : Fin 2) (e : Fin 5504) : Fin 11008 := ⟨h.val * 5504 + e.val, by omega⟩

theorem fold_sup {ι : Type} [DecidableEq ι] (s : Finset ι) (f : ι → EReal) : Finset.fold max (Ideal.ofBits FTy.f32 4286578688#32) f s = s.sup f := by
  have hb : Ideal.ofBits FTy.f32 4286578688#32 = ⊥ := kbot_eq
  refine le_antisymm ?_ ?_
  · rw [Finset.fold_max_le, hb]
    exact ⟨bot_le, fun x hx => Finset.le_sup hx⟩
  · refine Finset.sup_le fun x hx => ?_
    rw [Finset.le_fold_max]
    exact Or.inr ⟨x, hx, le_rfl⟩

theorem v3_at : res_main_v3 V0 (ix4 b R h e) = (rawR V0).g (ix3 b R (colH h e)) := by
  unfold res_main_v3
  pointwise []
  rfl

theorem nib_if (x : BitVec 8) : (if hh : h.val < 1 then IntOp.andi (BitVec.setWidth 32 x) 15#32
    else IntOp.shrsi ArithUnit.host (BitVec.setWidth 32 x) 4#32) = nibW h.val x := by
  unfold nibW
  by_cases hh : h.val < 1
  · rw [dif_pos hh, if_pos (by omega)]
  · rw [dif_neg hh, if_neg (by omega)]; rfl
theorem v11_at : res_main_v11 V0 (ix4 b R h e) = nibW h.val ((rawR V0).mc (ix3 b R e)) := by
  unfold res_main_v11 res_main_v4
  pointwise []
  exact nib_if h _

theorem M_H : (rawR V0).M b R (colH h e) = mEl h.val ((rawR V0).mc (ix3 b R e)) ((rawR V0).ms (ix3 b R ⟨h.val * 43 + e.val / 128, by omega⟩) * k9) ((rawR V0).g (ix3 b R (colH h e))) := by
  have h1 : (colH h e).val / 5504 = h.val := by unfold colH; dsimp only; omega
  have h2 : (colH h e).val % 5504 = e.val := by unfold colH; dsimp only; omega
  have h3 : (colH h e).val / 128 = h.val * 43 + e.val / 128 := by unfold colH; dsimp only; omega
  unfold Raw.M
  simp only [h1, h2, h3]
theorem V_H : (rawR V0).V b R (colH h e) = vEl h.val ((rawR V0).vc (ix3 b R e)) ((rawR V0).row (ix2 b R) * k62) ((rawR V0).col (ix2 b (colH h e)) * k62) ((rawR V0).g (ix3 b R (colH h e))) := by
  have h1 : (colH h e).val / 5504 = h.val := by unfold colH; dsimp only; omega
  have h2 : (colH h e).val % 5504 = e.val := by unfold colH; dsimp only; omega
  unfold Raw.V
  simp only [h1, h2]

theorem v50_at : (res_main_v50 V0 (ix4 b R h e) : EReal) = ktenth * (rawR V0).M b R (colH h e) := by
  unfold res_main_v50
  pointwise []
  rw [v11_at, v3_at, scode_eq, M_H]
  exact m_cmp _ _ _
theorem v56_at : (res_main_v56 V0 (ix4 b R h e) : EReal) = kthou * (rawR V0).V b R (colH h e) := by
  unfold res_main_v56 res_main_v23
  pointwise []
  rw [nib_if, v3_at, V_H]
  exact v_cmp _ _ _ _
/-- A supremum over a fiber is one over its parametrization. -/
theorem sup_fib {ι κ : Type} [Fintype κ] (s : Finset ι) (g : κ → ι) (hs : ∀ i, i ∈ s ↔ ∃ k, g k = i) (f : ι → EReal) : s.sup f = Finset.univ.sup fun k => f (g k) := by
  refine le_antisymm (Finset.sup_le fun x hx => ?_) (Finset.sup_le fun k _ => Finset.le_sup ((hs _).mpr ⟨k, rfl⟩))
  obtain ⟨k, rfl⟩ := (hs x).mp hx
  exact Finset.le_sup (f := fun k => f (g k)) (Finset.mem_univ k)
theorem rsup {ι : Type} (s : Finset ι) {r : ℝ} (hr : 0 < r) (f : ι → EReal) : (r : EReal) * s.sup f = s.sup fun x => (r : EReal) * f x := by
  have hm : Monotone fun x : EReal => (r : EReal) * x := fun a b h => mul_le_mul_of_nonneg_left h (by exact_mod_cast hr.le)
  exact Finset.comp_sup_eq_sup_comp_of_is_total (fun x : EReal => (r : EReal) * x) hm (EReal.coe_mul_bot_of_pos hr)
theorem max128_sup (f : Fin 128 → EReal) : max128 f = Finset.univ.sup f := fold_sup _ _
theorem colH_eq (d : Fin 11008) : colH ⟨d.val / 5504, by omega⟩ ⟨d.val % 5504, Nat.mod_lt _ (by decide)⟩ = d := by
  apply Fin.ext; unfold colH; dsimp only; omega
theorem sup_dh (f : Fin 11008 → EReal) : (Finset.univ.sup fun q : Fin 2 × Fin 5504 => f (colH q.1 q.2)) = Finset.univ.sup f :=
  (sup_fib Finset.univ (fun q : Fin 2 × Fin 5504 => colH q.1 q.2) (fun d => ⟨fun _ => ⟨(_, _), colH_eq d⟩, fun _ => Finset.mem_univ d⟩) f).symm
theorem abs_tenth (x : EReal) : FloatOps.absf (F := Ideal) (φ := .f32) (ktenth * x) = ktenth * FloatOps.absf (F := Ideal) (φ := .f32) x := by
  show max (ktenth * x) (-(ktenth * x)) = ktenth * max x (-x)
  have hm : Monotone fun x : EReal => ktenth * x := fun a b h => mul_le_mul_of_nonneg_left h (by rw [ctenth]; exact_mod_cast (by norm_num : (0:ℝ) ≤ 1 / 10))
  rw [← mul_neg]
  exact (hm.map_max (a := x) (b := -x)).symm

def tm82 (X : FVec Ideal S2x768x2x5504 .f32) : FVec Ideal S2x768x2x43x1 .f32 :=
  broadcastInDim S2x768x2x43x1 ![0, 1, 2, 3] bcast_S2x768x2x43_S2x768x2x43x1_0_1_2_3 (Host.reduce FloatOps.maximumf (Host.absf (shapeCast S2x768x2x43x128 X shapeCasts_S2x768x2x5504_S2x768x2x43x128)) (constant S_ .f32 0xFF800000#32) reducesTo_S2x768x2x43x128_S2x768x2x43_d4 h_S_)
def tm87 (X : FVec Ideal S2x768x2x43x1 .f32) : FVec Ideal S2x768x2x43x1 .f32 :=
  select (cmpf .oeq X (broadcastInDim S2x768x2x43x1 ![] bcast_S_S2x768x2x43x1 (constant S_ .f32 0x00000000#32))) (broadcastInDim S2x768x2x43x1 ![] bcast_S_S2x768x2x43x1 (constant S_ .f32 0x3F800000#32)) (Host.divf X (broadcastInDim S2x768x2x43x1 ![] bcast_S_S2x768x2x43x1 (constant S_ .f32 0x40E00000#32)))
def tm96 (X : FVec Ideal S2x768x2x5504 .f32) : FVec Ideal S2x768 .f32 := Host.reduce FloatOps.maximumf X (constant S_ .f32 0xFF800000#32) reducesTo_S2x768x2x5504_S2x768_d2_3 h_S_
def tm97 (X : FVec Ideal S2x768x2x5504 .f32) : FVec Ideal S2x2x5504 .f32 := Host.reduce FloatOps.maximumf X (constant S_ .f32 0xFF800000#32) reducesTo_S2x768x2x5504_S2x2x5504_d1 h_S_
def tm114 (Y : FVec Ideal S2x768x2x5504 .f32) (X : FVec Ideal S2x768x2x43x1 .f32) : IVec S2x768x2x5504 32 :=
  andi (shapeCast S2x768x2x5504 (fptosi 32 (minimumf (broadcastInDim S2x768x2x43x128 ![] bcast_S_S2x768x2x43x128 (sitofp .f32 (constantI S_ 32 7#32))) (maximumf (broadcastInDim S2x768x2x43x128 ![] bcast_S_S2x768x2x43x128 (sitofp .f32 (constantI S_ 32 4294967289#32))) (Host.roundeven (Host.divf (shapeCast S2x768x2x43x128 Y shapeCasts_S2x768x2x5504_S2x768x2x43x128) (broadcastInDim S2x768x2x43x128 ![0, 1, 2, 3, 4] bcast_S2x768x2x43x1_S2x768x2x43x128_0_1_2_3_4 X)))))) shapeCasts_S2x768x2x43x128_S2x768x2x5504) (broadcastInDim S2x768x2x5504 ![] bcast_S_S2x768x2x5504 (constantI S_ 32 15#32))
def tm124 (X : FVec Ideal S2x768x2x5504 .f32) (Y : FVec Ideal S2x768 .f32) (Z : FVec Ideal S2x2x5504 .f32) : IVec S2x768x2x5504 32 :=
  andi (fptosi 32 (minimumf (broadcastInDim S2x768x2x5504 ![] bcast_S_S2x768x2x5504 (sitofp .f32 (constantI S_ 32 15#32))) (maximumf (broadcastInDim S2x768x2x5504 ![] bcast_S_S2x768x2x5504 (sitofp .f32 (constantI S_ 32 0#32))) (Host.roundeven (subf (Host.divf (mulf (broadcastInDim S2x768x2x5504 ![] bcast_S_S2x768x2x5504 (constant S_ .f32 0x41800000#32)) X) (minimumf (broadcastInDim S2x768x2x5504 ![0, 1, 2, 3] bcast_S2x768x1x1_S2x768x2x5504_0_1_2_3 (broadcastInDim S2x768x1x1 ![0, 1] bcast_S2x768_S2x768x1x1_0_1 Y)) (broadcastInDim S2x768x2x5504 ![0, 1, 2, 3] bcast_S2x1x2x5504_S2x768x2x5504_0_1_2_3 (broadcastInDim S2x1x2x5504 ![0, 2, 3] bcast_S2x2x5504_S2x1x2x5504_0_2_3 Z)))) (broadcastInDim S2x768x2x5504 ![] bcast_S_S2x768x2x5504 (constant S_ .f32 0x3F800000#32))))))) (broadcastInDim S2x768x2x5504 ![] bcast_S_S2x768x2x5504 (constantI S_ 32 15#32))

theorem tm82_at (X : FVec Ideal S2x768x2x5504 .f32) (k : Fin 43) (l : Fin 1) : (tm82 X (ix5 b R h k l) : EReal) = Finset.univ.sup fun l : Fin 128 => (FloatOps.absf (F := Ideal) (φ := .f32) (X (ix4 b R h ⟨k.val * 128 + l.val, by omega⟩)) : EReal) := by
  unfold tm82
  pointwise []
  rw [fold_sup]
theorem tm87_at (X : FVec Ideal S2x768x2x43x1 .f32) (k : Fin 43) (l : Fin 1) : (tm87 X (ix5 b R h k l) : EReal) = sRef (X (ix5 b R h k l)) := by
  unfold tm87
  pointwise []
  rfl
theorem tm96_at (X : FVec Ideal S2x768x2x5504 .f32) : (tm96 X (ix2 b R) : EReal) = Finset.univ.sup fun q : Fin 2 × Fin 5504 => (X (ix4 b R q.1 q.2) : EReal) := by
  unfold tm96
  pointwise []
  rw [fold_sup]
theorem tm97_at (X : FVec Ideal S2x768x2x5504 .f32) : (tm97 X (ix3 b h e) : EReal) = Finset.univ.sup fun R : Fin 768 => (X (ix4 b R h e) : EReal) := by
  unfold tm97
  pointwise []
  rw [fold_sup]
theorem tm114_at (Y : FVec Ideal S2x768x2x5504 .f32) (X : FVec Ideal S2x768x2x43x1 .f32) : tm114 Y X (ix4 b R h e) = IntOp.andi
      (FloatOps.fptosi (F := Ideal) (φ := .f32) 32
        (min (FloatOps.sitofp (F := Ideal) FTy.f32 7#32)
          (max (FloatOps.sitofp (F := Ideal) FTy.f32 4294967289#32)
            (rd (Ideal.div (Y (ix4 b R h e)) (X (ix5 b R h ⟨e.val / 128, by omega⟩ 0)))))))
      15#32 := by
  unfold tm114
  pointwise []
  rfl
theorem tm124_at (X : FVec Ideal S2x768x2x5504 .f32) (Y : FVec Ideal S2x768 .f32) (Z : FVec Ideal S2x2x5504 .f32) : tm124 X Y Z (ix4 b R h e) = IntOp.andi
      (FloatOps.fptosi (F := Ideal) (φ := .f32) 32
        (min (FloatOps.sitofp (F := Ideal) FTy.f32 15#32)
          (max (FloatOps.sitofp (F := Ideal) FTy.f32 0#32)
            (rd (Ideal.div (k16 * X (ix4 b R h e)) (min (Y (ix2 b R)) (Z (ix3 b h e))) - 1)))))
      15#32 := by
  unfold tm124
  pointwise []
  rfl

theorem q_fin {m a : EReal} (hm : max m (-m) ≤ a) : IntOp.andi
      (FloatOps.fptosi (F := Ideal) (φ := .f32) 32
        (min (FloatOps.sitofp (F := Ideal) FTy.f32 7#32)
          (max (FloatOps.sitofp (F := Ideal) FTy.f32 4294967289#32)
            (rd (Ideal.div (ktenth * m) (sRef (ktenth * a)))))))
      15#32 = qEl a m := by
  rw [q_cmp hm]
  have e := rd_clamp (-7) 7 (m * Ideal.div 1 (sEl a))
  have e1 : FloatOps.sitofp (F := Ideal) FTy.f32 7#32 = (((7 : ℤ) : ℝ) : EReal) := by
    show (((7#32).toInt : ℝ) : EReal) = _
    rw [show (7#32).toInt = 7 by decide]
  have e2 : FloatOps.sitofp (F := Ideal) FTy.f32 4294967289#32 = (((-7 : ℤ) : ℝ) : EReal) := by
    show (((4294967289#32).toInt : ℝ) : EReal) = _
    rw [show (4294967289#32).toInt = -7 by decide]
  rw [e1, e2, ← e]
  unfold qEl
  have e3 : km7 = (((-7 : ℤ) : ℝ) : EReal) := by rw [cm7]; norm_num
  have e4 : k7 = (((7 : ℤ) : ℝ) : EReal) := by rw [c7]; norm_num
  rw [e3, e4]
  rfl
theorem u_fin {v r c : EReal} (h0 : 0 ≤ v) (hr : v ≤ r) (hc : v ≤ c) : IntOp.andi
      (FloatOps.fptosi (F := Ideal) (φ := .f32) 32
        (min (FloatOps.sitofp (F := Ideal) FTy.f32 15#32)
          (max (FloatOps.sitofp (F := Ideal) FTy.f32 0#32)
            (rd (Ideal.div (k16 * (kthou * v)) (min (kthou * r) (kthou * c)) - 1)))))
      15#32 = uEl v (max (Ideal.div k16 r) (Ideal.div k16 c)) := by
  have e := u_cmp h0 hr hc
  have e1 : FloatOps.sitofp (F := Ideal) FTy.f32 15#32 = ((15 : ℝ) : EReal) := by
    show (((15#32).toInt : ℝ) : EReal) = _
    rw [show (15#32).toInt = 15 by decide]; norm_num
  have e2 : FloatOps.sitofp (F := Ideal) FTy.f32 0#32 = ((0 : ℝ) : EReal) := by
    show (((0#32).toInt : ℝ) : EReal) = _
    rw [show (0#32).toInt = 0 by decide]; norm_num
  rw [e1, e2, ← e]
  rfl
theorem M_le_A (D : Raw) (d : Fin 11008) : max (D.M b R d) (-(D.M b R d)) ≤ D.A b R ⟨d.val / 128, by omega⟩ := by
  unfold Raw.A
  rw [max128_sup]
  have hd : (⟨128 * (d.val / 128) + d.val % 128, by omega⟩ : Fin 11008) = d := by apply Fin.ext; dsimp only; omega
  have := Finset.le_sup (s := Finset.univ) (f := fun l : Fin 128 => (FloatOps.absf (F := Ideal) (φ := .f32) (D.M b R ⟨128 * (d.val / 128) + l.val, by omega⟩) : EReal)) (Finset.mem_univ ⟨d.val % 128, Nat.mod_lt _ (by decide)⟩)
  dsimp only at this
  rw [hd] at this
  exact this

/-- The absolute maximum of a block. -/
theorem v82_at (k : Fin 43) (l : Fin 1) : (res_main_v82 V0 (ix5 b R h k l) : EReal) = ktenth * (rawR V0).A b R ⟨h.val * 43 + k.val, by omega⟩ := by
  refine (tm82_at b R h (res_main_v50 V0) k l).trans ?_
  unfold Raw.A
  rw [max128_sup, ctenth, rsup _ (by norm_num)]
  refine Finset.sup_congr rfl fun l _ => ?_
  refine (congrArg (FloatOps.absf (F := Ideal) (φ := .f32)) (v50_at V0 b R h ⟨k.val * 128 + l.val, by omega⟩)).trans ?_
  rw [abs_tenth, ctenth]
  have e1 : colH h ⟨k.val * 128 + l.val, by omega⟩ = ⟨128 * (h.val * 43 + k.val) + l.val, by omega⟩ := by
    apply Fin.ext; unfold colH; dsimp only; omega
  rw [e1]
theorem v87_at (k : Fin 43) (l : Fin 1) : (res_main_v87 V0 (ix5 b R h k l) : EReal) = sRef (ktenth * (rawR V0).A b R ⟨h.val * 43 + k.val, by omega⟩) :=
  (tm87_at b R h (res_main_v82 V0) k l).trans (congrArg sRef (v82_at V0 b R h k l))
theorem v96_at (hV : ∀ b R d, 0 ≤ (rawR V0).V b R d) : (res_main_v96 V0 (ix2 b R) : EReal) = kthou * supV ((rawR V0).V b R) := by
  refine (tm96_at b R (res_main_v56 V0)).trans ?_
  unfold supV
  have h0 : 0 ≤ Finset.univ.sup ((rawR V0).V b R) := (hV b R 0).trans (Finset.le_sup (Finset.mem_univ _))
  rw [max_eq_right h0, cthou, rsup _ (by norm_num), ← sup_dh]
  exact Finset.sup_congr rfl fun q _ => v56_at V0 b R q.1 q.2
theorem v97_at (hV : ∀ b R d, 0 ≤ (rawR V0).V b R d) : (res_main_v97 V0 (ix3 b h e) : EReal) = kthou * (rawR V0).C b (colH h e) := by
  refine (tm97_at b h e (res_main_v56 V0)).trans ?_
  unfold Raw.C supV
  have h0 : 0 ≤ Finset.univ.sup fun R => (rawR V0).V b R (colH h e) := (hV b 0 _).trans (Finset.le_sup (f := fun R => (rawR V0).V b R (colH h e)) (Finset.mem_univ 0))
  rw [max_eq_right h0, cthou, rsup _ (by norm_num)]
  simp only [v56_at, cthou]

theorem v114_at : (res_main_v114 V0 : IVec S2x768x2x5504 32) (ix4 b R h e) = (rawR V0).Q b R (colH h e) := by
  refine (tm114_at b R h e (res_main_v50 V0) (res_main_v87 V0)).trans ?_
  rw [v50_at, v87_at, q_fin]
  · unfold Raw.Q
    congr 2
    apply Fin.ext; unfold colH; dsimp only; omega
  · have := M_le_A b R (rawR V0) (colH h e)
    have e1 : (⟨(colH h e).val / 128, by omega⟩ : Fin 86) = ⟨h.val * 43 + e.val / 128, by omega⟩ := by
      apply Fin.ext; unfold colH; dsimp only; omega
    rwa [e1] at this
theorem v124_at (hV : ∀ b R d, 0 ≤ (rawR V0).V b R d) : (res_main_v124 V0 : IVec S2x768x2x5504 32) (ix4 b R h e) = (rawR V0).U b R (colH h e) := by
  refine (tm124_at b R h e (res_main_v56 V0) (res_main_v96 V0) (res_main_v97 V0)).trans ?_
  rw [v56_at, v96_at V0 b R hV, v97_at V0 b h e hV]
  exact u_fin (c := (rawR V0).C b (colH h e)) (hV _ _ _) (((supV_le _ _).mp le_rfl).2 _) (((supV_le (fun R => (rawR V0).V b R (colH h e)) _).mp le_rfl).2 R)

end Cert.Compare

end
-- ==== Proof.Cmp.Res.lean ====
/-
  The reference's results read at an element, and the claim of equal results.
-/
module

public import proofs.«01_k».proof.Proof.Cmp.Ref
@[expose] public section

set_option maxRecDepth 16384

noncomputable section

namespace Cert.Compare

open Cert.ReferenceIdeal Cert.ReferenceIdeal.Gen Cert.ReferenceIdeal.Value
open Cert.KernelIdeal.Hand (Raw nibW scode ucode supV max128 k7 km7 k9 k62 k16 kthou ktenth kbot kbot_eq mEl vEl dEl qEl uEl sEl packEl supV_le supV_nonneg kb1 kb2 kA kE kroot)
open Idealize.ShloMosaic Idealize.ShloMosaic.TcCoe Idealize.ShloMosaic.Tactic Idealize.SL.Sem
open Idealize.ShloMosaic.StableHlo

variable (V0 : Valuation τ sig (Elt Ideal)) (b : Fin 2) (R : Fin 768)

def tm78 (w : FVec Ideal S2x768x11008 .bf16) (t : FVec Ideal S_ .f32) (X Y : FVec Ideal S2x768x2x5504 .f32) : FVec Ideal S2x768x11008 .f32 :=
  shapeCast S2x768x11008 (mulf (broadcastInDim S2x768x2x5504 ![] bcast_S_S2x768x2x5504 (Host.divf (constant S_ .f32 0x40400000#32) (constant S_ .f32 0x461C4000#32))) (addf (Host.divf (Host.divf X (broadcastInDim S2x768x2x5504 ![] bcast_S_S2x768x2x5504 (subf (constant S_ .f32 0x3F800000#32) (Host.powf (constant S_ .f32 0x3F666666#32) t)))) (addf (Host.sqrt (Host.divf Y (broadcastInDim S2x768x2x5504 ![] bcast_S_S2x768x2x5504 (subf (constant S_ .f32 0x3F800000#32) (Host.powf (constant S_ .f32 0x3F7FBE77#32) t))))) (broadcastInDim S2x768x2x5504 ![] bcast_S_S2x768x2x5504 (Host.divf (constant S_ .f32 0x3F800000#32) (constant S_ .f32 0x4CBEBC20#32))))) (mulf (broadcastInDim S2x768x2x5504 ![] bcast_S_S2x768x2x5504 (Host.divf (constant S_ .f32 0x3F800000#32) (constant S_ .f32 0x41200000#32))) (shapeCast S2x768x2x5504 (extf .f32 w bitsLt_bf16_f32) shapeCasts_S2x768x11008_S2x768x2x5504)))) shapeCasts_S2x768x2x5504_S2x768x11008
def tm122 (X : IVec S2x768x2x5504 32) : IVec S2x768x5504 8 :=
  trunci 8 (ori (shapeCast S2x768x5504 (extractStridedSlice S2x768x1x5504 ![0, 0, 0, 0] X slices_S2x768x2x5504_S2x768x1x5504_0_0_0_0) shapeCasts_S2x768x1x5504_S2x768x5504) (Host.shli (shapeCast S2x768x5504 (extractStridedSlice S2x768x1x5504 ![0, 0, 1, 0] X slices_S2x768x2x5504_S2x768x1x5504_0_0_1_0) shapeCasts_S2x768x1x5504_S2x768x5504) (broadcastInDim S2x768x5504 ![] bcast_S_S2x768x5504 (constantI S_ 32 4#32)))) natLt_8_32
def tm95 (X : FVec Ideal S2x768x2x43x1 .f32) : FVec Ideal S2x768x86 .f32 := shapeCast S2x768x86 X shapeCasts_S2x768x2x43x1_S2x768x86
def tm112 (X : FVec Ideal S2x2x5504 .f32) : FVec Ideal S2x11008 .f32 := shapeCast S2x11008 X shapeCasts_S2x2x5504_S2x11008

theorem tm78_at (w : FVec Ideal S2x768x11008 .bf16) (t : FVec Ideal S_ .f32) (X Y : FVec Ideal S2x768x2x5504 .f32) (d : Fin 11008) :
    (tm78 w t X Y (ix3 b R d) : EReal) = Ideal.div (Ideal.ofBits FTy.f32 0x40400000#32) (Ideal.ofBits FTy.f32 0x461C4000#32) *
      (Ideal.div
          (Ideal.div (X (ix4 b R ⟨d.val / 5504, by omega⟩ ⟨d.val % 5504, Nat.mod_lt _ (by decide)⟩)) (1 - Ideal.pow kb1 (t ix0)))
          (Ideal.sqrt (Ideal.div (Y (ix4 b R ⟨d.val / 5504, by omega⟩ ⟨d.val % 5504, Nat.mod_lt _ (by decide)⟩)) (1 - Ideal.pow kb2 (t ix0))) +
            Ideal.div 1 (Ideal.ofBits FTy.f32 0x4CBEBC20#32)) +
        Ideal.div 1 (Ideal.ofBits FTy.f32 1092616192#32) * w (ix3 b R d)) := by
  unfold tm78
  pointwise []
  rfl
theorem tm122_at (X : IVec S2x768x2x5504 32) (e : Fin 5504) : tm122 X (ix3 b R e) = packEl (X (ix4 b R 0 e)) (X (ix4 b R 1 e)) := by
  unfold tm122
  pointwise []
  rfl
theorem tm95_at (X : FVec Ideal S2x768x2x43x1 .f32) (j : Fin 86) : tm95 X (ix3 b R j) = X (ix5 b R ⟨j.val / 43, by omega⟩ ⟨j.val % 43, Nat.mod_lt _ (by decide)⟩ 0) := by
  unfold tm95
  pointwise []
theorem tm112_at (X : FVec Ideal S2x2x5504 .f32) (d : Fin 11008) : tm112 X (ix2 b d) = X (ix3 b ⟨d.val / 5504, by omega⟩ ⟨d.val % 5504, Nat.mod_lt _ (by decide)⟩) := by
  unfold tm112
  pointwise []

variable (hV : ∀ b R d, 0 ≤ (rawR V0).V b R d)
include hV
theorem r1_at (ht : IntOp.cmpi CmpIPredicate.sge (rawR V0).t 1#32 = 1#1) (d : Fin 11008) :
    (tm78 (V0 (Proc.devRef .tc main_arg0)) (res_main_v57 V0) (res_main_v50 V0) (res_main_v56 V0) (ix3 b R d) : EReal) = (rawR V0).dw b R d := by
  obtain ⟨x1, e1, p1, q1⟩ := cb1
  obtain ⟨x2, e2, p2, q2⟩ := cb2
  obtain ⟨c1, n1, s1, t1⟩ := bc_cmp p1 q1 ht
  obtain ⟨c2, n2, s2, t2⟩ := bc_cmp p2 q2 ht
  refine (tm78_at b R _ (res_main_v57 V0) (res_main_v50 V0) (res_main_v56 V0) d).trans ?_
  rw [v50_at, v56_at, colH_eq]
  have ev : (res_main_v57 V0 : FVec Ideal S_ .f32) ix0 = FloatOps.sitofp (F := Ideal) .f32 (rawR V0).t :=
    congrArg (fun z => FloatOps.sitofp (F := Ideal) .f32 ((V0 (Proc.devRef .tc main_arg2) : IVec S_ 32) z)) (funext fun a => a.elim0)
  rw [ev, e1, e2, s1, s2]
  unfold Raw.dw kA kE kroot
  rw [e1, e2, t1, t2]
  exact (d_cmp n1 n2 (hV b R d) _ _).symm
omit hV in
theorem r2_at (e : Fin 5504) : tm122 (res_main_v114 V0) (ix3 b R e) = (rawR V0).mcn b R e := by
  rw [tm122_at, v114_at, v114_at]
  unfold Raw.mcn
  congr 2
  all_goals (apply Fin.ext; unfold colH; dsimp only; simp only [Fin.val_zero, Fin.val_one]; omega)
omit hV in
theorem r3_at (j : Fin 86) : (tm95 (res_main_v87 V0) (ix3 b R j) : EReal) = (rawR V0).msn b R j := by
  rw [tm95_at, v87_at]
  unfold Raw.msn
  rw [ms_cmp]
  congr 3
  apply Fin.ext; dsimp only; omega
theorem r4_at (e : Fin 5504) : tm122 (res_main_v124 V0) (ix3 b R e) = (rawR V0).vcn b R e := by
  rw [tm122_at, v124_at V0 b R _ _ hV, v124_at V0 b R _ _ hV]
  unfold Raw.vcn
  congr 2
  all_goals (apply Fin.ext; unfold colH; dsimp only; simp only [Fin.val_zero, Fin.val_one]; omega)
theorem r5_at : (res_main_v96 V0 (ix2 b R) : EReal) = (rawR V0).vrn b R := by
  rw [v96_at V0 b R hV]
  exact mul_comm (_ : EReal) _
theorem r6_at (d : Fin 11008) : (tm112 (res_main_v97 V0) (ix2 b d) : EReal) = (rawR V0).vln b d := by
  rw [tm112_at, v97_at V0 b _ _ hV, colH_eq]
  exact mul_comm (_ : EReal) _

end Cert.Compare

end
-- ==== Proof.Cmp.Claim.lean ====
/-
  The kernel and the reference end with equal results.
-/
module

public import proofs.«01_k».proof.Defs
public import proofs.«01_k».proof.Proof.Gen.Pre_pre
public import proofs.«01_k».proof.Proof.KernelIdeal.Out
public import proofs.«01_k».proof.Proof.Cmp.Res
public import Idealize.ShloMosaic.Lib.ReduceAll

@[expose] public section

noncomputable section

namespace Cert.Compare

open Idealize.ShloMosaic Idealize.ShloMosaic.TcCoe Idealize.SL.Sem
open Cert.KernelIdeal.Hand (Raw rawOf run_val vEl k62)

theorem oge_zero {x : EReal} (h : FloatOps.cmpf (F := Ideal) (φ := .f32) .oge x (Ideal.ofBits .f32 0x00000000#32) = 1#1) : 0 ≤ x := by
  have z : Ideal.ofBits .f32 0x00000000#32 = 0 := by simp [Ideal.ofBits, Ideal.ieee]
  rw [z] at h
  by_contra hx
  have : FloatOps.cmpf (F := Ideal) (φ := .f32) .oge x 0 = 0#1 := by
    simp [FloatOps.cmpf, Ideal.cmp, hx]
  rw [this] at h
  exact absurd h (by decide)

/-- What the precondition says of the step and of the two statistics. -/
theorem pre_read {w g : FVec Ideal Cert.Pre_pre.S2x768x11008 .bf16} {t : IVec Cert.Pre_pre.S_ 32} {mc : IVec Cert.Pre_pre.S2x768x5504 8} {ms : FVec Ideal Cert.Pre_pre.S2x768x86 .f32}
    {vc : IVec Cert.Pre_pre.S2x768x5504 8} {row : FVec Ideal Cert.Pre_pre.S2x768 .f32} {col : FVec Ideal Cert.Pre_pre.S2x11008 .f32}
    (e : Cert.Pre_pre.fn (F := Ideal) w g t mc ms vc row col = fun _ => 1#1) :
    IntOp.cmpi CmpIPredicate.sge (t fun a => a.elim0) 1#32 = 1#1 ∧ (∀ i, (0 : EReal) ≤ row i) ∧ ∀ i, (0 : EReal) ≤ col i := by
  haveI : Subsingleton Cert.Pre_pre.S_.Idx := ⟨fun x y => funext fun a => a.elim0⟩
  obtain ⟨h, hc⟩ := IntOp.andi_eq_one.1 (congrFun e fun a => a.elim0)
  obtain ⟨ht, hr⟩ := IntOp.andi_eq_one.1 h
  exact ⟨ht, fun i => oge_zero (Host.reduce_andi_all _ _ _ _ _ hr i), fun i => oge_zero (Host.reduce_andi_all _ _ _ _ _ hc i)⟩

theorem V_nonneg (D : Raw) (hr : ∀ i, (0 : EReal) ≤ D.row i) (hc : ∀ i, (0 : EReal) ≤ D.col i) (b : Fin 2) (R : Fin 768) (d : Fin 11008) : 0 ≤ D.V b R d := by
  have h : (0 : EReal) ≤ k62 := by rw [c62]; exact_mod_cast (by norm_num : (0 : ℝ) ≤ 999 / 16)
  exact vEl_nonneg _ _ _ (mul_nonneg (hr _) h) (mul_nonneg (hc _) h)

section
variable (D : Raw)
def o0 (j : Cert.KernelIdeal.S2x768x11008.Idx) : EReal := D.dw (j 0) (j 1) (j 2)
def o1 (j : Cert.KernelIdeal.S2x768x5504.Idx) : BitVec 8 := D.mcn (j 0) (j 1) (j 2)
def o2 (j : Cert.KernelIdeal.S2x768x86.Idx) : EReal := D.msn (j 0) (j 1) (j 2)
def o3 (j : Cert.KernelIdeal.S2x768x5504.Idx) : BitVec 8 := D.vcn (j 0) (j 1) (j 2)
def o4 (j : Cert.KernelIdeal.S2x768.Idx) : EReal := D.vrn (j 0) (j 1)
def o5 (j : Cert.KernelIdeal.S2x11008.Idx) : EReal := D.vln (j 0) (j 1)
end

theorem ext3 {n0 n1 n2 : Nat} {α : Type} (f : (⟨3, ![n0, n1, n2]⟩ : Shape).Idx → α) (k : Fin n0 → Fin n1 → Fin n2 → α)
    (h : ∀ b R d, f (ix3 b R d) = k b R d) : f = fun j => k (j 0) (j 1) (j 2) := by
  funext j
  conv_lhs => rw [eq_ix3 j]
  exact h _ _ _
theorem ext2 {n0 n1 : Nat} {α : Type} (f : (⟨2, ![n0, n1]⟩ : Shape).Idx → α) (k : Fin n0 → Fin n1 → α)
    (h : ∀ b R, f (ix2 b R) = k b R) : f = fun j => k (j 0) (j 1) := by
  funext j
  conv_lhs => rw [eq_ix2 j]
  exact h _ _

/-- The reference's arguments, when they are the kernel's. -/
theorem raw_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    rawR (StableHlo.launchContents m' c) = rawOf m c := by
  show Raw.mk (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2) (fun a => a.elim0))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7)) = _
  rw [h0, h1, h2, h3, h4, h5, h6, h7]
  rfl

theorem equal_results : Cert.algebraic_KernelIdeal_ReferenceIdeal_pre_pre := by
  intro m g m' g' hp ha
  refine ⟨fun c => o0 (rawOf m c), fun c => o1 (rawOf m c), fun c => o2 (rawOf m c), fun c => o3 (rawOf m c), fun c => o4 (rawOf m c), fun c => o5 (rawOf m c), ?_, ?_⟩
  · refine (θ_run Cert.KernelIdeal.defs _ _).mono (fun r h c => ?_) (run_val m g)
    obtain ⟨⟨e0, e1, e2, e3, e4, e5⟩, hk⟩ := h c
    exact ⟨ext3 _ _ e0, ext3 _ _ e1, ext3 _ _ e2, ext3 _ _ e3, ext2 _ _ e4, ext2 _ _ e5, hk⟩
  · refine (θ_run Cert.ReferenceIdeal.defs _ _).mono (fun r h c => ?_) (Cert.ReferenceIdeal.Value.run (F := Ideal) m' g')
    obtain ⟨e0, e1, e2, e3, e4, e5, hk⟩ := h c
    obtain ⟨a0, a1, a2, a3, a4, a5, a6, a7⟩ := ha c
    obtain ⟨ht, hr, hc⟩ := pre_read (hp c)
    have hD := raw_eq m m' c a0 a1 a2 a3 a4 a5 a6 a7
    have hV : ∀ b R d, 0 ≤ (rawR (StableHlo.launchContents m' c)).V b R d := by rw [hD]; exact V_nonneg _ hr hc
    have ht' : IntOp.cmpi CmpIPredicate.sge (rawR (StableHlo.launchContents m' c)).t 1#32 = 1#1 := by rw [hD]; exact ht
    have f2 := ext3 _ _ fun b R e => r3_at (StableHlo.launchContents m' c) b R e
    have f3 := ext3 _ _ fun b R e => r4_at (StableHlo.launchContents m' c) b R hV e
    have f4 := ext2 _ _ fun b R => r5_at (StableHlo.launchContents m' c) b R hV
    have f5 := ext2 _ _ fun b d => r6_at (StableHlo.launchContents m' c) b hV d
    beta_reduce
    rw [← hD]
    refine ⟨e0.trans (ext3 _ _ fun b R d => r1_at _ b R hV ht' d), e1.trans (ext3 _ _ fun b R e => r2_at _ b R e), ?_, e3.trans f3, ?_, ?_, hk⟩
    · exact (e2.trans (id_eq _)).trans f2
    · exact (e4.trans (id_eq _)).trans f4
    · exact (e5.trans (id_eq _)).trans f5

end Cert.Compare

end
-- ==== Proof.lean ====
/-
  The claims put together.
-/
module

public import proofs.«01_k».proof.Defs
public import proofs.«01_k».proof.Proof.Kernel.Obl
public import proofs.«01_k».proof.Proof.KernelIdeal.Obl
public import proofs.«01_k».proof.Proof.Gen.Pre_pre
public import proofs.«01_k».proof.Proof.Cmp.Claim
public import proofs.«01_k».proof.Proof.Gen.ReferenceIdeal.Run

@[expose] public section

noncomputable section

namespace Cert.Proof

open Idealize.ShloMosaic Idealize.SL.Sem

theorem frame_kernel : Cert.quiescent_Kernel := fun m g _ => Cert.Kernel.Hand.frame_main (F := Bits) m g

theorem frame_ideal : Cert.quiescent_KernelIdeal := fun m g _ => Cert.KernelIdeal.Hand.frame_main (F := Ideal) m g

theorem frame_reference : Cert.quiescent_ReferenceIdeal := fun m g _ =>
  (θ_run Cert.ReferenceIdeal.defs _ _).mono
    (fun r h => ⟨fun c => (h c).2.2.2.2.2.2, Idealize.ShloMosaic.sem_eq_zero_of_no_sems (by decide) r.2⟩)
    (Cert.ReferenceIdeal.Value.run (F := Ideal) m g)

theorem preserves : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

theorem claim : Cert.Claim :=
  ⟨Cert.Kernel.Gen.facts, Cert.KernelIdeal.Gen.facts, Cert.ReferenceIdeal.Gen.facts, Cert.Pre_pre.Gen.facts, frame_kernel, frame_ideal,
    fun m g _ => frame_ideal m g trivial, frame_reference, fun m g _ => frame_reference m g trivial, preserves, Cert.Compare.equal_results⟩

end Cert.Proof

end
